-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)) (v3 : (c : Dev Cert.KernelIdeal.nD) → Buf (Elt Ideal) ((c.tc : Thread Cert.KernelIdeal.nD Cert.KernelIdeal.τ).loc Cert.KernelIdeal.main_v32_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_v32_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v81) = v0 c
          ∧ r.2.mem ((c.tc : Thread Cert.Reference14Ideal.nD Cert.Reference14Ideal.τ).loc Cert.Reference14Ideal.main_v86) = v1 c
          ∧ r.2.mem ((c.tc : Thread Cert.Reference14Ideal.nD Cert.Reference14Ideal.τ).loc Cert.Reference14Ideal.main_v87) = v2 c
          ∧ r.2.mem ((c.tc : Thread Cert.Reference14Ideal.nD Cert.Reference14Ideal.τ).loc Cert.Reference14Ideal.main_v89) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_5) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v93) = v0 c
          ∧ r.2.mem ((c.tc : Thread Cert.Reference15Ideal.nD Cert.Reference15Ideal.τ).loc Cert.Reference15Ideal.main_v92) = v1 c
          ∧ r.2.mem ((c.tc : Thread Cert.Reference15Ideal.nD Cert.Reference15Ideal.τ).loc Cert.Reference15Ideal.main_v107) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite2 : Cert.Pre_finite2.Facts) (hPre_finite15 : Cert.Pre_finite15.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
-- ==== Pre_finite.lean ====
abbrev S4x8x2304x128 : Shape := ⟨4, ![4, 8, 2304, 128]⟩
abbrev S2x4x8x2304x128 : Shape := ⟨5, ![2, 4, 8, 2304, 128]⟩
abbrev S4x8x2048x128 : Shape := ⟨4, ![4, 8, 2048, 128]⟩
abbrev S_ : Shape := ⟨0, ![]⟩

class Facts : Prop where
  bcast_S_S4x8x2304x128 : S_.BroadcastsInDim S4x8x2304x128 (![] : Fin 0 → Fin S4x8x2304x128.rank)
  reducesTo_S4x8x2304x128_S_d0_1_2_3 : S4x8x2304x128.ReducesTo [0, 1, 2, 3] S_
  h_S_ : 0 < S_.numel
  bcast_S_S2x4x8x2304x128 : S_.BroadcastsInDim S2x4x8x2304x128 (![] : Fin 0 → Fin S2x4x8x2304x128.rank)
  reducesTo_S2x4x8x2304x128_S_d0_1_2_3_4 : S2x4x8x2304x128.ReducesTo [0, 1, 2, 3, 4] S_
  bitsLt_bf16_f32 : FTy.bits .bf16 < FTy.bits .f32
  bcast_S_S4x8x2048x128 : S_.BroadcastsInDim S4x8x2048x128 (![] : Fin 0 → Fin S4x8x2048x128.rank)
  reducesTo_S4x8x2048x128_S_d0_1_2_3 : S4x8x2048x128.ReducesTo [0, 1, 2, 3] S_

variable [Facts]

def fn_part1 {F : FTy → Type} [FloatOps F] (main_arg4 : FVec F S4x8x2048x128 .bf16) (main_v14 : IVec S_ 1) (main_v15 : FVec F S2x4x8x2304x128 .f32) (main_v16 : FVec F S2x4x8x2304x128 .f32) : IVec S_ 1 :=
  let main_v17 : IVec S2x4x8x2304x128 1 := cmpf .olt main_v15 main_v16
  let main_c_5 : IVec S_ 1 := constantI S_ 1 1#1
  let main_v18 : IVec S_ 1 := (fun x v => Host.reduce IntOp.andi x v reducesTo_S2x4x8x2304x128_S_d0_1_2_3_4 h_S_) main_v17 main_c_5
  let main_v19 : IVec S_ 1 := andi main_v14 main_v18
  let main_v20 : FVec F S4x8x2048x128 .f32 := (extf .f32 · bitsLt_bf16_f32) main_arg4
  let main_v21 : FVec F S4x8x2048x128 .f32 := Host.absf main_v20
  let main_cst_6 : FVec F S_ .f32 := constant S_ .f32 0x7F800000#32
  let main_v22 : FVec F S4x8x2048x128 .f32 := broadcastInDim S4x8x2048x128 ![] bcast_S_S4x8x2048x128 main_cst_6
  let main_v23 : IVec S4x8x2048x128 1 := cmpf .olt main_v21 main_v22
  let main_c_7 : IVec S_ 1 := constantI S_ 1 1#1
  let main_v24 : IVec S_ 1 := (fun x v => Host.reduce IntOp.andi x v reducesTo_S4x8x2048x128_S_d0_1_2_3 h_S_) main_v23 main_c_7
  let main_v25 : IVec S_ 1 := andi main_v19 main_v24
  main_v25

def fn {F : FTy → Type} [FloatOps F] (main_arg0 : FVec F S4x8x2304x128 .f32) (main_arg1 : FVec F S2x4x8x2304x128 .f32) (main_arg2 : FVec F S4x8x2304x128 .bf16) (main_arg3 : FVec F S2x4x8x2304x128 .f32) (main_arg4 : FVec F S4x8x2048x128 .bf16) : IVec S_ 1 :=
  let main_v0 : FVec F S4x8x2304x128 .f32 := Host.absf main_arg0
  let main_cst : FVec F S_ .f32 := constant S_ .f32 0x7F800000#32
  let main_v1 : FVec F S4x8x2304x128 .f32 := broadcastInDim S4x8x2304x128 ![] bcast_S_S4x8x2304x128 main_cst
  let main_v2 : IVec S4x8x2304x128 1 := cmpf .olt main_v0 main_v1
  let main_c : IVec S_ 1 := constantI S_ 1 1#1
  let main_v3 : IVec S_ 1 := (fun x v => Host.reduce IntOp.andi x v reducesTo_S4x8x2304x128_S_d0_1_2_3 h_S_) main_v2 main_c
  let main_v4 : FVec F S2x4x8x2304x128 .f32 := Host.absf main_arg1
  let main_cst_0 : FVec F S_ .f32 := constant S_ .f32 0x7F800000#32
  let main_v5 : FVec F S2x4x8x2304x128 .f32 := broadcastInDim S2x4x8x2304x128 ![] bcast_S_S2x4x8x2304x128 main_cst_0
  let main_v6 : IVec S2x4x8x2304x128 1 := cmpf .olt main_v4 main_v5
  let main_c_1 : IVec S_ 1 := constantI S_ 1 1#1
  let main_v7 : IVec S_ 1 := (fun x v => Host.reduce IntOp.andi x v reducesTo_S2x4x8x2304x128_S_d0_1_2_3_4 h_S_) main_v6 main_c_1
  let main_v8 : IVec S_ 1 := andi main_v3 main_v7
  let main_v9 : FVec F S4x8x2304x128 .f32 := (extf .f32 · bitsLt_bf16_f32) main_arg2
  let main_v10 : FVec F S4x8x2304x128 .f32 := Host.absf main_v9
  let main_cst_2 : FVec F S_ .f32 := constant S_ .f32 0x7F800000#32
  let main_v11 : FVec F S4x8x2304x128 .f32 := broadcastInDim S4x8x2304x128 ![] bcast_S_S4x8x2304x128 main_cst_2
  let main_v12 : IVec S4x8x2304x128 1 := cmpf .olt main_v10 main_v11
  let main_c_3 : IVec S_ 1 := constantI S_ 1 1#1
  let main_v13 : IVec S_ 1 := (fun x v => Host.reduce IntOp.andi x v reducesTo_S4x8x2304x128_S_d0_1_2_3 h_S_) main_v12 main_c_3
  let main_v14 : IVec S_ 1 := andi main_v8 main_v13
  let main_v15 : FVec F S2x4x8x2304x128 .f32 := Host.absf main_arg3
  let main_cst_4 : FVec F S_ .f32 := constant S_ .f32 0x7F800000#32
  let main_v16 : FVec F S2x4x8x2304x128 .f32 := broadcastInDim S2x4x8x2304x128 ![] bcast_S_S2x4x8x2304x128 main_cst_4
  fn_part1 (F := F) main_arg4 main_v14 main_v15 main_v16
-- ==== Pre_finite15.lean ====
abbrev S8192x1024 : Shape := ⟨2, ![8192, 1024]⟩
abbrev S4x2x9x1024 : Shape := ⟨4, ![4, 2, 9, 1024]⟩
abbrev S2x1024 : Shape := ⟨2, ![2, 1024]⟩
abbrev S4x2048x1024 : Shape := ⟨3, ![4, 2048, 1024]⟩
abbrev S2816x1024 : Shape := ⟨2, ![2816, 1024]⟩
abbrev S8192x5632 : Shape := ⟨2, ![8192, 5632]⟩
abbrev S_ : Shape := ⟨0, ![]⟩

class Facts : Prop where
  bcast_S_S4x2x9x1024 : S_.BroadcastsInDim S4x2x9x1024 (![] : Fin 0 → Fin S4x2x9x1024.rank)
  reducesTo_S4x2x9x1024_S_d0_1_2_3 : S4x2x9x1024.ReducesTo [0, 1, 2, 3] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn_part1 {F : FTy → Type} [FloatOps F] (main_arg6 : FVec F S8192x5632 .bf16) (main_v13 : IVec S_ 1) (main_v15 : FVec F S2816x1024 .f32) (main_v16 : FVec F S2816x1024 .f32) : IVec S_ 1 :=
  let main_v17 : IVec S2816x1024 1 := cmpf .olt main_v15 main_v16
  let main_c_5 : IVec S_ 1 := constantI S_ 1 1#1
  let main_v18 : IVec S_ 1 := (fun x v => Host.reduce IntOp.andi x v reducesTo_S2816x1024_S_d0_1 h_S_) main_v17 main_c_5
  let main_v19 : IVec S_ 1 := andi main_v13 main_v18
  let main_v20 : FVec F S8192x5632 .f32 := (extf .f32 · bitsLt_bf16_f32) main_arg6
  let main_v21 : FVec F S8192x5632 .f32 := Host.absf main_v20
  let main_cst_6 : FVec F S_ .f32 := constant S_ .f32 0x7F800000#32
  let main_v22 : FVec F S8192x5632 .f32 := broadcastInDim S8192x5632 ![] bcast_S_S8192x5632 main_cst_6
  let main_v23 : IVec S8192x5632 1 := cmpf .olt main_v21 main_v22
  let main_c_7 : IVec S_ 1 := constantI S_ 1 1#1
  let main_v24 : IVec S_ 1 := (fun x v => Host.reduce IntOp.andi x v reducesTo_S8192x5632_S_d0_1 h_S_) main_v23 main_c_7
  let main_v25 : IVec S_ 1 := andi main_v19 main_v24
  main_v25

def fn {F : FTy → Type} [FloatOps F] (main_arg0 : FVec F S8192x1024 .f32) (main_arg1 : FVec F S8192x1024 .bf16) (main_arg2 : FVec F S4x2x9x1024 .f32) (main_arg3 : FVec F S2x1024 .f32) (main_arg4 : FVec F S4x2048x1024 .f32) (main_arg5 : FVec F S2816x1024 .bf16) (main_arg6 : FVec F S8192x5632 .bf16) : IVec S_ 1 :=
  let main_v0 : FVec F S4x2x9x1024 .f32 := Host.absf main_arg2
  let main_cst : FVec F S_ .f32 := constant S_ .f32 0x7F800000#32
  let main_v1 : FVec F S4x2x9x1024 .f32 := broadcastInDim S4x2x9x1024 ![] bcast_S_S4x2x9x1024 main_cst
  let main_v2 : IVec S4x2x9x1024 1 := cmpf .olt main_v0 main_v1
  let main_c : IVec S_ 1 := constantI S_ 1 1#1
  let main_v3 : IVec S_ 1 := (fun x v => Host.reduce IntOp.andi x v reducesTo_S4x2x9x1024_S_d0_1_2_3 h_S_) main_v2 main_c
  let main_v4 : FVec F S2x1024 .f32 := Host.absf main_arg3
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S4x2048x1024 .f32 := Host.absf main_arg4
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S2816x1024 .f32 := (extf .f32 · bitsLt_bf16_f32) main_arg5
  let main_v15 : FVec F S2816x1024 .f32 := Host.absf main_v14
  let main_cst_4 : FVec F S_ .f32 := constant S_ .f32 0x7F800000#32
  let main_v16 : FVec F S2816x1024 .f32 := broadcastInDim S2816x1024 ![] bcast_S_S2816x1024 main_cst_4
  fn_part1 (F := F) main_arg6 main_v13 main_v15 main_v16
-- ==== Pre_finite2.lean ====
abbrev S9216x1024 : Shape := ⟨2, ![9216, 1024]⟩
abbrev S2816x1024 : Shape := ⟨2, ![2816, 1024]⟩
abbrev S9216x5632 : Shape := ⟨2, ![9216, 5632]⟩
abbrev S_ : Shape := ⟨0, ![]⟩

class Facts : Prop where
  bitsLt_bf16_f32 : FTy.bits .bf16 < FTy.bits .f32
  bcast_S_S9216x1024 : S_.BroadcastsInDim S9216x1024 (![] : Fin 0 → Fin S9216x1024.rank)
  reducesTo_S9216x1024_S_d0_1 : S9216x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S9216x5632 : S_.BroadcastsInDim S9216x5632 (![] : Fin 0 → Fin S9216x5632.rank)
  reducesTo_S9216x5632_S_d0_1 : S9216x5632.ReducesTo [0, 1] S_

variable [Facts]

def fn {F : FTy → Type} [FloatOps F] (main_arg0 : FVec F S9216x1024 .bf16) (main_arg1 : FVec F S2816x1024 .bf16) (main_arg2 : FVec F S9216x5632 .bf16) : IVec S_ 1 :=
  let main_v0 : FVec F S9216x1024 .f32 := (extf .f32 · bitsLt_bf16_f32) main_arg0
  let main_v1 : FVec F S9216x1024 .f32 := Host.absf main_v0
  let main_cst : FVec F S_ .f32 := constant S_ .f32 0x7F800000#32
  let main_v2 : FVec F S9216x1024 .f32 := broadcastInDim S9216x1024 ![] bcast_S_S9216x1024 main_cst
  let main_v3 : IVec S9216x1024 1 := cmpf .olt main_v1 main_v2
  let main_c : IVec S_ 1 := constantI S_ 1 1#1
  let main_v4 : IVec S_ 1 := (fun x v => Host.reduce IntOp.andi x v reducesTo_S9216x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S9216x5632 .f32 := (extf .f32 · bitsLt_bf16_f32) main_arg2
  let main_v12 : FVec F S9216x5632 .f32 := Host.absf main_v11
  let main_cst_2 : FVec F S_ .f32 := constant S_ .f32 0x7F800000#32
  let main_v13 : FVec F S9216x5632 .f32 := broadcastInDim S9216x5632 ![] bcast_S_S9216x5632 main_cst_2
  let main_v14 : IVec S9216x5632 1 := cmpf .olt main_v12 main_v13
  let main_c_3 : IVec S_ 1 := constantI S_ 1 1#1
  let main_v15 : IVec S_ 1 := (fun x v => Host.reduce IntOp.andi x v reducesTo_S9216x5632_S_d0_1 h_S_) main_v14 main_c_3
  let main_v16 : IVec S_ 1 := andi main_v10 main_v15
  main_v16
-- ==== Kernel.lean ====
abbrev S4x8x2304x128 : Shape := ⟨4, ![4, 8, 2304, 128]⟩
abbrev S2x4x8x2304x128 : Shape := ⟨5, ![2, 4, 8, 2304, 128]⟩
abbrev S4x8x2048x128 : Shape := ⟨4, ![4, 8, 2048, 128]⟩
abbrev S1x4x8x2304x128 : Shape := ⟨5, ![1, 4, 8, 2304, 128]⟩
abbrev S_ : Shape := ⟨0, ![]⟩
abbrev S4x8x1x128 : Shape := ⟨4, ![4, 8, 1, 128]⟩
abbrev S4x8x8x128 : Shape := ⟨4, ![4, 8, 8, 128]⟩
abbrev S4x8x9x128 : Shape := ⟨4, ![4, 8, 9, 128]⟩
abbrev S2304 : Shape := ⟨1, ![2304]⟩
abbrev S1x2304 : Shape := ⟨2, ![1, 2304]⟩
abbrev S9 : Shape := ⟨1, ![9]⟩
abbrev S9x1 : Shape := ⟨2, ![9, 1]⟩
abbrev S9x2304 : Shape := ⟨2, ![9, 2304]⟩
abbrev S9x2304x1 : Shape := ⟨3, ![9, 2304, 1]⟩
abbrev S4x8x1x2304x128 : Shape := ⟨5, ![4, 8, 1, 2304, 128]⟩
abbrev S4x8x9x1x128 : Shape := ⟨5, ![4, 8, 9, 1, 128]⟩
abbrev S4x8x9x2304x128 : Shape := ⟨5, ![4, 8, 9, 2304, 128]⟩
abbrev S4x8x9x128x128 : Shape := ⟨5, ![4, 8, 9, 128, 128]⟩
abbrev S1x8x256x128 : Shape := ⟨4, ![1, 8, 256, 128]⟩
abbrev S1x1x8x256x128 : Shape := ⟨5, ![1, 1, 8, 256, 128]⟩
abbrev S1x8x1x128x128 : Shape := ⟨5, ![1, 8, 1, 128, 128]⟩
abbrev S8x128x128 : Shape := ⟨3, ![8, 128, 128]⟩
abbrev S256x128 : Shape := ⟨2, ![256, 128]⟩
abbrev S128x128 : Shape := ⟨2, ![128, 128]⟩
abbrev S128x512 : Shape := ⟨2, ![128, 512]⟩
abbrev S1x1x256x128 : Shape := ⟨4, ![1, 1, 256, 128]⟩
abbrev S1x1x1x256x128 : Shape := ⟨5, ![1, 1, 1, 256, 128]⟩
abbrev S8x32x128 : Shape := ⟨3, ![8, 32, 128]⟩
abbrev S8x128 : Shape := ⟨2, ![8, 128]⟩
abbrev S8x1x128 : Shape := ⟨3, ![8, 1, 128]⟩
abbrev S1x1x1x128x128 : Shape := ⟨5, ![1, 1, 1, 128, 128]⟩
abbrev S1x128 : Shape := ⟨2, ![1, 128]⟩
abbrev S1x128x128 : Shape := ⟨3, ![1, 128, 128]⟩
abbrev S128 : Shape := ⟨1, ![128]⟩
abbrev S32x128 : Shape := ⟨2, ![32, 128]⟩
abbrev S1x1x128x128 : Shape := ⟨4, ![1, 1, 128, 128]⟩

abbrev nBuf : Space → Nat
  | .hbm => 49
  | .vmem => 21
  | .smem => 0
  | _ => 0

abbrev bufTy : (tb : Table) → Fin (tcTables nBuf tb) → BufTy
  | .hbm, ⟨0, _⟩ => ⟨S4x8x2304x128, .f32⟩
  | .hbm, ⟨1, _⟩ => ⟨S2x4x8x2304x128, .f32⟩
  | .hbm, ⟨2, _⟩ => ⟨S4x8x2304x128, .bf16⟩
  | .hbm, ⟨3, _⟩ => ⟨S2x4x8x2304x128, .f32⟩
  | .hbm, ⟨4, _⟩ => ⟨S4x8x2048x128, .bf16⟩
  | .hbm, ⟨5, _⟩ => ⟨S1x4x8x2304x128, .f32⟩
  | .hbm, ⟨6, _⟩ => ⟨S4x8x2304x128, .f32⟩
  | .hbm, ⟨7, _⟩ => ⟨S1x4x8x2304x128, .f32⟩
  | .hbm, ⟨8, _⟩ => ⟨S4x8x2304x128, .f32⟩
  | .hbm, ⟨9, _⟩ => ⟨S_, .f32⟩
  | .hbm, ⟨10, _⟩ => ⟨S_, .f32⟩
  | .hbm, ⟨11, _⟩ => ⟨S4x8x2304x128, .f32⟩
  | .hbm, ⟨12, _⟩ => ⟨S4x8x1x128, .f32⟩
  | .hbm, ⟨13, _⟩ => ⟨S_, .f32⟩
  | .hbm, ⟨14, _⟩ => ⟨S4x8x1x128, .f32⟩
  | .hbm, ⟨15, _⟩ => ⟨S4x8x8x128, .f32⟩
  | .hbm, ⟨16, _⟩ => ⟨S4x8x9x128, .f32⟩
  | .hbm, ⟨17, _⟩ => ⟨S2304, .i32⟩
  | .hbm, ⟨18, _⟩ => ⟨S1x2304, .i32⟩
  | .hbm, ⟨19, _⟩ => ⟨S9, .i32⟩
  | .hbm, ⟨20, _⟩ => ⟨S9x1, .i32⟩
  | .hbm, ⟨21, _⟩ => ⟨S_, .i32⟩
  | .hbm, ⟨22, _⟩ => ⟨S9x1, .i32⟩
  | .hbm, ⟨23, _⟩ => ⟨S9x1, .i32⟩
  | .hbm, ⟨24, _⟩ => ⟨S9x2304, .i32⟩
  | .hbm, ⟨25, _⟩ => ⟨S9x2304, .i32⟩
  | .hbm, ⟨26, _⟩ => ⟨S9x2304, .i1⟩
  | .hbm, ⟨27, _⟩ => ⟨S9x2304x1, .i1⟩
  | .hbm, ⟨28, _⟩ => ⟨S4x8x1x2304x128, .f32⟩
  | .hbm, ⟨29, _⟩ => ⟨S4x8x9x1x128, .f32⟩
  | .hbm, ⟨30, _⟩ => ⟨S4x8x1x2304x128, .f32⟩
  | .hbm, ⟨31, _⟩ => ⟨S4x8x9x2304x128, .f32⟩
  | .hbm, ⟨32, _⟩ => ⟨S4x8x9x2304x128, .f32⟩
  | .hbm, ⟨33, _⟩ => ⟨S4x8x9x2304x128, .f32⟩
  | .hbm, ⟨34, _⟩ => ⟨S4x8x9x2304x128, .f32⟩
  | .hbm, ⟨35, _⟩ => ⟨S4x8x9x2304x128, .f32⟩
  | .hbm, ⟨36, _⟩ => ⟨S4x8x9x2304x128, .f32⟩
  | .hbm, ⟨37, _⟩ => ⟨S_, .f32⟩
  | .hbm, ⟨38, _⟩ => ⟨S_, .f32⟩
  | .hbm, ⟨39, _⟩ => ⟨S4x8x9x2304x128, .i1⟩
  | .hbm, ⟨40, _⟩ => ⟨S4x8x9x2304x128, .f32⟩
  | .hbm, ⟨41, _⟩ => ⟨S4x8x9x2304x128, .f32⟩
  | .hbm, ⟨42, _⟩ => ⟨S4x8x2304x128, .f32⟩
  | .hbm, ⟨43, _⟩ => ⟨S4x8x9x128x128, .f32⟩
  | .hbm, ⟨44, _⟩ => ⟨S4x8x9x128x128, .f32⟩
  | .hbm, ⟨45, _⟩ => ⟨S4x8x2304x128, .bf16⟩
  | .hbm, ⟨46, _⟩ => ⟨S4x8x2304x128, .bf16⟩
  | .hbm, ⟨47, _⟩ => ⟨S4x8x2304x128, .bf16⟩
  | .hbm, ⟨48, _⟩ => ⟨S4x8x2304x128, .bf16⟩
  | .local _ .vmem, ⟨0, _⟩ => ⟨S1x8x256x128, .f32⟩
  | .local _ .vmem, ⟨1, _⟩ => ⟨S1x8x256x128, .f32⟩
  | .local _ .vmem, ⟨2, _⟩ => ⟨S1x1x8x256x128, .f32⟩
  | .local _ .vmem, ⟨3, _⟩ => ⟨S1x1x8x256x128, .f32⟩
  | .local _ .vmem, ⟨4, _⟩ => ⟨S1x8x256x128, .bf16⟩
  | .local _ .vmem, ⟨5, _⟩ => ⟨S1x8x256x128, .bf16⟩
  | .local _ .vmem, ⟨6, _⟩ => ⟨S1x1x8x256x128, .f32⟩
  | .local _ .vmem, ⟨7, _⟩ => ⟨S1x1x8x256x128, .f32⟩
  | .local _ .vmem, ⟨8, _⟩ => ⟨S1x8x1x128x128, .f32⟩
  | .local _ .vmem, ⟨9, _⟩ => ⟨S1x8x1x128x128, .f32⟩
  | .local _ .vmem, ⟨10, _⟩ => ⟨S1x8x256x128, .bf16⟩
  | .local _ .vmem, ⟨11, _⟩ => ⟨S1x8x256x128, .bf16⟩
  | .local _ .vmem, ⟨12, _⟩ => ⟨S1x8x256x128, .bf16⟩
  | .local _ .vmem, ⟨13, _⟩ => ⟨S1x8x256x128, .bf16⟩
  | .local _ .vmem, ⟨14, _⟩ => ⟨S1x8x256x128, .bf16⟩
  | .local _ .vmem, ⟨15, _⟩ => ⟨S1x8x256x128, .bf16⟩
  | .local _ .vmem, ⟨16, _⟩ => ⟨S1x8x256x128, .bf16⟩
  | .local _ .vmem, ⟨17, _⟩ => ⟨S1x8x256x128, .bf16⟩
  | .local _ .vmem, ⟨18, _⟩ => ⟨S1x8x256x128, .bf16⟩
  | .local _ .vmem, ⟨19, _⟩ => ⟨S1x8x256x128, .bf16⟩
  | .local _ .vmem, ⟨20, _⟩ => ⟨S8x128x128, .f32⟩
  | _, _ => ⟨S4x8x2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_v32_2 : Ref sig .tc := ⟨.hbm, 47, rfl⟩
abbrev main_v32_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 1, 9], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg2
  let c0_i32 : BitVec 32 := 0#32
  let c0_i32_0 : BitVec 32 := 0#32
  ![arg0.toNat, arg1.toNat, v0.toNat, c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg2
  let c0_i32 : BitVec 32 := 0#32
  let c0_i32_0 : BitVec 32 := 0#32
  let c0_i32_1 : BitVec 32 := 0#32
  ![c0_i32.toNat, arg0.toNat, arg1.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg2
  let c0_i32 : BitVec 32 := 0#32
  let c0_i32_0 : BitVec 32 := 0#32
  ![arg0.toNat, arg1.toNat, v0.toNat, c0_i32.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg2
  let c0_i32 : BitVec 32 := 0#32
  let c0_i32_0 : BitVec 32 := 0#32
  let c0_i32_1 : BitVec 32 := 0#32
  ![c0_i32.toNat, arg0.toNat, arg1.toNat, v0.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg2
  let c0_i32 : BitVec 32 := 0#32
  let c0_i32_0 : BitVec 32 := 0#32
  let c0_i32_1 : BitVec 32 := 0#32
  ![arg0.toNat, arg1.toNat, v0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg2
  let c1_i32 : BitVec 32 := 1#32
  let v1 : BitVec 32 := Scalar.subi v0 c1_i32
  let c0_i32 : BitVec 32 := 0#32
  let c7_i32 : BitVec 32 := 7#32
  let v2 : BitVec 32 := Scalar.maxsi c0_i32 v1
  let v3 : BitVec 32 := Scalar.minsi c7_i32 v2
  let c0_i32_0 : BitVec 32 := 0#32
  let c0_i32_1 : BitVec 32 := 0#32
  ![arg0.toNat, arg1.toNat, v3.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg2
  let c0_i32 : BitVec 32 := 0#32
  let c0_i32_0 : BitVec 32 := 0#32
  ![arg0.toNat, arg1.toNat, v0.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg2
  let c0_i32 : BitVec 32 := 0#32
  let c0_i32_0 : BitVec 32 := 0#32
  ![arg0.toNat, arg1.toNat, v0.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg2
  let c0_i32 : BitVec 32 := 0#32
  let c0_i32_0 : BitVec 32 := 0#32
  ![arg0.toNat, arg1.toNat, v0.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg2
  let c0_i32 : BitVec 32 := 0#32
  let c0_i32_0 : BitVec 32 := 0#32
  ![arg0.toNat, arg1.toNat, v0.toNat, c0_i32.toNat]

abbrev stage0_0 : Fin 2 → Memref sig .tc .vmem S1x8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x8x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x8x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S4x8x2304x128 : Shape := ⟨4, ![4, 8, 2304, 128]⟩
abbrev S2x4x8x2304x128 : Shape := ⟨5, ![2, 4, 8, 2304, 128]⟩
abbrev S4x8x2048x128 : Shape := ⟨4, ![4, 8, 2048, 128]⟩
abbrev S1x4x8x2304x128 : Shape := ⟨5, ![1, 4, 8, 2304, 128]⟩
abbrev S_ : Shape := ⟨0, ![]⟩
abbrev S2304x2304 : Shape := ⟨2, ![2304, 2304]⟩
abbrev S4x8x2304x1x128 : Shape := ⟨5, ![4, 8, 2304, 1, 128]⟩
abbrev S4x8x1x2304x128 : Shape := ⟨5, ![4, 8, 1, 2304, 128]⟩
abbrev S4x8x2304x2304x128 : Shape := ⟨5, ![4, 8, 2304, 2304, 128]⟩
abbrev S4x8x2304x2304 : Shape := ⟨4, ![4, 8, 2304, 2304]⟩
abbrev S4x8x128x2304 : Shape := ⟨4, ![4, 8, 128, 2304]⟩

abbrev nBuf : Space → Nat
  | .hbm => 93
  | .vmem => 0
  | .smem => 0
  | _ => 0

abbrev bufTy : (tb : Table) → Fin (tcTables nBuf tb) → BufTy
  | .hbm, ⟨0, _⟩ => ⟨S4x8x2304x128, .f32⟩
  | .hbm, ⟨1, _⟩ => ⟨S2x4x8x2304x128, .f32⟩
  | .hbm, ⟨2, _⟩ => ⟨S4x8x2304x128, .bf16⟩
  | .hbm, ⟨3, _⟩ => ⟨S2x4x8x2304x128, .f32⟩
  | .hbm, ⟨4, _⟩ => ⟨S4x8x2048x128, .bf16⟩
  | .hbm, ⟨5, _⟩ => ⟨S1x4x8x2304x128, .f32⟩
  | .hbm, ⟨6, _⟩ => ⟨S4x8x2304x128, .f32⟩
  | .hbm, ⟨7, _⟩ => ⟨S4x8x2304x128, .f32⟩
  | .hbm, ⟨8, _⟩ => ⟨S1x4x8x2304x128, .f32⟩
  | .hbm, ⟨9, _⟩ => ⟨S4x8x2304x128, .f32⟩
  | .hbm, ⟨10, _⟩ => ⟨S_, .f32⟩
  | .hbm, ⟨11, _⟩ => ⟨S_, .f32⟩
  | .hbm, ⟨12, _⟩ => ⟨S4x8x2304x128, .f32⟩
  | .hbm, ⟨13, _⟩ => ⟨S_, .i1⟩
  | .hbm, ⟨14, _⟩ => ⟨S2304x2304, .i1⟩
  | .hbm, ⟨15, _⟩ => ⟨S2304x2304, .i32⟩
  | .hbm, ⟨16, _⟩ => ⟨S_, .i32⟩
  | .hbm, ⟨17, _⟩ => ⟨S2304x2304, .i32⟩
  | .hbm, ⟨18, _⟩ => ⟨S2304x2304, .i32⟩
  | .hbm, ⟨19, _⟩ => ⟨S2304x2304, .i32⟩
  | .hbm, ⟨20, _⟩ => ⟨S2304x2304, .i1⟩
  | .hbm, ⟨21, _⟩ => ⟨S_, .i1⟩
  | .hbm, ⟨22, _⟩ => ⟨S2304x2304, .i1⟩
  | .hbm, ⟨23, _⟩ => ⟨S2304x2304, .i1⟩
  | .hbm, ⟨24, _⟩ => ⟨S4x8x2304x1x128, .f32⟩
  | .hbm, ⟨25, _⟩ => ⟨S4x8x1x2304x128, .f32⟩
  | .hbm, ⟨26, _⟩ => ⟨S4x8x2304x2304x128, .f32⟩
  | .hbm, ⟨27, _⟩ => ⟨S4x8x2304x2304x128, .f32⟩
  | .hbm, ⟨28, _⟩ => ⟨S4x8x2304x2304x128, .f32⟩
  | .hbm, ⟨29, _⟩ => ⟨S4x8x2304x2304x128, .f32⟩
  | .hbm, ⟨30, _⟩ => ⟨S4x8x2304x1x128, .f32⟩
  | .hbm, ⟨31, _⟩ => ⟨S4x8x1x2304x128, .f32⟩
  | .hbm, ⟨32, _⟩ => ⟨S4x8x2304x2304x128, .f32⟩
  | .hbm, ⟨33, _⟩ => ⟨S4x8x2304x2304x128, .f32⟩
  | .hbm, ⟨34, _⟩ => ⟨S4x8x2304x2304x128, .f32⟩
  | .hbm, ⟨35, _⟩ => ⟨S4x8x2304x2304x128, .f32⟩
  | .hbm, ⟨36, _⟩ => ⟨S_, .f32⟩
  | .hbm, ⟨37, _⟩ => ⟨S4x8x2304x2304, .f32⟩
  | .hbm, ⟨38, _⟩ => ⟨S_, .f32⟩
  | .hbm, ⟨39, _⟩ => ⟨S_, .f32⟩
  | .hbm, ⟨40, _⟩ => ⟨S4x8x2304x2304, .i1⟩
  | .hbm, ⟨41, _⟩ => ⟨S4x8x2304x2304, .f32⟩
  | .hbm, ⟨42, _⟩ => ⟨S4x8x2304x2304, .f32⟩
  | .hbm, ⟨43, _⟩ => ⟨S_, .f32⟩
  | .hbm, ⟨44, _⟩ => ⟨S4x8x2304x2304, .f32⟩
  | .hbm, ⟨45, _⟩ => ⟨S4x8x2304x128, .f32⟩
  | .hbm, ⟨46, _⟩ => ⟨S4x8x2048x128, .f32⟩
  | .hbm, ⟨47, _⟩ => ⟨S4x8x2048x128, .f32⟩
  | .hbm, ⟨48, _⟩ => ⟨S_, .f32⟩
  | .hbm, ⟨49, _⟩ => ⟨S4x8x2304x128, .f32⟩
  | .hbm, ⟨50, _⟩ => ⟨S4x8x128x2304, .f32⟩
  | .hbm, ⟨51, _⟩ => ⟨S4x8x2304x128, .f32⟩
  | .hbm, ⟨52, _⟩ => ⟨S4x8x2304x2304, .f32⟩
  | .hbm, ⟨53, _⟩ => ⟨S_, .f32⟩
  | .hbm, ⟨54, _⟩ => ⟨S4x8x2304x2304, .f32⟩
  | .hbm, ⟨55, _⟩ => ⟨S4x8x2304x2304, .f32⟩
  | .hbm, ⟨56, _⟩ => ⟨S4x8x2304x2304x128, .f32⟩
  | .hbm, ⟨57, _⟩ => ⟨S4x8x2304x2304x128, .f32⟩
  | .hbm, ⟨58, _⟩ => ⟨S4x8x2304x2304x128, .f32⟩
  | .hbm, ⟨59, _⟩ => ⟨S4x8x2304x2304x128, .f32⟩
  | .hbm, ⟨60, _⟩ => ⟨S4x8x2304x2304x128, .f32⟩
  | .hbm, ⟨61, _⟩ => ⟨S_, .f32⟩
  | .hbm, ⟨62, _⟩ => ⟨S4x8x2304x128, .f32⟩
  | .hbm, ⟨63, _⟩ => ⟨S4x8x1x2304x128, .f32⟩
  | .hbm, ⟨64, _⟩ => ⟨S4x8x2304x2304x128, .f32⟩
  | .hbm, ⟨65, _⟩ => ⟨S4x8x2304x2304x128, .f32⟩
  | .hbm, ⟨66, _⟩ => ⟨S_, .f32⟩
  | .hbm, ⟨67, _⟩ => ⟨S4x8x2304x128, .f32⟩
  | .hbm, ⟨68, _⟩ => ⟨S4x8x2304x1x128, .f32⟩
  | .hbm, ⟨69, _⟩ => ⟨S_, .f32⟩
  | .hbm, ⟨70, _⟩ => ⟨S4x8x2304x128, .f32⟩
  | .hbm, ⟨71, _⟩ => ⟨S_, .f32⟩
  | .hbm, ⟨72, _⟩ => ⟨S4x8x2304x128, .f32⟩
  | .hbm, ⟨73, _⟩ => ⟨S4x8x2304x2304x128, .f32⟩
  | .hbm, ⟨74, _⟩ => ⟨S_, .f32⟩
  | .hbm, ⟨75, _⟩ => ⟨S4x8x2304x128, .f32⟩
  | .hbm, ⟨76, _⟩ => ⟨S4x8x2304x1x128, .f32⟩
  | .hbm, ⟨77, _⟩ => ⟨S4x8x2304x2304x128, .f32⟩
  | .hbm, ⟨78, _⟩ => ⟨S_, .f32⟩
  | .hbm, ⟨79, _⟩ => ⟨S4x8x2304x128, .f32⟩
  | .hbm, ⟨80, _⟩ => ⟨S4x8x1x2304x128, .f32⟩
  | .hbm, ⟨81, _⟩ => ⟨S_, .f32⟩
  | .hbm, ⟨82, _⟩ => ⟨S4x8x2304x128, .f32⟩
  | .hbm, ⟨83, _⟩ => ⟨S_, .f32⟩
  | .hbm, ⟨84, _⟩ => ⟨S4x8x2304x128, .f32⟩
  | .hbm, ⟨85, _⟩ => ⟨S4x8x2304x128, .f32⟩
  | .hbm, ⟨86, _⟩ => ⟨S_, .f32⟩
  | .hbm, ⟨87, _⟩ => ⟨S_, .f32⟩
  | .hbm, ⟨88, _⟩ => ⟨S4x8x2304x128, .f32⟩
  | .hbm, ⟨89, _⟩ => ⟨S4x8x2304x128, .bf16⟩
  | .hbm, ⟨90, _⟩ => ⟨S4x8x2304x128, .bf16⟩
  | .hbm, ⟨91, _⟩ => ⟨S4x8x2304x128, .bf16⟩
  | .hbm, ⟨92, _⟩ => ⟨S4x8x2304x128, .bf16⟩
  | _, _ => ⟨S4x8x2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_call0_cst : Ref sig .tc := ⟨.hbm, 10, rfl⟩
abbrev main_call0_call0_v0 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_call1_v0 : Ref sig .tc := ⟨.hbm, 15, rfl⟩
abbrev main_call1_c : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_c_0 : Ref sig .tc := ⟨.hbm, 21, rfl⟩
abbrev main_call1_v5 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_cst_0 : Ref sig .tc := ⟨.hbm, 38, rfl⟩
abbrev main_call2_v0 : Ref sig .tc := ⟨.hbm, 39, rfl⟩
abbrev main_v21_1 : Ref sig .tc := ⟨.hbm, 40, rfl⟩
abbrev main_call2_v2 : Ref sig .tc := ⟨.hbm, 41, rfl⟩
abbrev main_v21_0 : Ref sig .tc := ⟨.hbm, 42, rfl⟩
abbrev main_call2_cst : Ref sig .tc := ⟨.hbm, 43, rfl⟩
abbrev main_v21_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_1 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call3_cst : Ref sig .tc := ⟨.hbm, 53, rfl⟩
abbrev main_call3_v0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_3 : Ref sig .tc := ⟨.hbm, 66, rfl⟩
abbrev main_v39 : Ref sig .tc := ⟨.hbm, 67, rfl⟩
abbrev main_v40 : Ref sig .tc := ⟨.hbm, 68, rfl⟩
abbrev main_cst_4 : Ref sig .tc := ⟨.hbm, 69, rfl⟩
abbrev main_v41 : Ref sig .tc := ⟨.hbm, 70, rfl⟩
abbrev main_cst_5 : Ref sig .tc := ⟨.hbm, 71, rfl⟩
abbrev main_v42 : Ref sig .tc := ⟨.hbm, 72, rfl⟩
abbrev main_v43 : Ref sig .tc := ⟨.hbm, 73, rfl⟩
abbrev main_cst_6 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_7 : Ref sig .tc := ⟨.hbm, 78, rfl⟩
abbrev main_v47 : Ref sig .tc := ⟨.hbm, 79, rfl⟩
abbrev main_v48 : Ref sig .tc := ⟨.hbm, 80, rfl⟩
abbrev main_cst_8 : Ref sig .tc := ⟨.hbm, 81, rfl⟩
abbrev main_v49 : Ref sig .tc := ⟨.hbm, 82, rfl⟩
abbrev main_cst_9 : Ref sig .tc := ⟨.hbm, 83, rfl⟩
abbrev main_v50 : Ref sig .tc := ⟨.hbm, 84, rfl⟩
abbrev main_v51 : Ref sig .tc := ⟨.hbm, 85, rfl⟩
abbrev main_call4_call0_cst : Ref sig .tc := ⟨.hbm, 86, rfl⟩
abbrev main_call4_call0_v0 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩

abbrev nD : Nat := 1
abbrev τ : Topo := Topo.v7x

variable {F : FTy → Type} [FloatOps F]
-- ==== Kernel2.lean ====
abbrev S9216x1024 : Shape := ⟨2, ![9216, 1024]⟩
abbrev S2816x1024 : Shape := ⟨2, ![2816, 1024]⟩
abbrev S9216x5632 : Shape := ⟨2, ![9216, 5632]⟩
abbrev S256x1024 : Shape := ⟨2, ![256, 1024]⟩
abbrev S256x5632 : Shape := ⟨2, ![256, 5632]⟩
abbrev S1408x1024 : Shape := ⟨2, ![1408, 1024]⟩
abbrev S256x1408 : Shape := ⟨2, ![256, 1408]⟩

abbrev nBuf : Space → Nat
  | .hbm => 4
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S2816x1024, .bf16⟩
  | .hbm, ⟨2, _⟩ => ⟨S9216x5632, .bf16⟩
  | .hbm, ⟨3, _⟩ => ⟨S9216x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S9216x1024 : Shape := ⟨2, ![9216, 1024]⟩
abbrev S2816x1024 : Shape := ⟨2, ![2816, 1024]⟩
abbrev S9216x5632 : Shape := ⟨2, ![9216, 5632]⟩
abbrev S9216x2816 : Shape := ⟨2, ![9216, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S2816x1024, .bf16⟩
  | .hbm, ⟨2, _⟩ => ⟨S9216x5632, .bf16⟩
  | .hbm, ⟨3, _⟩ => ⟨S9216x1024, .f32⟩
  | .hbm, ⟨4, _⟩ => ⟨S2816x1024, .f32⟩
  | .hbm, ⟨5, _⟩ => ⟨S9216x5632, .f32⟩
  | .hbm, ⟨6, _⟩ => ⟨S9216x2816, .f32⟩
  | .hbm, ⟨7, _⟩ => ⟨S9216x2816, .f32⟩
  | .hbm, ⟨8, _⟩ => ⟨S9216x2816, .f32⟩
  | .hbm, ⟨9, _⟩ => ⟨S9216x2816, .f32⟩
  | .hbm, ⟨10, _⟩ => ⟨S_, .f32⟩
  | .hbm, ⟨11, _⟩ => ⟨S9216x2816, .f32⟩
  | .hbm, ⟨12, _⟩ => ⟨S9216x2816, .f32⟩
  | .hbm, ⟨13, _⟩ => ⟨S_, .f32⟩
  | .hbm, ⟨14, _⟩ => ⟨S9216x2816, .f32⟩
  | .hbm, ⟨15, _⟩ => ⟨S9216x2816, .f32⟩
  | .hbm, ⟨16, _⟩ => ⟨S_, .f32⟩
  | .hbm, ⟨17, _⟩ => ⟨S9216x2816, .f32⟩
  | .hbm, ⟨18, _⟩ => ⟨S9216x2816, .f32⟩
  | .hbm, ⟨19, _⟩ => ⟨S9216x2816, .f32⟩
  | .hbm, ⟨20, _⟩ => ⟨S9216x2816, .f32⟩
  | .hbm, ⟨21, _⟩ => ⟨S9216x2816, .f32⟩
  | .hbm, ⟨22, _⟩ => ⟨S9216x1024, .f32⟩
  | .hbm, ⟨23, _⟩ => ⟨S9216x2816, .f32⟩
  | .hbm, ⟨24, _⟩ => ⟨S9216x2816, .f32⟩
  | .hbm, ⟨25, _⟩ => ⟨S9216x2816, .f32⟩
  | .hbm, ⟨26, _⟩ => ⟨S9216x2816, .f32⟩
  | .hbm, ⟨27, _⟩ => ⟨S9216x2816, .f32⟩
  | .hbm, ⟨28, _⟩ => ⟨S9216x2816, .f32⟩
  | .hbm, ⟨29, _⟩ => ⟨S9216x2816, .f32⟩
  | .hbm, ⟨30, _⟩ => ⟨S9216x5632, .f32⟩
  | .hbm, ⟨31, _⟩ => ⟨S9216x5632, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v5_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v5_1 : Ref sig .tc := ⟨.hbm, 19, rfl⟩
abbrev main_v5_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]
-- ==== Kernel3.lean ====
abbrev S9216x5632 : Shape := ⟨2, ![9216, 5632]⟩
abbrev S4x1024x1408 : Shape := ⟨3, ![4, 1024, 1408]⟩
abbrev S9216x1024 : Shape := ⟨2, ![9216, 1024]⟩
abbrev S256x5632 : Shape := ⟨2, ![256, 5632]⟩
abbrev S256x1024 : Shape := ⟨2, ![256, 1024]⟩
abbrev S256x1408 : Shape := ⟨2, ![256, 1408]⟩
abbrev S1x1024x1408 : Shape := ⟨3, ![1, 1024, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S9216x5632, .bf16⟩
  | .hbm, ⟨1, _⟩ => ⟨S4x1024x1408, .bf16⟩
  | .hbm, ⟨2, _⟩ => ⟨S9216x1024, .bf16⟩
  | .local _ .vmem, ⟨0, _⟩ => ⟨S256x5632, .bf16⟩
  | .local _ .vmem, ⟨1, _⟩ => ⟨S256x5632, .bf16⟩
  | .local _ .vmem, ⟨2, _⟩ => ⟨S4x1024x1408, .bf16⟩
  | .local _ .vmem, ⟨3, _⟩ => ⟨S256x1024, .bf16⟩
  | .local _ .vmem, ⟨4, _⟩ => ⟨S256x1024, .bf16⟩
  | _, _ => ⟨S9216x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S9216x5632 : Shape := ⟨2, ![9216, 5632]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S_ : Shape := ⟨0, ![]⟩
abbrev S9216x1024 : Shape := ⟨2, ![9216, 1024]⟩

abbrev nBuf : Space → Nat
  | .hbm => 11
  | .vmem => 0
  | .smem => 0
  | _ => 0

abbrev bufTy : (tb : Table) → Fin (tcTables nBuf tb) → BufTy
  | .hbm, ⟨0, _⟩ => ⟨S9216x5632, .bf16⟩
  | .hbm, ⟨1, _⟩ => ⟨S4x1024x1408, .bf16⟩
  | .hbm, ⟨2, _⟩ => ⟨S9216x5632, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S_, .f32⟩
  | .hbm, ⟨7, _⟩ => ⟨S9216x1024, .f32⟩
  | .hbm, ⟨8, _⟩ => ⟨S9216x5632, .f32⟩
  | .hbm, ⟨9, _⟩ => ⟨S9216x1024, .f32⟩
  | .hbm, ⟨10, _⟩ => ⟨S9216x1024, .bf16⟩
  | _, _ => ⟨S9216x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S9216x1024 : Shape := ⟨2, ![9216, 1024]⟩
abbrev S9216x5632 : Shape := ⟨2, ![9216, 5632]⟩
abbrev S4x1024x1408 : Shape := ⟨3, ![4, 1024, 1408]⟩
abbrev S1536x1024 : Shape := ⟨2, ![1536, 1024]⟩
abbrev S1536x1408 : Shape := ⟨2, ![1536, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S9216x5632, .bf16⟩
  | .hbm, ⟨2, _⟩ => ⟨S4x1024x1408, .f32⟩
  | .local _ .vmem, ⟨0, _⟩ => ⟨S1536x1024, .bf16⟩
  | .local _ .vmem, ⟨1, _⟩ => ⟨S1536x1024, .bf16⟩
  | .local _ .vmem, ⟨2, _⟩ => ⟨S1536x1408, .bf16⟩
  | .local _ .vmem, ⟨3, _⟩ => ⟨S1536x1408, .bf16⟩
  | .local _ .vmem, ⟨4, _⟩ => ⟨S1x1024x1408, .f32⟩
  | .local _ .vmem, ⟨5, _⟩ => ⟨S1x1024x1408, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1536x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S9216x1024 : Shape := ⟨2, ![9216, 1024]⟩
abbrev S9216x5632 : Shape := ⟨2, ![9216, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x5632, .bf16⟩
  | .hbm, ⟨2, _⟩ => ⟨S9216x1024, .f32⟩
  | .hbm, ⟨3, _⟩ => ⟨S9216x5632, .f32⟩
  | .hbm, ⟨4, _⟩ => ⟨S_, .f32⟩
  | .hbm, ⟨5, _⟩ => ⟨S1024x5632, .f32⟩
  | .hbm, ⟨6, _⟩ => ⟨S9216x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S9216x2816 : Shape := ⟨2, ![9216, 2816]⟩
abbrev S9216x1024 : Shape := ⟨2, ![9216, 1024]⟩
abbrev S2816x1024 : Shape := ⟨2, ![2816, 1024]⟩
abbrev S1024x2816 : Shape := ⟨2, ![1024, 2816]⟩
abbrev S1024x512 : Shape := ⟨2, ![1024, 512]⟩
abbrev S2816x512 : Shape := ⟨2, ![2816, 512]⟩

abbrev nBuf : Space → Nat
  | .hbm => 3
  | .vmem => 6
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x512, .bf16⟩
  | .local _ .vmem, ⟨3, _⟩ => ⟨S1024x512, .bf16⟩
  | .local _ .vmem, ⟨4, _⟩ => ⟨S2816x512, .f32⟩
  | .local _ .vmem, ⟨5, _⟩ => ⟨S2816x512, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S9216x2816 : Shape := ⟨2, ![9216, 2816]⟩
abbrev S9216x1024 : Shape := ⟨2, ![9216, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S9216x2816, .f32⟩
  | .hbm, ⟨3, _⟩ => ⟨S9216x1024, .f32⟩
  | .hbm, ⟨4, _⟩ => ⟨S_, .f32⟩
  | .hbm, ⟨5, _⟩ => ⟨S2816x1024, .f32⟩
  | .hbm, ⟨6, _⟩ => ⟨S9216x1024, .f32⟩
  | .hbm, ⟨7, _⟩ => ⟨S1024x2816, .f32⟩
  | .hbm, ⟨8, _⟩ => ⟨S2816x1024, .f32⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S9216x1024 : Shape := ⟨2, ![9216, 1024]⟩
abbrev S4x1024x1408 : Shape := ⟨3, ![4, 1024, 1408]⟩
abbrev S9216x5632 : Shape := ⟨2, ![9216, 5632]⟩
abbrev S9216x2816 : Shape := ⟨2, ![9216, 2816]⟩
abbrev S256x1024 : Shape := ⟨2, ![256, 1024]⟩
abbrev S256x5632 : Shape := ⟨2, ![256, 5632]⟩
abbrev S256x2816 : Shape := ⟨2, ![256, 2816]⟩
abbrev S1x1024x1408 : Shape := ⟨3, ![1, 1024, 1408]⟩
abbrev S1024x1408 : Shape := ⟨2, ![1024, 1408]⟩
abbrev S256x1408 : Shape := ⟨2, ![256, 1408]⟩

abbrev nBuf : Space → Nat
  | .hbm => 4
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S4x1024x1408, .bf16⟩
  | .hbm, ⟨2, _⟩ => ⟨S9216x5632, .bf16⟩
  | .hbm, ⟨3, _⟩ => ⟨S9216x2816, .bf16⟩
  | .local _ .vmem, ⟨0, _⟩ => ⟨S256x1024, .bf16⟩
  | .local _ .vmem, ⟨1, _⟩ => ⟨S256x1024, .bf16⟩
  | .local _ .vmem, ⟨2, _⟩ => ⟨S4x1024x1408, .bf16⟩
  | .local _ .vmem, ⟨3, _⟩ => ⟨S256x5632, .bf16⟩
  | .local _ .vmem, ⟨4, _⟩ => ⟨S256x5632, .bf16⟩
  | .local _ .vmem, ⟨5, _⟩ => ⟨S256x2816, .bf16⟩
  | .local _ .vmem, ⟨6, _⟩ => ⟨S256x2816, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S9216x1024 : Shape := ⟨2, ![9216, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S9216x5632 : Shape := ⟨2, ![9216, 5632]⟩
abbrev S9216x2816 : Shape := ⟨2, ![9216, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S4x1024x1408, .bf16⟩
  | .hbm, ⟨2, _⟩ => ⟨S9216x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S9216x5632, .f32⟩
  | .hbm, ⟨7, _⟩ => ⟨S9216x5632, .bf16⟩
  | .hbm, ⟨8, _⟩ => ⟨S9216x2816, .f32⟩
  | .hbm, ⟨9, _⟩ => ⟨S9216x2816, .f32⟩
  | .hbm, ⟨10, _⟩ => ⟨S9216x2816, .f32⟩
  | .hbm, ⟨11, _⟩ => ⟨S9216x2816, .f32⟩
  | .hbm, ⟨12, _⟩ => ⟨S_, .f32⟩
  | .hbm, ⟨13, _⟩ => ⟨S9216x2816, .f32⟩
  | .hbm, ⟨14, _⟩ => ⟨S9216x2816, .f32⟩
  | .hbm, ⟨15, _⟩ => ⟨S_, .f32⟩
  | .hbm, ⟨16, _⟩ => ⟨S9216x2816, .f32⟩
  | .hbm, ⟨17, _⟩ => ⟨S9216x2816, .f32⟩
  | .hbm, ⟨18, _⟩ => ⟨S9216x2816, .f32⟩
  | .hbm, ⟨19, _⟩ => ⟨S9216x2816, .f32⟩
  | .hbm, ⟨20, _⟩ => ⟨S9216x2816, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel7.lean ====
abbrev S9216x2816 : Shape := ⟨2, ![9216, 2816]⟩
abbrev S2816x1024 : Shape := ⟨2, ![2816, 1024]⟩
abbrev S9216x1024 : Shape := ⟨2, ![9216, 1024]⟩
abbrev S256x2816 : Shape := ⟨2, ![256, 2816]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x1024, .bf16⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .bf16⟩
  | .local _ .vmem, ⟨4, _⟩ => ⟨S256x1024, .bf16⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S9216x2816 : Shape := ⟨2, ![9216, 2816]⟩
abbrev S2816x1024 : Shape := ⟨2, ![2816, 1024]⟩
abbrev S9216x1024 : Shape := ⟨2, ![9216, 1024]⟩

abbrev nBuf : Space → Nat
  | .hbm => 6
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x2816, .f32⟩
  | .hbm, ⟨3, _⟩ => ⟨S2816x1024, .f32⟩
  | .hbm, ⟨4, _⟩ => ⟨S9216x1024, .f32⟩
  | .hbm, ⟨5, _⟩ => ⟨S9216x1024, .bf16⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8192x2816 : Shape := ⟨2, ![8192, 2816]⟩
abbrev S2816x1024 : Shape := ⟨2, ![2816, 1024]⟩
abbrev S8192x1024 : Shape := ⟨2, ![8192, 1024]⟩
abbrev S256x2816 : Shape := ⟨2, ![256, 2816]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .bf16⟩
  | .local _ .vmem, ⟨4, _⟩ => ⟨S256x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | .hbm, ⟨5, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8192x5632 : Shape := ⟨2, ![8192, 5632]⟩
abbrev S4x1024x1408 : Shape := ⟨3, ![4, 1024, 1408]⟩
abbrev S8192x1024 : Shape := ⟨2, ![8192, 1024]⟩
abbrev S256x5632 : Shape := ⟨2, ![256, 5632]⟩
abbrev S256x1024 : Shape := ⟨2, ![256, 1024]⟩
abbrev S256x1408 : Shape := ⟨2, ![256, 1408]⟩
abbrev S1x1024x1408 : Shape := ⟨3, ![1, 1024, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S8192x1024, .bf16⟩
  | .local _ .vmem, ⟨0, _⟩ => ⟨S256x5632, .bf16⟩
  | .local _ .vmem, ⟨1, _⟩ => ⟨S256x5632, .bf16⟩
  | .local _ .vmem, ⟨2, _⟩ => ⟨S4x1024x1408, .bf16⟩
  | .local _ .vmem, ⟨3, _⟩ => ⟨S256x1024, .bf16⟩
  | .local _ .vmem, ⟨4, _⟩ => ⟨S256x1024, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x5632 : Shape := ⟨2, ![8192, 5632]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S_ : Shape := ⟨0, ![]⟩
abbrev S8192x1024 : Shape := ⟨2, ![8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S8192x5632, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S_, .f32⟩
  | .hbm, ⟨7, _⟩ => ⟨S8192x1024, .f32⟩
  | .hbm, ⟨8, _⟩ => ⟨S8192x5632, .f32⟩
  | .hbm, ⟨9, _⟩ => ⟨S8192x1024, .f32⟩
  | .hbm, ⟨10, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x512 : Shape := ⟨2, ![1024, 512]⟩
abbrev S2816x512 : Shape := ⟨2, ![2816, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x512, .bf16⟩
  | .local _ .vmem, ⟨3, _⟩ => ⟨S1024x512, .bf16⟩
  | .local _ .vmem, ⟨4, _⟩ => ⟨S2816x512, .f32⟩
  | .local _ .vmem, ⟨5, _⟩ => ⟨S2816x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference12Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S9216x1024 : Shape := ⟨2, ![9216, 1024]⟩
abbrev S9216x5120 : Shape := ⟨2, ![9216, 5120]⟩
abbrev S1024x5120 : Shape := ⟨2, ![1024, 5120]⟩
abbrev S1536x1024 : Shape := ⟨2, ![1536, 1024]⟩
abbrev S1536x1280 : Shape := ⟨2, ![1536, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S9216x5120, .bf16⟩
  | .hbm, ⟨2, _⟩ => ⟨S1024x5120, .f32⟩
  | .local _ .vmem, ⟨0, _⟩ => ⟨S1536x1024, .bf16⟩
  | .local _ .vmem, ⟨1, _⟩ => ⟨S1536x1024, .bf16⟩
  | .local _ .vmem, ⟨2, _⟩ => ⟨S1536x1280, .bf16⟩
  | .local _ .vmem, ⟨3, _⟩ => ⟨S1536x1280, .bf16⟩
  | .local _ .vmem, ⟨4, _⟩ => ⟨S1024x1280, .f32⟩
  | .local _ .vmem, ⟨5, _⟩ => ⟨S1024x1280, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1536x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference13Ideal.lean ====
abbrev S9216x1024 : Shape := ⟨2, ![9216, 1024]⟩
abbrev S9216x5120 : Shape := ⟨2, ![9216, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x5120, .bf16⟩
  | .hbm, ⟨2, _⟩ => ⟨S9216x1024, .f32⟩
  | .hbm, ⟨3, _⟩ => ⟨S9216x5120, .f32⟩
  | .hbm, ⟨4, _⟩ => ⟨S_, .f32⟩
  | .hbm, ⟨5, _⟩ => ⟨S1024x5120, .f32⟩
  | .hbm, ⟨6, _⟩ => ⟨S9216x5120, .f32⟩
  | .hbm, ⟨7, _⟩ => ⟨S5120x1024, .f32⟩
  | .hbm, ⟨8, _⟩ => ⟨S1024x5120, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S9216x1024 : Shape := ⟨2, ![9216, 1024]⟩
abbrev S8192x1024 : Shape := ⟨2, ![8192, 1024]⟩
abbrev S4x2x9x1024 : Shape := ⟨4, ![4, 2, 9, 1024]⟩
abbrev S2x1024 : Shape := ⟨2, ![2, 1024]⟩
abbrev S4x1024x1408 : Shape := ⟨3, ![4, 1024, 1408]⟩
abbrev S8192x5632 : Shape := ⟨2, ![8192, 5632]⟩
abbrev S8192x2816 : Shape := ⟨2, ![8192, 2816]⟩
abbrev S256x1024 : Shape := ⟨2, ![256, 1024]⟩
abbrev S1x1x9x1024 : Shape := ⟨4, ![1, 1, 9, 1024]⟩
abbrev S256x5632 : Shape := ⟨2, ![256, 5632]⟩
abbrev S256x2816 : Shape := ⟨2, ![256, 2816]⟩
abbrev S1x1x1x1024 : Shape := ⟨4, ![1, 1, 1, 1024]⟩
abbrev S1x1024 : Shape := ⟨2, ![1, 1024]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩

abbrev nBuf : Space → Nat
  | .hbm => 9
  | .vmem => 16
  | .smem => 0
  | _ => 0

abbrev bufTy : (tb : Table) → Fin (tcTables nBuf tb) → BufTy
  | .hbm, ⟨0, _⟩ => ⟨S9216x1024, .f32⟩
  | .hbm, ⟨1, _⟩ => ⟨S8192x1024, .bf16⟩
  | .hbm, ⟨2, _⟩ => ⟨S4x2x9x1024, .f32⟩
  | .hbm, ⟨3, _⟩ => ⟨S2x1024, .f32⟩
  | .hbm, ⟨4, _⟩ => ⟨S4x1024x1408, .bf16⟩
  | .hbm, ⟨5, _⟩ => ⟨S8192x5632, .bf16⟩
  | .hbm, ⟨6, _⟩ => ⟨S8192x2816, .bf16⟩
  | .hbm, ⟨7, _⟩ => ⟨S8192x1024, .f32⟩
  | .hbm, ⟨8, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1x9x1024, .f32⟩
  | .local _ .vmem, ⟨5, _⟩ => ⟨S1x1x9x1024, .f32⟩
  | .local _ .vmem, ⟨6, _⟩ => ⟨S2x1024, .f32⟩
  | .local _ .vmem, ⟨7, _⟩ => ⟨S4x1024x1408, .bf16⟩
  | .local _ .vmem, ⟨8, _⟩ => ⟨S256x5632, .bf16⟩
  | .local _ .vmem, ⟨9, _⟩ => ⟨S256x5632, .bf16⟩
  | .local _ .vmem, ⟨10, _⟩ => ⟨S256x2816, .bf16⟩
  | .local _ .vmem, ⟨11, _⟩ => ⟨S256x2816, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c1_i32 : BitVec 32 := 1#32
  let v1 : BitVec 32 := Scalar.addi v0 c1_i32
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S9216x1024 : Shape := ⟨2, ![9216, 1024]⟩
abbrev S8192x1024 : Shape := ⟨2, ![8192, 1024]⟩
abbrev S4x2x9x1024 : Shape := ⟨4, ![4, 2, 9, 1024]⟩
abbrev S2x1024 : Shape := ⟨2, ![2, 1024]⟩
abbrev S4x1024x1408 : Shape := ⟨3, ![4, 1024, 1408]⟩
abbrev S4x2304x1024 : Shape := ⟨3, ![4, 2304, 1024]⟩
abbrev S4x2048x1024 : Shape := ⟨3, ![4, 2048, 1024]⟩
abbrev S4x1x9x1024 : Shape := ⟨4, ![4, 1, 9, 1024]⟩
abbrev S4x9x1024 : Shape := ⟨3, ![4, 9, 1024]⟩
abbrev S4x1x1024 : Shape := ⟨3, ![4, 1, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x4x1408 : Shape := ⟨3, ![1024, 4, 1408]⟩
abbrev S1024x5632 : Shape := ⟨2, ![1024, 5632]⟩
abbrev S8192x5632 : Shape := ⟨2, ![8192, 5632]⟩
abbrev S8192x2816 : Shape := ⟨2, ![8192, 2816]⟩

abbrev nBuf : Space → Nat
  | .hbm => 116
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S8192x1024, .bf16⟩
  | .hbm, ⟨2, _⟩ => ⟨S4x2x9x1024, .f32⟩
  | .hbm, ⟨3, _⟩ => ⟨S2x1024, .f32⟩
  | .hbm, ⟨4, _⟩ => ⟨S4x1024x1408, .bf16⟩
  | .hbm, ⟨5, _⟩ => ⟨S4x2304x1024, .f32⟩
  | .hbm, ⟨6, _⟩ => ⟨S4x2048x1024, .f32⟩
  | .hbm, ⟨7, _⟩ => ⟨S4x2048x1024, .bf16⟩
  | .hbm, ⟨8, _⟩ => ⟨S4x2048x1024, .f32⟩
  | .hbm, ⟨9, _⟩ => ⟨S4x1x9x1024, .f32⟩
  | .hbm, ⟨10, _⟩ => ⟨S4x9x1024, .f32⟩
  | .hbm, ⟨11, _⟩ => ⟨S4x1x1024, .f32⟩
  | .hbm, ⟨12, _⟩ => ⟨S4x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S_, .f32⟩
  | .hbm, ⟨18, _⟩ => ⟨S4x2048x1024, .f32⟩
  | .hbm, ⟨19, _⟩ => ⟨S4x2048x1024, .f32⟩
  | .hbm, ⟨20, _⟩ => ⟨S4x1x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S_, .f32⟩
  | .hbm, ⟨40, _⟩ => ⟨S4x2048x1, .f32⟩
  | .hbm, ⟨41, _⟩ => ⟨S4x2048x1, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S4x2048x1, .f32⟩
  | .hbm, ⟨48, _⟩ => ⟨S4x2048x1024, .f32⟩
  | .hbm, ⟨49, _⟩ => ⟨S4x2048x1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | .hbm, ⟨53, _⟩ => ⟨S1x1x1024, .f32⟩
  | .hbm, ⟨54, _⟩ => ⟨S4x2048x1024, .f32⟩
  | .hbm, ⟨55, _⟩ => ⟨S4x2048x1024, .f32⟩
  | .hbm, ⟨56, _⟩ => ⟨S_, .f32⟩
  | .hbm, ⟨57, _⟩ => ⟨S4x2048, .f32⟩
  | .hbm, ⟨58, _⟩ => ⟨S4x2048x1, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S4x2048x1024, .f32⟩
  | .hbm, ⟨63, _⟩ => ⟨S4x2048x1024, .f32⟩
  | .hbm, ⟨64, _⟩ => ⟨S4x2048x1024, .f32⟩
  | .hbm, ⟨65, _⟩ => ⟨S_, .f32⟩
  | .hbm, ⟨66, _⟩ => ⟨S4x2048, .f32⟩
  | .hbm, ⟨67, _⟩ => ⟨S4x2048x1, .f32⟩
  | .hbm, ⟨68, _⟩ => ⟨S_, .f32⟩
  | .hbm, ⟨69, _⟩ => ⟨S4x2048x1, .f32⟩
  | .hbm, ⟨70, _⟩ => ⟨S4x2048x1, .f32⟩
  | .hbm, ⟨71, _⟩ => ⟨S4x2048x1024, .f32⟩
  | .hbm, ⟨72, _⟩ => ⟨S4x2048x1024, .f32⟩
  | .hbm, ⟨73, _⟩ => ⟨S_, .f32⟩
  | .hbm, ⟨74, _⟩ => ⟨S4x2048x1, .f32⟩
  | .hbm, ⟨75, _⟩ => ⟨S4x2048x1, .f32⟩
  | .hbm, ⟨76, _⟩ => ⟨S4x2048x1, .f32⟩
  | .hbm, ⟨77, _⟩ => ⟨S4x2048x1024, .f32⟩
  | .hbm, ⟨78, _⟩ => ⟨S4x2048x1024, .f32⟩
  | .hbm, ⟨79, _⟩ => ⟨S4x1x1024, .f32⟩
  | .hbm, ⟨80, _⟩ => ⟨S4x1024, .f32⟩
  | .hbm, ⟨81, _⟩ => ⟨S4x1x1024, .f32⟩
  | .hbm, ⟨82, _⟩ => ⟨S_, .f32⟩
  | .hbm, ⟨83, _⟩ => ⟨S4x1x1024, .f32⟩
  | .hbm, ⟨84, _⟩ => ⟨S4x1x1024, .f32⟩
  | .hbm, ⟨85, _⟩ => ⟨S4x2048x1024, .f32⟩
  | .hbm, ⟨86, _⟩ => ⟨S4x2048x1024, .f32⟩
  | .hbm, ⟨87, _⟩ => ⟨S4x1x1024, .f32⟩
  | .hbm, ⟨88, _⟩ => ⟨S4x1024, .f32⟩
  | .hbm, ⟨89, _⟩ => ⟨S4x1x1024, .f32⟩
  | .hbm, ⟨90, _⟩ => ⟨S4x2048x1024, .f32⟩
  | .hbm, ⟨91, _⟩ => ⟨S4x2048x1024, .f32⟩
  | .hbm, ⟨92, _⟩ => ⟨S8192x1024, .f32⟩
  | .hbm, ⟨93, _⟩ => ⟨S8192x1024, .bf16⟩
  | .hbm, ⟨94, _⟩ => ⟨S8192x1024, .f32⟩
  | .hbm, ⟨95, _⟩ => ⟨S4x1024x1408, .f32⟩
  | .hbm, ⟨96, _⟩ => ⟨S1024x4x1408, .f32⟩
  | .hbm, ⟨97, _⟩ => ⟨S1024x5632, .f32⟩
  | .hbm, ⟨98, _⟩ => ⟨S8192x5632, .f32⟩
  | .hbm, ⟨99, _⟩ => ⟨S8192x5632, .bf16⟩
  | .hbm, ⟨100, _⟩ => ⟨S8192x2816, .f32⟩
  | .hbm, ⟨101, _⟩ => ⟨S8192x2816, .f32⟩
  | .hbm, ⟨102, _⟩ => ⟨S8192x2816, .f32⟩
  | .hbm, ⟨103, _⟩ => ⟨S8192x2816, .f32⟩
  | .hbm, ⟨104, _⟩ => ⟨S_, .f32⟩
  | .hbm, ⟨105, _⟩ => ⟨S8192x2816, .f32⟩
  | .hbm, ⟨106, _⟩ => ⟨S8192x2816, .f32⟩
  | .hbm, ⟨107, _⟩ => ⟨S_, .f32⟩
  | .hbm, ⟨108, _⟩ => ⟨S8192x2816, .f32⟩
  | .hbm, ⟨109, _⟩ => ⟨S8192x2816, .f32⟩
  | .hbm, ⟨110, _⟩ => ⟨S8192x2816, .f32⟩
  | .hbm, ⟨111, _⟩ => ⟨S8192x2816, .f32⟩
  | .hbm, ⟨112, _⟩ => ⟨S8192x2816, .bf16⟩
  | .hbm, ⟨113, _⟩ => ⟨S8192x1024, .f32⟩
  | .hbm, ⟨114, _⟩ => ⟨S8192x1024, .f32⟩
  | .hbm, ⟨115, _⟩ => ⟨S8192x1024, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_11 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_call0_v0 : Ref sig .tc := ⟨.hbm, 102, rfl⟩
abbrev main_call0_v1 : Ref sig .tc := ⟨.hbm, 103, rfl⟩
abbrev main_call0_cst : Ref sig .tc := ⟨.hbm, 104, rfl⟩
abbrev main_call0_v2 : Ref sig .tc := ⟨.hbm, 105, rfl⟩
abbrev main_call0_v3 : Ref sig .tc := ⟨.hbm, 106, rfl⟩
abbrev main_call0_cst_0 : Ref sig .tc := ⟨.hbm, 107, rfl⟩
abbrev main_call0_v4 : Ref sig .tc := ⟨.hbm, 108, rfl⟩
abbrev main_call0_v5 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩

abbrev nD : Nat := 1
abbrev τ : Topo := Topo.v7x

variable {F : FTy → Type} [FloatOps F]
-- ==== Kernel15.lean ====
abbrev S8192x1024 : Shape := ⟨2, ![8192, 1024]⟩
abbrev S4x2x9x1024 : Shape := ⟨4, ![4, 2, 9, 1024]⟩
abbrev S2x1024 : Shape := ⟨2, ![2, 1024]⟩
abbrev S4x2048x1024 : Shape := ⟨3, ![4, 2048, 1024]⟩
abbrev S2816x1024 : Shape := ⟨2, ![2816, 1024]⟩
abbrev S8192x5632 : Shape := ⟨2, ![8192, 5632]⟩
abbrev S4x2x1x1024 : Shape := ⟨4, ![4, 2, 1, 1024]⟩
abbrev S1x1024 : Shape := ⟨2, ![1, 1024]⟩
abbrev S256x1024 : Shape := ⟨2, ![256, 1024]⟩
abbrev S1x1x9x1024 : Shape := ⟨4, ![1, 1, 9, 1024]⟩
abbrev S1x256x1024 : Shape := ⟨3, ![1, 256, 1024]⟩
abbrev S256x5632 : Shape := ⟨2, ![256, 5632]⟩
abbrev S1x1x1x1024 : Shape := ⟨4, ![1, 1, 1, 1024]⟩
abbrev S256 : Shape := ⟨1, ![256]⟩
abbrev S256x1 : Shape := ⟨2, ![256, 1]⟩
abbrev S1024 : Shape := ⟨1, ![1024]⟩
abbrev S1408x1024 : Shape := ⟨2, ![1408, 1024]⟩
abbrev S256x1408 : Shape := ⟨2, ![256, 1408]⟩

abbrev nBuf : Space → Nat
  | .hbm => 13
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S4x2x9x1024, .f32⟩
  | .hbm, ⟨3, _⟩ => ⟨S2x1024, .f32⟩
  | .hbm, ⟨4, _⟩ => ⟨S4x2048x1024, .f32⟩
  | .hbm, ⟨5, _⟩ => ⟨S2816x1024, .bf16⟩
  | .hbm, ⟨6, _⟩ => ⟨S8192x5632, .bf16⟩
  | .hbm, ⟨7, _⟩ => ⟨S8192x1024, .f32⟩
  | .hbm, ⟨8, _⟩ => ⟨S8192x1024, .bf16⟩
  | .hbm, ⟨9, _⟩ => ⟨S4x2x1x1024, .f32⟩
  | .hbm, ⟨10, _⟩ => ⟨S2x1024, .f32⟩
  | .hbm, ⟨11, _⟩ => ⟨S1x1024, .f32⟩
  | .hbm, ⟨12, _⟩ => ⟨S8192x5632, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1x9x1024, .f32⟩
  | .local _ .vmem, ⟨5, _⟩ => ⟨S1x1x9x1024, .f32⟩
  | .local _ .vmem, ⟨6, _⟩ => ⟨S2x1024, .f32⟩
  | .local _ .vmem, ⟨7, _⟩ => ⟨S1x256x1024, .f32⟩
  | .local _ .vmem, ⟨8, _⟩ => ⟨S1x256x1024, .f32⟩
  | .local _ .vmem, ⟨9, _⟩ => ⟨S2816x1024, .bf16⟩
  | .local _ .vmem, ⟨10, _⟩ => ⟨S256x5632, .bf16⟩
  | .local _ .vmem, ⟨11, _⟩ => ⟨S256x5632, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1x1x1024, .f32⟩
  | .local _ .vmem, ⟨17, _⟩ => ⟨S1x1x1x1024, .f32⟩
  | .local _ .vmem, ⟨18, _⟩ => ⟨S2x1024, .f32⟩
  | .local _ .vmem, ⟨19, _⟩ => ⟨S1x1024, .f32⟩
  | .local _ .vmem, ⟨20, _⟩ => ⟨S256x5632, .bf16⟩
  | .local _ .vmem, ⟨21, _⟩ => ⟨S256x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference15Ideal.lean ====
abbrev S8192x1024 : Shape := ⟨2, ![8192, 1024]⟩
abbrev S4x2x9x1024 : Shape := ⟨4, ![4, 2, 9, 1024]⟩
abbrev S2x1024 : Shape := ⟨2, ![2, 1024]⟩
abbrev S4x2048x1024 : Shape := ⟨3, ![4, 2048, 1024]⟩
abbrev S2816x1024 : Shape := ⟨2, ![2816, 1024]⟩
abbrev S8192x5632 : Shape := ⟨2, ![8192, 5632]⟩
abbrev S4x1x1x1024 : Shape := ⟨4, ![4, 1, 1, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4x1x1024 : Shape := ⟨3, ![4, 1, 1024]⟩
abbrev S4x2048 : Shape := ⟨2, ![4, 2048]⟩
abbrev S4x2048x1 : Shape := ⟨3, ![4, 2048, 1]⟩
abbrev S1x1x1024 : Shape := ⟨3, ![1, 1, 1024]⟩
abbrev S8192x2816 : Shape := ⟨2, ![8192, 2816]⟩

abbrev nBuf : Space → Nat
  | .hbm => 155
  | .vmem => 0
  | .smem => 0
  | _ => 0

abbrev hbmTy0_0 (i : Nat) : BufTy := match i % 128 with
  | 0 => ⟨S8192x1024, .f32⟩
  | 1 => ⟨S8192x1024, .bf16⟩
  | 2 => ⟨S4x2x9x1024, .f32⟩
  | 3 => ⟨S2x1024, .f32⟩
  | 4 => ⟨S4x2048x1024, .f32⟩
  | 5 => ⟨S2816x1024, .bf16⟩
  | 6 => ⟨S8192x5632, .bf16⟩
  | 7 => ⟨S4x2048x1024, .f32⟩
  | 8 => ⟨S4x2048x1024, .bf16⟩
  | 9 => ⟨S4x2048x1024, .f32⟩
  | 10 => ⟨S4x1x1x1024, .f32⟩
  | 11 => ⟨S4x1024, .f32⟩
  | 12 => ⟨S1x1024, .f32⟩
  | 13 => ⟨S1024, .f32⟩
  | 14 => ⟨S1x1024, .f32⟩
  | 15 => ⟨S1024, .f32⟩
  | 16 => ⟨S_, .f32⟩
  | 17 => ⟨S4x2048x1024, .f32⟩
  | 18 => ⟨S4x2048x1024, .f32⟩
  | 19 => ⟨S4x1x1024, .f32⟩
  | 20 => ⟨S_, .f32⟩
  | 21 => ⟨S4x1x1024, .f32⟩
  | 22 => ⟨S4x1x1024, .f32⟩
  | 23 => ⟨S4x2048x1024, .f32⟩
  | 24 => ⟨S4x2048x1024, .f32⟩
  | 25 => ⟨S4x2048x1024, .f32⟩
  | 26 => ⟨S_, .f32⟩
  | 27 => ⟨S4x2048, .f32⟩
  | 28 => ⟨S4x2048x1, .f32⟩
  | 29 => ⟨S_, .f32⟩
  | 30 => ⟨S4x2048x1, .f32⟩
  | 31 => ⟨S4x2048x1, .f32⟩
  | 32 => ⟨S4x2048x1024, .f32⟩
  | 33 => ⟨S4x2048x1024, .f32⟩
  | 34 => ⟨S4x2048x1024, .f32⟩
  | 35 => ⟨S_, .f32⟩
  | 36 => ⟨S4x2048x1024, .f32⟩
  | 37 => ⟨S4x2048x1024, .f32⟩
  | 38 => ⟨S_, .f32⟩
  | 39 => ⟨S4x2048, .f32⟩
  | 40 => ⟨S4x2048x1, .f32⟩
  | 41 => ⟨S_, .f32⟩
  | 42 => ⟨S4x2048x1, .f32⟩
  | 43 => ⟨S4x2048x1, .f32⟩
  | 44 => ⟨S4x2048x1024, .f32⟩
  | 45 => ⟨S4x2048x1024, .f32⟩
  | 46 => ⟨S_, .f32⟩
  | 47 => ⟨S4x2048x1, .f32⟩
  | 48 => ⟨S4x2048x1, .f32⟩
  | 49 => ⟨S4x2048x1, .f32⟩
  | 50 => ⟨S4x2048x1, .f32⟩
  | 51 => ⟨S_, .f32⟩
  | 52 => ⟨S4x2048x1, .f32⟩
  | 53 => ⟨S4x2048x1, .f32⟩
  | 54 => ⟨S4x2048x1024, .f32⟩
  | 55 => ⟨S4x2048x1024, .f32⟩
  | 56 => ⟨S1x1x1024, .f32⟩
  | 57 => ⟨S4x2048x1024, .f32⟩
  | 58 => ⟨S4x2048x1024, .f32⟩
  | 59 => ⟨S1x1x1024, .f32⟩
  | 60 => ⟨S4x2048x1024, .f32⟩
  | 61 => ⟨S4x2048x1024, .f32⟩
  | 62 => ⟨S4x2048x1024, .f32⟩
  | 63 => ⟨S4x2048x1024, .f32⟩
  | 64 => ⟨S_, .f32⟩
  | 65 => ⟨S4x2048x1024, .f32⟩
  | 66 => ⟨S4x2048x1024, .f32⟩
  | 67 => ⟨S_, .f32⟩
  | 68 => ⟨S4x2048, .f32⟩
  | 69 => ⟨S_, .f32⟩
  | 70 => ⟨S4x2048, .f32⟩
  | 71 => ⟨S4x2048, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S4x2048, .f32⟩
  | 80 => ⟨S_, .f32⟩
  | 81 => ⟨S4x2048, .f32⟩
  | 82 => ⟨S4x2048, .f32⟩
  | 83 => ⟨S4x2048x1024, .f32⟩
  | 84 => ⟨S4x2048x1024, .f32⟩
  | 85 => ⟨S4x2048x1024, .f32⟩
  | 86 => ⟨S4x2048x1024, .f32⟩
  | 87 => ⟨S4x2048x1024, .f32⟩
  | 88 => ⟨S_, .f32⟩
  | 89 => ⟨S4x2048, .f32⟩
  | 90 => ⟨S4x2048x1, .f32⟩
  | 91 => ⟨S4x2048x1024, .f32⟩
  | 92 => ⟨S4x2048x1024, .f32⟩
  | 93 => ⟨S4x2048x1, .f32⟩
  | 94 => ⟨S4x2048x1024, .f32⟩
  | 95 => ⟨S_, .f32⟩
  | 96 => ⟨S4x2048, .f32⟩
  | 97 => ⟨S4x2048x1, .f32⟩
  | 98 => ⟨S_, .f32⟩
  | 99 => ⟨S4x2048x1, .f32⟩
  | 100 => ⟨S4x2048x1, .f32⟩
  | 101 => ⟨S_, .f32⟩
  | 102 => ⟨S4x2048, .f32⟩
  | 103 => ⟨S4x2048x1024, .f32⟩
  | 104 => ⟨S4x2048x1024, .f32⟩
  | 105 => ⟨S4x2048x1024, .f32⟩
  | 106 => ⟨S_, .f32⟩
  | 107 => ⟨S4x2048, .f32⟩
  | 108 => ⟨S4x2048x1, .f32⟩
  | 109 => ⟨S4x2048x1024, .f32⟩
  | 110 => ⟨S4x2048x1, .f32⟩
  | 111 => ⟨S_, .f32⟩
  | 112 => ⟨S4x2048x1, .f32⟩
  | 113 => ⟨S4x2048x1, .f32⟩
  | 114 => ⟨S_, .f32⟩
  | 115 => ⟨S4x2048, .f32⟩
  | 116 => ⟨S4x2048x1024, .f32⟩
  | 117 => ⟨S4x2048x1024, .f32⟩
  | 118 => ⟨S4x2048x1024, .f32⟩
  | 119 => ⟨S4x2048x1024, .f32⟩
  | 120 => ⟨S_, .f32⟩
  | 121 => ⟨S4x2048x1024, .f32⟩
  | 122 => ⟨S4x2048x1024, .f32⟩
  | 123 => ⟨S8192x1024, .f32⟩
  | 124 => ⟨S8192x1024, .bf16⟩
  | 125 => ⟨S8192x1024, .f32⟩
  | 126 => ⟨S8192x1024, .f32⟩
  | 127 => ⟨S2816x1024, .f32⟩
  | _ => ⟨S8192x1024, .f32⟩

abbrev hbmTy0_1 (i : Nat) : BufTy := match i % 128 with
  | 0 => ⟨S8192x5632, .f32⟩
  | 1 => ⟨S8192x2816, .f32⟩
  | 2 => ⟨S8192x2816, .f32⟩
  | 3 => ⟨S8192x2816, .f32⟩
  | 4 => ⟨S8192x2816, .f32⟩
  | 5 => ⟨S_, .f32⟩
  | 6 => ⟨S8192x2816, .f32⟩
  | 7 => ⟨S8192x2816, .f32⟩
  | 8 => ⟨S_, .f32⟩
  | 9 => ⟨S8192x2816, .f32⟩
  | 10 => ⟨S8192x2816, .f32⟩
  | 11 => ⟨S_, .f32⟩
  | 12 => ⟨S8192x2816, .f32⟩
  | 13 => ⟨S8192x2816, .f32⟩
  | 14 => ⟨S8192x2816, .f32⟩
  | 15 => ⟨S8192x2816, .f32⟩
  | 16 => ⟨S8192x2816, .f32⟩
  | 17 => ⟨S8192x1024, .f32⟩
  | 18 => ⟨S8192x2816, .f32⟩
  | 19 => ⟨S8192x2816, .f32⟩
  | 20 => ⟨S8192x2816, .f32⟩
  | 21 => ⟨S8192x2816, .f32⟩
  | 22 => ⟨S8192x2816, .f32⟩
  | 23 => ⟨S8192x2816, .f32⟩
  | 24 => ⟨S8192x2816, .f32⟩
  | 25 => ⟨S8192x5632, .f32⟩
  | 26 => ⟨S8192x5632, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_cst_13 : Ref sig .tc := ⟨.hbm, 76, rfl⟩
abbrev main_cst_14 : Ref sig .tc := ⟨.hbm, 77, rfl⟩
abbrev main_v55 : Ref sig .tc := ⟨.hbm, 78, rfl⟩
abbrev main_v56 : Ref sig .tc := ⟨.hbm, 79, rfl⟩
abbrev main_cst_15 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_16 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_17 : Ref sig .tc := ⟨.hbm, 95, rfl⟩
abbrev main_v70 : Ref sig .tc := ⟨.hbm, 96, rfl⟩
abbrev main_v71 : Ref sig .tc := ⟨.hbm, 97, rfl⟩
abbrev main_cst_18 : Ref sig .tc := ⟨.hbm, 98, rfl⟩
abbrev main_v72 : Ref sig .tc := ⟨.hbm, 99, rfl⟩
abbrev main_v73 : Ref sig .tc := ⟨.hbm, 100, rfl⟩
abbrev main_cst_19 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_20 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_21 : Ref sig .tc := ⟨.hbm, 111, rfl⟩
abbrev main_v82 : Ref sig .tc := ⟨.hbm, 112, rfl⟩
abbrev main_v83 : Ref sig .tc := ⟨.hbm, 113, rfl⟩
abbrev main_cst_22 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_23 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_call0_v0 : Ref sig .tc := ⟨.hbm, 131, rfl⟩
abbrev main_call0_v1 : Ref sig .tc := ⟨.hbm, 132, rfl⟩
abbrev main_call0_cst : Ref sig .tc := ⟨.hbm, 133, rfl⟩
abbrev main_call0_v2 : Ref sig .tc := ⟨.hbm, 134, rfl⟩
abbrev main_call0_v3 : Ref sig .tc := ⟨.hbm, 135, rfl⟩
abbrev main_call0_cst_0 : Ref sig .tc := ⟨.hbm, 136, rfl⟩
abbrev main_call0_v4 : Ref sig .tc := ⟨.hbm, 137, rfl⟩
abbrev main_v99_2 : Ref sig .tc := ⟨.hbm, 138, rfl⟩
abbrev main_call0_cst_1 : Ref sig .tc := ⟨.hbm, 139, rfl⟩
abbrev main_call0_v6 : Ref sig .tc := ⟨.hbm, 140, rfl⟩
abbrev main_call0_v7 : Ref sig .tc := ⟨.hbm, 141, rfl⟩
abbrev main_v99_1 : Ref sig .tc := ⟨.hbm, 142, rfl⟩
abbrev main_v99_0 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_call1_v0 : Ref sig .tc := ⟨.hbm, 149, rfl⟩
abbrev main_call1_v1 : Ref sig .tc := ⟨.hbm, 150, rfl⟩
abbrev main_call1_v2 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩

abbrev nD : Nat := 1
abbrev τ : Topo := Topo.v7x

variable {F : FTy → Type} [FloatOps F]
-- ==== Proof.Head.lean ====
/- One head of the kernel's body as functions of the blocks it loads: the same vector operations, in the
   same order, named piece by piece and for any float instance. -/
module

public import proofs.«01_k».proof.Proof.Gen.KernelIdeal.Frame

@[expose] public section

set_option maxRecDepth 16384

noncomputable section

namespace Head

open Cert.KernelIdeal Cert.KernelIdeal.Gen Idealize.ShloMosaic Idealize.ShloMosaic.TcCoe Idealize.SL.Sem

variable {F : FTy → Type} [FloatOps F]

theorem inRow : ∀ n : Fin 8, S256x128.Slices ![32 * n.val + 31, 0] S1x128 := by decide
theorem inCol : ∀ n : Fin 4, S128x512.Slices ![0, 128 * n.val] S128x128 := by decide
theorem inSub : ∀ s : Fin 2, S256x128.Slices ![128 * s.val, 0] S128x128 := by decide

/-- Row `32 n + 31`, the last of chunk `n`. -/
def row {α : Type} (x : S256x128.Idx → α) (n : Fin 8) : S1x128.Idx → α :=
  extractStridedSlice S1x128 ![32 * n.val + 31, 0] x (inRow n)
/-- Column block `n` of four. -/
def col {α : Type} (x : S128x512.Idx → α) (n : Fin 4) : S128x128.Idx → α :=
  extractStridedSlice S128x128 ![0, 128 * n.val] x (inCol n)
/-- Row block `s` of two. -/
def sub {α : Type} (x : S256x128.Idx → α) (s : Fin 2) : S128x128.Idx → α :=
  extractStridedSlice S128x128 ![128 * s.val, 0] x (inSub s)

/-- A row's place in its chunk. -/
def rin : IVec S256x128 32 := andi (iota .tc S256x128 32 [0] iota_S256x128_d0_w32) (broadcast S256x128 31#32)
def same : IVec S128x128 1 :=
  cmpi .eq (shrsi (iota .tc S128x128 32 [0] iota_S128x128_d0_w32) (broadcast S128x128 5#32))
    (shrsi (iota .tc S128x128 32 [1] iota_S128x128_d1_w32) (broadcast S128x128 5#32))
/-- Same chunk, column not after row. -/
def mask : IVec S128x128 1 :=
  andi same (cmpi .sge (iota .tc S128x128 32 [0] iota_S128x128_d0_w32) (iota .tc S128x128 32 [1] iota_S128x128_d1_w32))
/-- Same chunk, row not after column. -/
def maskT : IVec S128x128 1 :=
  andi same (cmpi .sle (iota .tc S128x128 32 [0] iota_S128x128_d0_w32) (iota .tc S128x128 32 [1] iota_S128x128_d1_w32))
/-- The row's chunk is the column's block. -/
def mexp : IVec S128x512 1 :=
  cmpi .eq (shrsi (iota .tc S128x512 32 [0] iota_S128x512_d0_w32) (broadcast S128x512 5#32))
    (shrsi (iota .tc S128x512 32 [1] iota_S128x512_d1_w32) (broadcast S128x512 7#32))

def zf : F .f32 := Scalar.ofBits .f32 0x00000000#32

/-- One doubling step of the chunk-wise prefix sum. -/
def step (n : BitVec 32) (x : FVec F S256x128 .f32) : FVec F S256x128 .f32 :=
  addf x (select (cmpi .sge rin (broadcast S256x128 n)) (dynamicRotate 0 n none x rotates_S256x128_d0) (broadcast S256x128 zf))
/-- The prefix sum of every chunk of 32 rows. -/
def scan (x : FVec F S256x128 .f32) : FVec F S256x128 .f32 :=
  step 16#32 (step 8#32 (step 4#32 (step 2#32 (step 1#32 x))))
/-- The sum of every chunk, on each of its rows. -/
def total (x : FVec F S256x128 .f32) : FVec F S256x128 .f32 :=
  shapeCast S256x128 (broadcastTo S8x32x128 (shapeCast S8x1x128 (shapeCast S8x1x128
    (multiReduction .add [1] S8x128 (shapeCast S8x32x128 x shapeCasts_S256x128_S8x32x128) 0x00000000#32
      reduces_S8x32x128_S8x128 (.inl rfl) rfl)
    shapeCasts_S8x128_S8x1x128) shapeCasts_S8x1x128_S8x1x128) broadcasts_S8x1x128_S8x32x128)
    shapeCasts_S8x32x128_S256x128

def expm (x : FVec F S256x128 .f32) : FVec F S256x128 .f32 := exp (subf (broadcast S256x128 zf) x)
def bf (x : FVec F S256x128 .f32) : FVec F S256x128 .bf16 := truncf .bf16 x bitsLt_bf16_f32

/-- Four copies side by side, only the block of the row's own chunk kept. -/
def expand (x : FVec F S128x128 .bf16) : FVec F S128x512 .bf16 :=
  select mexp (concatenate S128x512 1 [⟨S128x128, x⟩, ⟨S128x128, x⟩, ⟨S128x128, x⟩, ⟨S128x128, x⟩]
    concatenates_S128x128_S128x128_S128x128_S128x128_S128x512_d1) (broadcast S128x512 (Scalar.ofBits .bf16 0x0000#16))
/-- Of four blocks side by side, the one of the row's own chunk. -/
def own (x : FVec F S128x512 .f32) : FVec F S128x128 .f32 :=
  addf (addf (addf (col (select mexp x (broadcast S128x512 zf)) 0) (col (select mexp x (broadcast S128x512 zf)) 1))
    (col (select mexp x (broadcast S128x512 zf)) 2)) (col (select mexp x (broadcast S128x512 zf)) 3)
/-- Per chunk the product of two row blocks over the chunk's rows. -/
def outer (x y : FVec F S128x128 .bf16) : FVec F S128x512 .f32 :=
  matmul dot_S128x128_S128x512_S128x512_0_0_1_1_n_n none x (expand y) (constant S128x512 .f32 0x00000000#32)
/-- Four matrices side by side. -/
def quad (a b c d : FVec F S128x128 .f32) : FVec F S128x512 .bf16 :=
  truncf .bf16 (concatenate S128x512 1 [⟨S128x128, a⟩, ⟨S128x128, b⟩, ⟨S128x128, c⟩, ⟨S128x128, d⟩]
    concatenates_S128x128_S128x128_S128x128_S128x128_S128x512_d1) bitsLt_bf16_f32
/-- Each row times its own chunk's matrix. -/
def rowsBy (x : FVec F S128x128 .bf16) (w : FVec F S128x512 .bf16) : FVec F S128x128 .f32 :=
  own (matmul dot_S128x128_S128x512_S128x512_1_0_0_1_n_n none x w (constant S128x512 .f32 0x00000000#32))
/-- Masked products of rows with rows. -/
def pairs (mk : IVec S128x128 1) (x y : FVec F S128x128 .bf16) : FVec F S128x128 .bf16 :=
  truncf .bf16 (select mk (matmul dot_S128x128_S128x128_S128x128_1_1_0_0_n_n none x y (constant S128x128 .f32 0x00000000#32))
    (broadcast S128x128 zf)) bitsLt_bf16_f32
def mm (x y : FVec F S128x128 .bf16) : FVec F S128x128 .f32 :=
  matmul dot_S128x128_S128x128_S128x128_1_0_0_1_n_n none x y (constant S128x128 .f32 0x00000000#32)
def stack (a b : FVec F S128x128 .f32) : FVec F S256x128 .f32 :=
  concatenate S256x128 0 [⟨S128x128, a⟩, ⟨S128x128, b⟩] concatenates_S128x128_S128x128_S256x128_d0

/-- The block a state is multiplied by over one chunk. -/
def ebl (eb : FVec F S256x128 .f32) (n : Fin 8) : FVec F S128x128 .f32 :=
  broadcastTo S128x128 (row eb n) broadcasts_S1x128_S128x128

def half (n : Fin 8) : Fin 2 := ⟨n.val / 4, by omega⟩
def quarter (n : Fin 8) : Fin 4 := ⟨n.val % 4, by omega⟩

/-- One chunk's step of either walk. -/
def stepS (eb : FVec F S256x128 .f32) (x y : FVec F S256x128 .bf16) (n : Fin 8) (s : FVec F S128x128 .f32) : FVec F S128x128 .f32 :=
  addf (mulf (ebl eb n) s) (col (outer (sub x (half n)) (sub y (half n))) (quarter n))
def stepD (eb : FVec F S256x128 .f32) (x y : FVec F S256x128 .bf16) (n : Fin 8) (s : FVec F S128x128 .f32) : FVec F S128x128 .f32 :=
  addf (col (outer (sub x (half n)) (sub y (half n))) (quarter n)) (mulf (ebl eb n) s)

def t2 (eb : FVec F S256x128 .f32) (n : Fin 8) (s d : FVec F S128x128 .f32) : FVec F S32x128 .f32 :=
  broadcastTo S32x128 (shapeCast S1x128 (mulf (row eb n) (shapeCast S1x128 (multiReduction .add [0] S128 (mulf s d) 0x00000000#32
    reduces_S128x128_S128 (.inl rfl) rfl) shapeCasts_S128_S1x128)) shapeCasts_S1x128_S1x128) broadcasts_S1x128_S32x128

/-! What a head loads. -/
section
variable (lat : BitVec 1) (q4 : FVec F S1x1x256x128 .f32) (k5 g5 : FVec F S1x1x1x256x128 .f32) (v4 do4 : FVec F S1x1x256x128 .bf16)
  (s5 : FVec F S1x1x1x128x128 .f32) (d3 : FVec F S1x128x128 .f32)

def q : FVec F S256x128 .f32 := shapeCast S256x128 q4 shapeCasts_S1x1x256x128_S256x128
def k : FVec F S256x128 .f32 := shapeCast S256x128 k5 shapeCasts_S1x1x1x256x128_S256x128
def v : FVec F S256x128 .bf16 := shapeCast S256x128 v4 shapeCasts_S1x1x256x128_S256x128
def b : FVec F S256x128 .f32 := scan (shapeCast S256x128 g5 shapeCasts_S1x1x1x256x128_S256x128)
def xx : FVec F S256x128 .f32 := subf (total (shapeCast S256x128 g5 shapeCasts_S1x1x1x256x128_S256x128)) (b g5)
def eb : FVec F S256x128 .f32 := exp (b g5)
def qd : FVec F S256x128 .f32 := mulf (q q4) (eb g5)
def ki : FVec F S256x128 .f32 := mulf (k k5) (expm (b g5))
def kt : FVec F S256x128 .f32 := mulf (k k5) (exp (xx g5))
def dO : FVec F S256x128 .bf16 :=
  Scalar.select lat (shapeCast S256x128 do4 shapeCasts_S1x1x256x128_S256x128)
    (broadcast S256x128 (Scalar.truncf .bf16 bitsLt_bf16_f32 zf))

/-- The state before chunk `n`. -/
def st : ℕ → FVec F S128x128 .f32
  | 0 => shapeCast S128x128 s5 shapeCasts_S1x1x1x128x128_S128x128
  | n + 1 => stepS (eb g5) (v v4) (bf (kt k5 g5)) ⟨n % 8, Nat.mod_lt _ (by decide)⟩ (st n)
/-- The state's cotangent after chunk `7 - n`. -/
def ds : ℕ → FVec F S128x128 .f32
  | 0 => shapeCast S128x128 d3 shapeCasts_S1x128x128_S128x128
  | n + 1 => stepD (eb g5) (dO lat do4) (bf (qd q4 g5)) ⟨(7 - n) % 8, Nat.mod_lt _ (by decide)⟩ (ds n)

def sts (s : Fin 2) : FVec F S128x512 .bf16 :=
  quad (st k5 g5 v4 s5 (4 * s.val)) (st k5 g5 v4 s5 (4 * s.val + 1)) (st k5 g5 v4 s5 (4 * s.val + 2)) (st k5 g5 v4 s5 (4 * s.val + 3))
def dss (s : Fin 2) : FVec F S128x512 .bf16 :=
  quad (ds lat q4 g5 do4 d3 (7 - 4 * s.val)) (ds lat q4 g5 do4 d3 (6 - 4 * s.val)) (ds lat q4 g5 do4 d3 (5 - 4 * s.val))
    (ds lat q4 g5 do4 d3 (4 - 4 * s.val))

def dqdS (s : Fin 2) : FVec F S128x128 .f32 :=
  addf (mm (pairs mask (sub (dO lat do4) s) (sub (v v4) s)) (sub (bf (ki k5 g5)) s)) (rowsBy (sub (dO lat do4) s) (sts k5 g5 v4 s5 s))
def dkiS (s : Fin 2) : FVec F S128x128 .f32 :=
  mm (pairs maskT (sub (v v4) s) (sub (dO lat do4) s)) (sub (bf (qd q4 g5)) s)
def dktS (s : Fin 2) : FVec F S128x128 .f32 := rowsBy (sub (v v4) s) (dss lat q4 g5 do4 d3 s)
def dvS (s : Fin 2) : FVec F S1x1x128x128 .bf16 :=
  shapeCast S1x1x128x128 (truncf .bf16 (addf (mm (pairs maskT (sub (bf (ki k5 g5)) s) (sub (bf (qd q4 g5)) s)) (sub (dO lat do4) s))
    (matmul dot_S128x512_S128x512_S128x128_1_1_0_0_n_n none (expand (sub (bf (kt k5 g5)) s)) (dss lat q4 g5 do4 d3 s)
      (constant S128x128 .f32 0x00000000#32))) bitsLt_bf16_f32) shapeCasts_S128x128_S1x1x128x128

def dqd : FVec F S256x128 .f32 := stack (dqdS lat k5 g5 v4 do4 s5 0) (dqdS lat k5 g5 v4 do4 s5 1)
def dki : FVec F S256x128 .f32 := stack (dkiS lat q4 g5 v4 do4 0) (dkiS lat q4 g5 v4 do4 1)
def dkt : FVec F S256x128 .f32 := stack (dktS lat q4 g5 v4 do4 d3 0) (dktS lat q4 g5 v4 do4 d3 1)
def z : FVec F S256x128 .f32 := mulf (dkt lat q4 g5 v4 do4 d3) (kt k5 g5)
def db : FVec F S256x128 .f32 :=
  subf (mulf (dqd lat k5 g5 v4 do4 s5) (qd q4 g5)) (mulf (dki lat q4 g5 v4 do4) (ki k5 g5))
def t2n (n : Fin 8) : FVec F S32x128 .f32 := t2 (eb g5) n (st k5 g5 v4 s5 n.val) (ds lat q4 g5 do4 d3 (7 - n.val))
def t2s : FVec F S256x128 .f32 :=
  concatenate S256x128 0 [⟨S32x128, t2n lat q4 k5 g5 v4 do4 s5 d3 0⟩, ⟨S32x128, t2n lat q4 k5 g5 v4 do4 s5 d3 1⟩,
    ⟨S32x128, t2n lat q4 k5 g5 v4 do4 s5 d3 2⟩, ⟨S32x128, t2n lat q4 k5 g5 v4 do4 s5 d3 3⟩,
    ⟨S32x128, t2n lat q4 k5 g5 v4 do4 s5 d3 4⟩, ⟨S32x128, t2n lat q4 k5 g5 v4 do4 s5 d3 5⟩,
    ⟨S32x128, t2n lat q4 k5 g5 v4 do4 s5 d3 6⟩, ⟨S32x128, t2n lat q4 k5 g5 v4 do4 s5 d3 7⟩]
    concatenates_S32x128_S32x128_S32x128_S32x128_S32x128_S32x128_S32x128_S32x128_S256x128_d0

/-! What a head stores. -/
def outQ : FVec F S1x1x256x128 .bf16 :=
  shapeCast S1x1x256x128 (bf (mulf (dqd lat k5 g5 v4 do4 s5) (eb g5))) shapeCasts_S256x128_S1x1x256x128
def outK : FVec F S1x1x256x128 .bf16 :=
  shapeCast S1x1x256x128 (bf (addf (mulf (dki lat q4 g5 v4 do4) (expm (b g5))) (mulf (dkt lat q4 g5 v4 do4 d3) (exp (xx g5)))))
    shapeCasts_S256x128_S1x1x256x128
def outG : FVec F S1x1x256x128 .bf16 :=
  shapeCast S1x1x256x128 (bf (addf (addf (addf (total (db lat q4 k5 g5 v4 do4 s5)) (subf (db lat q4 k5 g5 v4 do4 s5) (z lat q4 k5 g5 v4 do4 d3)))
    (scan (subf (z lat q4 k5 g5 v4 do4 d3) (db lat q4 k5 g5 v4 do4 s5)))) (t2s lat q4 k5 g5 v4 do4 s5 d3)))
    shapeCasts_S256x128_S1x1x256x128
def outD : FVec F S1x128x128 .f32 :=
  shapeCast S1x128x128 (ds lat q4 g5 do4 d3 8) shapeCasts_S128x128_S1x128x128
end

end Head
-- ==== Proof.Pieces.lean ====
/- What one grid point's run writes, window by window: one piece per head (dv two), each the head's
   functions of the blocks it loads. -/
module

public import proofs.«01_k».proof.Proof.Head
public import Idealize.ShloMosaic.Lib.Pipeline.Value

@[expose] public section

set_option maxRecDepth 16384

noncomputable section

namespace Head

open Cert.KernelIdeal Cert.KernelIdeal.Gen Idealize.ShloMosaic Idealize.ShloMosaic.TcCoe Idealize.SL.Sem

variable {F : FTy → Type} [FloatOps F]

theorem in4 : ∀ (h : Fin 8) a, (![0, h.val, 0, 0] : Fin 4 → Nat) a + S1x1x256x128.size a ≤ S1x8x256x128.size a := by decide
theorem in5 : ∀ (h : Fin 8) a, (![0, 0, h.val, 0, 0] : Fin 5 → Nat) a + S1x1x1x256x128.size a ≤ S1x1x8x256x128.size a := by decide
theorem inS : ∀ (h : Fin 8) a, (![0, h.val, 0, 0, 0] : Fin 5 → Nat) a + S1x1x1x128x128.size a ≤ S1x8x1x128x128.size a := by decide
theorem inD : ∀ (h : Fin 8) a, (![h.val, 0, 0] : Fin 3 → Nat) a + S1x128x128.size a ≤ S8x128x128.size a := by decide
theorem inV : ∀ (h : Fin 8) (s : Fin 2) a, (![0, h.val, 128 * s.val, 0] : Fin 4 → Nat) a + S1x1x128x128.size a ≤ S1x8x256x128.size a := by decide

section
variable (i : grid0.Coords) (arg3 : Memref sig .tc .vmem S1x8x256x128 .f32) (harg3 : arg3.IsWhole) (arg4 : Memref sig .tc .vmem S1x1x8x256x128 .f32) (harg4 : arg4.IsWhole) (arg5 : Memref sig .tc .vmem S1x8x256x128 .bf16) (harg5 : arg5.IsWhole) (arg6 : Memref sig .tc .vmem S1x1x8x256x128 .f32) (harg6 : arg6.IsWhole) (arg7 : Memref sig .tc .vmem S1x8x1x128x128 .f32) (harg7 : arg7.IsWhole) (arg8 : Memref sig .tc .vmem S1x8x256x128 .bf16) (harg8 : arg8.IsWhole) (x0 : Vec F S1x8x256x128 .f32) (x1 : Vec F S1x1x8x256x128 .f32) (x2 : Vec F S1x8x256x128 .bf16) (x3 : Vec F S1x1x8x256x128 .f32) (x4 : Vec F S1x8x1x128x128 .f32) (x5 : Vec F S1x8x256x128 .bf16)

def lq (h : Fin 8) : FVec F S1x1x256x128 .f32 := View.readAt (Elt F) arg3.view (Rect.unit (s := S1x8x256x128) ![0, h.val, 0, 0] S1x1x256x128.size (in4 h)).toLoadRect (harg3.unread x0)
def lk (h : Fin 8) : FVec F S1x1x1x256x128 .f32 := View.readAt (Elt F) arg4.view (Rect.unit (s := S1x1x8x256x128) ![0, 0, h.val, 0, 0] S1x1x1x256x128.size (in5 h)).toLoadRect (harg4.unread x1)
def lv (h : Fin 8) : FVec F S1x1x256x128 .bf16 := View.readAt (Elt F) arg5.view (Rect.unit (s := S1x8x256x128) ![0, h.val, 0, 0] S1x1x256x128.size (in4 h)).toLoadRect (harg5.unread x2)
def lg (h : Fin 8) : FVec F S1x1x1x256x128 .f32 := View.readAt (Elt F) arg6.view (Rect.unit (s := S1x1x8x256x128) ![0, 0, h.val, 0, 0] S1x1x1x256x128.size (in5 h)).toLoadRect (harg6.unread x3)
def ls (h : Fin 8) : FVec F S1x1x1x128x128 .f32 := View.readAt (Elt F) arg7.view (Rect.unit (s := S1x8x1x128x128) ![0, h.val, 0, 0, 0] S1x1x1x128x128.size (inS h)).toLoadRect (harg7.unread x4)
def lo (h : Fin 8) : FVec F S1x1x256x128 .bf16 := View.readAt (Elt F) arg8.view (Rect.unit (s := S1x8x256x128) ![0, h.val, 0, 0] S1x1x256x128.size (in4 h)).toLoadRect (harg8.unread x5)
/-- Head `h`'s matrix of the carried scratch. -/
def ld (arg13 : Memref sig .tc .vmem S8x128x128 .f32) (harg13 : arg13.IsWhole) (xs0 : Vec F S8x128x128 .f32) (h : Fin 8) : FVec F S1x128x128 .f32 :=
  View.readAt (Elt F) arg13.view (Rect.unit (s := S8x128x128) ![h.val, 0, 0] S1x128x128.size (inD h)).toLoadRect (harg13.unread xs0)

variable (dl : Fin 8 → FVec F S1x128x128 .f32)

/-! The stored blocks of head `h`, its walk begun at `dl h`. -/
def pQ (h : Fin 8) : View.Piece (Elt F) S1x8x256x128 .bf16 :=
  ⟨Rect.unit ![0, h.val, 0, 0] S1x1x256x128.size (in4 h), outQ (kernelRun0_B.sl.v4 i) (lk arg4 harg4 x1 h) (lg arg6 harg6 x3 h) (lv arg5 harg5 x2 h) (lo arg8 harg8 x5 h) (ls arg7 harg7 x4 h)⟩
def pK (h : Fin 8) : View.Piece (Elt F) S1x8x256x128 .bf16 :=
  ⟨Rect.unit ![0, h.val, 0, 0] S1x1x256x128.size (in4 h), outK (kernelRun0_B.sl.v4 i) (lq arg3 harg3 x0 h) (lg arg6 harg6 x3 h) (lv arg5 harg5 x2 h) (lo arg8 harg8 x5 h) (dl h)⟩
def pV (h : Fin 8) (s : Fin 2) : View.Piece (Elt F) S1x8x256x128 .bf16 :=
  ⟨Rect.unit ![0, h.val, 128 * s.val, 0] S1x1x128x128.size (inV h s), dvS (kernelRun0_B.sl.v4 i) (lq arg3 harg3 x0 h) (lk arg4 harg4 x1 h) (lg arg6 harg6 x3 h) (lo arg8 harg8 x5 h) (dl h) s⟩
def pG (h : Fin 8) : View.Piece (Elt F) S1x8x256x128 .bf16 :=
  ⟨Rect.unit ![0, h.val, 0, 0] S1x1x256x128.size (in4 h), outG (kernelRun0_B.sl.v4 i) (lq arg3 harg3 x0 h) (lk arg4 harg4 x1 h) (lg arg6 harg6 x3 h) (lv arg5 harg5 x2 h) (lo arg8 harg8 x5 h) (ls arg7 harg7 x4 h) (dl h)⟩
def pD (h : Fin 8) : View.Piece (Elt F) S8x128x128 .f32 :=
  ⟨Rect.unit ![h.val, 0, 0] S1x128x128.size (inD h), outD (kernelRun0_B.sl.v4 i) (lq arg3 harg3 x0 h) (lg arg6 harg6 x3 h) (lo arg8 harg8 x5 h) (dl h)⟩
end

section B
variable (c : Dev nD) (i : grid0.Coords) (arg3 : Memref sig .tc .vmem S1x8x256x128 .f32) (harg3 : arg3.IsWhole) (arg4 : Memref sig .tc .vmem S1x1x8x256x128 .f32) (harg4 : arg4.IsWhole) (arg5 : Memref sig .tc .vmem S1x8x256x128 .bf16) (harg5 : arg5.IsWhole) (arg6 : Memref sig .tc .vmem S1x1x8x256x128 .f32) (harg6 : arg6.IsWhole) (arg7 : Memref sig .tc .vmem S1x8x1x128x128 .f32) (harg7 : arg7.IsWhole) (arg8 : Memref sig .tc .vmem S1x8x256x128 .bf16) (harg8 : arg8.IsWhole) (arg9 : Memref sig .tc .vmem S1x8x256x128 .bf16) (harg9 : arg9.IsWhole) (arg10 : Memref sig .tc .vmem S1x8x256x128 .bf16) (harg10 : arg10.IsWhole) (arg11 : Memref sig .tc .vmem S1x8x256x128 .bf16) (harg11 : arg11.IsWhole) (arg12 : Memref sig .tc .vmem S1x8x256x128 .bf16) (harg12 : arg12.IsWhole) (arg13 : Memref sig .tc .vmem S8x128x128 .f32) (harg13 : arg13.IsWhole) (hc0 : ¬cond0_0 i)
  (x0 : Vec F S1x8x256x128 .f32) (x1 : Vec F S1x1x8x256x128 .f32) (x2 : Vec F S1x8x256x128 .bf16) (x3 : Vec F S1x1x8x256x128 .f32) (x4 : Vec F S1x8x1x128x128 .f32) (x5 : Vec F S1x8x256x128 .bf16) (xs0 : Vec F S8x128x128 .f32)

theorem runB_Q : (kernelRun0_B c i arg3 harg3 arg4 harg4 arg5 harg5 arg6 harg6 arg7 harg7 arg8 harg8 arg9 harg9 arg10 harg10 arg11 harg11 arg12 harg12 arg13 harg13 hc0 x0 x1 x2 x3 x4 x5 xs0).1 = [pQ i arg4 harg4 arg5 harg5 arg6 harg6 arg7 harg7 arg8 harg8 x1 x2 x3 x4 x5 7, pQ i arg4 harg4 arg5 harg5 arg6 harg6 arg7 harg7 arg8 harg8 x1 x2 x3 x4 x5 6, pQ i arg4 harg4 arg5 harg5 arg6 harg6 arg7 harg7 arg8 harg8 x1 x2 x3 x4 x5 5, pQ i arg4 harg4 arg5 harg5 arg6 harg6 arg7 harg7 arg8 harg8 x1 x2 x3 x4 x5 4, pQ i arg4 harg4 arg5 harg5 arg6 harg6 arg7 harg7 arg8 harg8 x1 x2 x3 x4 x5 3, pQ i arg4 harg4 arg5 harg5 arg6 harg6 arg7 harg7 arg8 harg8 x1 x2 x3 x4 x5 2, pQ i arg4 harg4 arg5 harg5 arg6 harg6 arg7 harg7 arg8 harg8 x1 x2 x3 x4 x5 1, pQ i arg4 harg4 arg5 harg5 arg6 harg6 arg7 harg7 arg8 harg8 x1 x2 x3 x4 x5 0] := by sl_kernel_rfl

theorem runB_K : (kernelRun0_B c i arg3 harg3 arg4 harg4 arg5 harg5 arg6 harg6 arg7 harg7 arg8 harg8 arg9 harg9 arg10 harg10 arg11 harg11 arg12 harg12 arg13 harg13 hc0 x0 x1 x2 x3 x4 x5 xs0).2.1 = [pK i arg3 harg3 arg5 harg5 arg6 harg6 arg8 harg8 x0 x2 x3 x5 (ld arg13 harg13 xs0) 7, pK i arg3 harg3 arg5 harg5 arg6 harg6 arg8 harg8 x0 x2 x3 x5 (ld arg13 harg13 xs0) 6, pK i arg3 harg3 arg5 harg5 arg6 harg6 arg8 harg8 x0 x2 x3 x5 (ld arg13 harg13 xs0) 5, pK i arg3 harg3 arg5 harg5 arg6 harg6 arg8 harg8 x0 x2 x3 x5 (ld arg13 harg13 xs0) 4, pK i arg3 harg3 arg5 harg5 arg6 harg6 arg8 harg8 x0 x2 x3 x5 (ld arg13 harg13 xs0) 3, pK i arg3 harg3 arg5 harg5 arg6 harg6 arg8 harg8 x0 x2 x3 x5 (ld arg13 harg13 xs0) 2, pK i arg3 harg3 arg5 harg5 arg6 harg6 arg8 harg8 x0 x2 x3 x5 (ld arg13 harg13 xs0) 1, pK i arg3 harg3 arg5 harg5 arg6 harg6 arg8 harg8 x0 x2 x3 x5 (ld arg13 harg13 xs0) 0] := by sl_kernel_rfl

theorem runB_V : (kernelRun0_B c i arg3 harg3 arg4 harg4 arg5 harg5 arg6 harg6 arg7 harg7 arg8 harg8 arg9 harg9 arg10 harg10 arg11 harg11 arg12 harg12 arg13 harg13 hc0 x0 x1 x2 x3 x4 x5 xs0).2.2.1 = [pV i arg3 harg3 arg4 harg4 arg6 harg6 arg8 harg8 x0 x1 x3 x5 (ld arg13 harg13 xs0) 7 1, pV i arg3 harg3 arg4 harg4 arg6 harg6 arg8 harg8 x0 x1 x3 x5 (ld arg13 harg13 xs0) 7 0, pV i arg3 harg3 arg4 harg4 arg6 harg6 arg8 harg8 x0 x1 x3 x5 (ld arg13 harg13 xs0) 6 1, pV i arg3 harg3 arg4 harg4 arg6 harg6 arg8 harg8 x0 x1 x3 x5 (ld arg13 harg13 xs0) 6 0, pV i arg3 harg3 arg4 harg4 arg6 harg6 arg8 harg8 x0 x1 x3 x5 (ld arg13 harg13 xs0) 5 1, pV i arg3 harg3 arg4 harg4 arg6 harg6 arg8 harg8 x0 x1 x3 x5 (ld arg13 harg13 xs0) 5 0, pV i arg3 harg3 arg4 harg4 arg6 harg6 arg8 harg8 x0 x1 x3 x5 (ld arg13 harg13 xs0) 4 1, pV i arg3 harg3 arg4 harg4 arg6 harg6 arg8 harg8 x0 x1 x3 x5 (ld arg13 harg13 xs0) 4 0, pV i arg3 harg3 arg4 harg4 arg6 harg6 arg8 harg8 x0 x1 x3 x5 (ld arg13 harg13 xs0) 3 1, pV i arg3 harg3 arg4 harg4 arg6 harg6 arg8 harg8 x0 x1 x3 x5 (ld arg13 harg13 xs0) 3 0, pV i arg3 harg3 arg4 harg4 arg6 harg6 arg8 harg8 x0 x1 x3 x5 (ld arg13 harg13 xs0) 2 1, pV i arg3 harg3 arg4 harg4 arg6 harg6 arg8 harg8 x0 x1 x3 x5 (ld arg13 harg13 xs0) 2 0, pV i arg3 harg3 arg4 harg4 arg6 harg6 arg8 harg8 x0 x1 x3 x5 (ld arg13 harg13 xs0) 1 1, pV i arg3 harg3 arg4 harg4 arg6 harg6 arg8 harg8 x0 x1 x3 x5 (ld arg13 harg13 xs0) 1 0, pV i arg3 harg3 arg4 harg4 arg6 harg6 arg8 harg8 x0 x1 x3 x5 (ld arg13 harg13 xs0) 0 1, pV i arg3 harg3 arg4 harg4 arg6 harg6 arg8 harg8 x0 x1 x3 x5 (ld arg13 harg13 xs0) 0 0] := by sl_kernel_rfl

theorem runB_G : (kernelRun0_B c i arg3 harg3 arg4 harg4 arg5 harg5 arg6 harg6 arg7 harg7 arg8 harg8 arg9 harg9 arg10 harg10 arg11 harg11 arg12 harg12 arg13 harg13 hc0 x0 x1 x2 x3 x4 x5 xs0).2.2.2.1 = [pG i arg3 harg3 arg4 harg4 arg5 harg5 arg6 harg6 arg7 harg7 arg8 harg8 x0 x1 x2 x3 x4 x5 (ld arg13 harg13 xs0) 7, pG i arg3 harg3 arg4 harg4 arg5 harg5 arg6 harg6 arg7 harg7 arg8 harg8 x0 x1 x2 x3 x4 x5 (ld arg13 harg13 xs0) 6, pG i arg3 harg3 arg4 harg4 arg5 harg5 arg6 harg6 arg7 harg7 arg8 harg8 x0 x1 x2 x3 x4 x5 (ld arg13 harg13 xs0) 5, pG i arg3 harg3 arg4 harg4 arg5 harg5 arg6 harg6 arg7 harg7 arg8 harg8 x0 x1 x2 x3 x4 x5 (ld arg13 harg13 xs0) 4, pG i arg3 harg3 arg4 harg4 arg5 harg5 arg6 harg6 arg7 harg7 arg8 harg8 x0 x1 x2 x3 x4 x5 (ld arg13 harg13 xs0) 3, pG i arg3 harg3 arg4 harg4 arg5 harg5 arg6 harg6 arg7 harg7 arg8 harg8 x0 x1 x2 x3 x4 x5 (ld arg13 harg13 xs0) 2, pG i arg3 harg3 arg4 harg4 arg5 harg5 arg6 harg6 arg7 harg7 arg8 harg8 x0 x1 x2 x3 x4 x5 (ld arg13 harg13 xs0) 1, pG i arg3 harg3 arg4 harg4 arg5 harg5 arg6 harg6 arg7 harg7 arg8 harg8 x0 x1 x2 x3 x4 x5 (ld arg13 harg13 xs0) 0] := by sl_kernel_rfl

theorem runB_D : (kernelRun0_B c i arg3 harg3 arg4 harg4 arg5 harg5 arg6 harg6 arg7 harg7 arg8 harg8 arg9 harg9 arg10 harg10 arg11 harg11 arg12 harg12 arg13 harg13 hc0 x0 x1 x2 x3 x4 x5 xs0).2.2.2.2.1 = [pD i arg3 harg3 arg6 harg6 arg8 harg8 x0 x3 x5 (ld arg13 harg13 xs0) 7, pD i arg3 harg3 arg6 harg6 arg8 harg8 x0 x3 x5 (ld arg13 harg13 xs0) 6, pD i arg3 harg3 arg6 harg6 arg8 harg8 x0 x3 x5 (ld arg13 harg13 xs0) 5, pD i arg3 harg3 arg6 harg6 arg8 harg8 x0 x3 x5 (ld arg13 harg13 xs0) 4, pD i arg3 harg3 arg6 harg6 arg8 harg8 x0 x3 x5 (ld arg13 harg13 xs0) 3, pD i arg3 harg3 arg6 harg6 arg8 harg8 x0 x3 x5 (ld arg13 harg13 xs0) 2, pD i arg3 harg3 arg6 harg6 arg8 harg8 x0 x3 x5 (ld arg13 harg13 xs0) 1, pD i arg3 harg3 arg6 harg6 arg8 harg8 x0 x3 x5 (ld arg13 harg13 xs0) 0] := by sl_kernel_rfl
end B

section A
variable (c : Dev nD) (i : grid0.Coords) (arg3 : Memref sig .tc .vmem S1x8x256x128 .f32) (harg3 : arg3.IsWhole) (arg4 : Memref sig .tc .vmem S1x1x8x256x128 .f32) (harg4 : arg4.IsWhole) (arg5 : Memref sig .tc .vmem S1x8x256x128 .bf16) (harg5 : arg5.IsWhole) (arg6 : Memref sig .tc .vmem S1x1x8x256x128 .f32) (harg6 : arg6.IsWhole) (arg7 : Memref sig .tc .vmem S1x8x1x128x128 .f32) (harg7 : arg7.IsWhole) (arg8 : Memref sig .tc .vmem S1x8x256x128 .bf16) (harg8 : arg8.IsWhole) (arg9 : Memref sig .tc .vmem S1x8x256x128 .bf16) (harg9 : arg9.IsWhole) (arg10 : Memref sig .tc .vmem S1x8x256x128 .bf16) (harg10 : arg10.IsWhole) (arg11 : Memref sig .tc .vmem S1x8x256x128 .bf16) (harg11 : arg11.IsWhole) (arg12 : Memref sig .tc .vmem S1x8x256x128 .bf16) (harg12 : arg12.IsWhole) (arg13 : Memref sig .tc .vmem S8x128x128 .f32) (harg13 : arg13.IsWhole) (hc0 : cond0_0 i)
  (x0 : Vec F S1x8x256x128 .f32) (x1 : Vec F S1x1x8x256x128 .f32) (x2 : Vec F S1x8x256x128 .bf16) (x3 : Vec F S1x1x8x256x128 .f32) (x4 : Vec F S1x8x1x128x128 .f32) (x5 : Vec F S1x8x256x128 .bf16)

/-- The scratch's stores at a first point: the zero fill, then head after head. -/
def hist (lat : BitVec 1) : ℕ → List (View.Piece (Elt F) S8x128x128 .f32)
  | 0 => [⟨Rect.unit ![0, 0, 0] S8x128x128.size inb_S8x128x128_S8x128x128_0_0_0, k0_pay2⟩]
  | n + 1 =>
    let h : Fin 8 := ⟨n % 8, Nat.mod_lt _ (by decide)⟩
    ⟨Rect.unit ![h.val, 0, 0] S1x128x128.size (inD h), outD lat (lq arg3 harg3 x0 h) (lg arg6 harg6 x3 h) (lo arg8 harg8 x5 h) (arg13.view.readCov (hist lat n) (Rect.unit (s := S8x128x128) ![h.val, 0, 0] S1x128x128.size (inD h)).toLoadRect)⟩ :: hist lat n
def dlA (lat : BitVec 1) (h : Fin 8) : FVec F S1x128x128 .f32 :=
  arg13.view.readCov (hist arg3 harg3 arg6 harg6 arg8 harg8 arg13 x0 x3 x5 lat h.val) (Rect.unit (s := S8x128x128) ![h.val, 0, 0] S1x128x128.size (inD h)).toLoadRect

theorem runA_Q : (kernelRun0_A c i arg3 harg3 arg4 harg4 arg5 harg5 arg6 harg6 arg7 harg7 arg8 harg8 arg9 harg9 arg10 harg10 arg11 harg11 arg12 harg12 arg13 harg13 hc0 x0 x1 x2 x3 x4 x5).1 = [pQ i arg4 harg4 arg5 harg5 arg6 harg6 arg7 harg7 arg8 harg8 x1 x2 x3 x4 x5 7, pQ i arg4 harg4 arg5 harg5 arg6 harg6 arg7 harg7 arg8 harg8 x1 x2 x3 x4 x5 6, pQ i arg4 harg4 arg5 harg5 arg6 harg6 arg7 harg7 arg8 harg8 x1 x2 x3 x4 x5 5, pQ i arg4 harg4 arg5 harg5 arg6 harg6 arg7 harg7 arg8 harg8 x1 x2 x3 x4 x5 4, pQ i arg4 harg4 arg5 harg5 arg6 harg6 arg7 harg7 arg8 harg8 x1 x2 x3 x4 x5 3, pQ i arg4 harg4 arg5 harg5 arg6 harg6 arg7 harg7 arg8 harg8 x1 x2 x3 x4 x5 2, pQ i arg4 harg4 arg5 harg5 arg6 harg6 arg7 harg7 arg8 harg8 x1 x2 x3 x4 x5 1, pQ i arg4 harg4 arg5 harg5 arg6 harg6 arg7 harg7 arg8 harg8 x1 x2 x3 x4 x5 0] := by sl_kernel_rfl

theorem runA_K : (kernelRun0_A c i arg3 harg3 arg4 harg4 arg5 harg5 arg6 harg6 arg7 harg7 arg8 harg8 arg9 harg9 arg10 harg10 arg11 harg11 arg12 harg12 arg13 harg13 hc0 x0 x1 x2 x3 x4 x5).2.1 = [pK i arg3 harg3 arg5 harg5 arg6 harg6 arg8 harg8 x0 x2 x3 x5 (dlA arg3 harg3 arg6 harg6 arg8 harg8 arg13 x0 x3 x5 (kernelRun0_B.sl.v4 i)) 7, pK i arg3 harg3 arg5 harg5 arg6 harg6 arg8 harg8 x0 x2 x3 x5 (dlA arg3 harg3 arg6 harg6 arg8 harg8 arg13 x0 x3 x5 (kernelRun0_B.sl.v4 i)) 6, pK i arg3 harg3 arg5 harg5 arg6 harg6 arg8 harg8 x0 x2 x3 x5 (dlA arg3 harg3 arg6 harg6 arg8 harg8 arg13 x0 x3 x5 (kernelRun0_B.sl.v4 i)) 5, pK i arg3 harg3 arg5 harg5 arg6 harg6 arg8 harg8 x0 x2 x3 x5 (dlA arg3 harg3 arg6 harg6 arg8 harg8 arg13 x0 x3 x5 (kernelRun0_B.sl.v4 i)) 4, pK i arg3 harg3 arg5 harg5 arg6 harg6 arg8 harg8 x0 x2 x3 x5 (dlA arg3 harg3 arg6 harg6 arg8 harg8 arg13 x0 x3 x5 (kernelRun0_B.sl.v4 i)) 3, pK i arg3 harg3 arg5 harg5 arg6 harg6 arg8 harg8 x0 x2 x3 x5 (dlA arg3 harg3 arg6 harg6 arg8 harg8 arg13 x0 x3 x5 (kernelRun0_B.sl.v4 i)) 2, pK i arg3 harg3 arg5 harg5 arg6 harg6 arg8 harg8 x0 x2 x3 x5 (dlA arg3 harg3 arg6 harg6 arg8 harg8 arg13 x0 x3 x5 (kernelRun0_B.sl.v4 i)) 1, pK i arg3 harg3 arg5 harg5 arg6 harg6 arg8 harg8 x0 x2 x3 x5 (dlA arg3 harg3 arg6 harg6 arg8 harg8 arg13 x0 x3 x5 (kernelRun0_B.sl.v4 i)) 0] := by sl_kernel_rfl

theorem runA_V : (kernelRun0_A c i arg3 harg3 arg4 harg4 arg5 harg5 arg6 harg6 arg7 harg7 arg8 harg8 arg9 harg9 arg10 harg10 arg11 harg11 arg12 harg12 arg13 harg13 hc0 x0 x1 x2 x3 x4 x5).2.2.1 = [pV i arg3 harg3 arg4 harg4 arg6 harg6 arg8 harg8 x0 x1 x3 x5 (dlA arg3 harg3 arg6 harg6 arg8 harg8 arg13 x0 x3 x5 (kernelRun0_B.sl.v4 i)) 7 1, pV i arg3 harg3 arg4 harg4 arg6 harg6 arg8 harg8 x0 x1 x3 x5 (dlA arg3 harg3 arg6 harg6 arg8 harg8 arg13 x0 x3 x5 (kernelRun0_B.sl.v4 i)) 7 0, pV i arg3 harg3 arg4 harg4 arg6 harg6 arg8 harg8 x0 x1 x3 x5 (dlA arg3 harg3 arg6 harg6 arg8 harg8 arg13 x0 x3 x5 (kernelRun0_B.sl.v4 i)) 6 1, pV i arg3 harg3 arg4 harg4 arg6 harg6 arg8 harg8 x0 x1 x3 x5 (dlA arg3 harg3 arg6 harg6 arg8 harg8 arg13 x0 x3 x5 (kernelRun0_B.sl.v4 i)) 6 0, pV i arg3 harg3 arg4 harg4 arg6 harg6 arg8 harg8 x0 x1 x3 x5 (dlA arg3 harg3 arg6 harg6 arg8 harg8 arg13 x0 x3 x5 (kernelRun0_B.sl.v4 i)) 5 1, pV i arg3 harg3 arg4 harg4 arg6 harg6 arg8 harg8 x0 x1 x3 x5 (dlA arg3 harg3 arg6 harg6 arg8 harg8 arg13 x0 x3 x5 (kernelRun0_B.sl.v4 i)) 5 0, pV i arg3 harg3 arg4 harg4 arg6 harg6 arg8 harg8 x0 x1 x3 x5 (dlA arg3 harg3 arg6 harg6 arg8 harg8 arg13 x0 x3 x5 (kernelRun0_B.sl.v4 i)) 4 1, pV i arg3 harg3 arg4 harg4 arg6 harg6 arg8 harg8 x0 x1 x3 x5 (dlA arg3 harg3 arg6 harg6 arg8 harg8 arg13 x0 x3 x5 (kernelRun0_B.sl.v4 i)) 4 0, pV i arg3 harg3 arg4 harg4 arg6 harg6 arg8 harg8 x0 x1 x3 x5 (dlA arg3 harg3 arg6 harg6 arg8 harg8 arg13 x0 x3 x5 (kernelRun0_B.sl.v4 i)) 3 1, pV i arg3 harg3 arg4 harg4 arg6 harg6 arg8 harg8 x0 x1 x3 x5 (dlA arg3 harg3 arg6 harg6 arg8 harg8 arg13 x0 x3 x5 (kernelRun0_B.sl.v4 i)) 3 0, pV i arg3 harg3 arg4 harg4 arg6 harg6 arg8 harg8 x0 x1 x3 x5 (dlA arg3 harg3 arg6 harg6 arg8 harg8 arg13 x0 x3 x5 (kernelRun0_B.sl.v4 i)) 2 1, pV i arg3 harg3 arg4 harg4 arg6 harg6 arg8 harg8 x0 x1 x3 x5 (dlA arg3 harg3 arg6 harg6 arg8 harg8 arg13 x0 x3 x5 (kernelRun0_B.sl.v4 i)) 2 0, pV i arg3 harg3 arg4 harg4 arg6 harg6 arg8 harg8 x0 x1 x3 x5 (dlA arg3 harg3 arg6 harg6 arg8 harg8 arg13 x0 x3 x5 (kernelRun0_B.sl.v4 i)) 1 1, pV i arg3 harg3 arg4 harg4 arg6 harg6 arg8 harg8 x0 x1 x3 x5 (dlA arg3 harg3 arg6 harg6 arg8 harg8 arg13 x0 x3 x5 (kernelRun0_B.sl.v4 i)) 1 0, pV i arg3 harg3 arg4 harg4 arg6 harg6 arg8 harg8 x0 x1 x3 x5 (dlA arg3 harg3 arg6 harg6 arg8 harg8 arg13 x0 x3 x5 (kernelRun0_B.sl.v4 i)) 0 1, pV i arg3 harg3 arg4 harg4 arg6 harg6 arg8 harg8 x0 x1 x3 x5 (dlA arg3 harg3 arg6 harg6 arg8 harg8 arg13 x0 x3 x5 (kernelRun0_B.sl.v4 i)) 0 0] := by sl_kernel_rfl

theorem runA_G : (kernelRun0_A c i arg3 harg3 arg4 harg4 arg5 harg5 arg6 harg6 arg7 harg7 arg8 harg8 arg9 harg9 arg10 harg10 arg11 harg11 arg12 harg12 arg13 harg13 hc0 x0 x1 x2 x3 x4 x5).2.2.2.1 = [pG i arg3 harg3 arg4 harg4 arg5 harg5 arg6 harg6 arg7 harg7 arg8 harg8 x0 x1 x2 x3 x4 x5 (dlA arg3 harg3 arg6 harg6 arg8 harg8 arg13 x0 x3 x5 (kernelRun0_B.sl.v4 i)) 7, pG i arg3 harg3 arg4 harg4 arg5 harg5 arg6 harg6 arg7 harg7 arg8 harg8 x0 x1 x2 x3 x4 x5 (dlA arg3 harg3 arg6 harg6 arg8 harg8 arg13 x0 x3 x5 (kernelRun0_B.sl.v4 i)) 6, pG i arg3 harg3 arg4 harg4 arg5 harg5 arg6 harg6 arg7 harg7 arg8 harg8 x0 x1 x2 x3 x4 x5 (dlA arg3 harg3 arg6 harg6 arg8 harg8 arg13 x0 x3 x5 (kernelRun0_B.sl.v4 i)) 5, pG i arg3 harg3 arg4 harg4 arg5 harg5 arg6 harg6 arg7 harg7 arg8 harg8 x0 x1 x2 x3 x4 x5 (dlA arg3 harg3 arg6 harg6 arg8 harg8 arg13 x0 x3 x5 (kernelRun0_B.sl.v4 i)) 4, pG i arg3 harg3 arg4 harg4 arg5 harg5 arg6 harg6 arg7 harg7 arg8 harg8 x0 x1 x2 x3 x4 x5 (dlA arg3 harg3 arg6 harg6 arg8 harg8 arg13 x0 x3 x5 (kernelRun0_B.sl.v4 i)) 3, pG i arg3 harg3 arg4 harg4 arg5 harg5 arg6 harg6 arg7 harg7 arg8 harg8 x0 x1 x2 x3 x4 x5 (dlA arg3 harg3 arg6 harg6 arg8 harg8 arg13 x0 x3 x5 (kernelRun0_B.sl.v4 i)) 2, pG i arg3 harg3 arg4 harg4 arg5 harg5 arg6 harg6 arg7 harg7 arg8 harg8 x0 x1 x2 x3 x4 x5 (dlA arg3 harg3 arg6 harg6 arg8 harg8 arg13 x0 x3 x5 (kernelRun0_B.sl.v4 i)) 1, pG i arg3 harg3 arg4 harg4 arg5 harg5 arg6 harg6 arg7 harg7 arg8 harg8 x0 x1 x2 x3 x4 x5 (dlA arg3 harg3 arg6 harg6 arg8 harg8 arg13 x0 x3 x5 (kernelRun0_B.sl.v4 i)) 0] := by sl_kernel_rfl

theorem runA_D : (kernelRun0_A c i arg3 harg3 arg4 harg4 arg5 harg5 arg6 harg6 arg7 harg7 arg8 harg8 arg9 harg9 arg10 harg10 arg11 harg11 arg12 harg12 arg13 harg13 hc0 x0 x1 x2 x3 x4 x5).2.2.2.2.1 = hist arg3 harg3 arg6 harg6 arg8 harg8 arg13 x0 x3 x5 (kernelRun0_B.sl.v4 i) 8 := by sl_kernel_rfl
end A

end Head
-- ==== Proof.Lift.lean ====
/- Vectors of reals: a rank-two vector of extended reals all of whose entries are the real numbers of a function of
   the two coordinates, and what each vector operation of the kernel makes of such functions. -/
module

public import proofs.«01_k».proof.Proof.Head
public import Idealize.ShloMosaic.Lib.Pipeline.Value
public import Idealize.ShloMosaic.Lib.KernelVsHost
public import Idealize.ShloMosaic.Lib.MatmulPlain

@[expose] public section

set_option maxRecDepth 16384

noncomputable section

namespace Lift

open Cert.KernelIdeal Cert.KernelIdeal.Gen Idealize.ShloMosaic Idealize.ShloMosaic.TcCoe Idealize.SL.Sem
open Idealize.ShloMosaic.ValueIdx Finset

/-- Every entry of `x` is the real number `f` gives at its coordinates. -/
def R2 {a b : ℕ} {φ : FTy} (x : FVec Ideal ⟨2, ![a, b]⟩ φ) (f : ℕ → ℕ → ℝ) : Prop :=
  ∀ (i : Fin a) (j : Fin b), x (ix2 i j) = ((f i.val j.val : ℝ) : EReal)

section ops
variable {a b : ℕ} {φ : FTy} {x y : FVec Ideal ⟨2, ![a, b]⟩ φ} {f g : ℕ → ℕ → ℝ}

theorem R2.congr (h : R2 x f) (e : ∀ i < a, ∀ j < b, f i j = g i j) : R2 x g := fun i j => by
  rw [h i j, e _ i.isLt _ j.isLt]
theorem R2.of_eq (h : R2 x f) (e : y = x) : R2 y f := e ▸ h
theorem R2.mul (h : R2 x f) (k : R2 y g) : R2 (mulf x y) (fun i j => f i j * g i j) := fun i j => by
  show x _ * y _ = _
  rw [h, k, ← EReal.coe_mul]
theorem R2.add (h : R2 x f) (k : R2 y g) : R2 (addf x y) (fun i j => f i j + g i j) := fun i j => by
  show x _ + y _ = _
  rw [h, k, ← EReal.coe_add]
theorem R2.sub (h : R2 x f) (k : R2 y g) : R2 (subf x y) (fun i j => f i j - g i j) := fun i j => by
  show x _ - y _ = _
  rw [h, k, ← EReal.coe_sub]
theorem R2.exp (h : R2 x f) : R2 (Idealize.ShloMosaic.exp x) (fun i j => Real.exp (f i j)) := fun i j => by
  show Ideal.exp (x _) = _
  rw [h]; rfl
theorem R2.trunc {x : FVec Ideal ⟨2, ![a, b]⟩ .f32} (h : R2 x f) (e) : R2 (truncf .bf16 x e) f := fun i j => h i j
theorem R2.select (h : R2 x f) (k : R2 y g) (P : ℕ → ℕ → Prop) [∀ i j, Decidable (P i j)] (m : IVec ⟨2, ![a, b]⟩ 1)
    (hm : ∀ (i : Fin a) (j : Fin b), m (ix2 i j) = if P i.val j.val then 1#1 else 0#1) :
    R2 (select m x y) (fun i j => if P i j then f i j else g i j) := fun i j => by
  show Scalar.select (m _) (x _) (y _) = _
  rw [hm]
  by_cases hp : P i.val j.val
  · rw [if_pos hp]; simp only [if_pos hp]; exact h i j
  · rw [if_neg hp]; simp only [if_neg hp]; exact k i j
end ops

theorem ofBits_bf16 : (FloatOps.ofBits .bf16 0x0000#16 : Ideal .bf16) = ((0 : ℝ) : EReal) := by
  rw [EReal.coe_zero]; show Ideal.ofBits .bf16 0x0000#16 = 0; simp [Ideal.ofBits, Ideal.ieee]
theorem ofBits_f32 : (FloatOps.ofBits .f32 0x00000000#32 : Ideal .f32) = ((0 : ℝ) : EReal) := by
  rw [EReal.coe_zero]; exact Ideal.ofBits_zero_f32

theorem R2.zero {a b : ℕ} : R2 (broadcast (⟨2, ![a, b]⟩ : Shape) (Head.zf : Ideal .f32)) (fun _ _ => 0) := fun i j => ofBits_f32
theorem R2.zerob {a b : ℕ} : R2 (φ := .bf16) (broadcast (⟨2, ![a, b]⟩ : Shape) (Scalar.ofBits .bf16 0x0000#16 : Ideal .bf16)) (fun _ _ => 0) := fun i j => ofBits_bf16

theorem coe_sum (n : ℕ) (f : ℕ → ℝ) : ((∑ k ∈ range n, f k : ℝ) : EReal) = ∑ k : Fin n, ((f k.val : ℝ) : EReal) := by
  rw [← Fin.sum_univ_eq_sum_range]
  induction (Finset.univ : Finset (Fin n)) using Finset.induction_on with
  | empty => simp
  | insert k s hk ih => rw [sum_insert hk, sum_insert hk, EReal.coe_add, ih]

/-- A product contracting one coordinate. -/
theorem R2.dot {a b c d m n K : ℕ} {φ₁ φ₂ : FTy} (D : DotDims ⟨2, ![a, b]⟩ ⟨2, ![c, d]⟩ ⟨2, ![m, n]⟩) (hr : D.contr.rank = 1)
    (hs : D.contr.size ⟨0, by omega⟩ = K) (x : FVec Ideal ⟨2, ![a, b]⟩ φ₁) (y : FVec Ideal ⟨2, ![c, d]⟩ φ₂) (F G : ℕ → ℕ → ℕ → ℝ)
    (hx : ∀ i j k, x (D.lhsIdx (ix2 i j) k) = ((F i.val j.val (k ⟨0, by omega⟩).val : ℝ) : EReal))
    (hy : ∀ i j k, y (D.rhsIdx (ix2 i j) k) = ((G i.val j.val (k ⟨0, by omega⟩).val : ℝ) : EReal)) :
    R2 (matmul D none x y (constant ⟨2, ![m, n]⟩ .f32 0x00000000#32)) (fun i j => ∑ k ∈ range K, F i j k * G i j k) := fun i j => by
  simp only [matmul]
  rw [Ideal.matmul_constant_zero_apply, coe_sum, ← Equiv.sum_comp (contrEquiv1 D K hr hs).symm]
  refine Fintype.sum_congr _ _ fun k => ?_
  rw [hx, hy, contrEquiv1_symm_val D K hr hs k, ← EReal.coe_mul]

section dots
variable {φ₁ φ₂ : FTy} {f g : ℕ → ℕ → ℝ}

theorem dot00 {x : FVec Ideal S128x128 φ₁} {y : FVec Ideal S128x512 φ₂} (hx : R2 x f) (hy : R2 y g) :
    R2 (matmul dot_S128x128_S128x512_S128x512_0_0_1_1_n_n none x y (constant S128x512 .f32 0x00000000#32))
      (fun i j => ∑ k ∈ range 128, f k i * g k j) := by
  refine R2.dot dot_S128x128_S128x512_S128x512_0_0_1_1_n_n rfl rfl x y (fun i j k => f k i) (fun i j k => g k j) (fun i j k => ?_) (fun i j k => ?_)
  · rw [← hx (k ⟨0, by decide⟩) i]; refine congrArg x (funext fun a => ?_); fin_cases a <;> rfl
  · rw [← hy (k ⟨0, by decide⟩) j]; refine congrArg y (funext fun a => ?_); fin_cases a <;> rfl
theorem dot10w {x : FVec Ideal S128x128 φ₁} {y : FVec Ideal S128x512 φ₂} (hx : R2 x f) (hy : R2 y g) :
    R2 (matmul dot_S128x128_S128x512_S128x512_1_0_0_1_n_n none x y (constant S128x512 .f32 0x00000000#32))
      (fun i j => ∑ k ∈ range 128, f i k * g k j) := by
  refine R2.dot dot_S128x128_S128x512_S128x512_1_0_0_1_n_n rfl rfl x y (fun i j k => f i k) (fun i j k => g k j) (fun i j k => ?_) (fun i j k => ?_)
  · rw [← hx i (k ⟨0, by decide⟩)]; refine congrArg x (funext fun a => ?_); fin_cases a <;> rfl
  · rw [← hy (k ⟨0, by decide⟩) j]; refine congrArg y (funext fun a => ?_); fin_cases a <;> rfl
theorem dot10 {x : FVec Ideal S128x128 φ₁} {y : FVec Ideal S128x128 φ₂} (hx : R2 x f) (hy : R2 y g) :
    R2 (matmul dot_S128x128_S128x128_S128x128_1_0_0_1_n_n none x y (constant S128x128 .f32 0x00000000#32))
      (fun i j => ∑ k ∈ range 128, f i k * g k j) := by
  refine R2.dot dot_S128x128_S128x128_S128x128_1_0_0_1_n_n rfl rfl x y (fun i j k => f i k) (fun i j k => g k j) (fun i j k => ?_) (fun i j k => ?_)
  · rw [← hx i (k ⟨0, by decide⟩)]; refine congrArg x (funext fun a => ?_); fin_cases a <;> rfl
  · rw [← hy (k ⟨0, by decide⟩) j]; refine congrArg y (funext fun a => ?_); fin_cases a <;> rfl
theorem dot11 {x : FVec Ideal S128x128 φ₁} {y : FVec Ideal S128x128 φ₂} (hx : R2 x f) (hy : R2 y g) :
    R2 (matmul dot_S128x128_S128x128_S128x128_1_1_0_0_n_n none x y (constant S128x128 .f32 0x00000000#32))
      (fun i j => ∑ k ∈ range 128, f i k * g j k) := by
  refine R2.dot dot_S128x128_S128x128_S128x128_1_1_0_0_n_n rfl rfl x y (fun i j k => f i k) (fun i j k => g j k) (fun i j k => ?_) (fun i j k => ?_)
  · rw [← hx i (k ⟨0, by decide⟩)]; refine congrArg x (funext fun a => ?_); fin_cases a <;> rfl
  · rw [← hy j (k ⟨0, by decide⟩)]; refine congrArg y (funext fun a => ?_); fin_cases a <;> rfl
theorem dot11w {x : FVec Ideal S128x512 φ₁} {y : FVec Ideal S128x512 φ₂} (hx : R2 x f) (hy : R2 y g) :
    R2 (matmul dot_S128x512_S128x512_S128x128_1_1_0_0_n_n none x y (constant S128x128 .f32 0x00000000#32))
      (fun i j => ∑ k ∈ range 512, f i k * g j k) := by
  refine R2.dot dot_S128x512_S128x512_S128x128_1_1_0_0_n_n rfl rfl x y (fun i j k => f i k) (fun i j k => g j k) (fun i j k => ?_) (fun i j k => ?_)
  · rw [← hx i (k ⟨0, by decide⟩)]; refine congrArg x (funext fun a => ?_); fin_cases a <;> rfl
  · rw [← hy j (k ⟨0, by decide⟩)]; refine congrArg y (funext fun a => ?_); fin_cases a <;> rfl
end dots

/-! Layout. -/
section layout
variable {φ : FTy} {f : ℕ → ℕ → ℝ}

theorem row {x : FVec Ideal S256x128 φ} (h : R2 x f) (n : Fin 8) : R2 (a := 1) (b := 128) (φ := φ) (Head.row x n) (fun _ j => f (32 * n.val + 31) j) := fun i j => by
  unfold Head.row
  rw [extractStridedSlice_apply _ x _ (ix2 i j) (ix2 ⟨32 * n.val + 31, by omega⟩ j), h]
  intro a
  have := i.isLt
  match a with
  | ⟨0, _⟩ => show 32 * n.val + 31 = 32 * n.val + 31 + i.val; omega
  | ⟨1, _⟩ => exact (Nat.zero_add _).symm
theorem col {x : FVec Ideal S128x512 φ} (h : R2 x f) (n : Fin 4) : R2 (a := 128) (b := 128) (φ := φ) (Head.col x n) (fun i j => f i (128 * n.val + j)) := fun i j => by
  unfold Head.col
  rw [extractStridedSlice_apply _ x _ (ix2 i j) (ix2 i ⟨128 * n.val + j.val, by omega⟩), h]
  intro a
  match a with
  | ⟨0, _⟩ => exact (Nat.zero_add _).symm
  | ⟨1, _⟩ => rfl
theorem sub {x : FVec Ideal S256x128 φ} (h : R2 x f) (s : Fin 2) : R2 (a := 128) (b := 128) (φ := φ) (Head.sub x s) (fun i j => f (128 * s.val + i) j) := fun i j => by
  unfold Head.sub
  rw [extractStridedSlice_apply _ x _ (ix2 i j) (ix2 ⟨128 * s.val + i.val, by omega⟩ j), h]
  intro a
  match a with
  | ⟨0, _⟩ => rfl
  | ⟨1, _⟩ => exact (Nat.zero_add _).symm
theorem bcast {m : ℕ} {x : FVec Ideal S1x128 φ} (h : R2 (a := 1) (b := 128) (φ := φ) x f) (e : S1x128.Broadcasts ⟨2, ![m, 128]⟩) :
    R2 (a := m) (b := 128) (φ := φ) (broadcastTo ⟨2, ![m, 128]⟩ x e) (fun _ j => f 0 j) := fun i j => by
  rw [broadcastTo_apply x e (ix2 i j) (ix2 0 j)]
  · exact h 0 j
  · intro a
    match a with
    | ⟨0, _⟩ => rfl
    | ⟨1, _⟩ => rfl

/-- Four square blocks side by side. -/
theorem cat4 {x0 x1 x2 x3 : FVec Ideal S128x128 φ} {f : ℕ → ℕ → ℕ → ℝ} (h0 : R2 x0 (f 0)) (h1 : R2 x1 (f 1)) (h2 : R2 x2 (f 2)) (h3 : R2 x3 (f 3)) :
    R2 (a := 128) (b := 512) (φ := φ) (concatenate S128x512 1 [⟨S128x128, x0⟩, ⟨S128x128, x1⟩, ⟨S128x128, x2⟩, ⟨S128x128, x3⟩]
      concatenates_S128x128_S128x128_S128x128_S128x128_S128x512_d1) (fun i j => f (j / 128) i (j % 128)) := fun i j => by
  have hj := j.isLt
  have key : ∀ (n : ℕ) (hn : n < 4) (x : FVec Ideal S128x128 φ), [(⟨S128x128, x0⟩ : (s : Shape) × (s.Idx → Ideal φ)), ⟨S128x128, x1⟩, ⟨S128x128, x2⟩, ⟨S128x128, x3⟩][n]'hn = ⟨S128x128, x⟩ →
      R2 x (f n) → j.val / 128 = n → concatenate S128x512 1 [⟨S128x128, x0⟩, ⟨S128x128, x1⟩, ⟨S128x128, x2⟩, ⟨S128x128, x3⟩]
      concatenates_S128x128_S128x128_S128x128_S128x128_S128x512_d1 (ix2 i j) = ((f (j.val / 128) i.val (j.val % 128) : ℝ) : EReal) := by
    intro n hn x hx h hjn
    rw [concatenate_apply_piece 1 [⟨S128x128, x0⟩, ⟨S128x128, x1⟩, ⟨S128x128, x2⟩, ⟨S128x128, x3⟩] _ (ix2 i j) n hn S128x128 x hx rfl (128 * n) (by interval_cases n <;> rfl) (ix2 i ⟨j.val % 128, Nat.mod_lt _ (by decide)⟩)]
    · rw [hjn]; exact h _ _
    · intro b hb
      match b with
      | ⟨0, _⟩ => rfl
      | ⟨1, _⟩ => exact absurd rfl hb
    · show 128 * n + j.val % 128 = j.val
      omega
  have : j.val / 128 = 0 ∨ j.val / 128 = 1 ∨ j.val / 128 = 2 ∨ j.val / 128 = 3 := by omega
  rcases this with h | h | h | h
  · exact key 0 (by decide) x0 rfl h0 h
  · exact key 1 (by decide) x1 rfl h1 h
  · exact key 2 (by decide) x2 rfl h2 h
  · exact key 3 (by decide) x3 rfl h3 h

/-- Two square blocks one above the other. -/
theorem stack {x0 x1 : FVec Ideal S128x128 .f32} {f : ℕ → ℕ → ℕ → ℝ} (h0 : R2 x0 (f 0)) (h1 : R2 x1 (f 1)) :
    R2 (a := 256) (b := 128) (φ := .f32) (Head.stack x0 x1) (fun i j => f (i / 128) (i % 128) j) := fun i j => by
  have hj := i.isLt
  unfold Head.stack
  have key : ∀ (n : ℕ) (hn : n < 2) (x : FVec Ideal S128x128 .f32), [(⟨S128x128, x0⟩ : (s : Shape) × (s.Idx → Ideal .f32)), ⟨S128x128, x1⟩][n]'hn = ⟨S128x128, x⟩ →
      R2 x (f n) → i.val / 128 = n → concatenate S256x128 0 [⟨S128x128, x0⟩, ⟨S128x128, x1⟩]
      concatenates_S128x128_S128x128_S256x128_d0 (ix2 i j) = ((f (i.val / 128) (i.val % 128) j.val : ℝ) : EReal) := by
    intro n hn x hx h hjn
    rw [concatenate_apply_piece 0 [⟨S128x128, x0⟩, ⟨S128x128, x1⟩] _ (ix2 i j) n hn S128x128 x hx rfl (128 * n) (by interval_cases n <;> rfl) (ix2 ⟨i.val % 128, Nat.mod_lt _ (by decide)⟩ j)]
    · rw [hjn]; exact h _ _
    · intro b hb
      match b with
      | ⟨0, _⟩ => exact absurd rfl hb
      | ⟨1, _⟩ => rfl
    · show 128 * n + i.val % 128 = i.val
      omega
  have : i.val / 128 = 0 ∨ i.val / 128 = 1 := by omega
  rcases this with h | h
  · exact key 0 (by decide) x0 rfl h0 h
  · exact key 1 (by decide) x1 rfl h1 h

/-- Eight blocks of 32 rows one above the other. -/
theorem cat8 (x : Fin 8 → FVec Ideal S32x128 .f32) {f : ℕ → ℕ → ℕ → ℝ} (h : ∀ n, R2 (a := 32) (b := 128) (φ := .f32) (x n) (f n.val)) :
    R2 (a := 256) (b := 128) (φ := .f32) (concatenate S256x128 0 [⟨S32x128, x 0⟩, ⟨S32x128, x 1⟩, ⟨S32x128, x 2⟩, ⟨S32x128, x 3⟩, ⟨S32x128, x 4⟩, ⟨S32x128, x 5⟩, ⟨S32x128, x 6⟩, ⟨S32x128, x 7⟩]
      concatenates_S32x128_S32x128_S32x128_S32x128_S32x128_S32x128_S32x128_S32x128_S256x128_d0) (fun i j => f (i / 32) (i % 32) j) := fun i j => by
  have hj := i.isLt
  have hn : i.val / 32 < 8 := by omega
  rw [concatenate_apply_piece 0 [⟨S32x128, x 0⟩, ⟨S32x128, x 1⟩, ⟨S32x128, x 2⟩, ⟨S32x128, x 3⟩, ⟨S32x128, x 4⟩, ⟨S32x128, x 5⟩, ⟨S32x128, x 6⟩, ⟨S32x128, x 7⟩] _ (ix2 i j) (i.val / 32) hn S32x128 (x ⟨i.val / 32, hn⟩) (by
      generalize i.val / 32 = n at hn
      interval_cases n <;> rfl) rfl (32 * (i.val / 32)) (by
      generalize i.val / 32 = n at hn
      interval_cases n <;> rfl) (ix2 ⟨i.val % 32, Nat.mod_lt _ (by decide)⟩ j)]
  · exact h _ _ _
  · intro b hb
    match b with
    | ⟨0, _⟩ => exact absurd rfl hb
    | ⟨1, _⟩ => rfl
  · show 32 * (i.val / 32) + i.val % 32 = i.val
    omega
end layout

/-! Masks. -/

theorem ofNat_eq (x y : ℕ) (hx : x < 8) (hy : y < 8) :
    IntOp.cmpi .eq (BitVec.ofNat 32 x) (BitVec.ofNat 32 y) = if x = y then 1#1 else 0#1 := by
  interval_cases x <;> interval_cases y <;> rfl
theorem shr5 : ∀ i : Fin 128, IntOp.shrsi .vector (BitVec.ofNat 32 i.val) 5#32 = BitVec.ofNat 32 (i.val / 32) := by decide +kernel
theorem shr7 : ∀ i : Fin 512, IntOp.shrsi .vector (BitVec.ofNat 32 i.val) 7#32 = BitVec.ofNat 32 (i.val / 128) := by decide +kernel
theorem and31 : ∀ i : Fin 256, IntOp.andi (BitVec.ofNat 32 i.val) 31#32 = BitVec.ofNat 32 (i.val % 32) := by decide +kernel
theorem sge_small : ∀ (x n : Fin 128), IntOp.cmpi .sge (BitVec.ofNat 32 x.val) (BitVec.ofNat 32 n.val) = if n.val ≤ x.val then 1#1 else 0#1 := by decide +kernel
theorem sle_small : ∀ (x n : Fin 128), IntOp.cmpi .sle (BitVec.ofNat 32 x.val) (BitVec.ofNat 32 n.val) = if x.val ≤ n.val then 1#1 else 0#1 := by decide +kernel
theorem and1 (P Q : Prop) [Decidable P] [Decidable Q] :
    IntOp.andi (if P then 1#1 else 0#1) (if Q then 1#1 else 0#1) = if P ∧ Q then 1#1 else 0#1 := by
  by_cases hP : P <;> by_cases hQ : Q <;> simp [hP, hQ] <;> rfl

theorem same_apply (i j : Fin 128) : Head.same (ix2 i j) = if i.val / 32 = j.val / 32 then 1#1 else 0#1 := by
  show IntOp.cmpi .eq (IntOp.shrsi .vector (BitVec.ofNat 32 (0 * 128 + i.val)) 5#32) (IntOp.shrsi .vector (BitVec.ofNat 32 (0 * 128 + j.val)) 5#32) = _
  rw [Nat.zero_mul, Nat.zero_add, Nat.zero_add, shr5, shr5, ofNat_eq _ _ (by omega) (by omega)]
theorem mask_apply (i j : Fin 128) : Head.mask (ix2 i j) = if i.val / 32 = j.val / 32 ∧ j.val ≤ i.val then 1#1 else 0#1 := by
  show IntOp.andi (Head.same (ix2 i j)) (IntOp.cmpi .sge (BitVec.ofNat 32 (0 * 128 + i.val)) (BitVec.ofNat 32 (0 * 128 + j.val))) = _
  rw [Nat.zero_mul, Nat.zero_add, Nat.zero_add, same_apply, sge_small, and1]
theorem maskT_apply (i j : Fin 128) : Head.maskT (ix2 i j) = if i.val / 32 = j.val / 32 ∧ i.val ≤ j.val then 1#1 else 0#1 := by
  show IntOp.andi (Head.same (ix2 i j)) (IntOp.cmpi .sle (BitVec.ofNat 32 (0 * 128 + i.val)) (BitVec.ofNat 32 (0 * 128 + j.val))) = _
  rw [Nat.zero_mul, Nat.zero_add, Nat.zero_add, same_apply, sle_small, and1]
theorem mexp_apply (i : Fin 128) (j : Fin 512) : Head.mexp (ix2 i j) = if i.val / 32 = j.val / 128 then 1#1 else 0#1 := by
  show IntOp.cmpi .eq (IntOp.shrsi .vector (BitVec.ofNat 32 (0 * 128 + i.val)) 5#32) (IntOp.shrsi .vector (BitVec.ofNat 32 (0 * 512 + j.val)) 7#32) = _
  rw [Nat.zero_mul, Nat.zero_add, Nat.zero_add, shr5, shr7, ofNat_eq _ _ (by omega) (by omega)]
theorem rin_apply (i : Fin 256) (j : Fin 128) : Head.rin (ix2 i j) = BitVec.ofNat 32 (i.val % 32) := by
  show IntOp.andi (BitVec.ofNat 32 (0 * 256 + i.val)) 31#32 = _
  rw [Nat.zero_mul, Nat.zero_add, and31]

end Lift
-- ==== Proof.Blocks.lean ====
/- What one grid point's run leaves in each output block and in the carried scratch, as functions of the
   blocks it was given: head by head. -/
module

public import proofs.«01_k».proof.Proof.Pieces
public import proofs.«01_k».proof.Proof.Gen.KernelIdeal.Frame
public import proofs.«01_k».proof.Proof.Lift
public import Idealize.ShloMosaic.Lib.Pipeline.ValueKit
public import Idealize.ShloMosaic.Lib.Pipeline.ReadBack

@[expose] public section

set_option maxRecDepth 16384

noncomputable section

namespace Head

open Cert.KernelIdeal Cert.KernelIdeal.Gen Idealize.ShloMosaic.TcCoe Idealize.ShloMosaic.ValueIdx Idealize.SL.Sem
open Idealize.ShloMosaic hiding ix0 ix1 ix2 ix3 ix4 ix5 eq_ix1 eq_ix2 eq_ix3 eq_ix4

variable {F : FTy → Type} [FloatOps F]

/-! ## Head `h` of a block -/

abbrev r4 (h : Fin 8) : Rect S1x8x256x128 := Rect.unit (s := S1x8x256x128) ![0, h.val, 0, 0] S1x1x256x128.size (in4 h)
abbrev r5 (h : Fin 8) : Rect S1x1x8x256x128 := Rect.unit (s := S1x1x8x256x128) ![0, 0, h.val, 0, 0] S1x1x1x256x128.size (in5 h)
abbrev rS (h : Fin 8) : Rect S1x8x1x128x128 := Rect.unit (s := S1x8x1x128x128) ![0, h.val, 0, 0, 0] S1x1x1x128x128.size (inS h)
abbrev rD (h : Fin 8) : Rect S8x128x128 := Rect.unit (s := S8x128x128) ![h.val, 0, 0] S1x128x128.size (inD h)
abbrev rV (h : Fin 8) (s : Fin 2) : Rect S1x8x256x128 := Rect.unit (s := S1x8x256x128) ![0, h.val, 128 * s.val, 0] S1x1x128x128.size (inV h s)

def cut4 {φ : FTy} (x : FVec F S1x8x256x128 φ) (h : Fin 8) : FVec F S1x1x256x128 φ := fun j => x ((r4 h).idx j)
def cut5 {φ : FTy} (x : FVec F S1x1x8x256x128 φ) (h : Fin 8) : FVec F S1x1x1x256x128 φ := fun j => x ((r5 h).idx j)
def cutS {φ : FTy} (x : FVec F S1x8x1x128x128 φ) (h : Fin 8) : FVec F S1x1x1x128x128 φ := fun j => x ((rS h).idx j)
def cutD {φ : FTy} (x : FVec F S8x128x128 φ) (h : Fin 8) : FVec F S1x128x128 φ := fun j => x ((rD h).idx j)

theorem cutD_apply (x : Vec F S8x128x128 .f32) (h : Fin 8) (j : S1x128x128.Idx) : cutD (φ := .f32) x h j = x ((rD h).idx j) := rfl

section
variable (arg3 : Memref sig .tc .vmem S1x8x256x128 .f32) (harg3 : arg3.IsWhole) (arg4 : Memref sig .tc .vmem S1x1x8x256x128 .f32) (harg4 : arg4.IsWhole) (arg5 : Memref sig .tc .vmem S1x8x256x128 .bf16) (harg5 : arg5.IsWhole) (arg7 : Memref sig .tc .vmem S1x8x1x128x128 .f32) (harg7 : arg7.IsWhole) (arg13 : Memref sig .tc .vmem S8x128x128 .f32) (harg13 : arg13.IsWhole)
  (x0 : Vec F S1x8x256x128 .f32) (x1 : Vec F S1x1x8x256x128 .f32) (x2 : Vec F S1x8x256x128 .bf16) (x4 : Vec F S1x8x1x128x128 .f32) (xs0 : Vec F S8x128x128 .f32) (h : Fin 8)

theorem lq_eq : lq arg3 harg3 x0 h = cut4 x0 h := by unfold lq cut4; rw [View.readAt_eq_ld, harg3.read_unread]; rfl
theorem lk_eq : lk arg4 harg4 x1 h = cut5 x1 h := by unfold lk cut5; rw [View.readAt_eq_ld, harg4.read_unread]; rfl
theorem lv_eq : lv arg5 harg5 x2 h = cut4 x2 h := by unfold lv cut4; rw [View.readAt_eq_ld, harg5.read_unread]; rfl
theorem lg_eq : lg arg4 harg4 x1 h = cut5 x1 h := by unfold lg cut5; rw [View.readAt_eq_ld, harg4.read_unread]; rfl
theorem ls_eq : ls arg7 harg7 x4 h = cutS x4 h := by unfold ls cutS; rw [View.readAt_eq_ld, harg7.read_unread]; rfl
theorem lo_eq : lo arg5 harg5 x2 h = cut4 x2 h := by unfold lo cut4; rw [View.readAt_eq_ld, harg5.read_unread]; rfl
theorem ld_eq : ld arg13 harg13 xs0 h = cutD xs0 h := by unfold ld cutD; rw [View.readAt_eq_ld, harg13.read_unread]; rfl
end

/-! ## Blocks assembled from heads -/

def asm4 {φ : FTy} (f : Fin 8 → FVec F S1x1x256x128 φ) : FVec F S1x8x256x128 φ := fun y => f (y 1) (ix4 0 0 (y 2) (y 3))
def asmV {φ : FTy} (f : Fin 8 → Fin 2 → FVec F S1x1x128x128 φ) : FVec F S1x8x256x128 φ := fun y =>
  f (y 1) ⟨(y 2).val / 128, Nat.div_lt_of_lt_mul (y 2).isLt⟩ (ix4 0 0 ⟨(y 2).val % 128, Nat.mod_lt _ (by decide)⟩ (y 3))
def asmD {φ : FTy} (f : Fin 8 → FVec F S1x128x128 φ) : FVec F S8x128x128 φ := fun y => f (y 0) (ix3 0 (y 1) (y 2))

theorem asm4_emb {φ : FTy} (f : Fin 8 → FVec F S1x1x256x128 φ) (h : Fin 8) (x : S1x1x256x128.Idx) : f h x = asm4 f ((r4 h).emb x) := by
  have e (a : Fin 4) : ((r4 h).emb x a : ℕ) = (![0, h.val, 0, 0] : Fin 4 → ℕ) a + x a := ValueKit.rect_emb_unit_val (s := S1x8x256x128) _ _ _ x a
  have h1 : (r4 h).emb x 1 = h := Fin.ext ((e 1).trans (by have := (x 1).isLt; show h.val + (x 1).val = h.val; have : (x 1).val < 1 := this; omega))
  have h2 : (r4 h).emb x 2 = (x 2 : Fin 256) := Fin.ext ((e 2).trans (Nat.zero_add _))
  have h3 : (r4 h).emb x 3 = (x 3 : Fin 128) := Fin.ext ((e 3).trans (Nat.zero_add _))
  unfold asm4
  rw [h1, h2, h3]
  congr 1
  rw [eq_ix4 x]
  congr 1
  · exact Subsingleton.elim (α := Fin 1) _ _
  · exact Subsingleton.elim (α := Fin 1) _ _

theorem asmV_emb {φ : FTy} (f : Fin 8 → Fin 2 → FVec F S1x1x128x128 φ) (h : Fin 8) (s : Fin 2) (x : S1x1x128x128.Idx) : f h s x = asmV f ((rV h s).emb x) := by
  have e (a : Fin 4) : ((rV h s).emb x a : ℕ) = (![0, h.val, 128 * s.val, 0] : Fin 4 → ℕ) a + x a := ValueKit.rect_emb_unit_val (s := S1x8x256x128) _ _ _ x a
  have h1 : (rV h s).emb x 1 = h := Fin.ext ((e 1).trans (by have := (x 1).isLt; show h.val + (x 1).val = h.val; have : (x 1).val < 1 := this; omega))
  have h2 : ((rV h s).emb x 2).val = 128 * s.val + (x 2).val := e 2
  have h3 : (rV h s).emb x 3 = (x 3 : Fin 128) := Fin.ext ((e 3).trans (Nat.zero_add _))
  have hx : (x 2).val < 128 := (x 2).isLt
  unfold asmV
  rw [h1, h3]
  have ed : (⟨((rV h s).emb x 2).val / 128, Nat.div_lt_of_lt_mul ((rV h s).emb x 2).isLt⟩ : Fin 2) = s := Fin.ext (by show ((rV h s).emb x 2).val / 128 = s.val; rw [h2]; omega)
  have em : (⟨((rV h s).emb x 2).val % 128, Nat.mod_lt _ (by decide)⟩ : Fin 128) = x 2 := Fin.ext (by show ((rV h s).emb x 2).val % 128 = (x 2).val; rw [h2]; omega)
  rw [ed, em]
  congr 1
  rw [eq_ix4 x]
  congr 1
  · exact Subsingleton.elim (α := Fin 1) _ _
  · exact Subsingleton.elim (α := Fin 1) _ _

theorem asmD_emb {φ : FTy} (f : Fin 8 → FVec F S1x128x128 φ) (h : Fin 8) (x : S1x128x128.Idx) : f h x = asmD f ((rD h).emb x) := by
  have e (a : Fin 3) : ((rD h).emb x a : ℕ) = (![h.val, 0, 0] : Fin 3 → ℕ) a + x a := ValueKit.rect_emb_unit_val (s := S8x128x128) _ _ _ x a
  have h1 : (rD h).emb x 0 = h := Fin.ext ((e 0).trans (by have := (x 0).isLt; show h.val + (x 0).val = h.val; have : (x 0).val < 1 := this; omega))
  have h2 : (rD h).emb x 1 = (x 1 : Fin 128) := Fin.ext ((e 1).trans (Nat.zero_add _))
  have h3 : (rD h).emb x 2 = (x 2 : Fin 128) := Fin.ext ((e 2).trans (Nat.zero_add _))
  unfold asmD
  rw [h1, h2, h3]
  congr 1
  rw [eq_ix3 x]
  congr 1
  exact Subsingleton.elim (α := Fin 1) _ _

/-! ## What a point leaves -/

section
variable (lat : BitVec 1) (x0 : Vec F S1x8x256x128 .f32) (x1 : Vec F S1x1x8x256x128 .f32) (x2 : Vec F S1x8x256x128 .bf16) (x3 : Vec F S1x1x8x256x128 .f32) (x4 : Vec F S1x8x1x128x128 .f32) (x5 : Vec F S1x8x256x128 .bf16) (xs : Vec F S8x128x128 .f32)

def blkQ : Vec F S1x8x256x128 .bf16 := asm4 fun h => outQ lat (cut5 x1 h) (cut5 x3 h) (cut4 x2 h) (cut4 x5 h) (cutS x4 h)
def blkK : Vec F S1x8x256x128 .bf16 := asm4 fun h => outK lat (cut4 x0 h) (cut5 x3 h) (cut4 x2 h) (cut4 x5 h) (cutD xs h)
def blkV : Vec F S1x8x256x128 .bf16 := asmV fun h => dvS lat (cut4 x0 h) (cut5 x1 h) (cut5 x3 h) (cut4 x5 h) (cutD xs h)
def blkG : Vec F S1x8x256x128 .bf16 := asm4 fun h => outG lat (cut4 x0 h) (cut5 x1 h) (cut5 x3 h) (cut4 x2 h) (cut4 x5 h) (cutS x4 h) (cutD xs h)
def blkD : Vec F S8x128x128 .f32 := asmD fun h => outD lat (cut4 x0 h) (cut5 x3 h) (cut4 x5 h) (cutD xs h)
end

/-- Pieces of one array that cover it leave it. -/
theorem canon_all {s : Shape} {e : EltTy} (G : s.Idx → Elt F e) (L : List (View.Piece (Elt F) s e)) (h : View.PiecesOf G L)
    (hc : ∀ y, ∃ p ∈ L, y ∈ p.1.set) : View.canon L = G :=
  funext fun y => by
    have := View.canon_append_of_piecesOf G [] L h y (hc y)
    rwa [List.append_nil] at this

/-- The zero block of the first point's fill. -/
def zeroD : Vec F S8x128x128 .f32 := k0_pay2

section B
variable (c : Dev nD) (i : grid0.Coords) (arg3 : Memref sig .tc .vmem S1x8x256x128 .f32) (harg3 : arg3.IsWhole) (arg4 : Memref sig .tc .vmem S1x1x8x256x128 .f32) (harg4 : arg4.IsWhole) (arg5 : Memref sig .tc .vmem S1x8x256x128 .bf16) (harg5 : arg5.IsWhole) (arg6 : Memref sig .tc .vmem S1x1x8x256x128 .f32) (harg6 : arg6.IsWhole) (arg7 : Memref sig .tc .vmem S1x8x1x128x128 .f32) (harg7 : arg7.IsWhole) (arg8 : Memref sig .tc .vmem S1x8x256x128 .bf16) (harg8 : arg8.IsWhole) (arg9 : Memref sig .tc .vmem S1x8x256x128 .bf16) (harg9 : arg9.IsWhole) (arg10 : Memref sig .tc .vmem S1x8x256x128 .bf16) (harg10 : arg10.IsWhole) (arg11 : Memref sig .tc .vmem S1x8x256x128 .bf16) (harg11 : arg11.IsWhole) (arg12 : Memref sig .tc .vmem S1x8x256x128 .bf16) (harg12 : arg12.IsWhole) (arg13 : Memref sig .tc .vmem S8x128x128 .f32) (harg13 : arg13.IsWhole) (hc0 : ¬cond0_0 i)
  (x0 : Vec F S1x8x256x128 .f32) (x1 : Vec F S1x1x8x256x128 .f32) (x2 : Vec F S1x8x256x128 .bf16) (x3 : Vec F S1x1x8x256x128 .f32) (x4 : Vec F S1x8x1x128x128 .f32) (x5 : Vec F S1x8x256x128 .bf16) (xs0 : Vec F S8x128x128 .f32)

theorem b_Q : out0_B_6 c i arg3 harg3 arg4 harg4 arg5 harg5 arg6 harg6 arg7 harg7 arg8 harg8 arg9 harg9 arg10 harg10 arg11 harg11 arg12 harg12 arg13 harg13 hc0 x0 x1 x2 x3 x4 x5 xs0 = blkQ (kernelRun0_B.sl.v4 i) x1 x2 x3 x4 x5 := by
  have hp (h : Fin 8) (x : (r4 h).shape.Idx) : (pQ i arg4 harg4 arg5 harg5 arg6 harg6 arg7 harg7 arg8 harg8 x1 x2 x3 x4 x5 h).2 x = blkQ (kernelRun0_B.sl.v4 i) x1 x2 x3 x4 x5 ((r4 h).emb x) := by
    unfold pQ blkQ; dsimp only; simp only [lk_eq, lg_eq, lv_eq, lo_eq, ls_eq]; exact asm4_emb (fun h => outQ (kernelRun0_B.sl.v4 i) (cut5 x1 h) (cut5 x3 h) (cut4 x2 h) (cut4 x5 h) (cutS x4 h)) h x
  unfold out0_B_6
  rw [View.read_writes_junk_eq_canon]
  refine canon_all _ _ ?_ (cover0_B_6 c i arg3 harg3 arg4 harg4 arg5 harg5 arg6 harg6 arg7 harg7 arg8 harg8 arg9 harg9 arg10 harg10 arg11 harg11 arg12 harg12 arg13 harg13 hc0 x0 x1 x2 x3 x4 x5 xs0)
  rw [runB_Q]
  exact ⟨hp 7, hp 6, hp 5, hp 4, hp 3, hp 2, hp 1, hp 0, trivial⟩

theorem b_K : out0_B_7 c i arg3 harg3 arg4 harg4 arg5 harg5 arg6 harg6 arg7 harg7 arg8 harg8 arg9 harg9 arg10 harg10 arg11 harg11 arg12 harg12 arg13 harg13 hc0 x0 x1 x2 x3 x4 x5 xs0 = blkK (kernelRun0_B.sl.v4 i) x0 x2 x3 x5 xs0 := by
  have hp (h : Fin 8) (x : (r4 h).shape.Idx) : (pK i arg3 harg3 arg5 harg5 arg6 harg6 arg8 harg8 x0 x2 x3 x5 (ld arg13 harg13 xs0) h).2 x = blkK (kernelRun0_B.sl.v4 i) x0 x2 x3 x5 xs0 ((r4 h).emb x) := by
    unfold pK blkK; dsimp only; simp only [lq_eq, lg_eq, lv_eq, lo_eq, ld_eq]; exact asm4_emb (fun h => outK (kernelRun0_B.sl.v4 i) (cut4 x0 h) (cut5 x3 h) (cut4 x2 h) (cut4 x5 h) (cutD xs0 h)) h x
  unfold out0_B_7
  rw [View.read_writes_junk_eq_canon]
  refine canon_all _ _ ?_ (cover0_B_7 c i arg3 harg3 arg4 harg4 arg5 harg5 arg6 harg6 arg7 harg7 arg8 harg8 arg9 harg9 arg10 harg10 arg11 harg11 arg12 harg12 arg13 harg13 hc0 x0 x1 x2 x3 x4 x5 xs0)
  rw [runB_K]
  exact ⟨hp 7, hp 6, hp 5, hp 4, hp 3, hp 2, hp 1, hp 0, trivial⟩

theorem b_V : out0_B_8 c i arg3 harg3 arg4 harg4 arg5 harg5 arg6 harg6 arg7 harg7 arg8 harg8 arg9 harg9 arg10 harg10 arg11 harg11 arg12 harg12 arg13 harg13 hc0 x0 x1 x2 x3 x4 x5 xs0 = blkV (kernelRun0_B.sl.v4 i) x0 x1 x3 x5 xs0 := by
  have hp (h : Fin 8) (s : Fin 2) (x : (rV h s).shape.Idx) : (pV i arg3 harg3 arg4 harg4 arg6 harg6 arg8 harg8 x0 x1 x3 x5 (ld arg13 harg13 xs0) h s).2 x = blkV (kernelRun0_B.sl.v4 i) x0 x1 x3 x5 xs0 ((rV h s).emb x) := by
    unfold pV blkV; dsimp only; simp only [lq_eq, lk_eq, lg_eq, lo_eq, ld_eq]; exact asmV_emb (fun h => dvS (kernelRun0_B.sl.v4 i) (cut4 x0 h) (cut5 x1 h) (cut5 x3 h) (cut4 x5 h) (cutD xs0 h)) h s x
  unfold out0_B_8
  rw [View.read_writes_junk_eq_canon]
  refine canon_all _ _ ?_ (cover0_B_8 c i arg3 harg3 arg4 harg4 arg5 harg5 arg6 harg6 arg7 harg7 arg8 harg8 arg9 harg9 arg10 harg10 arg11 harg11 arg12 harg12 arg13 harg13 hc0 x0 x1 x2 x3 x4 x5 xs0)
  rw [runB_V]
  exact ⟨hp 7 1, hp 7 0, hp 6 1, hp 6 0, hp 5 1, hp 5 0, hp 4 1, hp 4 0, hp 3 1, hp 3 0, hp 2 1, hp 2 0, hp 1 1, hp 1 0, hp 0 1, hp 0 0, trivial⟩

theorem b_G : out0_B_9 c i arg3 harg3 arg4 harg4 arg5 harg5 arg6 harg6 arg7 harg7 arg8 harg8 arg9 harg9 arg10 harg10 arg11 harg11 arg12 harg12 arg13 harg13 hc0 x0 x1 x2 x3 x4 x5 xs0 = blkG (kernelRun0_B.sl.v4 i) x0 x1 x2 x3 x4 x5 xs0 := by
  have hp (h : Fin 8) (x : (r4 h).shape.Idx) : (pG i arg3 harg3 arg4 harg4 arg5 harg5 arg6 harg6 arg7 harg7 arg8 harg8 x0 x1 x2 x3 x4 x5 (ld arg13 harg13 xs0) h).2 x = blkG (kernelRun0_B.sl.v4 i) x0 x1 x2 x3 x4 x5 xs0 ((r4 h).emb x) := by
    unfold pG blkG; dsimp only; simp only [lq_eq, lk_eq, lg_eq, lv_eq, lo_eq, ls_eq, ld_eq]; exact asm4_emb (fun h => outG (kernelRun0_B.sl.v4 i) (cut4 x0 h) (cut5 x1 h) (cut5 x3 h) (cut4 x2 h) (cut4 x5 h) (cutS x4 h) (cutD xs0 h)) h x
  unfold out0_B_9
  rw [View.read_writes_junk_eq_canon]
  refine canon_all _ _ ?_ (cover0_B_9 c i arg3 harg3 arg4 harg4 arg5 harg5 arg6 harg6 arg7 harg7 arg8 harg8 arg9 harg9 arg10 harg10 arg11 harg11 arg12 harg12 arg13 harg13 hc0 x0 x1 x2 x3 x4 x5 xs0)
  rw [runB_G]
  exact ⟨hp 7, hp 6, hp 5, hp 4, hp 3, hp 2, hp 1, hp 0, trivial⟩

theorem b_D : sout0_B_0 c i arg3 harg3 arg4 harg4 arg5 harg5 arg6 harg6 arg7 harg7 arg8 harg8 arg9 harg9 arg10 harg10 arg11 harg11 arg12 harg12 arg13 harg13 hc0 x0 x1 x2 x3 x4 x5 xs0 = blkD (kernelRun0_B.sl.v4 i) x0 x3 x5 xs0 := by
  have hp (h : Fin 8) (x : (rD h).shape.Idx) : (pD i arg3 harg3 arg6 harg6 arg8 harg8 x0 x3 x5 (ld arg13 harg13 xs0) h).2 x = blkD (kernelRun0_B.sl.v4 i) x0 x3 x5 xs0 ((rD h).emb x) := by
    unfold pD blkD; dsimp only; simp only [lq_eq, lg_eq, lo_eq, ld_eq]; exact asmD_emb (fun h => outD (kernelRun0_B.sl.v4 i) (cut4 x0 h) (cut5 x3 h) (cut4 x5 h) (cutD xs0 h)) h x
  unfold sout0_B_0
  rw [View.read_writes_junk_eq_canon]
  refine canon_all _ _ ?_ (scover0_B_0 c i arg3 harg3 arg4 harg4 arg5 harg5 arg6 harg6 arg7 harg7 arg8 harg8 arg9 harg9 arg10 harg10 arg11 harg11 arg12 harg12 arg13 harg13 hc0 x0 x1 x2 x3 x4 x5 xs0)
  rw [runB_D]
  exact ⟨hp 7, hp 6, hp 5, hp 4, hp 3, hp 2, hp 1, hp 0, trivial⟩

end B

section A
variable (c : Dev nD) (i : grid0.Coords) (arg3 : Memref sig .tc .vmem S1x8x256x128 .f32) (harg3 : arg3.IsWhole) (arg4 : Memref sig .tc .vmem S1x1x8x256x128 .f32) (harg4 : arg4.IsWhole) (arg5 : Memref sig .tc .vmem S1x8x256x128 .bf16) (harg5 : arg5.IsWhole) (arg6 : Memref sig .tc .vmem S1x1x8x256x128 .f32) (harg6 : arg6.IsWhole) (arg7 : Memref sig .tc .vmem S1x8x1x128x128 .f32) (harg7 : arg7.IsWhole) (arg8 : Memref sig .tc .vmem S1x8x256x128 .bf16) (harg8 : arg8.IsWhole) (arg9 : Memref sig .tc .vmem S1x8x256x128 .bf16) (harg9 : arg9.IsWhole) (arg10 : Memref sig .tc .vmem S1x8x256x128 .bf16) (harg10 : arg10.IsWhole) (arg11 : Memref sig .tc .vmem S1x8x256x128 .bf16) (harg11 : arg11.IsWhole) (arg12 : Memref sig .tc .vmem S1x8x256x128 .bf16) (harg12 : arg12.IsWhole) (arg13 : Memref sig .tc .vmem S8x128x128 .f32) (harg13 : arg13.IsWhole) (hc0 : cond0_0 i)
  (x0 : Vec F S1x8x256x128 .f32) (x1 : Vec F S1x1x8x256x128 .f32) (x2 : Vec F S1x8x256x128 .bf16) (x3 : Vec F S1x1x8x256x128 .f32) (x4 : Vec F S1x8x1x128x128 .f32) (x5 : Vec F S1x8x256x128 .bf16)

theorem hz3 : (![0, 0, 0] : Fin 3 → ℕ) = fun _ => 0 := funext fun a => by match a with | ⟨0, _⟩ => rfl | ⟨1, _⟩ => rfl | ⟨2, _⟩ => rfl

/-- After `n` heads the scratch holds their new matrices, and zero in the heads after them. -/
theorem hist_eq : ∀ n ≤ 8, View.canon (hist arg3 harg3 arg6 harg6 arg8 harg8 arg13 x0 x3 x5 (kernelRun0_B.sl.v4 i) n)
    = fun y : S8x128x128.Idx => if (y 0).val < n then blkD (kernelRun0_B.sl.v4 i) x0 x3 x5 zeroD y else zeroD y
  | 0, _ => by
    funext y
    rw [if_neg (Nat.not_lt_zero _)]
    exact congrFun (View.canon_unit_zero (Val := Elt F) (e := .f32) (S := S8x128x128) hz3 inb_S8x128x128_S8x128x128_0_0_0 zeroD) y
  | n + 1, hn => by
    have ih := hist_eq n (by omega)
    obtain ⟨h, hh⟩ : ∃ h : Fin 8, h.val = n := ⟨⟨n, by omega⟩, rfl⟩
    have hm : h = (⟨n % 8, Nat.mod_lt _ (by decide)⟩ : Fin 8) := Fin.ext (by show h.val = n % 8; omega)
    have hd : arg13.view.readCov (hist arg3 harg3 arg6 harg6 arg8 harg8 arg13 x0 x3 x5 (kernelRun0_B.sl.v4 i) n) (rD h).toLoadRect = cutD zeroD h := by
      rw [View.readCov_eq_canon', ih]
      funext j
      have : ((rD h).toLoadRect.idx j 0).val = h.val + (j 0).val := Rect.idx_unit_val (s := S8x128x128) _ _ _ j 0
      exact (if_neg (not_lt.mpr (this ▸ (by omega)))).trans (cutD_apply zeroD h j).symm
    have hs : hist arg3 harg3 arg6 harg6 arg8 harg8 arg13 x0 x3 x5 (kernelRun0_B.sl.v4 i) (n + 1)
        = (⟨rD h, outD (kernelRun0_B.sl.v4 i) (cut4 x0 h) (cut5 x3 h) (cut4 x5 h) (cutD zeroD h)⟩ : View.Piece (Elt F) S8x128x128 .f32) :: hist arg3 harg3 arg6 harg6 arg8 harg8 arg13 x0 x3 x5 (kernelRun0_B.sl.v4 i) n := by
      rw [← hd, ← lq_eq arg3 harg3, ← lg_eq arg6 harg6, ← lo_eq arg8 harg8]
      subst hm
      rfl
    funext y
    rw [hs]
    by_cases hy : (y 0).val = n
    · have hmem : y ∈ (rD h).set := by
        rw [Rect.mem_set_unit]
        intro a
        match a with
        | ⟨0, _⟩ => show h.val ≤ (y 0).val ∧ (y 0).val < h.val + 1; omega
        | ⟨1, _⟩ => exact ⟨Nat.zero_le _, by show (y 1).val < 0 + 128; have : (y 1).val < 128 := (y 1).isLt; omega⟩
        | ⟨2, _⟩ => exact ⟨Nat.zero_le _, by show (y 2).val < 0 + 128; have : (y 2).val < 128 := (y 2).isLt; omega⟩
      obtain ⟨x, rfl⟩ := (rD h).exists_idx_of_mem hmem
      rw [if_pos (by omega)]
      exact (View.canon_cons_emb _ _ _ x).trans (asmD_emb (fun h => outD (kernelRun0_B.sl.v4 i) (cut4 x0 h) (cut5 x3 h) (cut4 x5 h) (cutD zeroD h)) h x)
    · rw [View.canon_cons_of_not_mem _ _ (by
        rw [Rect.mem_set_unit]
        intro hc
        have h0 : h.val ≤ (y 0).val ∧ (y 0).val < h.val + 1 := hc 0
        omega), ih]
      dsimp only
      by_cases hl : (y 0).val < n
      · rw [if_pos hl, if_pos (by omega)]
      · rw [if_neg hl, if_neg (by omega)]

theorem dlA_eq (h : Fin 8) : dlA arg3 harg3 arg6 harg6 arg8 harg8 arg13 x0 x3 x5 (kernelRun0_B.sl.v4 i) h = cutD zeroD h := by
  unfold dlA
  rw [View.readCov_eq_canon', hist_eq i arg3 harg3 arg6 harg6 arg8 harg8 arg13 x0 x3 x5 h.val (by omega)]
  funext j
  have : ((rD h).toLoadRect.idx j 0).val = h.val + (j 0).val := Rect.idx_unit_val (s := S8x128x128) _ _ _ j 0
  exact (if_neg (not_lt.mpr (this ▸ (by omega)))).trans (cutD_apply zeroD h j).symm

theorem a_Q : out0_A_6 c i arg3 harg3 arg4 harg4 arg5 harg5 arg6 harg6 arg7 harg7 arg8 harg8 arg9 harg9 arg10 harg10 arg11 harg11 arg12 harg12 arg13 harg13 hc0 x0 x1 x2 x3 x4 x5 = blkQ (kernelRun0_B.sl.v4 i) x1 x2 x3 x4 x5 := by
  have hp (h : Fin 8) (x : (r4 h).shape.Idx) : (pQ i arg4 harg4 arg5 harg5 arg6 harg6 arg7 harg7 arg8 harg8 x1 x2 x3 x4 x5 h).2 x = blkQ (kernelRun0_B.sl.v4 i) x1 x2 x3 x4 x5 ((r4 h).emb x) := by
    unfold pQ blkQ; dsimp only; simp only [lk_eq, lg_eq, lv_eq, lo_eq, ls_eq]; exact asm4_emb (fun h => outQ (kernelRun0_B.sl.v4 i) (cut5 x1 h) (cut5 x3 h) (cut4 x2 h) (cut4 x5 h) (cutS x4 h)) h x
  unfold out0_A_6
  rw [View.read_writes_junk_eq_canon]
  refine canon_all _ _ ?_ (cover0_A_6 c i arg3 harg3 arg4 harg4 arg5 harg5 arg6 harg6 arg7 harg7 arg8 harg8 arg9 harg9 arg10 harg10 arg11 harg11 arg12 harg12 arg13 harg13 hc0 x0 x1 x2 x3 x4 x5)
  rw [runA_Q]
  exact ⟨hp 7, hp 6, hp 5, hp 4, hp 3, hp 2, hp 1, hp 0, trivial⟩

theorem a_K : out0_A_7 c i arg3 harg3 arg4 harg4 arg5 harg5 arg6 harg6 arg7 harg7 arg8 harg8 arg9 harg9 arg10 harg10 arg11 harg11 arg12 harg12 arg13 harg13 hc0 x0 x1 x2 x3 x4 x5 = blkK (kernelRun0_B.sl.v4 i) x0 x2 x3 x5 zeroD := by
  have hp (h : Fin 8) (x : (r4 h).shape.Idx) : (pK i arg3 harg3 arg5 harg5 arg6 harg6 arg8 harg8 x0 x2 x3 x5 (dlA arg3 harg3 arg6 harg6 arg8 harg8 arg13 x0 x3 x5 (kernelRun0_B.sl.v4 i)) h).2 x = blkK (kernelRun0_B.sl.v4 i) x0 x2 x3 x5 zeroD ((r4 h).emb x) := by
    unfold pK blkK; dsimp only; simp only [lq_eq, lg_eq, lv_eq, lo_eq, dlA_eq]; exact asm4_emb (fun h => outK (kernelRun0_B.sl.v4 i) (cut4 x0 h) (cut5 x3 h) (cut4 x2 h) (cut4 x5 h) (cutD zeroD h)) h x
  unfold out0_A_7
  rw [View.read_writes_junk_eq_canon]
  refine canon_all _ _ ?_ (cover0_A_7 c i arg3 harg3 arg4 harg4 arg5 harg5 arg6 harg6 arg7 harg7 arg8 harg8 arg9 harg9 arg10 harg10 arg11 harg11 arg12 harg12 arg13 harg13 hc0 x0 x1 x2 x3 x4 x5)
  rw [runA_K]
  exact ⟨hp 7, hp 6, hp 5, hp 4, hp 3, hp 2, hp 1, hp 0, trivial⟩

theorem a_V : out0_A_8 c i arg3 harg3 arg4 harg4 arg5 harg5 arg6 harg6 arg7 harg7 arg8 harg8 arg9 harg9 arg10 harg10 arg11 harg11 arg12 harg12 arg13 harg13 hc0 x0 x1 x2 x3 x4 x5 = blkV (kernelRun0_B.sl.v4 i) x0 x1 x3 x5 zeroD := by
  have hp (h : Fin 8) (s : Fin 2) (x : (rV h s).shape.Idx) : (pV i arg3 harg3 arg4 harg4 arg6 harg6 arg8 harg8 x0 x1 x3 x5 (dlA arg3 harg3 arg6 harg6 arg8 harg8 arg13 x0 x3 x5 (kernelRun0_B.sl.v4 i)) h s).2 x = blkV (kernelRun0_B.sl.v4 i) x0 x1 x3 x5 zeroD ((rV h s).emb x) := by
    unfold pV blkV; dsimp only; simp only [lq_eq, lk_eq, lg_eq, lo_eq, dlA_eq]; exact asmV_emb (fun h => dvS (kernelRun0_B.sl.v4 i) (cut4 x0 h) (cut5 x1 h) (cut5 x3 h) (cut4 x5 h) (cutD zeroD h)) h s x
  unfold out0_A_8
  rw [View.read_writes_junk_eq_canon]
  refine canon_all _ _ ?_ (cover0_A_8 c i arg3 harg3 arg4 harg4 arg5 harg5 arg6 harg6 arg7 harg7 arg8 harg8 arg9 harg9 arg10 harg10 arg11 harg11 arg12 harg12 arg13 harg13 hc0 x0 x1 x2 x3 x4 x5)
  rw [runA_V]
  exact ⟨hp 7 1, hp 7 0, hp 6 1, hp 6 0, hp 5 1, hp 5 0, hp 4 1, hp 4 0, hp 3 1, hp 3 0, hp 2 1, hp 2 0, hp 1 1, hp 1 0, hp 0 1, hp 0 0, trivial⟩

theorem a_G : out0_A_9 c i arg3 harg3 arg4 harg4 arg5 harg5 arg6 harg6 arg7 harg7 arg8 harg8 arg9 harg9 arg10 harg10 arg11 harg11 arg12 harg12 arg13 harg13 hc0 x0 x1 x2 x3 x4 x5 = blkG (kernelRun0_B.sl.v4 i) x0 x1 x2 x3 x4 x5 zeroD := by
  have hp (h : Fin 8) (x : (r4 h).shape.Idx) : (pG i arg3 harg3 arg4 harg4 arg5 harg5 arg6 harg6 arg7 harg7 arg8 harg8 x0 x1 x2 x3 x4 x5 (dlA arg3 harg3 arg6 harg6 arg8 harg8 arg13 x0 x3 x5 (kernelRun0_B.sl.v4 i)) h).2 x = blkG (kernelRun0_B.sl.v4 i) x0 x1 x2 x3 x4 x5 zeroD ((r4 h).emb x) := by
    unfold pG blkG; dsimp only; simp only [lq_eq, lk_eq, lg_eq, lv_eq, lo_eq, ls_eq, dlA_eq]; exact asm4_emb (fun h => outG (kernelRun0_B.sl.v4 i) (cut4 x0 h) (cut5 x1 h) (cut5 x3 h) (cut4 x2 h) (cut4 x5 h) (cutS x4 h) (cutD zeroD h)) h x
  unfold out0_A_9
  rw [View.read_writes_junk_eq_canon]
  refine canon_all _ _ ?_ (cover0_A_9 c i arg3 harg3 arg4 harg4 arg5 harg5 arg6 harg6 arg7 harg7 arg8 harg8 arg9 harg9 arg10 harg10 arg11 harg11 arg12 harg12 arg13 harg13 hc0 x0 x1 x2 x3 x4 x5)
  rw [runA_G]
  exact ⟨hp 7, hp 6, hp 5, hp 4, hp 3, hp 2, hp 1, hp 0, trivial⟩

theorem a_D : sout0_A_0 c i arg3 harg3 arg4 harg4 arg5 harg5 arg6 harg6 arg7 harg7 arg8 harg8 arg9 harg9 arg10 harg10 arg11 harg11 arg12 harg12 arg13 harg13 hc0 x0 x1 x2 x3 x4 x5 = blkD (kernelRun0_B.sl.v4 i) x0 x3 x5 zeroD := by
  unfold sout0_A_0
  rw [View.read_writes_junk_eq_canon, runA_D, hist_eq i arg3 harg3 arg6 harg6 arg8 harg8 arg13 x0 x3 x5 8 le_rfl]
  funext y
  exact if_pos (y 0).isLt

end A

end Head
-- ==== Proof.Local.lean ====
/- One head's block over the reals: what the head's functions make of blocks of real numbers. -/
module

public import proofs.«01_k».proof.Proof.Lift
public import Mathlib.Tactic.Ring

@[expose] public section

set_option maxRecDepth 16384

noncomputable section

namespace Lift

open Cert.KernelIdeal Cert.KernelIdeal.Gen Idealize.ShloMosaic Idealize.ShloMosaic.TcCoe Idealize.SL.Sem
open Idealize.ShloMosaic.ValueIdx Finset

/-! Sums over blocks. -/

theorem sum_blocks (w m : ℕ) (F : ℕ → ℝ) : ∑ k ∈ range (w * m), F k = ∑ n ∈ range m, ∑ a ∈ range w, F (w * n + a) := by
  induction m with
  | zero => simp
  | succ m ih => rw [Nat.mul_succ, sum_range_add, ih, sum_range_succ]

theorem sum_block_of (w m q : ℕ) (hw : 0 < w) (hq : q < m) (F : ℕ → ℝ) (h : ∀ k, k / w ≠ q → F k = 0) :
    ∑ k ∈ range (w * m), F k = ∑ a ∈ range w, F (w * q + a) := by
  rw [sum_blocks, sum_eq_single_of_mem q (mem_range.mpr hq)]
  intro n _ hn
  refine sum_eq_zero fun a ha => h _ ?_
  rw [Nat.mul_add_div hw, Nat.div_eq_of_lt (mem_range.mp ha)]
  exact hn

/-! The chunk-wise prefix sum and total. -/

/-- The sum of the `w` rows up to row `i`, within its chunk of 32. -/
def win (w : ℕ) (g : ℕ → ℕ → ℝ) (i c : ℕ) : ℝ := ∑ a ∈ range (min w (i % 32 + 1)), g (i - a) c
def scanR (g : ℕ → ℕ → ℝ) (i c : ℕ) : ℝ := ∑ a ∈ range (i % 32 + 1), g (32 * (i / 32) + a) c
def totR (g : ℕ → ℕ → ℝ) (i c : ℕ) : ℝ := ∑ a ∈ range 32, g (32 * (i / 32) + a) c

theorem win_step (w : ℕ) (hw : 0 < w) (g : ℕ → ℕ → ℝ) (i c : ℕ) :
    win w g i c + (if w ≤ i % 32 then win w g (i - w) c else 0) = win (2 * w) g i c := by
  unfold win
  by_cases h : w ≤ i % 32
  · rw [if_pos h]
    have e : (i - w) % 32 = i % 32 - w := by omega
    have e1 : min w (i % 32 + 1) = w := by omega
    have e2 : min (2 * w) (i % 32 + 1) = w + min w (i % 32 - w + 1) := by omega
    rw [e, e1, e2, sum_range_add]
    refine congrArg _ (sum_congr rfl fun a _ => ?_)
    rw [Nat.sub_sub]
  · rw [if_neg h, add_zero]
    have e1 : min w (i % 32 + 1) = min (2 * w) (i % 32 + 1) := by omega
    rw [e1]

theorem win_one (g : ℕ → ℕ → ℝ) (i c : ℕ) : win 1 g i c = g i c := by
  unfold win
  rw [Nat.min_eq_left (by omega)]
  simp
theorem win_last (g : ℕ → ℕ → ℝ) (i c : ℕ) : win 32 g i c = scanR g i c := by
  unfold win scanR
  rw [Nat.min_eq_right (by omega), ← sum_range_reflect]
  refine sum_congr rfl fun a ha => ?_
  have := mem_range.mp ha
  congr 1; omega

theorem step {x : FVec Ideal S256x128 .f32} {f : ℕ → ℕ → ℝ} (h : R2 x f) (n : ℕ) (hn : n < 32) :
    R2 (a := 256) (b := 128) (φ := .f32) (Head.step (BitVec.ofNat 32 n) x) (fun i j => f i j + if n ≤ i % 32 then f (i - n) j else 0) := by
  have hr : R2 (a := 256) (b := 128) (φ := .f32) (dynamicRotate 0 (BitVec.ofNat 32 n) none x rotates_S256x128_d0) (fun i j => f ((i + 256 - n) % 256) j) := fun i j => by
    rw [dynamicRotate_apply 0 _ x _ (ix2 i j) (ix2 ⟨(i.val + 256 - n) % 256, Nat.mod_lt _ (by decide)⟩ j)]
    · exact h _ _
    · intro b
      match b with
      | ⟨0, _⟩ =>
        show (i.val + 256 - n) % 256 = (i.val + 256 - (BitVec.ofNat 32 n).toNat % 256) % 256
        rw [BitVec.toNat_ofNat, Nat.mod_eq_of_lt (show n < 2 ^ 32 by omega), Nat.mod_eq_of_lt (show n < 256 by omega)]
      | ⟨1, _⟩ => rfl
  refine ((h.add (hr.select R2.zero (fun i _ => n ≤ i % 32) _ ?_))).congr ?_
  · intro i j
    show IntOp.cmpi .sge (Head.rin (ix2 i j)) (BitVec.ofNat 32 n) = _
    rw [rin_apply]
    exact sge_small ⟨i.val % 32, by omega⟩ ⟨n, by omega⟩
  · intro i hi j _
    by_cases hp : n ≤ i % 32
    · rw [if_pos hp, if_pos hp]
      have : (i + 256 - n) % 256 = i - n := by omega
      rw [this]
    · rw [if_neg hp, if_neg hp]

theorem stepw {x : FVec Ideal S256x128 .f32} {g : ℕ → ℕ → ℝ} (w : ℕ) (h : R2 x (win w g)) (h0 : 0 < w) (hw : w < 32) :
    R2 (a := 256) (b := 128) (φ := .f32) (Head.step (BitVec.ofNat 32 w) x) (win (2 * w) g) :=
  (step h w hw).congr fun i _ j _ => win_step w h0 g i j

theorem scan {x : FVec Ideal S256x128 .f32} {g : ℕ → ℕ → ℝ} (h : R2 x g) :
    R2 (a := 256) (b := 128) (φ := .f32) (Head.scan x) (scanR g) := by
  have h1 : R2 x (win 1 g) := h.congr fun i _ j _ => (win_one g i j).symm
  exact (stepw 16 (stepw 8 (stepw 4 (stepw 2 (stepw 1 h1 (by decide) (by decide)) (by decide) (by decide)) (by decide) (by decide)) (by decide) (by decide)) (by decide) (by decide)).congr
    fun i _ j _ => win_last g i j

theorem total {x : FVec Ideal S256x128 .f32} {g : ℕ → ℕ → ℝ} (h : R2 x g) :
    R2 (a := 256) (b := 128) (φ := .f32) (Head.total x) (totR g) := fun i j => by
  have hi := i.isLt
  unfold Head.total
  have hn : i.val / 32 < 8 := by omega
  rw [shapeCast_apply _ _ (ix2 i j) (ix3 (⟨i.val / 32, hn⟩ : Fin 8) (⟨i.val % 32, Nat.mod_lt _ (by decide)⟩ : Fin 32) j) (by
      rw [Shape.rowMajor_val_three, Shape.rowMajor_val_two]
      show (i.val / 32 * 32 + i.val % 32) * 128 + j.val = i.val * 128 + j.val
      rw [Nat.div_add_mod'])]
  rw [broadcastTo_apply _ _ _ (ix3 (⟨i.val / 32, hn⟩ : Fin 8) (0 : Fin 1) j) (by
      intro a
      match a with
      | ⟨0, _⟩ => rfl
      | ⟨1, _⟩ => rfl
      | ⟨2, _⟩ => rfl)]
  rw [shapeCast_apply _ _ _ (ix3 (⟨i.val / 32, hn⟩ : Fin 8) (0 : Fin 1) j) rfl]
  rw [shapeCast_apply _ _ _ (ix2 (⟨i.val / 32, hn⟩ : Fin 8) j) (by
      rw [Shape.rowMajor_val_three, Shape.rowMajor_val_two]
      show i.val / 32 * 128 + j.val = (i.val / 32 * 1 + 0) * 128 + j.val
      omega)]
  refine (Ideal.multiReduction_add_single _ _ _ _ _ _).trans ?_
  unfold totR
  rw [coe_sum]
  refine Fintype.sum_congr _ _ fun k => ?_
  have hk : k.val < 32 := k.isLt
  rw [shapeCast_apply _ _ _ (ix2 (⟨32 * (i.val / 32) + k.val, by omega⟩ : Fin 256) j) (by
      rw [Shape.rowMajor_val_three, Shape.rowMajor_val_two]
      show (32 * (i.val / 32) + k.val) * 128 + j.val = (i.val / 32 * 32 + k.val) * 128 + j.val
      rw [Nat.mul_comm 32])]
  exact h _ _

theorem expm {x : FVec Ideal S256x128 .f32} {g : ℕ → ℕ → ℝ} (h : R2 x g) :
    R2 (a := 256) (b := 128) (φ := .f32) (Head.expm x) (fun i j => Real.exp (-g i j)) :=
  ((R2.zero.sub h).exp).congr fun i _ j _ => by rw [zero_sub]

/-! Products over chunks. -/
section prods
variable {f g h : ℕ → ℕ → ℝ}

theorem expand {x : FVec Ideal S128x128 .bf16} (hx : R2 x f) :
    R2 (a := 128) (b := 512) (φ := .bf16) (Head.expand x) (fun i j => if i / 32 = j / 128 then f i (j % 128) else 0) :=
  (cat4 (f := fun _ => f) hx hx hx hx).select R2.zerob (fun i j => i / 32 = j / 128) _ mexp_apply

theorem outer {x y : FVec Ideal S256x128 .bf16} (hx : R2 x f) (hy : R2 y g) (n : Fin 8) :
    R2 (a := 128) (b := 128) (φ := .f32) (Head.col (Head.outer (Head.sub x (Head.half n)) (Head.sub y (Head.half n))) (Head.quarter n))
      (fun i j => ∑ a ∈ range 32, f (32 * n.val + a) i * g (32 * n.val + a) j) := by
  refine (col (dot00 (sub hx (Head.half n)) (expand (sub hy (Head.half n)))) (Head.quarter n)).congr fun i hi j hj => ?_
  have hh : (Head.half n).val = n.val / 4 := rfl
  have hq : (Head.quarter n).val = n.val % 4 := rfl
  rw [hh, hq, show (128 * (n.val % 4) + j) / 128 = n.val % 4 by omega, show (128 * (n.val % 4) + j) % 128 = j by omega]
  rw [show (128 : ℕ) = 32 * 4 from rfl, sum_block_of 32 4 (n.val % 4) (by decide) (by omega) _ (fun k hk => by rw [if_neg hk, mul_zero])]
  refine sum_congr rfl fun a ha => ?_
  have ha := mem_range.mp ha
  rw [if_pos (by omega), show 32 * 4 * (n.val / 4) + (32 * (n.val % 4) + a) = 32 * n.val + a by omega]

theorem own {x : FVec Ideal S128x512 .f32} (hx : R2 x f) :
    R2 (a := 128) (b := 128) (φ := .f32) (Head.own x) (fun i j => f i (128 * (i / 32) + j)) := by
  have hs := hx.select (R2.zero (a := 128) (b := 512)) (fun i j => i / 32 = j / 128) Head.mexp mexp_apply
  refine ((((col hs 0).add (col hs 1)).add (col hs 2)).add (col hs 3)).congr fun i hi j hj => ?_
  have hc : ∀ n : ℕ, (128 * n + j) / 128 = n := fun n => by omega
  show (((if i / 32 = (128 * 0 + j) / 128 then f i (128 * 0 + j) else 0) + (if i / 32 = (128 * 1 + j) / 128 then f i (128 * 1 + j) else 0))
    + (if i / 32 = (128 * 2 + j) / 128 then f i (128 * 2 + j) else 0)) + (if i / 32 = (128 * 3 + j) / 128 then f i (128 * 3 + j) else 0) = _
  rw [hc, hc, hc, hc]
  have : i / 32 = 0 ∨ i / 32 = 1 ∨ i / 32 = 2 ∨ i / 32 = 3 := by omega
  rcases this with e | e | e | e <;> rw [e] <;> simp

theorem quad {x0 x1 x2 x3 : FVec Ideal S128x128 .f32} {w : ℕ → ℕ → ℕ → ℝ} (h0 : R2 x0 (w 0)) (h1 : R2 x1 (w 1)) (h2 : R2 x2 (w 2)) (h3 : R2 x3 (w 3)) :
    R2 (a := 128) (b := 512) (φ := .bf16) (Head.quad x0 x1 x2 x3) (fun i j => w (j / 128) i (j % 128)) :=
  (cat4 h0 h1 h2 h3).trunc _

theorem rowsBy {x : FVec Ideal S128x128 .bf16} {y : FVec Ideal S128x512 .bf16} {w : ℕ → ℕ → ℕ → ℝ} (hx : R2 x f)
    (hy : R2 y (fun i j => w (j / 128) i (j % 128))) :
    R2 (a := 128) (b := 128) (φ := .f32) (Head.rowsBy x y) (fun i j => ∑ k ∈ range 128, f i k * w (i / 32) k j) := by
  refine (own (dot10w hx hy)).congr fun i hi j hj => ?_
  rw [show (128 * (i / 32) + j) / 128 = i / 32 by omega, show (128 * (i / 32) + j) % 128 = j by omega]

/-- The rows of the expanded keys against the states. -/
theorem expandBy {x : FVec Ideal S128x128 .bf16} {y : FVec Ideal S128x512 .bf16} {w : ℕ → ℕ → ℕ → ℝ} (hx : R2 x f)
    (hy : R2 y (fun i j => w (j / 128) i (j % 128))) :
    R2 (a := 128) (b := 128) (φ := .f32) (matmul dot_S128x512_S128x512_S128x128_1_1_0_0_n_n none (Head.expand x) y (constant S128x128 .f32 0x00000000#32))
      (fun i j => ∑ k ∈ range 128, f i k * w (i / 32) j k) := by
  refine (dot11w (expand hx) hy).congr fun i hi j hj => ?_
  rw [show (512 : ℕ) = 128 * 4 from rfl, sum_block_of 128 4 (i / 32) (by decide) (by omega) _ (fun k hk => by rw [if_neg (fun e => hk e.symm), zero_mul])]
  refine sum_congr rfl fun a ha => ?_
  have ha := mem_range.mp ha
  rw [show (128 * (i / 32) + a) / 128 = i / 32 by omega, show (128 * (i / 32) + a) % 128 = a by omega, if_pos rfl]

theorem pairs {x y : FVec Ideal S128x128 .bf16} (hx : R2 x f) (hy : R2 y g) (P : ℕ → ℕ → Prop) [∀ i j, Decidable (P i j)] (m : IVec S128x128 1)
    (hm : ∀ (i : Fin 128) (j : Fin 128), m (ix2 i j) = if P i.val j.val then 1#1 else 0#1) :
    R2 (a := 128) (b := 128) (φ := .bf16) (Head.pairs m x y) (fun i j => if P i j then ∑ k ∈ range 128, f i k * g j k else 0) :=
  ((dot11 hx hy).select R2.zero P m hm).trunc _

/-- The masked products against rows, a sum over the row's own chunk. -/
theorem near {x y z : FVec Ideal S128x128 .bf16} (hx : R2 x f) (hy : R2 y g) (hz : R2 z h) :
    R2 (a := 128) (b := 128) (φ := .f32) (Head.mm (Head.pairs Head.mask x y) z)
      (fun i j => ∑ a ∈ range 32, if a ≤ i % 32 then (∑ k ∈ range 128, f i k * g (32 * (i / 32) + a) k) * h (32 * (i / 32) + a) j else 0) := by
  refine (dot10 (pairs hx hy (fun i j => i / 32 = j / 32 ∧ j ≤ i) _ mask_apply) hz).congr fun i hi j hj => ?_
  rw [show range 128 = range (32 * 4) from rfl, sum_block_of 32 4 (i / 32) (by decide) (by omega) _ (fun k hk => by rw [if_neg (fun e => hk e.1.symm), zero_mul])]
  refine sum_congr rfl fun a ha => ?_
  have ha := mem_range.mp ha
  by_cases hp : a ≤ i % 32
  · rw [if_pos hp, if_pos (by omega)]
  · rw [if_neg hp, if_neg (by omega), zero_mul]
theorem nearT {x y z : FVec Ideal S128x128 .bf16} (hx : R2 x f) (hy : R2 y g) (hz : R2 z h) :
    R2 (a := 128) (b := 128) (φ := .f32) (Head.mm (Head.pairs Head.maskT x y) z)
      (fun i j => ∑ a ∈ range 32, if i % 32 ≤ a then (∑ k ∈ range 128, f i k * g (32 * (i / 32) + a) k) * h (32 * (i / 32) + a) j else 0) := by
  refine (dot10 (pairs hx hy (fun i j => i / 32 = j / 32 ∧ i ≤ j) _ maskT_apply) hz).congr fun i hi j hj => ?_
  rw [show range 128 = range (32 * 4) from rfl, sum_block_of 32 4 (i / 32) (by decide) (by omega) _ (fun k hk => by rw [if_neg (fun e => hk e.1.symm), zero_mul])]
  refine sum_congr rfl fun a ha => ?_
  have ha := mem_range.mp ha
  by_cases hp : i % 32 ≤ a
  · rw [if_pos hp, if_pos (by omega)]
  · rw [if_neg hp, if_neg (by omega), zero_mul]

theorem t2 {e : FVec Ideal S256x128 .f32} {s d : FVec Ideal S128x128 .f32} (he : R2 e f) (hs : R2 s g) (hd : R2 d h) (n : Fin 8) :
    R2 (a := 32) (b := 128) (φ := .f32) (Head.t2 e n s d) (fun _ j => f (32 * n.val + 31) j * ∑ i ∈ range 128, g i j * h i j) := by
  unfold Head.t2
  refine bcast (f := fun _ j => f (32 * n.val + 31) j * ∑ i ∈ range 128, g i j * h i j) ?_ _
  have hr : R2 (a := 1) (b := 128) (φ := .f32) (shapeCast S1x128 (multiReduction .add [0] S128 (mulf s d) 0x00000000#32
    reduces_S128x128_S128 (.inl rfl) rfl) shapeCasts_S128_S1x128) (fun _ j => ∑ i ∈ range 128, g i j * h i j) := fun i j => by
    rw [shapeCast_apply _ _ (ix2 i j) (ix1 j) (by
      rw [Shape.rowMajor_val_one, Shape.rowMajor_val_two]
      have := i.isLt
      show j.val = i.val * 128 + j.val
      omega)]
    refine (Ideal.multiReduction_add_single _ _ _ _ _ _).trans ?_
    rw [coe_sum]
    refine Fintype.sum_congr _ _ fun k => ?_
    rw [← hs.mul hd k j]
    refine congrArg _ (funext fun a => ?_)
    fin_cases a <;> rfl
  intro i j
  rw [shapeCast_apply _ _ (ix2 i j) (ix2 i j) rfl]
  exact ((row he n).mul hr) i j

theorem stepS {e : FVec Ideal S256x128 .f32} {x y : FVec Ideal S256x128 .bf16} {s : FVec Ideal S128x128 .f32} {c r : ℕ → ℕ → ℝ} (he : R2 e c)
    (hx : R2 x f) (hy : R2 y g) (hs : R2 s r) (n : Fin 8) :
    R2 (a := 128) (b := 128) (φ := .f32) (Head.stepS e x y n s)
      (fun i j => c (32 * n.val + 31) j * r i j + ∑ a ∈ range 32, f (32 * n.val + a) i * g (32 * n.val + a) j) :=
  ((bcast (row he n) _).mul hs).add (outer hx hy n)
theorem stepD {e : FVec Ideal S256x128 .f32} {x y : FVec Ideal S256x128 .bf16} {s : FVec Ideal S128x128 .f32} {c r : ℕ → ℕ → ℝ} (he : R2 e c)
    (hx : R2 x f) (hy : R2 y g) (hs : R2 s r) (n : Fin 8) :
    R2 (a := 128) (b := 128) (φ := .f32) (Head.stepD e x y n s)
      (fun i j => (∑ a ∈ range 32, f (32 * n.val + a) i * g (32 * n.val + a) j) + c (32 * n.val + 31) j * r i j) :=
  (outer hx hy n).add ((bcast (row he n) _).mul hs)
end prods

end Lift
-- ==== Proof.HeadR.lean ====
/- What one head stores, over the reals: functions of the reals in the blocks it loads. -/
module

public import proofs.«01_k».proof.Proof.Local

@[expose] public section

set_option maxRecDepth 16384

noncomputable section

namespace Lift

open Cert.KernelIdeal Cert.KernelIdeal.Gen Idealize.ShloMosaic Idealize.ShloMosaic.TcCoe Idealize.SL.Sem
open Idealize.ShloMosaic.ValueIdx Finset

section reals
variable (q k v g o s d : ℕ → ℕ → ℝ)

def ebR (i j : ℕ) : ℝ := Real.exp (scanR g i j)
def xxR (i j : ℕ) : ℝ := totR g i j - scanR g i j
def qdR (i j : ℕ) : ℝ := q i j * ebR g i j
def kiR (i j : ℕ) : ℝ := k i j * Real.exp (-scanR g i j)
def ktR (i j : ℕ) : ℝ := k i j * Real.exp (xxR g i j)
/-- The state before chunk `n`. -/
def stR : ℕ → ℕ → ℕ → ℝ
  | 0 => s
  | n + 1 => fun i j => ebR g (32 * (n % 8) + 31) j * stR n i j + ∑ a ∈ range 32, v (32 * (n % 8) + a) i * ktR k g (32 * (n % 8) + a) j
/-- The state's cotangent after chunk `7 - n`. -/
def dsR : ℕ → ℕ → ℕ → ℝ
  | 0 => d
  | n + 1 => fun i j => (∑ a ∈ range 32, o (32 * ((7 - n) % 8) + a) i * qdR q g (32 * ((7 - n) % 8) + a) j) + ebR g (32 * ((7 - n) % 8) + 31) j * dsR n i j
def dqdR (i j : ℕ) : ℝ :=
  (∑ a ∈ range 32, if a ≤ i % 32 then (∑ c ∈ range 128, o i c * v (32 * (i / 32) + a) c) * kiR k g (32 * (i / 32) + a) j else 0)
    + ∑ c ∈ range 128, o i c * stR k v g s (i / 32) c j
def dkiR (i j : ℕ) : ℝ :=
  ∑ a ∈ range 32, if i % 32 ≤ a then (∑ c ∈ range 128, v i c * o (32 * (i / 32) + a) c) * qdR q g (32 * (i / 32) + a) j else 0
def dktR (i j : ℕ) : ℝ := ∑ c ∈ range 128, v i c * dsR q g o d (7 - i / 32) c j
def dvR (i j : ℕ) : ℝ :=
  (∑ a ∈ range 32, if i % 32 ≤ a then (∑ c ∈ range 128, kiR k g i c * qdR q g (32 * (i / 32) + a) c) * o (32 * (i / 32) + a) j else 0)
    + ∑ c ∈ range 128, ktR k g i c * dsR q g o d (7 - i / 32) j c
def zR (i j : ℕ) : ℝ := dktR q v g o d i j * ktR k g i j
def dbR (i j : ℕ) : ℝ := dqdR k v g o s i j * qdR q g i j - dkiR q v g o i j * kiR k g i j
def t2R (n j : ℕ) : ℝ := ebR g (32 * n + 31) j * ∑ i ∈ range 128, stR k v g s n i j * dsR q g o d (7 - n) i j
def dqR (i j : ℕ) : ℝ := dqdR k v g o s i j * ebR g i j
def dkR (i j : ℕ) : ℝ := dkiR q v g o i j * Real.exp (-scanR g i j) + dktR q v g o d i j * Real.exp (xxR g i j)
def dgR (i j : ℕ) : ℝ :=
  ((totR (dbR q k v g o s) i j + (dbR q k v g o s i j - zR q k v g o d i j))
    + scanR (fun i j => zR q k v g o d i j - dbR q k v g o s i j) i j) + t2R q k v g o s d (i / 32) j
end reals

section
variable {lat : BitVec 1} {q4 : FVec Ideal S1x1x256x128 .f32} {k5 g5 : FVec Ideal S1x1x1x256x128 .f32} {v4 do4 : FVec Ideal S1x1x256x128 .bf16}
  {s5 : FVec Ideal S1x1x1x128x128 .f32} {d3 : FVec Ideal S1x128x128 .f32}
variable {q k v g o s d : ℕ → ℕ → ℝ}

variable (hq : R2 (Head.q q4) q) (hk : R2 (Head.k k5) k) (hv : R2 (Head.v v4) v) (ho : R2 (Head.dO lat do4) o)
  (hg : R2 (a := 256) (b := 128) (φ := .f32) (shapeCast S256x128 g5 shapeCasts_S1x1x1x256x128_S256x128) g)
  (hs : R2 (a := 128) (b := 128) (φ := .f32) (shapeCast S128x128 s5 shapeCasts_S1x1x1x128x128_S128x128) s)
  (hd : R2 (a := 128) (b := 128) (φ := .f32) (shapeCast S128x128 d3 shapeCasts_S1x128x128_S128x128) d)
include hg

theorem b_R : R2 (Head.b g5) (scanR g) := scan hg
theorem eb_R : R2 (Head.eb g5) (ebR g) := (scan hg).exp
theorem xx_R : R2 (Head.xx g5) (xxR g) := (total hg).sub (scan hg)
include hq in
theorem qd_R : R2 (Head.qd q4 g5) (qdR q g) := hq.mul (eb_R hg)
include hk in
theorem ki_R : R2 (Head.ki k5 g5) (kiR k g) := hk.mul (expm (scan hg))
include hk in
theorem kt_R : R2 (Head.kt k5 g5) (ktR k g) := hk.mul (xx_R hg).exp

include hk hv hs in
theorem st_R : ∀ n, R2 (Head.st k5 g5 v4 s5 n) (stR k v g s n)
  | 0 => hs
  | n + 1 => stepS (eb_R hg) hv ((kt_R hk hg).trunc bitsLt_bf16_f32) (st_R n) _
include hq ho hd in
theorem ds_R : ∀ n, R2 (Head.ds lat q4 g5 do4 d3 n) (dsR q g o d n)
  | 0 => hd
  | n + 1 => stepD (eb_R hg) ho ((qd_R hq hg).trunc bitsLt_bf16_f32) (ds_R n) _

include hk hv hs in
theorem sts_R (t : Fin 2) : R2 (a := 128) (b := 512) (φ := .bf16) (Head.sts k5 g5 v4 s5 t) (fun i j => stR k v g s (4 * t.val + j / 128) i (j % 128)) :=
  quad (w := fun n => stR k v g s (4 * t.val + n)) (st_R hk hv hg hs _) (st_R hk hv hg hs _) (st_R hk hv hg hs _) (st_R hk hv hg hs _)
include hq ho hd in
theorem dss_R (t : Fin 2) : R2 (a := 128) (b := 512) (φ := .bf16) (Head.dss lat q4 g5 do4 d3 t) (fun i j => dsR q g o d (7 - 4 * t.val - j / 128) i (j % 128)) := by
  have e1 : 6 - 4 * t.val = 7 - 4 * t.val - 1 := by omega
  have e2 : 5 - 4 * t.val = 7 - 4 * t.val - 2 := by omega
  have e3 : 4 - 4 * t.val = 7 - 4 * t.val - 3 := by omega
  unfold Head.dss
  rw [e1, e2, e3]
  exact quad (w := fun n => dsR q g o d (7 - 4 * t.val - n)) (ds_R hq ho hg hd _) (ds_R hq ho hg hd _) (ds_R hq ho hg hd _) (ds_R hq ho hg hd _)

omit hg in
theorem unstack {x0 x1 : FVec Ideal S128x128 .f32} {F : ℕ → ℕ → ℕ → ℝ} {f : ℕ → ℕ → ℝ} (h0 : R2 x0 (F 0)) (h1 : R2 x1 (F 1))
    (e : ∀ i < 256, ∀ j < 128, F (i / 128) (i % 128) j = f i j) :
    R2 (a := 256) (b := 128) (φ := .f32) (Head.stack x0 x1) f := (stack h0 h1).congr e

include hk hv ho hs in
theorem dqd_R : R2 (Head.dqd lat k5 g5 v4 do4 s5) (dqdR k v g o s) := by
  have key : ∀ t : Fin 2, R2 (Head.dqdS lat k5 g5 v4 do4 s5 t) _ := fun t =>
    (near (sub ho t) (sub hv t) (sub ((ki_R hk hg).trunc bitsLt_bf16_f32) t)).add (rowsBy (w := fun n => stR k v g s (4 * t.val + n)) (sub ho t) (sts_R hk hv hg hs t))
  refine unstack (F := fun t i j => (∑ a ∈ range 32, if a ≤ i % 32 then (∑ c ∈ range 128, o (128 * t + i) c * v (128 * t + (32 * (i / 32) + a)) c) * kiR k g (128 * t + (32 * (i / 32) + a)) j else 0)
    + ∑ c ∈ range 128, o (128 * t + i) c * stR k v g s (4 * t + i / 32) c j) (key 0) (key 1) fun i hi j hj => ?_
  unfold dqdR
  have e : ∀ a, 128 * (i / 128) + (32 * (i % 128 / 32) + a) = 32 * (i / 32) + a := by omega
  simp only [e]
  rw [show 128 * (i / 128) + i % 128 = i by omega, show i % 128 % 32 = i % 32 by omega, show 4 * (i / 128) + i % 128 / 32 = i / 32 by omega]
include hq hv ho in
theorem dki_R : R2 (Head.dki lat q4 g5 v4 do4) (dkiR q v g o) := by
  have key : ∀ t : Fin 2, R2 (Head.dkiS lat q4 g5 v4 do4 t) _ := fun t =>
    nearT (sub hv t) (sub ho t) (sub ((qd_R hq hg).trunc bitsLt_bf16_f32) t)
  refine unstack (F := fun t i j => ∑ a ∈ range 32, if i % 32 ≤ a then (∑ c ∈ range 128, v (128 * t + i) c * o (128 * t + (32 * (i / 32) + a)) c) * qdR q g (128 * t + (32 * (i / 32) + a)) j else 0)
    (key 0) (key 1) fun i hi j hj => ?_
  unfold dkiR
  have e : ∀ a, 128 * (i / 128) + (32 * (i % 128 / 32) + a) = 32 * (i / 32) + a := by omega
  simp only [e]
  rw [show 128 * (i / 128) + i % 128 = i by omega, show i % 128 % 32 = i % 32 by omega]
include hq hv ho hd in
theorem dkt_R : R2 (Head.dkt lat q4 g5 v4 do4 d3) (dktR q v g o d) := by
  have key : ∀ t : Fin 2, R2 (Head.dktS lat q4 g5 v4 do4 d3 t) _ := fun t =>
    rowsBy (w := fun n => dsR q g o d (7 - 4 * t.val - n)) (sub hv t) (dss_R hq ho hg hd t)
  refine unstack (F := fun t i j => ∑ c ∈ range 128, v (128 * t + i) c * dsR q g o d (7 - 4 * t - i / 32) c j) (key 0) (key 1) fun i hi j hj => ?_
  unfold dktR
  rw [show 128 * (i / 128) + i % 128 = i by omega, show 7 - 4 * (i / 128) - i % 128 / 32 = 7 - i / 32 by omega]
include hq hk ho hd in
theorem dvS_R (t : Fin 2) (i j : Fin 128) :
    Head.dvS lat q4 k5 g5 do4 d3 t (ix4 0 0 i j) = ((dvR q k g o d (128 * t.val + i.val) j.val : ℝ) : EReal) := by
  have hi := i.isLt
  have key := (((nearT (sub ((ki_R hk hg).trunc bitsLt_bf16_f32) t) (sub ((qd_R hq hg).trunc bitsLt_bf16_f32) t) (sub ho t)).add
    (expandBy (w := fun n => dsR q g o d (7 - 4 * t.val - n)) (sub ((kt_R hk hg).trunc bitsLt_bf16_f32) t) (dss_R hq ho hg hd t))).trunc bitsLt_bf16_f32) i j
  unfold Head.dvS
  rw [shapeCast_apply _ _ (ix4 0 0 i j) (ix2 i j) (by
    rw [Shape.rowMajor_val_two, Shape.rowMajor_val_four]
    show i.val * 128 + j.val = ((0 * 1 + 0) * 128 + i.val) * 128 + j.val
    omega)]
  refine key.trans (congrArg _ ?_)
  unfold dvR
  have e : ∀ a, 128 * t.val + (32 * (i.val / 32) + a) = 32 * ((128 * t.val + i.val) / 32) + a := by omega
  simp only [e]
  rw [show (128 * t.val + i.val) % 32 = i.val % 32 by omega, show 7 - 4 * t.val - i.val / 32 = 7 - (128 * t.val + i.val) / 32 by omega]

include hq hk hv ho hd in
theorem z_R : R2 (Head.z lat q4 k5 g5 v4 do4 d3) (zR q k v g o d) := (dkt_R hq hv ho hg hd).mul (kt_R hk hg)
include hq hk hv ho hs in
theorem db_R : R2 (Head.db lat q4 k5 g5 v4 do4 s5) (dbR q k v g o s) :=
  ((dqd_R hk hv ho hg hs).mul (qd_R hq hg)).sub ((dki_R hq hv ho hg).mul (ki_R hk hg))

omit hg in
theorem out4 {x : FVec Ideal S256x128 .f32} {f : ℕ → ℕ → ℝ} (h : R2 x f) (i : Fin 256) (j : Fin 128) :
    shapeCast S1x1x256x128 (Head.bf x) shapeCasts_S256x128_S1x1x256x128 (ix4 0 0 i j) = ((f i.val j.val : ℝ) : EReal) := by
  rw [shapeCast_apply _ _ (ix4 0 0 i j) (ix2 i j) (by
    rw [Shape.rowMajor_val_two, Shape.rowMajor_val_four]
    show i.val * 128 + j.val = ((0 * 1 + 0) * 256 + i.val) * 128 + j.val
    omega)]
  exact h i j

include hk hv ho hs in
theorem outQ_R (i : Fin 256) (j : Fin 128) : Head.outQ lat k5 g5 v4 do4 s5 (ix4 0 0 i j) = ((dqR k v g o s i.val j.val : ℝ) : EReal) :=
  out4 ((dqd_R hk hv ho hg hs).mul (eb_R hg)) i j
include hq hv ho hd in
theorem outK_R (i : Fin 256) (j : Fin 128) : Head.outK lat q4 g5 v4 do4 d3 (ix4 0 0 i j) = ((dkR q v g o d i.val j.val : ℝ) : EReal) :=
  out4 (((dki_R hq hv ho hg).mul (expm (scan hg))).add ((dkt_R hq hv ho hg hd).mul (xx_R hg).exp)) i j
include hq hk hv ho hs hd in
theorem t2s_R : R2 (a := 256) (b := 128) (φ := .f32) (Head.t2s lat q4 k5 g5 v4 do4 s5 d3) (fun i j => t2R q k v g o s d (i / 32) j) :=
  cat8 (fun n => Head.t2n lat q4 k5 g5 v4 do4 s5 d3 n) (f := fun n _ j => t2R q k v g o s d n j) fun n =>
    t2 (eb_R hg) (st_R hk hv hg hs n.val) (ds_R hq ho hg hd (7 - n.val)) n
include hq hk hv ho hs hd in
theorem outG_R (i : Fin 256) (j : Fin 128) : Head.outG lat q4 k5 g5 v4 do4 s5 d3 (ix4 0 0 i j) = ((dgR q k v g o s d i.val j.val : ℝ) : EReal) :=
  out4 ((((total (db_R hq hk hv ho hg hs)).add ((db_R hq hk hv ho hg hs).sub (z_R hq hk hv ho hg hd))).add
    (scan ((z_R hq hk hv ho hg hd).sub (db_R hq hk hv ho hg hs)))).add (t2s_R hq hk hv ho hg hs hd)) i j
include hq ho hd in
theorem outD_R (i j : Fin 128) : Head.outD lat q4 g5 do4 d3 (ix3 0 i j) = ((dsR q g o d 8 i.val j.val : ℝ) : EReal) := by
  unfold Head.outD
  rw [shapeCast_apply _ _ (ix3 0 i j) (ix2 i j) (by
    rw [Shape.rowMajor_val_two, Shape.rowMajor_val_three]
    show i.val * 128 + j.val = (0 * 128 + i.val) * 128 + j.val
    omega)]
  exact ds_R hq ho hg hd 8 i j
end

end Lift
-- ==== Proof.Grid.lean ====
/- The grid's points over the reals: what each point loads, the scratch it carries, and the arrays the run leaves. -/
module

public import proofs.«01_k».proof.Proof.Blocks
public import proofs.«01_k».proof.Proof.HeadR
public import proofs.«01_k».proof.Proof.Gen.KernelIdeal.Value

@[expose] public section

set_option maxRecDepth 16384

noncomputable section

namespace Lift

open Cert.KernelIdeal Cert.KernelIdeal.Gen Idealize.ShloMosaic.TcCoe Idealize.SL.Sem
open Idealize.ShloMosaic hiding ix0 ix1 ix2 ix3 ix4 ix5 eq_ix1 eq_ix2 eq_ix3 eq_ix4
open Idealize.ShloMosaic.ValueIdx Finset Head

theorem cut4_at {φ : FTy} (x : FVec Ideal S1x8x256x128 φ) (h : Fin 8) (r : Fin 256) (j : Fin 128) :
    cut4 x h (ix4 0 0 r j) = x (ix4 0 h r j) := by
  refine congrArg x (funext fun a => Fin.ext ((Rect.idx_unit_val (s := S1x8x256x128) _ _ _ (ix4 0 0 r j) a).trans ?_))
  match a with
  | ⟨0, _⟩ => rfl
  | ⟨1, _⟩ => rfl
  | ⟨2, _⟩ => exact Nat.zero_add _
  | ⟨3, _⟩ => exact Nat.zero_add _
theorem cut5_at {φ : FTy} (x : FVec Ideal S1x1x8x256x128 φ) (h : Fin 8) (r : Fin 256) (j : Fin 128) :
    cut5 x h (ix5 0 0 0 r j) = x (ix5 0 0 h r j) := by
  refine congrArg x (funext fun a => Fin.ext ((Rect.idx_unit_val (s := S1x1x8x256x128) _ _ _ (ix5 0 0 0 r j) a).trans ?_))
  match a with
  | ⟨0, _⟩ => rfl
  | ⟨1, _⟩ => rfl
  | ⟨2, _⟩ => rfl
  | ⟨3, _⟩ => exact Nat.zero_add _
  | ⟨4, _⟩ => exact Nat.zero_add _
theorem cutS_at {φ : FTy} (x : FVec Ideal S1x8x1x128x128 φ) (h : Fin 8) (r j : Fin 128) :
    cutS x h (ix5 0 0 0 r j) = x (ix5 0 h 0 r j) := by
  refine congrArg x (funext fun a => Fin.ext ((Rect.idx_unit_val (s := S1x8x1x128x128) _ _ _ (ix5 0 0 0 r j) a).trans ?_))
  match a with
  | ⟨0, _⟩ => rfl
  | ⟨1, _⟩ => rfl
  | ⟨2, _⟩ => rfl
  | ⟨3, _⟩ => exact Nat.zero_add _
  | ⟨4, _⟩ => exact Nat.zero_add _
theorem cutD_at {φ : FTy} (x : FVec Ideal S8x128x128 φ) (h : Fin 8) (r j : Fin 128) :
    cutD x h (ix3 0 r j) = x (ix3 h r j) := by
  refine congrArg x (funext fun a => Fin.ext ((Rect.idx_unit_val (s := S8x128x128) _ _ _ (ix3 0 r j) a).trans ?_))
  match a with
  | ⟨0, _⟩ => rfl
  | ⟨1, _⟩ => exact Nat.zero_add _
  | ⟨2, _⟩ => exact Nat.zero_add _

theorem sq4 {φ : FTy} {x : FVec Ideal S1x1x256x128 φ} {f : ℕ → ℕ → ℝ} (h : ∀ (r : Fin 256) (j : Fin 128), x (ix4 0 0 r j) = ((f r.val j.val : ℝ) : EReal)) :
    R2 (a := 256) (b := 128) (φ := φ) (shapeCast S256x128 x shapeCasts_S1x1x256x128_S256x128) f := fun r j => by
  rw [shapeCast_apply _ _ (ix2 r j) (ix4 0 0 r j) (by
    rw [Shape.rowMajor_val_two, Shape.rowMajor_val_four]; show ((0 * 1 + 0) * 256 + r.val) * 128 + j.val = r.val * 128 + j.val; omega)]
  exact h r j
theorem sq5 {φ : FTy} {x : FVec Ideal S1x1x1x256x128 φ} {f : ℕ → ℕ → ℝ} (h : ∀ (r : Fin 256) (j : Fin 128), x (ix5 0 0 0 r j) = ((f r.val j.val : ℝ) : EReal)) :
    R2 (a := 256) (b := 128) (φ := φ) (shapeCast S256x128 x shapeCasts_S1x1x1x256x128_S256x128) f := fun r j => by
  rw [shapeCast_apply _ _ (ix2 r j) (ix5 0 0 0 r j) (by
    rw [Shape.rowMajor_val_two, Shape.rowMajor_val_five]; show (((0 * 1 + 0) * 1 + 0) * 256 + r.val) * 128 + j.val = r.val * 128 + j.val; omega)]
  exact h r j
theorem sqS {φ : FTy} {x : FVec Ideal S1x1x1x128x128 φ} {f : ℕ → ℕ → ℝ} (h : ∀ (r j : Fin 128), x (ix5 0 0 0 r j) = ((f r.val j.val : ℝ) : EReal)) :
    R2 (a := 128) (b := 128) (φ := φ) (shapeCast S128x128 x shapeCasts_S1x1x1x128x128_S128x128) f := fun r j => by
  rw [shapeCast_apply _ _ (ix2 r j) (ix5 0 0 0 r j) (by
    rw [Shape.rowMajor_val_two, Shape.rowMajor_val_five]; show (((0 * 1 + 0) * 1 + 0) * 128 + r.val) * 128 + j.val = r.val * 128 + j.val; omega)]
  exact h r j
theorem sqD {φ : FTy} {x : FVec Ideal S1x128x128 φ} {f : ℕ → ℕ → ℝ} (h : ∀ (r j : Fin 128), x (ix3 0 r j) = ((f r.val j.val : ℝ) : EReal)) :
    R2 (a := 128) (b := 128) (φ := φ) (shapeCast S128x128 x shapeCasts_S1x128x128_S128x128) f := fun r j => by
  rw [shapeCast_apply _ _ (ix2 r j) (ix3 0 r j) (by
    rw [Shape.rowMajor_val_two, Shape.rowMajor_val_three]; show (0 * 128 + r.val) * 128 + j.val = r.val * 128 + j.val; omega)]
  exact h r j

/-! ## The grid -/

theorem idx_in : ∀ t : Fin cfg0.N, win0_0.index t = ![t.val / 9, 0, 8 - t.val % 9, 0] ∧ win0_1.index t = ![0, t.val / 9, 0, 8 - t.val % 9, 0]
    ∧ win0_2.index t = ![t.val / 9, 0, 8 - t.val % 9, 0] ∧ win0_3.index t = ![0, t.val / 9, 0, 8 - t.val % 9, 0]
    ∧ win0_4.index t = ![t.val / 9, 0, 8 - t.val % 9, 0, 0] ∧ win0_5.index t = ![t.val / 9, 0, 7 - t.val % 9, 0] :=
  (by decide +kernel : ∀ t : Fin grid0.N, win0_0.index t = ![t.val / 9, 0, 8 - t.val % 9, 0] ∧ win0_1.index t = ![0, t.val / 9, 0, 8 - t.val % 9, 0]
    ∧ win0_2.index t = ![t.val / 9, 0, 8 - t.val % 9, 0] ∧ win0_3.index t = ![0, t.val / 9, 0, 8 - t.val % 9, 0]
    ∧ win0_4.index t = ![t.val / 9, 0, 8 - t.val % 9, 0, 0] ∧ win0_5.index t = ![t.val / 9, 0, 7 - t.val % 9, 0])
theorem idx_out : ∀ t : Fin cfg0.N, win0_6.index t = ![t.val / 9, 0, 8 - t.val % 9, 0] ∧ win0_7.index t = ![t.val / 9, 0, 8 - t.val % 9, 0]
    ∧ win0_8.index t = ![t.val / 9, 0, 8 - t.val % 9, 0] ∧ win0_9.index t = ![t.val / 9, 0, 8 - t.val % 9, 0] :=
  (by decide +kernel : ∀ t : Fin grid0.N, win0_6.index t = ![t.val / 9, 0, 8 - t.val % 9, 0] ∧ win0_7.index t = ![t.val / 9, 0, 8 - t.val % 9, 0]
    ∧ win0_8.index t = ![t.val / 9, 0, 8 - t.val % 9, 0] ∧ win0_9.index t = ![t.val / 9, 0, 8 - t.val % 9, 0])
theorem lat_at : ∀ t : Fin cfg0.N, kernelRun0_B.sl.v4 (grid0.coords t) = if t.val % 9 < 8 then 1#1 else 0#1 :=
  (by decide +kernel : ∀ t : Fin grid0.N, kernelRun0_B.sl.v4 (grid0.coords t) = if t.val % 9 < 8 then 1#1 else 0#1)

theorem lt36 (t : Fin cfg0.N) : t.val < 36 := lt_of_lt_of_eq t.isLt N_0
theorem bd (t : Fin cfg0.N) : t.val / 9 < 4 := by have := lt36 t; omega
theorem rd (t : Fin cfg0.N) (r : Fin 256) : 256 * (8 - t.val % 9) + r.val < 2304 := by have := r.isLt; omega

section
variable (m : (ℓ : Loc nD τ sig) → Buf (Elt Ideal) ℓ) (c : Dev nD) (t : Fin cfg0.N) (h : Fin 8) (r : Fin 256) (j : Fin 128)

theorem iblk0 : (iblk m c 0 t : Vec Ideal S1x8x256x128 .f32) (ix4 0 h r j) = m ((c : Thread nD τ).loc main_arg0) (ix4 ⟨t.val / 9, bd t⟩ h ⟨256 * (8 - t.val % 9) + r.val, rd t r⟩ j) := by
  refine Eq.trans ?_ (congrFun (V_main_arg0 m c) _)
  blk_ext [iblk, (idx_in t).1]
  show (8 - t.val % 9) * 256 + r.val = 256 * (8 - t.val % 9) + r.val
  omega
theorem iblk1 : (iblk m c 1 t : Vec Ideal S1x1x8x256x128 .f32) (ix5 0 0 h r j) = m ((c : Thread nD τ).loc main_arg1) (ix5 0 ⟨t.val / 9, bd t⟩ h ⟨256 * (8 - t.val % 9) + r.val, rd t r⟩ j) := by
  refine Eq.trans ?_ (congrFun (V_main_arg1 m c) _)
  blk_ext [iblk, (idx_in t).2.1]
  show (8 - t.val % 9) * 256 + r.val = 256 * (8 - t.val % 9) + r.val
  omega
theorem iblk2 : (iblk m c 2 t : Vec Ideal S1x8x256x128 .bf16) (ix4 0 h r j) = m ((c : Thread nD τ).loc main_arg2) (ix4 ⟨t.val / 9, bd t⟩ h ⟨256 * (8 - t.val % 9) + r.val, rd t r⟩ j) := by
  refine Eq.trans ?_ (congrFun (V_main_arg2 m c) _)
  blk_ext [iblk, (idx_in t).2.2.1]
  show (8 - t.val % 9) * 256 + r.val = 256 * (8 - t.val % 9) + r.val
  omega
theorem iblk3 : (iblk m c 3 t : Vec Ideal S1x1x8x256x128 .f32) (ix5 0 0 h r j) = m ((c : Thread nD τ).loc main_arg3) (ix5 0 ⟨t.val / 9, bd t⟩ h ⟨256 * (8 - t.val % 9) + r.val, rd t r⟩ j) := by
  refine Eq.trans ?_ (congrFun (V_main_arg3 m c) _)
  blk_ext [iblk, (idx_in t).2.2.2.1]
  show (8 - t.val % 9) * 256 + r.val = 256 * (8 - t.val % 9) + r.val
  omega
theorem iblk4 (i : Fin 128) : (iblk m c 4 t : Vec Ideal S1x8x1x128x128 .f32) (ix5 0 h 0 i j) = V m c main_v31 (ix5 ⟨t.val / 9, bd t⟩ h ⟨8 - t.val % 9, by omega⟩ i j) := by
  blk_ext [iblk, (idx_in t).2.2.2.2.1]
theorem iblk5 : (iblk m c 5 t : Vec Ideal S1x8x256x128 .bf16) (ix4 0 h r j) = m ((c : Thread nD τ).loc main_arg4) (ix4 ⟨t.val / 9, bd t⟩ h ⟨256 * (7 - t.val % 9) + r.val, by have := r.isLt; omega⟩ j) := by
  refine Eq.trans ?_ (congrFun (V_main_arg4 m c) _)
  blk_ext [iblk, (idx_in t).2.2.2.2.2]
  show (7 - t.val % 9) * 256 + r.val = 256 * (7 - t.val % 9) + r.val
  omega
end

/-! ## The point's run, its case forgotten -/

section
variable (m : (ℓ : Loc nD τ sig) → Buf (Elt Ideal) ℓ) (c : Dev nD)

/-- The scratch a point begins with. -/
def before (t : Fin cfg0.N) : Vec Ideal S8x128x128 .f32 :=
  if t.val % 9 = 0 then zeroD else (outsAt0 m c (t.val - 1) (Nat.lt_of_le_of_lt (Nat.sub_le _ _) t.isLt)).2.2.2.2

theorem point (t : Fin cfg0.N) : outsAt0 m c t.val t.isLt
    = (blkQ (kernelRun0_B.sl.v4 (grid0.coords t)) (iblk m c 1 t) (iblk m c 2 t) (iblk m c 3 t) (iblk m c 4 t) (iblk m c 5 t),
       blkK (kernelRun0_B.sl.v4 (grid0.coords t)) (iblk m c 0 t) (iblk m c 2 t) (iblk m c 3 t) (iblk m c 5 t) (before m c t),
       blkV (kernelRun0_B.sl.v4 (grid0.coords t)) (iblk m c 0 t) (iblk m c 1 t) (iblk m c 3 t) (iblk m c 5 t) (before m c t),
       blkG (kernelRun0_B.sl.v4 (grid0.coords t)) (iblk m c 0 t) (iblk m c 1 t) (iblk m c 2 t) (iblk m c 3 t) (iblk m c 4 t) (iblk m c 5 t) (before m c t),
       blkD (kernelRun0_B.sl.v4 (grid0.coords t)) (iblk m c 0 t) (iblk m c 3 t) (iblk m c 5 t) (before m c t)) := by
  by_cases h0 : t.val % 9 = 0
  · rw [outsAt0_A m c t h0, a_Q, a_K, a_V, a_G, a_D]
    unfold before
    rw [if_pos h0]
  · rw [outsAt0_B m c t h0, b_Q, b_K, b_V, b_G, b_D]
    unfold before
    rw [if_neg h0]
end

/-! ## Over the reals -/

/-- The arrays' entries are these reals. -/
structure Reals (m : (ℓ : Loc nD τ sig) → Buf (Elt Ideal) ℓ) (c : Dev nD) (Q K V' G O : ℕ → ℕ → ℕ → ℕ → ℝ) (S : ℕ → ℕ → ℕ → ℕ → ℕ → ℝ) : Prop where
  q : ∀ (b : Fin 4) (h : Fin 8) (r : Fin 2304) (j : Fin 128), m ((c : Thread nD τ).loc main_arg0) (ix4 b h r j) = ((Q b.val h.val r.val j.val : ℝ) : EReal)
  k : ∀ (b : Fin 4) (h : Fin 8) (r : Fin 2304) (j : Fin 128), m ((c : Thread nD τ).loc main_arg1) (ix5 0 b h r j) = ((K b.val h.val r.val j.val : ℝ) : EReal)
  v : ∀ (b : Fin 4) (h : Fin 8) (r : Fin 2304) (j : Fin 128), m ((c : Thread nD τ).loc main_arg2) (ix4 b h r j) = ((V' b.val h.val r.val j.val : ℝ) : EReal)
  g : ∀ (b : Fin 4) (h : Fin 8) (r : Fin 2304) (j : Fin 128), m ((c : Thread nD τ).loc main_arg3) (ix5 0 b h r j) = ((G b.val h.val r.val j.val : ℝ) : EReal)
  o : ∀ (b : Fin 4) (h : Fin 8) (r : Fin 2048) (j : Fin 128), m ((c : Thread nD τ).loc main_arg4) (ix4 b h r j) = ((O b.val h.val (256 + r.val) j.val : ℝ) : EReal)
  o0 : ∀ b h r j, r < 256 → O b h r j = 0
  s : ∀ (b : Fin 4) (h : Fin 8) (n : Fin 9) (i j : Fin 128), V m c main_v31 (ix5 b h n i j) = ((S b.val h.val n.val i.val j.val : ℝ) : EReal)

/-- Rows of block `n`. -/
def rows (X : ℕ → ℕ → ℕ → ℕ → ℝ) (b h n : ℕ) : ℕ → ℕ → ℝ := fun r j => X b h (256 * n + r) j

/-- The state's cotangent with which the `n`-th point of a batch begins. -/
def carry (Q G O : ℕ → ℕ → ℕ → ℕ → ℝ) (b h : ℕ) : ℕ → ℕ → ℕ → ℝ
  | 0 => fun _ _ => 0
  | n + 1 => dsR (rows Q b h (8 - n)) (rows G b h (8 - n)) (rows O b h (8 - n)) (carry Q G O b h n) 8

section
variable {m : (ℓ : Loc nD τ sig) → Buf (Elt Ideal) ℓ} {c : Dev nD} {Q K V' G O : ℕ → ℕ → ℕ → ℕ → ℝ} {S : ℕ → ℕ → ℕ → ℕ → ℕ → ℝ}
variable (hR : Reals m c Q K V' G O S) (t : Fin cfg0.N) (h : Fin 8)
include hR

theorem ld_q : R2 (Head.q (cut4 (φ := .f32) (iblk m c 0 t) h)) (rows Q (t.val / 9) h.val (8 - t.val % 9)) := sq4 fun r j => by
  rw [cut4_at, iblk0, hR.q]; rfl
theorem ld_k : R2 (Head.k (cut5 (φ := .f32) (iblk m c 1 t) h)) (rows K (t.val / 9) h.val (8 - t.val % 9)) := sq5 fun r j => by
  rw [cut5_at, iblk1, hR.k]; rfl
theorem ld_v : R2 (Head.v (cut4 (φ := .bf16) (iblk m c 2 t) h)) (rows V' (t.val / 9) h.val (8 - t.val % 9)) := sq4 fun r j => by
  rw [cut4_at, iblk2, hR.v]; rfl
theorem ld_g : R2 (a := 256) (b := 128) (φ := .f32) (shapeCast S256x128 (cut5 (φ := .f32) (iblk m c 3 t) h) shapeCasts_S1x1x1x256x128_S256x128)
    (rows G (t.val / 9) h.val (8 - t.val % 9)) := sq5 fun r j => by
  rw [cut5_at, iblk3, hR.g]; rfl
theorem ld_s : R2 (a := 128) (b := 128) (φ := .f32) (shapeCast S128x128 (cutS (φ := .f32) (iblk m c 4 t) h) shapeCasts_S1x1x1x128x128_S128x128)
    (S (t.val / 9) h.val (8 - t.val % 9)) := sqS fun r j => by
  rw [cutS_at, iblk4, hR.s]
theorem ld_o : R2 (Head.dO (kernelRun0_B.sl.v4 (grid0.coords t)) (cut4 (φ := .bf16) (iblk m c 5 t) h)) (rows O (t.val / 9) h.val (8 - t.val % 9)) := by
  unfold Head.dO
  rw [lat_at]
  by_cases hl : t.val % 9 < 8
  · rw [if_pos hl]
    refine R2.of_eq (sq4 (f := rows O (t.val / 9) h.val (8 - t.val % 9)) fun r j => ?_) (if_pos rfl)
    rw [cut4_at, iblk5, hR.o]
    unfold rows
    congr 2
    show 256 + (256 * (7 - t.val % 9) + r.val) = 256 * (8 - t.val % 9) + r.val
    omega
  · rw [if_neg hl]
    intro i j
    refine (ofBits_f32 : _ = ((0 : ℝ) : EReal)).trans ?_
    rw [show rows O (t.val / 9) h.val (8 - t.val % 9) i.val j.val = 0 from hR.o0 _ _ _ _ (by have := i.isLt; omega)]

/-- The scratch after each point. -/
theorem scratch : ∀ (n : ℕ) (hn : n < cfg0.N) (h : Fin 8) (i j : Fin 128),
    (outsAt0 m c n hn).2.2.2.2 (ix3 h i j) = ((carry Q G O (n / 9) h.val (n % 9 + 1) i.val j.val : ℝ) : EReal) := by
  intro n
  induction n using Nat.strong_induction_on with
  | _ n ih =>
    intro hn h i j
    have hd : R2 (a := 128) (b := 128) (φ := .f32) (shapeCast S128x128 (cutD (φ := .f32) (before m c ⟨n, hn⟩) h) shapeCasts_S1x128x128_S128x128)
        (carry Q G O (n / 9) h.val (n % 9)) := sqD fun r j => by
      rw [cutD_at]
      unfold before
      by_cases h0 : n % 9 = 0
      · rw [if_pos h0, h0]; exact ofBits_f32
      · rw [if_neg h0, ih (n - 1) (by omega)]
        rw [show (n - 1) / 9 = n / 9 by omega, show (n - 1) % 9 + 1 = n % 9 by omega]
    rw [point m c ⟨n, hn⟩]
    exact outD_R (ld_q hR ⟨n, hn⟩ h) (ld_o hR ⟨n, hn⟩ h) (ld_g hR ⟨n, hn⟩ h) hd i j

theorem ld_d : R2 (a := 128) (b := 128) (φ := .f32) (shapeCast S128x128 (cutD (φ := .f32) (before m c t) h) shapeCasts_S1x128x128_S128x128)
    (carry Q G O (t.val / 9) h.val (t.val % 9)) := sqD fun r j => by
  rw [cutD_at]
  unfold before
  by_cases h0 : t.val % 9 = 0
  · rw [if_pos h0, h0]; exact ofBits_f32
  · rw [if_neg h0, scratch hR (t.val - 1)]
    rw [show (t.val - 1) / 9 = t.val / 9 by omega, show (t.val - 1) % 9 + 1 = t.val % 9 by omega]

end

/-! ## The arrays after the run -/

/-- What block `n` of head `h` of batch `b` leaves. -/
def resQ (K V' G O : ℕ → ℕ → ℕ → ℕ → ℝ) (S : ℕ → ℕ → ℕ → ℕ → ℕ → ℝ) (b h R j : ℕ) : ℝ :=
  dqR (rows K b h (R / 256)) (rows V' b h (R / 256)) (rows G b h (R / 256)) (rows O b h (R / 256)) (S b h (R / 256)) (R % 256) j
def resK (Q V' G O : ℕ → ℕ → ℕ → ℕ → ℝ) (b h R j : ℕ) : ℝ :=
  dkR (rows Q b h (R / 256)) (rows V' b h (R / 256)) (rows G b h (R / 256)) (rows O b h (R / 256)) (carry Q G O b h (8 - R / 256)) (R % 256) j
def resV (Q K G O : ℕ → ℕ → ℕ → ℕ → ℝ) (b h R j : ℕ) : ℝ :=
  dvR (rows Q b h (R / 256)) (rows K b h (R / 256)) (rows G b h (R / 256)) (rows O b h (R / 256)) (carry Q G O b h (8 - R / 256)) (R % 256) j
def resG (Q K V' G O : ℕ → ℕ → ℕ → ℕ → ℝ) (S : ℕ → ℕ → ℕ → ℕ → ℕ → ℝ) (b h R j : ℕ) : ℝ :=
  dgR (rows Q b h (R / 256)) (rows K b h (R / 256)) (rows V' b h (R / 256)) (rows G b h (R / 256)) (rows O b h (R / 256)) (S b h (R / 256))
    (carry Q G O b h (8 - R / 256)) (R % 256) j

/-- A real table as an array. -/
def arr (f : ℕ → ℕ → ℕ → ℕ → ℝ) : FVec Ideal S4x8x2304x128 .bf16 := fun i => ((f (i 0).val (i 1).val (i 2).val (i 3).val : ℝ) : EReal)

theorem place (y : S1x8x256x128.Idx) (t : Fin cfg0.N) (f : ℕ → ℕ → ℕ → ℕ → ℝ) (i : S4x8x2304x128.Idx) (n : Fin 4 → ℕ)
    (hn : n = ![t.val / 9, 0, 8 - t.val % 9, 0])
    (e : ∀ a : Fin 4, (i a).val = n a * (![1, 8, 256, 128] : Fin 4 → ℕ) a + (y a).val) :
    arr f i = ((f (t.val / 9) (y 1).val (256 * (8 - t.val % 9) + (y 2).val) (y 3).val : ℝ) : EReal) := by
  subst hn
  have e0 : (i 0).val = t.val / 9 := (e 0).trans (by
    show t.val / 9 * 1 + (y 0).val = _; have : (y 0).val < 1 := (y 0).isLt; omega)
  have e1 : (i 1).val = (y 1).val := (e 1).trans (by show 0 * 8 + (y 1).val = _; omega)
  have e2 : (i 2).val = 256 * (8 - t.val % 9) + (y 2).val := (e 2).trans (by
    show (8 - t.val % 9) * 256 + (y 2).val = _; omega)
  have e3 : (i 3).val = (y 3).val := (e 3).trans (by show 0 * 128 + (y 3).val = _; omega)
  unfold arr; rw [e0, e1, e2, e3]

theorem row_div (n r : ℕ) (h : r < 256) : (256 * n + r) / 256 = n ∧ (256 * n + r) % 256 = r := by omega

section
variable {m : (ℓ : Loc nD τ sig) → Buf (Elt Ideal) ℓ} {c : Dev nD} {Q K V' G O : ℕ → ℕ → ℕ → ℕ → ℝ} {S : ℕ → ℕ → ℕ → ℕ → ℕ → ℝ}
variable (hR : Reals m c Q K V' G O S)
include hR

theorem arr_Q : (dats m 0 c).arrAt 6 cfg0.N = arr (resQ K V' G O S) := by
  refine (dats m 0 c).arrAt_eq_of_covers 6 _ (by decide +kernel) fun t hf y => ?_
  blk_simp
  rw [after0_6, point m c t]
  refine Eq.trans ?_ (place y t _ ((win0_6.blk t).view.emb y) _ (idx_out t).1 fun a => Pipeline.Window.rect_emb_val win0_6 t y a rfl).symm
  unfold resQ
  rw [(row_div _ _ (y 2).isLt).1, (row_div _ _ (y 2).isLt).2]
  exact outQ_R (ld_k hR t (y 1)) (ld_v hR t (y 1)) (ld_o hR t (y 1)) (ld_g hR t (y 1)) (ld_s hR t (y 1)) (y 2) (y 3)
theorem arr_K : (dats m 0 c).arrAt 7 cfg0.N = arr (resK Q V' G O) := by
  refine (dats m 0 c).arrAt_eq_of_covers 7 _ (by decide +kernel) fun t hf y => ?_
  blk_simp
  rw [after0_7, point m c t]
  refine Eq.trans ?_ (place y t _ ((win0_7.blk t).view.emb y) _ (idx_out t).2.1 fun a => Pipeline.Window.rect_emb_val win0_7 t y a rfl).symm
  unfold resK
  rw [(row_div _ _ (y 2).isLt).1, (row_div _ _ (y 2).isLt).2, show 8 - (8 - t.val % 9) = t.val % 9 by omega]
  exact outK_R (ld_q hR t (y 1)) (ld_v hR t (y 1)) (ld_o hR t (y 1)) (ld_g hR t (y 1)) (ld_d hR t (y 1)) (y 2) (y 3)
theorem arr_V : (dats m 0 c).arrAt 8 cfg0.N = arr (resV Q K G O) := by
  refine (dats m 0 c).arrAt_eq_of_covers 8 _ (by decide +kernel) fun t hf y => ?_
  blk_simp
  rw [after0_8, point m c t]
  refine Eq.trans ?_ (place y t _ ((win0_8.blk t).view.emb y) _ (idx_out t).2.2.1 fun a => Pipeline.Window.rect_emb_val win0_8 t y a rfl).symm
  unfold resV
  have h2 : (y 2).val < 256 := (y 2).isLt
  rw [(row_div _ _ (y 2).isLt).1, (row_div _ _ (y 2).isLt).2, show 8 - (8 - t.val % 9) = t.val % 9 by omega]
  refine (dvS_R (ld_q hR t (y 1)) (ld_k hR t (y 1)) (ld_o hR t (y 1)) (ld_g hR t (y 1)) (ld_d hR t (y 1)) ⟨(y 2).val / 128, by omega⟩ ⟨(y 2).val % 128, by omega⟩ (y 3)).trans ?_
  show ((dvR _ _ _ _ _ (128 * ((y 2).val / 128) + (y 2).val % 128) _ : ℝ) : EReal) = _
  rw [Nat.div_add_mod]
theorem arr_G : (dats m 0 c).arrAt 9 cfg0.N = arr (resG Q K V' G O S) := by
  refine (dats m 0 c).arrAt_eq_of_covers 9 _ (by decide +kernel) fun t hf y => ?_
  blk_simp
  rw [after0_9, point m c t]
  refine Eq.trans ?_ (place y t _ ((win0_9.blk t).view.emb y) _ (idx_out t).2.2.2 fun a => Pipeline.Window.rect_emb_val win0_9 t y a rfl).symm
  unfold resG
  rw [(row_div _ _ (y 2).isLt).1, (row_div _ _ (y 2).isLt).2, show 8 - (8 - t.val % 9) = t.val % 9 by omega]
  exact outG_R (ld_q hR t (y 1)) (ld_k hR t (y 1)) (ld_v hR t (y 1)) (ld_o hR t (y 1)) (ld_g hR t (y 1)) (ld_s hR t (y 1)) (ld_d hR t (y 1)) (y 2) (y 3)
end

end Lift
-- ==== Proof.Eqn.lean ====
/- The equation over the reals: the chunked sums of the grid's run are the sums over all rows. -/
module

public import proofs.«01_k».proof.Proof.Grid

@[expose] public section

set_option maxRecDepth 16384

noncomputable section

namespace Lift

open Finset

/-- The decay's logarithm, summed over the rows before `n`. -/
def C (g : ℕ → ℕ → ℝ) (n j : ℕ) : ℝ := ∑ a ∈ range n, g a j
/-- Block `n`'s rows. -/
def shf (n : ℕ) (x : ℕ → ℕ → ℝ) : ℕ → ℕ → ℝ := fun r j => x (256 * n + r) j
/-- The state before row `N`, transposed. -/
def Sg (k v g : ℕ → ℕ → ℝ) (N i j : ℕ) : ℝ := ∑ s ∈ range N, v s i * (k s j * Real.exp (C g N j - C g (s + 1) j))
/-- The state's cotangent at row `N`. -/
def Dg (q g o : ℕ → ℕ → ℝ) (N i j : ℕ) : ℝ := ∑ t ∈ Ico N 2304, o t i * (q t j * Real.exp (C g (t + 1) j - C g N j))

theorem C_add (g : ℕ → ℕ → ℝ) (N m j : ℕ) : ∑ a ∈ range m, g (N + a) j = C g (N + m) j - C g N j := by
  unfold C; rw [sum_range_add]; ring
theorem C_mono (g : ℕ → ℕ → ℝ) (j : ℕ) : C g 0 j = 0 := by unfold C; simp

section
variable (q k v g o : ℕ → ℕ → ℝ) (n c r j : ℕ)

theorem dm (c : ℕ) {r : ℕ} (hr : r < 32) : (32 * c + r) / 32 = c ∧ (32 * c + r) % 32 = r := by omega

theorem shf_at (x : ℕ → ℕ → ℝ) : shf n x (32 * c + r) j = x (256 * n + 32 * c + r) j := by unfold shf; rw [Nat.add_assoc]

theorem scan_at (hr : r < 32) : scanR (shf n g) (32 * c + r) j = C g (256 * n + 32 * c + r + 1) j - C g (256 * n + 32 * c) j := by
  unfold scanR shf
  rw [(dm c hr).1, (dm c hr).2]
  simp only [← Nat.add_assoc]
  exact C_add g _ (r + 1) j
theorem tot_at (hr : r < 32) : totR (shf n g) (32 * c + r) j = C g (256 * n + 32 * c + 32) j - C g (256 * n + 32 * c) j := by
  unfold totR shf
  rw [(dm c hr).1]
  simp only [← Nat.add_assoc]
  exact C_add g _ 32 j
theorem eb_at (hr : r < 32) : ebR (shf n g) (32 * c + r) j = Real.exp (C g (256 * n + 32 * c + r + 1) j - C g (256 * n + 32 * c) j) := by
  unfold ebR; rw [scan_at g n c r j hr]
theorem qd_at (hr : r < 32) : qdR (shf n q) (shf n g) (32 * c + r) j = q (256 * n + 32 * c + r) j * Real.exp (C g (256 * n + 32 * c + r + 1) j - C g (256 * n + 32 * c) j) := by
  unfold qdR; rw [eb_at g n c r j hr, shf_at]
theorem ki_at (hr : r < 32) : kiR (shf n k) (shf n g) (32 * c + r) j = k (256 * n + 32 * c + r) j * Real.exp (C g (256 * n + 32 * c) j - C g (256 * n + 32 * c + r + 1) j) := by
  unfold kiR; rw [scan_at g n c r j hr, neg_sub, shf_at]
theorem xx_at (hr : r < 32) : xxR (shf n g) (32 * c + r) j = C g (256 * n + 32 * c + 32) j - C g (256 * n + 32 * c + r + 1) j := by
  unfold xxR; rw [scan_at g n c r j hr, tot_at g n c r j hr]; ring
theorem kt_at (hr : r < 32) : ktR (shf n k) (shf n g) (32 * c + r) j = k (256 * n + 32 * c + r) j * Real.exp (C g (256 * n + 32 * c + 32) j - C g (256 * n + 32 * c + r + 1) j) := by
  unfold ktR; rw [xx_at g n c r j hr, shf_at]

theorem Sg_step (N i : ℕ) : Sg k v g (N + 32) i j = Real.exp (C g (N + 32) j - C g N j) * Sg k v g N i j
    + ∑ a ∈ range 32, v (N + a) i * (k (N + a) j * Real.exp (C g (N + 32) j - C g (N + a + 1) j)) := by
  unfold Sg
  rw [sum_range_add, mul_sum]
  congr 1
  refine sum_congr rfl fun s _ => ?_
  rw [show C g (N + 32) j - C g (s + 1) j = (C g (N + 32) j - C g N j) + (C g N j - C g (s + 1) j) by ring, Real.exp_add]
  ring
theorem Dg_step (N i : ℕ) (hN : N + 32 ≤ 2304) : Dg q g o N i j = (∑ a ∈ range 32, o (N + a) i * (q (N + a) j * Real.exp (C g (N + a + 1) j - C g N j)))
    + Real.exp (C g (N + 32) j - C g N j) * Dg q g o (N + 32) i j := by
  unfold Dg
  rw [← sum_Ico_consecutive _ (by omega : N ≤ N + 32) hN, mul_sum]
  congr 1
  · rw [sum_Ico_eq_sum_range, Nat.add_sub_cancel_left]
  · refine sum_congr rfl fun t _ => ?_
    rw [show C g (t + 1) j - C g N j = (C g (N + 32) j - C g N j) + (C g (t + 1) j - C g (N + 32) j) by ring, Real.exp_add]
    ring

theorem st_at : ∀ c ≤ 8, stR (shf n k) (shf n v) (shf n g) (Sg k v g (256 * n)) c = Sg k v g (256 * n + 32 * c)
  | 0, _ => rfl
  | c + 1, hc => by
    have hm : c % 8 = c := Nat.mod_eq_of_lt hc
    funext i j
    show ebR _ (32 * (c % 8) + 31) j * stR _ _ _ _ c i j + _ = _
    rw [hm, st_at c (by omega), eb_at g n c 31 j (by norm_num), show 256 * n + 32 * (c + 1) = 256 * n + 32 * c + 32 by ring, Sg_step]
    congr 1
    refine sum_congr rfl fun a ha => ?_
    rw [kt_at k g n c a j (mem_range.mp ha)]
    unfold shf; rw [Nat.add_assoc]

theorem ds_at (hn : n < 9) : ∀ c ≤ 8, dsR (shf n q) (shf n g) (shf n o) (Dg q g o (256 * n + 256)) c = Dg q g o (256 * n + 32 * (8 - c))
  | 0, _ => rfl
  | c + 1, hc => by
    have hm : (7 - c) % 8 = 7 - c := Nat.mod_eq_of_lt (by omega)
    funext i j
    show (∑ a ∈ range 32, _ * qdR _ _ (32 * ((7 - c) % 8) + a) j) + ebR _ (32 * ((7 - c) % 8) + 31) j * dsR _ _ _ _ c i j = _
    rw [hm, ds_at hn c (by omega), eb_at g n (7 - c) 31 j (by norm_num), show 8 - (c + 1) = 7 - c by omega,
      Dg_step q g o j (256 * n + 32 * (7 - c)) i (by omega), show 256 * n + 32 * (8 - c) = 256 * n + 32 * (7 - c) + 32 by omega]
    congr 1
    refine sum_congr rfl fun a ha => ?_
    rw [qd_at q g n (7 - c) a j (mem_range.mp ha)]
    unfold shf; rw [Nat.add_assoc]

end

theorem carry_at (Q G O : ℕ → ℕ → ℕ → ℕ → ℝ) (b h : ℕ) : ∀ n ≤ 9, carry Q G O b h n = Dg (Q b h) (G b h) (O b h) (256 * (9 - n))
  | 0, _ => by
    funext i j
    show (0 : ℝ) = _
    unfold Dg; simp
  | n + 1, hn => by
    show dsR (shf (8 - n) (Q b h)) (shf (8 - n) (G b h)) (shf (8 - n) (O b h)) (carry Q G O b h n) 8 = _
    rw [carry_at Q G O b h n (by omega), show 256 * (9 - n) = 256 * (8 - n) + 256 by omega, ds_at _ _ _ _ (by omega) 8 le_rfl]
    rw [show 9 - (n + 1) = 8 - n by omega]; rfl

/-! ## The four results -/

section
variable (q k v g o : ℕ → ℕ → ℝ)

/-- The score's cotangent. -/
def da (t s : ℕ) : ℝ := ∑ c ∈ range 128, o t c * v s c
/-- The score. -/
def at' (t s : ℕ) : ℝ := ∑ c ∈ range 128, q t c * k s c * Real.exp (C g (t + 1) c - C g (s + 1) c)
/-- The decay's cotangent times the decay. -/
def ee (j t s : ℕ) : ℝ := da v o t s * (q t j * k s j * Real.exp (C g (t + 1) j - C g (s + 1) j))

def dqG (R j : ℕ) : ℝ := ∑ s ∈ range (R + 1), da v o R s * (k s j * Real.exp (C g (R + 1) j - C g (s + 1) j))
def dkG (R j : ℕ) : ℝ := ∑ t ∈ Ico R 2304, da v o t R * (q t j * Real.exp (C g (t + 1) j - C g (R + 1) j))
def dvG (R j : ℕ) : ℝ := ∑ t ∈ Ico R 2304, at' q k g t R * o t j
def dgG (R j : ℕ) : ℝ := ∑ i ∈ Ico R 2304, ((∑ s ∈ range (i + 1), ee q k v g o j i s) - ∑ t ∈ Ico i 2304, ee q k v g o j t i)

theorem low (r : ℕ) (hr : r < 32) (f : ℕ → ℝ) : (∑ a ∈ range 32, if a ≤ r then f a else 0) = ∑ a ∈ range (r + 1), f a := by
  rw [← sum_filter]
  refine sum_congr (ext fun a => ?_) fun _ _ => rfl
  simp only [mem_filter, mem_range]; omega
theorem high (r : ℕ) (f : ℕ → ℝ) : (∑ a ∈ range 32, if r ≤ a then f a else 0) = ∑ a ∈ Ico r 32, f a := by
  rw [← sum_filter]
  refine sum_congr (ext fun a => ?_) fun _ _ => rfl
  simp only [mem_filter, mem_range, mem_Ico]; omega
theorem shift (N r m : ℕ) (f : ℕ → ℝ) : ∑ a ∈ Ico r m, f (N + a) = ∑ t ∈ Ico (N + r) (N + m), f t := by
  rw [sum_Ico_add f r m N, Nat.add_comm r, Nat.add_comm m]

theorem fold_s (w : ℕ → ℝ) (N j : ℕ) : (∑ c ∈ range 128, w c * Sg k v g N c j)
    = ∑ s ∈ range N, (∑ c ∈ range 128, w c * v s c) * (k s j * Real.exp (C g N j - C g (s + 1) j)) := by
  unfold Sg
  simp only [mul_sum, sum_mul]
  rw [sum_comm]
  exact sum_congr rfl fun s _ => sum_congr rfl fun c _ => by ring
theorem fold_d (w : ℕ → ℝ) (N j : ℕ) : (∑ c ∈ range 128, w c * Dg q g o N c j)
    = ∑ t ∈ Ico N 2304, (∑ c ∈ range 128, o t c * w c) * (q t j * Real.exp (C g (t + 1) j - C g N j)) := by
  unfold Dg
  simp only [mul_sum, sum_mul]
  rw [sum_comm]
  exact sum_congr rfl fun s _ => sum_congr rfl fun c _ => by ring

variable (n c r j : ℕ) (hn : n < 9) (hc : c < 8) (hr : r < 32)

include hc hr in
theorem dqd_at : dqdR (shf n k) (shf n v) (shf n g) (shf n o) (Sg k v g (256 * n)) (32 * c + r) j
    = ∑ s ∈ range (256 * n + 32 * c + r + 1), da v o (256 * n + 32 * c + r) s * (k s j * Real.exp (C g (256 * n + 32 * c) j - C g (s + 1) j)) := by
  unfold dqdR
  rw [(dm c hr).1, (dm c hr).2, st_at k v g n c (by omega), fold_s, low r hr, Nat.add_assoc (256 * n + 32 * c), sum_range_add _ (256 * n + 32 * c) (r + 1), add_comm]
  congr 1
  · refine sum_congr rfl fun s _ => ?_
    unfold da shf; rw [Nat.add_assoc]
  · refine sum_congr rfl fun a ha => ?_
    rw [ki_at k g n c a j (by have := mem_range.mp ha; omega)]
    unfold da shf; simp only [Nat.add_assoc]
include hr in
theorem dki_at : dkiR (shf n q) (shf n v) (shf n g) (shf n o) (32 * c + r) j
    = ∑ t ∈ Ico (256 * n + 32 * c + r) (256 * n + 32 * c + 32), da v o t (256 * n + 32 * c + r) * (q t j * Real.exp (C g (t + 1) j - C g (256 * n + 32 * c) j)) := by
  unfold dkiR
  rw [(dm c hr).1, (dm c hr).2, high, ← shift]
  refine sum_congr rfl fun a ha => ?_
  rw [qd_at q g n c a j (mem_Ico.mp ha).2]
  unfold da shf; simp only [Nat.add_assoc, mul_comm]
include hn hc hr in
theorem dkt_at : dktR (shf n q) (shf n v) (shf n g) (shf n o) (Dg q g o (256 * n + 256)) (32 * c + r) j
    = ∑ t ∈ Ico (256 * n + 32 * c + 32) 2304, da v o t (256 * n + 32 * c + r) * (q t j * Real.exp (C g (t + 1) j - C g (256 * n + 32 * c + 32) j)) := by
  unfold dktR
  rw [(dm c hr).1, ds_at q g o n hn (7 - c) (by omega), fold_d, show 256 * n + 32 * (8 - (7 - c)) = 256 * n + 32 * c + 32 by omega]
  refine sum_congr rfl fun t _ => ?_
  unfold da; simp only [shf_at]

include hc hr in
theorem dq_at : dqR (shf n k) (shf n v) (shf n g) (shf n o) (Sg k v g (256 * n)) (32 * c + r) j = dqG k v g o (256 * n + 32 * c + r) j := by
  unfold dqR dqG
  rw [dqd_at k v g o n c r j hc hr, eb_at g n c r j hr, sum_mul]
  refine sum_congr rfl fun s _ => ?_
  rw [show C g (256 * n + 32 * c + r + 1) j - C g (s + 1) j = (C g (256 * n + 32 * c) j - C g (s + 1) j) + (C g (256 * n + 32 * c + r + 1) j - C g (256 * n + 32 * c) j) by ring, Real.exp_add]
  ring
include hn hc hr in
theorem dk_at : dkR (shf n q) (shf n v) (shf n g) (shf n o) (Dg q g o (256 * n + 256)) (32 * c + r) j = dkG q v g o (256 * n + 32 * c + r) j := by
  unfold dkR dkG
  rw [dki_at q v g o n c r j hr, dkt_at q v g o n c r j hn hc hr, scan_at g n c r j hr, xx_at g n c r j hr, sum_mul, sum_mul,
    ← sum_Ico_consecutive _ (by omega : 256 * n + 32 * c + r ≤ 256 * n + 32 * c + 32) (by omega : _ ≤ 2304)]
  congr 1
  · refine sum_congr rfl fun t _ => ?_
    rw [show C g (t + 1) j - C g (256 * n + 32 * c + r + 1) j = (C g (t + 1) j - C g (256 * n + 32 * c) j) + -(C g (256 * n + 32 * c + r + 1) j - C g (256 * n + 32 * c) j) by ring, Real.exp_add]
    ring
  · refine sum_congr rfl fun t _ => ?_
    rw [show C g (t + 1) j - C g (256 * n + 32 * c + r + 1) j = (C g (t + 1) j - C g (256 * n + 32 * c + 32) j) + (C g (256 * n + 32 * c + 32) j - C g (256 * n + 32 * c + r + 1) j) by ring, Real.exp_add]
    ring
include hn hc hr in
theorem dv_at : dvR (shf n q) (shf n k) (shf n g) (shf n o) (Dg q g o (256 * n + 256)) (32 * c + r) j = dvG q k g o (256 * n + 32 * c + r) j := by
  unfold dvR dvG
  rw [(dm c hr).1, (dm c hr).2, ds_at q g o n hn (7 - c) (by omega), show 256 * n + 32 * (8 - (7 - c)) = 256 * n + 32 * c + 32 by omega, high,
    ← sum_Ico_consecutive _ (by omega : 256 * n + 32 * c + r ≤ 256 * n + 32 * c + 32) (by omega : _ ≤ 2304), ← shift]
  congr 1
  · refine sum_congr rfl fun a ha => ?_
    unfold at'
    rw [show shf n o (32 * c + a) j = o (256 * n + 32 * c + a) j by unfold shf; rw [Nat.add_assoc]]
    congr 1
    refine sum_congr rfl fun e _ => ?_
    rw [ki_at k g n c r e hr, qd_at q g n c a e (mem_Ico.mp ha).2, show C g (256 * n + 32 * c + a + 1) e - C g (256 * n + 32 * c + r + 1) e
      = (C g (256 * n + 32 * c) e - C g (256 * n + 32 * c + r + 1) e) + (C g (256 * n + 32 * c + a + 1) e - C g (256 * n + 32 * c) e) by ring, Real.exp_add]
    ring
  · unfold Dg at'
    simp only [mul_sum, sum_mul]
    rw [sum_comm]
    refine sum_congr rfl fun t _ => sum_congr rfl fun e _ => ?_
    rw [kt_at k g n c r e hr, show C g (t + 1) e - C g (256 * n + 32 * c + r + 1) e
      = (C g (256 * n + 32 * c + 32) e - C g (256 * n + 32 * c + r + 1) e) + (C g (t + 1) e - C g (256 * n + 32 * c + 32) e) by ring, Real.exp_add]
    ring

/-- The rows' and columns' sums, cut at row `R`, are the block right of `R` and above it. -/
theorem corner (E : ℕ → ℕ → ℝ) (R N : ℕ) : ∑ i ∈ Ico R N, ((∑ s ∈ range (i + 1), E i s) - ∑ t ∈ Ico i N, E t i) = ∑ t ∈ Ico R N, ∑ s ∈ range R, E t s := by
  rw [sum_sub_distrib, sum_Ico_Ico_comm, ← sum_sub_distrib]
  refine sum_congr rfl fun t ht => ?_
  rw [range_eq_Ico, ← sum_Ico_consecutive _ (Nat.zero_le R) (by have := (mem_Ico.mp ht).1; omega : R ≤ t + 1), range_eq_Ico]
  ring

include hc hr in
theorem db_at : dbR (shf n q) (shf n k) (shf n v) (shf n g) (shf n o) (Sg k v g (256 * n)) (32 * c + r) j
    = (∑ s ∈ range (256 * n + 32 * c + r + 1), ee q k v g o j (256 * n + 32 * c + r) s)
      - ∑ t ∈ Ico (256 * n + 32 * c + r) (256 * n + 32 * c + 32), ee q k v g o j t (256 * n + 32 * c + r) := by
  unfold dbR
  rw [dqd_at k v g o n c r j hc hr, dki_at q v g o n c r j hr, qd_at q g n c r j hr, ki_at k g n c r j hr, sum_mul, sum_mul]
  congr 1
  · refine sum_congr rfl fun s _ => ?_
    unfold ee
    rw [show C g (256 * n + 32 * c + r + 1) j - C g (s + 1) j = (C g (256 * n + 32 * c) j - C g (s + 1) j) + (C g (256 * n + 32 * c + r + 1) j - C g (256 * n + 32 * c) j) by ring, Real.exp_add]
    ring
  · refine sum_congr rfl fun t _ => ?_
    unfold ee
    rw [show C g (t + 1) j - C g (256 * n + 32 * c + r + 1) j = (C g (t + 1) j - C g (256 * n + 32 * c) j) + (C g (256 * n + 32 * c) j - C g (256 * n + 32 * c + r + 1) j) by ring, Real.exp_add]
    ring
include hn hc hr in
theorem z_at : zR (shf n q) (shf n k) (shf n v) (shf n g) (shf n o) (Dg q g o (256 * n + 256)) (32 * c + r) j
    = ∑ t ∈ Ico (256 * n + 32 * c + 32) 2304, ee q k v g o j t (256 * n + 32 * c + r) := by
  unfold zR
  rw [dkt_at q v g o n c r j hn hc hr, kt_at k g n c r j hr, sum_mul]
  refine sum_congr rfl fun t _ => ?_
  unfold ee
  rw [show C g (t + 1) j - C g (256 * n + 32 * c + r + 1) j = (C g (t + 1) j - C g (256 * n + 32 * c + 32) j) + (C g (256 * n + 32 * c + 32) j - C g (256 * n + 32 * c + r + 1) j) by ring, Real.exp_add]
  ring
include hn hc in
theorem t2_at : t2R (shf n q) (shf n k) (shf n v) (shf n g) (shf n o) (Sg k v g (256 * n)) (Dg q g o (256 * n + 256)) c j
    = ∑ s ∈ range (256 * n + 32 * c), ∑ t ∈ Ico (256 * n + 32 * c + 32) 2304, ee q k v g o j t s := by
  unfold t2R
  rw [eb_at g n c 31 j (by norm_num), st_at k v g n c (by omega), ds_at q g o n hn (7 - c) (by omega), show 256 * n + 32 * (8 - (7 - c)) = 256 * n + 32 * c + 32 by omega]
  simp only [mul_comm (Sg _ _ _ _ _ _)]
  rw [fold_s, mul_sum]
  refine sum_congr rfl fun s _ => ?_
  rw [show (∑ i ∈ range 128, Dg q g o (256 * n + 32 * c + 32) i j * v s i) = ∑ i ∈ range 128, v s i * Dg q g o (256 * n + 32 * c + 32) i j from
    sum_congr rfl fun i _ => mul_comm _ _, fold_d, sum_mul, mul_sum]
  refine sum_congr rfl fun t _ => ?_
  unfold ee da
  rw [show C g (t + 1) j - C g (s + 1) j = (C g (256 * n + 32 * c + 32) j - C g (256 * n + 32 * c) j) + (C g (t + 1) j - C g (256 * n + 32 * c + 32) j) + (C g (256 * n + 32 * c) j - C g (s + 1) j) by ring, Real.exp_add, Real.exp_add]
  rw [show 256 * n + 32 * c + 31 + 1 = 256 * n + 32 * c + 32 from rfl]
  ring

include hn hc hr in
theorem dg_at : dgR (shf n q) (shf n k) (shf n v) (shf n g) (shf n o) (Sg k v g (256 * n)) (Dg q g o (256 * n + 256)) (32 * c + r) j
    = dgG q k v g o (256 * n + 32 * c + r) j := by
  have hN : 256 * n + 32 * c + 32 ≤ 2304 := by omega
  obtain ⟨N, eN⟩ : ∃ N, N = 256 * n + 32 * c := ⟨_, rfl⟩
  unfold dgR dgG
  rw [corner, (dm c hr).1, t2_at q k v g o n c j hn hc]
  unfold totR scanR
  rw [(dm c hr).1, (dm c hr).2]
  have hdb : ∀ a < 32, dbR (shf n q) (shf n k) (shf n v) (shf n g) (shf n o) (Sg k v g (256 * n)) (32 * c + a) j
    = (∑ s ∈ range (N + a + 1), ee q k v g o j (N + a) s) - ∑ t ∈ Ico (N + a) (N + 32), ee q k v g o j t (N + a) := fun a ha => by
    rw [db_at q k v g o n c a j hc ha, eN]
  have hz : ∀ a < 32, zR (shf n q) (shf n k) (shf n v) (shf n g) (shf n o) (Dg q g o (256 * n + 256)) (32 * c + a) j
    = ∑ t ∈ Ico (N + 32) 2304, ee q k v g o j t (N + a) := fun a ha => by
    rw [z_at q k v g o n c a j hn hc ha, eN]
  rw [← eN] at hN ⊢
  generalize (dbR (shf n q) (shf n k) (shf n v) (shf n g) (shf n o) (Sg k v g (256 * n))) = db at *
  generalize (zR (shf n q) (shf n k) (shf n v) (shf n g) (shf n o) (Dg q g o (256 * n + 256))) = z at *
  have hsuf : ∑ a ∈ Ico r 32, db (32 * c + a) j = ∑ t ∈ Ico (N + r) (N + 32), ∑ s ∈ range (N + r), ee q k v g o j t s := by
    rw [← corner, ← shift]
    exact sum_congr rfl fun a ha => hdb a (mem_Ico.mp ha).2
  have hpre : ∑ a ∈ range r, z (32 * c + a) j = ∑ a ∈ range r, ∑ t ∈ Ico (N + 32) 2304, ee q k v g o j t (N + a) :=
    sum_congr rfl fun a ha => hz a (by have := mem_range.mp ha; omega)
  have hall : ∑ a ∈ range 32, db (32 * c + a) j = ∑ a ∈ range r, db (32 * c + a) j + ∑ a ∈ Ico r 32, db (32 * c + a) j :=
    (sum_range_add_sum_Ico _ (by omega)).symm
  have hgoal : ∑ t ∈ Ico (N + r) 2304, ∑ s ∈ range (N + r), ee q k v g o j t s
      = (∑ t ∈ Ico (N + r) (N + 32), ∑ s ∈ range (N + r), ee q k v g o j t s)
        + ((∑ s ∈ range N, ∑ t ∈ Ico (N + 32) 2304, ee q k v g o j t s) + ∑ a ∈ range r, ∑ t ∈ Ico (N + 32) 2304, ee q k v g o j t (N + a)) := by
    rw [← sum_range_add (fun s => ∑ t ∈ Ico (N + 32) 2304, ee q k v g o j t s) N r, sum_comm (s := range (N + r)) (t := Ico (N + 32) 2304)]
    exact (sum_Ico_consecutive _ (by omega) hN).symm
  rw [hgoal, ← hsuf, ← hpre, hall, sum_range_succ, sum_sub_distrib]
  ring
end

/-! ## The arrays -/

section
variable (Q K V' G O : ℕ → ℕ → ℕ → ℕ → ℝ) (b h R j : ℕ) (hR : R < 2304)

/-- The states the call is given. -/
def SG (K V' G : ℕ → ℕ → ℕ → ℕ → ℝ) (b h n : ℕ) : ℕ → ℕ → ℝ := Sg (K b h) (V' b h) (G b h) (256 * n)

theorem parts (R : ℕ) (hR : R < 2304) : ∃ n c r, n < 9 ∧ c < 8 ∧ r < 32 ∧ R / 256 = n ∧ R % 256 = 32 * c + r ∧ 256 * n + 32 * c + r = R :=
  ⟨R / 256, R % 256 / 32, R % 32, by omega, by omega, by omega, rfl, by omega, by omega⟩

theorem carry_block (n : ℕ) (hn : n < 9) : carry Q G O b h (8 - n) = Dg (Q b h) (G b h) (O b h) (256 * n + 256) := by
  rw [carry_at Q G O b h _ (by omega), show 256 * (9 - (8 - n)) = 256 * n + 256 by omega]

include hR in
theorem resQ_eq : resQ K V' G O (SG K V' G) b h R j = dqG (K b h) (V' b h) (G b h) (O b h) R j := by
  obtain ⟨n, c, r, hn, hc, hr, e1, e2, e3⟩ := parts R hR
  unfold resQ
  rw [e1, e2, ← e3]
  exact dq_at (K b h) (V' b h) (G b h) (O b h) n c r j hc hr
include hR in
theorem resK_eq : resK Q V' G O b h R j = dkG (Q b h) (V' b h) (G b h) (O b h) R j := by
  obtain ⟨n, c, r, hn, hc, hr, e1, e2, e3⟩ := parts R hR
  unfold resK
  rw [e1, e2, ← e3, carry_block Q G O b h n hn]
  exact dk_at (Q b h) (V' b h) (G b h) (O b h) n c r j hn hc hr
include hR in
theorem resV_eq : resV Q K G O b h R j = dvG (Q b h) (K b h) (G b h) (O b h) R j := by
  obtain ⟨n, c, r, hn, hc, hr, e1, e2, e3⟩ := parts R hR
  unfold resV
  rw [e1, e2, ← e3, carry_block Q G O b h n hn]
  exact dv_at (Q b h) (K b h) (G b h) (O b h) n c r j hn hc hr
include hR in
theorem resG_eq : resG Q K V' G O (SG K V' G) b h R j = dgG (Q b h) (K b h) (V' b h) (G b h) (O b h) R j := by
  obtain ⟨n, c, r, hn, hc, hr, e1, e2, e3⟩ := parts R hR
  unfold resG
  rw [e1, e2, ← e3, carry_block Q G O b h n hn]
  exact dg_at (Q b h) (K b h) (V' b h) (G b h) (O b h) n c r j hn hc hr
end

end Lift
-- ==== Proof.Cum.lean ====
/- The host's running sums over the reals. -/
module

public import proofs.«01_k».proof.Proof.Lift

@[expose] public section

set_option maxRecDepth 16384

noncomputable section

namespace Lift

open Idealize.ShloMosaic Idealize.ShloMosaic.ValueIdx Finset

theorem foldl_real {α : Type} (t : α → EReal) (c : α → ℝ) (h : ∀ n, t n = ((c n : ℝ) : EReal)) :
    ∀ (l : List α) (v : ℝ), l.foldl (fun r n => r + t n) ((v : ℝ) : EReal) = (((v + (l.map c).sum : ℝ)) : EReal)
  | [], v => by simp
  | n :: l, v => by
    rw [List.foldl_cons, h, ← EReal.coe_add, foldl_real t c h l, List.map_cons, List.sum_cons]
    congr 1; ring

theorem window_idx {N : ℕ} (n : Fin (⟨4, ![1, 1, N, 1]⟩ : Shape).numel) :
    ((⟨4, ![1, 1, N, 1]⟩ : Shape).rowMajor.symm n 0).val = 0 ∧ ((⟨4, ![1, 1, N, 1]⟩ : Shape).rowMajor.symm n 1).val = 0
    ∧ ((⟨4, ![1, 1, N, 1]⟩ : Shape).rowMajor.symm n 2).val = n.val ∧ ((⟨4, ![1, 1, N, 1]⟩ : Shape).rowMajor.symm n 3).val = 0 := by
  have e := Shape.rowMajor_val_four ((⟨4, ![1, 1, N, 1]⟩ : Shape).rowMajor.symm n)
  rw [Equiv.apply_symm_apply] at e
  generalize (⟨4, ![1, 1, N, 1]⟩ : Shape).rowMajor.symm n = i at e
  have h0 : (i 0).val < 1 := (i 0).isLt
  have h1 : (i 1).val < 1 := (i 1).isLt
  have h3 : (i 3).val < 1 := (i 3).isLt
  have h0' : (i 0).val = 0 := by omega
  have h1' : (i 1).val = 0 := by omega
  rw [h0', h1'] at e
  change n.val = ((0 * 1 + 0) * N + (i 2).val) * 1 + (i 3).val at e
  simp only [Nat.zero_mul, Nat.zero_add] at e
  exact ⟨h0', h1', by omega, by omega⟩

theorem window_sum {A B N D L H : ℕ} (x : (⟨4, ![A, B, N, D]⟩ : Shape).Idx → EReal) (init : (⟨0, ![]⟩ : Shape).Idx → EReal) (f : ℕ → ℝ)
    (h : (⟨4, ![A, B, N, D]⟩ : Shape).ReduceWindows (![1, 1, N, 1] : Fin 4 → ℕ) ![1, 1, 1, 1] ![0, 0, L, 0] ![0, 0, H, 0] ⟨4, ![A, B, N, D]⟩)
    (hu : 0 < (⟨0, ![]⟩ : Shape).numel) (hi : init (Shape.Idx.first hu) = ((0 : ℝ) : EReal)) (a : Fin A) (b : Fin B) (j : Fin N) (d : Fin D)
    (hx : ∀ i : Fin N, x (ix4 a b i d) = ((f i.val : ℝ) : EReal)) :
    Host.reduceWindow (s := ⟨4, ![A, B, N, D]⟩) (· + ·) (![1, 1, N, 1] : Fin 4 → ℕ) ![1, 1, 1, 1] ![0, 0, L, 0] ![0, 0, H, 0] x init h hu (ix4 a b j d)
      = ((∑ n ∈ range N, (if L ≤ j.val + n ∧ j.val + n - L < N then f (j.val + n - L) else 0) : ℝ) : EReal) := by
  unfold Host.reduceWindow
  dsimp only
  rw [hi]
  refine (foldl_real _ (fun n => if L ≤ j.val + n.val ∧ j.val + n.val - L < N then f (j.val + n.val - L) else 0) (fun n => ?_) _ 0).trans ?_
  · obtain ⟨w0, w1, w2, w3⟩ := window_idx n
    split
    · next hin =>
      have h2 := hin 2
      change L ≤ j.val * 1 + ((⟨4, ![1, 1, N, 1]⟩ : Shape).rowMajor.symm n 2).val ∧ j.val * 1 + ((⟨4, ![1, 1, N, 1]⟩ : Shape).rowMajor.symm n 2).val - L < N at h2
      rw [w2, Nat.mul_one] at h2
      rw [if_pos h2]
      refine (congrArg x (funext fun e => Fin.ext ?_)).trans (hx ⟨j.val + n.val - L, h2.2⟩)
      match e with
      | ⟨0, _⟩ => show a.val * 1 + ((⟨4, ![1, 1, N, 1]⟩ : Shape).rowMajor.symm n 0).val - 0 = a.val; rw [w0]; omega
      | ⟨1, _⟩ => show b.val * 1 + ((⟨4, ![1, 1, N, 1]⟩ : Shape).rowMajor.symm n 1).val - 0 = b.val; rw [w1]; omega
      | ⟨2, _⟩ => show j.val * 1 + ((⟨4, ![1, 1, N, 1]⟩ : Shape).rowMajor.symm n 2).val - L = j.val + n.val - L; rw [w2, Nat.mul_one]
      | ⟨3, _⟩ => show d.val * 1 + ((⟨4, ![1, 1, N, 1]⟩ : Shape).rowMajor.symm n 3).val - 0 = d.val; rw [w3]; omega
    · next hin =>
      rw [if_neg fun hle => hin fun e => ?_]
      match e with
      | ⟨0, _⟩ => show 0 ≤ a.val * 1 + ((⟨4, ![1, 1, N, 1]⟩ : Shape).rowMajor.symm n 0).val ∧ a.val * 1 + ((⟨4, ![1, 1, N, 1]⟩ : Shape).rowMajor.symm n 0).val - 0 < A; rw [w0]; omega
      | ⟨1, _⟩ => show 0 ≤ b.val * 1 + ((⟨4, ![1, 1, N, 1]⟩ : Shape).rowMajor.symm n 1).val ∧ b.val * 1 + ((⟨4, ![1, 1, N, 1]⟩ : Shape).rowMajor.symm n 1).val - 0 < B; rw [w1]; omega
      | ⟨2, _⟩ => show L ≤ j.val * 1 + ((⟨4, ![1, 1, N, 1]⟩ : Shape).rowMajor.symm n 2).val ∧ j.val * 1 + ((⟨4, ![1, 1, N, 1]⟩ : Shape).rowMajor.symm n 2).val - L < N; rw [w2, Nat.mul_one]; exact hle
      | ⟨3, _⟩ => show 0 ≤ d.val * 1 + ((⟨4, ![1, 1, N, 1]⟩ : Shape).rowMajor.symm n 3).val ∧ d.val * 1 + ((⟨4, ![1, 1, N, 1]⟩ : Shape).rowMajor.symm n 3).val - 0 < D; rw [w3]; omega
  · rw [zero_add, ← Fin.sum_univ_def, Fin.sum_univ_eq_sum_range (fun n => if L ≤ j.val + n ∧ j.val + n - L < N then f (j.val + n - L) else 0)]
    congr 3
    simp [Shape.numel, Fin.prod_univ_succ]

/-- The running sum along the rows. -/
theorem cumsum_apply {A B N L D : ℕ} (hN : L + 1 = N) (x : FVec Ideal (⟨4, ![A, B, N, D]⟩ : Shape) .f32) (init : FVec Ideal (⟨0, ![]⟩ : Shape) .f32) (f : ℕ → ℝ)
    (h : (⟨4, ![A, B, N, D]⟩ : Shape).ReduceWindows (![1, 1, N, 1] : Fin 4 → ℕ) ![1, 1, 1, 1] ![0, 0, L, 0] ![0, 0, 0, 0] ⟨4, ![A, B, N, D]⟩)
    (hu : 0 < (⟨0, ![]⟩ : Shape).numel) (hi : init (Shape.Idx.first hu) = ((0 : ℝ) : EReal)) (a : Fin A) (b : Fin B) (j : Fin N) (d : Fin D)
    (hx : ∀ i : Fin N, x (ix4 a b i d) = ((f i.val : ℝ) : EReal)) :
    Host.reduceWindowAdd (![1, 1, N, 1] : Fin 4 → ℕ) ![1, 1, 1, 1] ![0, 0, L, 0] ![0, 0, 0, 0] x init h hu (ix4 a b j d)
      = ((∑ n ∈ range (j.val + 1), f n : ℝ) : EReal) := by
  refine (window_sum x (fun _ => init (Shape.Idx.first hu)) f h hu hi a b j d hx).trans ?_
  congr 1
  have hj := j.isLt
  rw [← sum_filter]
  refine sum_bij' (fun n _ => j.val + n - L) (fun n _ => n + L - j.val) ?_ ?_ ?_ ?_ ?_ <;> intro n hn
  · simp only [mem_filter, mem_range] at hn ⊢; omega
  · simp only [mem_filter, mem_range] at hn ⊢; omega
  · simp only [mem_filter, mem_range] at hn ⊢; omega
  · simp only [mem_range] at hn ⊢; omega
  · rfl

/-- The running sum from the last row back. -/
theorem revsum_apply {A B N H D : ℕ} (x : FVec Ideal (⟨4, ![A, B, N, D]⟩ : Shape) .f32) (init : FVec Ideal (⟨0, ![]⟩ : Shape) .f32) (f : ℕ → ℝ)
    (h : (⟨4, ![A, B, N, D]⟩ : Shape).ReduceWindows (![1, 1, N, 1] : Fin 4 → ℕ) ![1, 1, 1, 1] ![0, 0, 0, 0] ![0, 0, H, 0] ⟨4, ![A, B, N, D]⟩)
    (hu : 0 < (⟨0, ![]⟩ : Shape).numel) (hi : init (Shape.Idx.first hu) = ((0 : ℝ) : EReal)) (a : Fin A) (b : Fin B) (j : Fin N) (d : Fin D)
    (hx : ∀ i : Fin N, x (ix4 a b i d) = ((f i.val : ℝ) : EReal)) :
    Host.reduceWindowAdd (![1, 1, N, 1] : Fin 4 → ℕ) ![1, 1, 1, 1] ![0, 0, 0, 0] ![0, 0, H, 0] x init h hu (ix4 a b j d)
      = ((∑ n ∈ Ico j.val N, f n : ℝ) : EReal) := by
  refine (window_sum x (fun _ => init (Shape.Idx.first hu)) f h hu hi a b j d hx).trans ?_
  congr 1
  have hj := j.isLt
  rw [← sum_filter]
  refine sum_bij' (fun n _ => j.val + n) (fun n _ => n - j.val) ?_ ?_ ?_ ?_ ?_ <;> intro n hn
  · simp only [mem_filter, mem_range, mem_Ico] at hn ⊢; omega
  · simp only [mem_filter, mem_range, mem_Ico] at hn ⊢; omega
  · simp only [mem_filter, mem_range] at hn ⊢; omega
  · simp only [mem_Ico] at hn ⊢; omega
  · rfl

end Lift
-- ==== Proof.RefVal.lean ====
/- The reference over the reals: each stage's table, and the four gradients as sums over all rows. -/
module

public import proofs.«01_k».proof.Proof.Eqn
public import proofs.«01_k».proof.Proof.Cum
public import proofs.«01_k».proof.Proof.Gen.ReferenceIdeal.Read
public import Idealize.ShloMosaic.Lib.WordCmp

@[expose] public section

set_option maxRecDepth 16384

noncomputable section

namespace RefVal

open Cert.ReferenceIdeal Cert.ReferenceIdeal.Gen Cert.ReferenceIdeal.Read Idealize.ShloMosaic.TcCoe Idealize.SL.Sem Finset
open Idealize.ShloMosaic hiding ix0 ix1 ix2 ix3 ix4 ix5 eq_ix1 eq_ix2 eq_ix3 eq_ix4
open Idealize.ShloMosaic.ValueIdx Idealize.ShloMosaic.WordCmp

/-- The array has the real entries `f`. -/
def A4 {a b c d : ℕ} (x : (⟨4, ![a, b, c, d]⟩ : Shape).Idx → EReal) (f : ℕ → ℕ → ℕ → ℕ → ℝ) : Prop :=
  ∀ i, x i = ((f (i 0).val (i 1).val (i 2).val (i 3).val : ℝ) : EReal)
def A5 {a b c d e : ℕ} (x : (⟨5, ![a, b, c, d, e]⟩ : Shape).Idx → EReal) (f : ℕ → ℕ → ℕ → ℕ → ℕ → ℝ) : Prop :=
  ∀ i, x i = ((f (i 0).val (i 1).val (i 2).val (i 3).val (i 4).val : ℝ) : EReal)

theorem coe_mul' {x y : EReal} {a b : ℝ} (hx : x = (a : EReal)) (hy : y = (b : EReal)) : x * y = ((a * b : ℝ) : EReal) := by
  rw [hx, hy, EReal.coe_mul]
theorem coe_add' {x y : EReal} {a b : ℝ} (hx : x = (a : EReal)) (hy : y = (b : EReal)) : x + y = ((a + b : ℝ) : EReal) := by
  rw [hx, hy, EReal.coe_add]
theorem coe_sub' {x y : EReal} {a b : ℝ} (hx : x = (a : EReal)) (hy : y = (b : EReal)) : x - y = ((a - b : ℝ) : EReal) := by
  rw [hx, hy, EReal.coe_sub]
theorem coe_neg' {x : EReal} {a : ℝ} (hx : x = (a : EReal)) : -x = ((-a : ℝ) : EReal) := by
  rw [hx, EReal.coe_neg]
theorem coe_exp' {x : EReal} {a : ℝ} (hx : x = (a : EReal)) : Ideal.exp x = ((Real.exp a : ℝ) : EReal) := by
  rw [hx]; rfl
theorem sum' {N : ℕ} (f : ℕ → ℝ) (F : Fin N → EReal) (hF : ∀ k, F k = ((f k.val : ℝ) : EReal)) :
    ∑ k, F k = ((∑ k ∈ range N, f k : ℝ) : EReal) := by
  rw [Lift.coe_sum]; exact sum_congr rfl fun k _ => hF k
theorem red {N : ℕ} {z : EReal} (hz : z = ((0 : ℝ) : EReal)) (f : ℕ → ℝ) (F : Fin N → EReal) (hF : ∀ k, F k = ((f k.val : ℝ) : EReal)) :
    z + ∑ k, F k = ((∑ k ∈ range N, f k : ℝ) : EReal) := by
  rw [hz, sum' f F hF, ← EReal.coe_add, zero_add]
theorem red1 {z : EReal} (hz : z = ((0 : ℝ) : EReal)) (F : Fin 1 → EReal) {a : ℝ} (h : F 0 = (a : EReal)) : z + ∑ k, F k = (a : EReal) := by
  rw [hz, Fin.sum_univ_one, h, ← EReal.coe_add, zero_add]
theorem sel {x y : EReal} {a b : ℝ} {P : Prop} [Decidable P] {w : BitVec 1} (hw : w = if P then 1#1 else 0#1) (hx : x = (a : EReal)) (hy : y = (b : EReal)) :
    Scalar.select w x y = ((if P then a else b : ℝ) : EReal) := by
  rw [hw, hx, hy]; by_cases h : P
  · rw [if_pos h, if_pos h]; rfl
  · rw [if_neg h, if_neg h]; rfl
theorem sum_le (N R : ℕ) (h : R < N) (f : ℕ → ℝ) : ∑ s ∈ range N, (if s ≤ R then f s else 0) = ∑ s ∈ range (R + 1), f s := by
  rw [← sum_filter]; refine sum_congr ?_ fun _ _ => rfl
  ext s; simp only [mem_filter, mem_range]; omega
theorem sum_ge (N R : ℕ) (f : ℕ → ℝ) : ∑ t ∈ range N, (if R ≤ t then f t else 0) = ∑ t ∈ Ico R N, f t := by
  rw [← sum_filter]; refine sum_congr ?_ fun _ _ => rfl
  ext s; simp only [mem_filter, mem_range, mem_Ico]; omega

section
variable (x0 : (⟨S4x8x2304x128, .f32⟩ : BufTy).Contents (Elt Ideal)) (x1 x3 : (⟨S2x4x8x2304x128, .f32⟩ : BufTy).Contents (Elt Ideal))
variable (x2 : (⟨S4x8x2304x128, .bf16⟩ : BufTy).Contents (Elt Ideal)) (x4 : (⟨S4x8x2048x128, .bf16⟩ : BufTy).Contents (Elt Ideal))
variable (Q K V' G O : ℕ → ℕ → ℕ → ℕ → ℝ)

theorem mask (i : S2304x2304.Idx) : val_main_v7 (F := Ideal) i = if (i 1).val ≤ (i 0).val then 1#1 else 0#1 := by
  rw [val_main_v7_apply, val_main_call1_v4_apply, val_main_call1_v2_apply, val_main_call1_v0_apply, val_main_call1_v1_apply, val_main_call1_c_apply,
    val_main_call1_v3_apply, val_main_v6_apply, val_main_c_apply, val_main_call1_v5_apply, val_main_call1_c_0_apply]
  have h0 : (i 0).val < 2304 := (i 0).isLt
  have h1 : (i 1).val < 2304 := (i 1).isLt
  rw [show IntOp.addi (BitVec.ofNat 32 (i 0).val) 0#32 = BitVec.ofNat 32 (i 0).val from BitVec.add_zero _,
    cmpi_sge_ofNat (by omega) (by omega)]
  by_cases h : (i 1).val ≤ (i 0).val
  · rw [decide_eq_true h, if_pos h]; rfl
  · rw [decide_eq_false h, if_neg h]; rfl
theorem mask4 (i : S4x8x2304x2304.Idx) : val_main_v21_1 (F := Ideal) i = if (i 3).val ≤ (i 2).val then 1#1 else 0#1 :=
  (val_main_v21_1_apply i).trans (mask _)

/-- One of two, sliced and reshaped. -/
theorem half0 {x : (⟨S2x4x8x2304x128, .f32⟩ : BufTy).Contents (Elt Ideal)} {f : ℕ → ℕ → ℕ → ℕ → ℝ}
    (h : ∀ (b : Fin 4) (h : Fin 8) (r : Fin 2304) (j : Fin 128), x (ix5 0 b h r j) = ((f b.val h.val r.val j.val : ℝ) : EReal)) : A4 (val_main_v1 x) f := fun i => by
  rw [val_main_v1_apply, val_main_v0_apply]
  refine Eq.trans (congrArg x (funext fun a => ?_)) (h (i 0) (i 1) (i 2) (i 3))
  have h0 : (i 0).val < 4 := (i 0).isLt
  have h1 : (i 1).val < 8 := (i 1).isLt
  have h2 : (i 2).val < 2304 := (i 2).isLt
  have h3 : (i 3).val < 128 := (i 3).isLt
  match a with
  | ⟨0, _⟩ => rfl
  | ⟨1, _⟩ => exact Fin.ext (by show ((((i 0).val * 8 + (i 1).val) * 2304 + (i 2).val) * 128 + (i 3).val) / 2359296 % 4 = (i 0).val; omega)
  | ⟨2, _⟩ => exact Fin.ext (by show ((((i 0).val * 8 + (i 1).val) * 2304 + (i 2).val) * 128 + (i 3).val) / 294912 % 8 = (i 1).val; omega)
  | ⟨3, _⟩ => exact Fin.ext (by show ((((i 0).val * 8 + (i 1).val) * 2304 + (i 2).val) * 128 + (i 3).val) / 128 % 2304 = (i 2).val; omega)
  | ⟨4, _⟩ => exact Fin.ext (by show ((((i 0).val * 8 + (i 1).val) * 2304 + (i 2).val) * 128 + (i 3).val) % 128 = (i 3).val; omega)

/-- A unit axis put in. -/
theorem unit2 {x : (⟨S4x8x2304x128, .f32⟩ : BufTy).Contents (Elt Ideal)} {f : ℕ → ℕ → ℕ → ℕ → ℝ} (h : A4 x f) :
    A5 (shapeCast S4x8x1x2304x128 x shapeCasts_S4x8x2304x128_S4x8x1x2304x128) (fun b h u r j => f b h r j) := fun i => by
  have h2 : (i 2).val < 1 := (i 2).isLt
  refine (shapeCast_apply x _ i (ix4 (i 0) (i 1) (i 3) (i 4)) ?_).trans (h _)
  rw [Shape.rowMajor_val_five, Shape.rowMajor_val_four]
  show (((i 0).val * 8 + (i 1).val) * 2304 + (i 3).val) * 128 + (i 4).val = ((((i 0).val * 8 + (i 1).val) * 1 + (i 2).val) * 2304 + (i 3).val) * 128 + (i 4).val
  omega
theorem unit3 {x : (⟨S4x8x2304x128, .f32⟩ : BufTy).Contents (Elt Ideal)} {f : ℕ → ℕ → ℕ → ℕ → ℝ} (h : A4 x f) :
    A5 (shapeCast S4x8x2304x1x128 x shapeCasts_S4x8x2304x128_S4x8x2304x1x128) (fun b h r u j => f b h r j) := fun i => by
  have h2 : (i 3).val < 1 := (i 3).isLt
  refine (shapeCast_apply x _ i (ix4 (i 0) (i 1) (i 2) (i 4)) ?_).trans (h _)
  rw [Shape.rowMajor_val_five, Shape.rowMajor_val_four]
  show (((i 0).val * 8 + (i 1).val) * 2304 + (i 2).val) * 128 + (i 4).val = ((((i 0).val * 8 + (i 1).val) * 2304 + (i 2).val) * 1 + (i 3).val) * 128 + (i 4).val
  omega

theorem rev51 {x y : (⟨S4x8x2304x128, .f32⟩ : BufTy).Contents (Elt Ideal)} {f : ℕ → ℕ → ℕ → ℕ → ℝ} (hx : A4 x f)
    (hy : y = Host.reduceWindowAdd (F := Ideal) (φ := .f32) (s := S4x8x2304x128) (t := S4x8x2304x128) (u := S_) ![1, 1, 2304, 1] ![1, 1, 1, 1] ![0, 0, 0, 0] ![0, 0, 2303, 0] x (val_main_call4_call0_v0 (F := Ideal)) reduceWindows_S4x8x2304x128_S4x8x2304x128_w1s1p0_0_w1s1p0_0_w2304s1p0_2303_w1s1p0_0 h_S_) :
    A4 y (fun b h R k => ∑ i ∈ Ico R 2304, f b h i k) := fun i => by
  have e := Lift.revsum_apply (A := 4) (B := 8) (N := 2304) (H := 2303) (D := 128) x (val_main_call4_call0_v0 (F := Ideal)) (fun n => f (i 0).val (i 1).val n (i 3).val)
    reduceWindows_S4x8x2304x128_S4x8x2304x128_w1s1p0_0_w1s1p0_0_w2304s1p0_2303_w1s1p0_0 h_S_
    Lift.ofBits_f32 (i 0) (i 1) (i 2) (i 3) fun r => hx _
  exact (congrArg y (eq_ix4 i)).trans ((congrFun hy _).trans e)

variable (hq : A4 x0 Q)
  (hk : ∀ (b : Fin 4) (h : Fin 8) (r : Fin 2304) (j : Fin 128), x1 (ix5 0 b h r j) = ((K b.val h.val r.val j.val : ℝ) : EReal))
  (hv : A4 x2 V')
  (hg : ∀ (b : Fin 4) (h : Fin 8) (r : Fin 2304) (j : Fin 128), x3 (ix5 0 b h r j) = ((G b.val h.val r.val j.val : ℝ) : EReal))
  (ho : ∀ (b : Fin 4) (h : Fin 8) (r : Fin 2048) (j : Fin 128), x4 (ix4 b h r j) = ((O b.val h.val (256 + r.val) j.val : ℝ) : EReal))
  (hz : ∀ b h r j, r < 256 → O b h r j = 0)

/-- A masked table. -/
def low (f : ℕ → ℕ → ℝ) (t s : ℕ) : ℝ := if s ≤ t then f t s else 0
/-- The decay from row `s` to row `t`. -/
def dec (g : ℕ → ℕ → ℝ) (t s k : ℕ) : ℝ := Real.exp (Lift.C g (t + 1) k - Lift.C g (s + 1) k)

include hk in
theorem k1 : A4 (val_main_v1 x1) K := half0 hk
include hg in
theorem g4 : A4 (val_main_v4 x3) G := half0 hg
include hg in
theorem c5 : A4 (val_main_v5 x3) (fun b h r j => Lift.C (G b h) (r + 1) j) := fun i => by
  have e := Lift.cumsum_apply (A := 4) (B := 8) (N := 2304) (L := 2303) (D := 128) rfl (val_main_v4 x3) (val_main_call0_call0_v0 (F := Ideal)) (fun n => G (i 0).val (i 1).val n (i 3).val)
    reduceWindows_S4x8x2304x128_S4x8x2304x128_w1s1p0_0_w1s1p0_0_w2304s1p2303_0_w1s1p0_0 h_S_
    Lift.ofBits_f32 (i 0) (i 1) (i 2) (i 3) fun r => g4 x3 G hg _
  exact (congrArg (val_main_v5 x3) (eq_ix4 i)).trans e
include hg in
theorem c10 : A5 (val_main_v10 x3) (fun b h t s k => Lift.C (G b h) (t + 1) k) := fun i =>
  (val_main_v10_apply x3 i).trans ((val_main_v8_apply x3 _).trans (c5 x3 G hg _))
include hg in
theorem c11 : A5 (val_main_v11 x3) (fun b h t s k => Lift.C (G b h) (s + 1) k) := fun i =>
  (val_main_v11_apply x3 i).trans ((val_main_v9_apply x3 _).trans (c5 x3 G hg _))
include hg in
theorem d13 : A5 (val_main_v13 x3) (fun b h t s k => dec (G b h) t s k) := fun i => by
  have e1 := c10 x3 G hg i
  have e2 := c11 x3 G hg i
  rw [val_main_v13_apply, val_main_v12_apply]
  generalize val_main_v10 x3 i = y1 at *
  generalize val_main_v11 x3 i = y2 at *
  unfold dec
  exact coe_exp' (coe_sub' e1 e2)
include hq hk in
theorem p18 : A5 (val_main_v18 x0 x1) (fun b h t s k => Q b h t k * K b h s k) := fun i =>
  coe_mul' (((val_main_v16_apply x0 i).trans (val_main_v14_apply x0 _)).trans (hq _)) (((val_main_v17_apply x1 i).trans (val_main_v15_apply x1 _)).trans (k1 x1 K hk _))
include hq hk hg in
theorem a20 : A4 (val_main_v20 x0 x1 x3) (fun b h t s => Lift.at' (Q b h) (K b h) (G b h) t s) := fun i =>
  (val_main_v20_apply x0 x1 x3 i).trans (red Lift.ofBits_f32 _ _ fun k => coe_mul' (p18 x0 x1 Q K hq hk _) (d13 x3 G hg _))
include hq hk hg in
theorem a21 : A4 (val_main_v21_0 x0 x1 x3) (fun b h t s => low (Lift.at' (Q b h) (K b h) (G b h)) t s) := fun i =>
  sel (mask4 i) (a20 x0 x1 x3 Q K G hq hk hg i) ((val_main_call2_v2_apply i).trans Lift.ofBits_f32)
include ho hz in
theorem o25 : A4 (val_main_v25 x4) O := fun i => by
  have h2 : (i 2).val < 2304 := (i 2).isLt
  by_cases h : 256 ≤ (i 2).val
  · refine (pad_apply_of_inside (s := S4x8x2048x128) _ _ _ _ _ _ _ i (ix4 (i 0) (i 1) ⟨(i 2).val - 256, by omega⟩ (i 3)) fun a => ?_).trans
      ((ho (i 0) (i 1) ⟨(i 2).val - 256, by omega⟩ (i 3)).trans ?_)
    · match a with
      | ⟨0, _⟩ => show (i 0).val = 0 + (i 0).val * (0 + 1); omega
      | ⟨1, _⟩ => show (i 1).val = 0 + (i 1).val * (0 + 1); omega
      | ⟨2, _⟩ => show (i 2).val = 256 + ((i 2).val - 256) * (0 + 1); omega
      | ⟨3, _⟩ => show (i 3).val = 0 + (i 3).val * (0 + 1); omega
    · show ((O _ _ (256 + ((i 2).val - 256)) _ : ℝ) : EReal) = _
      rw [Nat.add_sub_cancel' h]
  · refine (pad_apply_of_not_inside (s := S4x8x2048x128) _ _ _ _ _ _ _ i ⟨2, by decide⟩ fun hc => h hc.1).trans ?_
    rw [hz _ _ _ _ (by omega)]; exact Lift.ofBits_f32
include hq hk hg ho hz in
theorem r26 : A4 (val_main_v26 x0 x1 x3 x4) (fun b h j s => ∑ t ∈ range 2304, O b h t j * low (Lift.at' (Q b h) (K b h) (G b h)) t s) := fun i =>
  (val_main_v26_apply x0 x1 x3 x4 i).trans (sum' _ _ fun k => coe_mul' (o25 x4 O ho hz _) (a21 x0 x1 x3 Q K G hq hk hg _))
include hq hk hg ho hz in
/-- The gradient of `v`. -/
theorem out_v : A4 (val_main_v55 x0 x1 x3 x4) (fun b h R j => ∑ t ∈ range 2304, O b h t j * low (Lift.at' (Q b h) (K b h) (G b h)) t R) := fun i =>
  (val_main_v27_apply x0 x1 x3 x4 i).trans (r26 x0 x1 x3 x4 Q K G O hq hk hg ho hz _)
include hv ho hz in
theorem w28 : A4 (val_main_v28 x2 x4) (fun b h t s => Lift.da (V' b h) (O b h) t s) := fun i =>
  (val_main_v28_apply x2 x4 i).trans (sum' _ _ fun k => coe_mul' (o25 x4 O ho hz _) (hv _))
include hv ho hz in
theorem w29 : A4 (val_main_v29 x2 x4) (fun b h t s => low (Lift.da (V' b h) (O b h)) t s) := fun i =>
  sel (mask4 i) (w28 x2 x4 V' O hv ho hz i) ((val_main_call3_v0_apply i).trans Lift.ofBits_f32)
include hv ho hz in
theorem w30 : A5 (val_main_v30 x2 x4) (fun b h t s k => low (Lift.da (V' b h) (O b h)) t s) := fun i =>
  (val_main_v30_apply x2 x4 i).trans (w29 x2 x4 V' O hv ho hz _)
include hv hg ho hz in
theorem w32 : A5 (val_main_v32 x2 x3 x4) (fun b h t s k => low (Lift.da (V' b h) (O b h)) t s * dec (G b h) t s k) := fun i =>
  coe_mul' (w30 x2 x4 V' O hv ho hz i) (d13 x3 G hg i)
include hq hv hg ho hz in
theorem w35 : A4 (val_main_v35 x0 x2 x3 x4) (fun b h s k => ∑ t ∈ range 2304, Q b h t k * (low (Lift.da (V' b h) (O b h)) t s * dec (G b h) t s k)) := fun i =>
  (val_main_v35_apply x0 x2 x3 x4 i).trans (red Lift.ofBits_f32 _ _ fun t =>
    coe_mul' (((val_main_v33_apply x0 _).trans (val_main_v14_apply x0 _)).trans (hq _)) (w32 x3 x2 x4 V' G O hv hg ho hz _))
include hq hv hg ho hz in
/-- The gradient of `k`. -/
theorem out_k : A4 (val_main_v54 x0 x2 x3 x4) (fun b h s k => ∑ t ∈ range 2304, Q b h t k * (low (Lift.da (V' b h) (O b h)) t s * dec (G b h) t s k)) := fun i =>
  (val_main_v41_apply x0 x2 x3 x4 i).trans (red1 Lift.ofBits_f32 _ (unit2 (w35 x0 x3 x2 x4 Q V' G O hq hv hg ho hz) (idx_main_v41 i 0)))
include hk hv hg ho hz in
theorem w39 : A4 (val_main_v39 x1 x2 x3 x4) (fun b h t k => ∑ s ∈ range 2304, low (Lift.da (V' b h) (O b h)) t s * dec (G b h) t s k * K b h s k) := fun i =>
  (val_main_v39_apply x1 x2 x3 x4 i).trans (red Lift.ofBits_f32 _ _ fun t =>
    coe_mul' (w32 x3 x2 x4 V' G O hv hg ho hz _) (((val_main_v37_apply x1 _).trans (val_main_v15_apply x1 _)).trans (k1 x1 K hk _)))
include hk hv hg ho hz in
/-- The gradient of `q`. -/
theorem out_q : A4 (val_main_v53 x1 x2 x3 x4) (fun b h t k => ∑ s ∈ range 2304, low (Lift.da (V' b h) (O b h)) t s * dec (G b h) t s k * K b h s k) := fun i =>
  (val_main_v42_apply x1 x2 x3 x4 i).trans (red1 Lift.ofBits_f32 _ (unit3 (w39 x1 x3 x2 x4 K V' G O hk hv hg ho hz) (idx_main_v42 i 0)))
include hq hk hv hg ho hz in
theorem w43 : A5 (val_main_v43 x0 x1 x2 x3 x4) (fun b h t s k => Q b h t k * K b h s k * low (Lift.da (V' b h) (O b h)) t s * dec (G b h) t s k) := fun i =>
  coe_mul' (coe_mul' (p18 x0 x1 Q K hq hk i) (w30 x2 x4 V' O hv ho hz i)) (d13 x3 G hg i)
include hq hk hv hg ho hz in
theorem w44 : A4 (val_main_v44 x0 x1 x2 x3 x4) (fun b h t k => ∑ s ∈ range 2304, Q b h t k * K b h s k * low (Lift.da (V' b h) (O b h)) t s * dec (G b h) t s k) := fun i =>
  (val_main_v44_apply x0 x1 x2 x3 x4 i).trans (red Lift.ofBits_f32 _ _ fun t => w43 x0 x1 x3 x2 x4 Q K V' G O hq hk hv hg ho hz _)
include hq hk hv hg ho hz in
theorem w47 : A4 (val_main_v47 x0 x1 x2 x3 x4) (fun b h s k => ∑ t ∈ range 2304, -(Q b h t k * K b h s k * low (Lift.da (V' b h) (O b h)) t s * dec (G b h) t s k)) := fun i =>
  (val_main_v47_apply x0 x1 x2 x3 x4 i).trans (red Lift.ofBits_f32 _ _ fun t => coe_neg' (w43 x0 x1 x3 x2 x4 Q K V' G O hq hk hv hg ho hz _))
include hq hk hv hg ho hz in
theorem w51 : A4 (val_main_v51 x0 x1 x2 x3 x4) (fun b h i k => ∑ t ∈ range 2304, -(Q b h t k * K b h i k * low (Lift.da (V' b h) (O b h)) t i * dec (G b h) t i k)
    + ∑ s ∈ range 2304, Q b h i k * K b h s k * low (Lift.da (V' b h) (O b h)) i s * dec (G b h) i s k) := fun i =>
  coe_add'
    ((val_main_v49_apply x0 x1 x2 x3 x4 i).trans (red1 Lift.ofBits_f32 _ (unit2 (w47 x0 x1 x3 x2 x4 Q K V' G O hq hk hv hg ho hz) (idx_main_v49 i 0))))
    ((val_main_v50_apply x0 x1 x2 x3 x4 i).trans (red1 Lift.ofBits_f32 _ (unit3 (w44 x0 x1 x3 x2 x4 Q K V' G O hq hk hv hg ho hz) (idx_main_v50 i 0))))
include hq hk hv hg ho hz in
/-- The gradient of `g`. -/
theorem out_g : A4 (val_main_v56 x0 x1 x2 x3 x4) (fun b h R k => ∑ i ∈ Ico R 2304, (∑ t ∈ range 2304, -(Q b h t k * K b h i k * low (Lift.da (V' b h) (O b h)) t i * dec (G b h) t i k)
    + ∑ s ∈ range 2304, Q b h i k * K b h s k * low (Lift.da (V' b h) (O b h)) i s * dec (G b h) i s k)) := fun i => by
  have e := rev51 (y := val_main_v52 x0 x1 x2 x3 x4) (w51 x0 x1 x3 x2 x4 Q K V' G O hq hk hv hg ho hz) (by unfold val_main_v52; rfl) i
  exact e
end

/-! The sums, masks resolved. -/

section
variable (q k v g o : ℕ → ℕ → ℝ) (R j : ℕ) (hR : R < 2304)

include hR in
theorem eq_q : ∑ s ∈ range 2304, low (Lift.da v o) R s * dec g R s j * k s j = Lift.dqG k v g o R j := by
  unfold Lift.dqG
  rw [← sum_le 2304 R hR]
  refine sum_congr rfl fun s _ => ?_
  unfold low dec; split_ifs
  · ring
  · ring
theorem eq_k : ∑ t ∈ range 2304, q t j * (low (Lift.da v o) t R * dec g t R j) = Lift.dkG q v g o R j := by
  unfold Lift.dkG
  rw [← sum_ge]
  refine sum_congr rfl fun s _ => ?_
  unfold low dec; split_ifs
  · ring
  · ring
theorem eq_v : ∑ t ∈ range 2304, o t j * low (Lift.at' q k g) t R = Lift.dvG q k g o R j := by
  unfold Lift.dvG
  rw [← sum_ge]
  refine sum_congr rfl fun s _ => ?_
  unfold low; split_ifs
  · ring
  · ring
theorem eq_g : ∑ i ∈ Ico R 2304, (∑ t ∈ range 2304, -(q t j * k i j * low (Lift.da v o) t i * dec g t i j)
    + ∑ s ∈ range 2304, q i j * k s j * low (Lift.da v o) i s * dec g i s j) = Lift.dgG q k v g o R j := by
  unfold Lift.dgG
  refine sum_congr rfl fun i hi => ?_
  rw [← sum_le 2304 i (mem_Ico.mp hi).2, ← sum_ge, add_comm, sub_eq_add_neg, ← sum_neg_distrib]
  refine congrArg₂ (· + ·) (sum_congr rfl fun s _ => ?_) (sum_congr rfl fun s _ => ?_)
  · unfold low dec Lift.ee; split_ifs
    · ring
    · ring
  · unfold low dec Lift.ee; split_ifs
    · ring
    · ring
end

end RefVal

end
-- ==== Proof.Finite.lean ====
/- The precondition read back: every entry of the arguments is a real, and the tables of those reals. -/
module

public import proofs.«01_k».proof.Pre_finite
public import proofs.«01_k».proof.Proof.RefVal
public import Idealize.ShloMosaic.Lib.ReduceAll
public import Idealize.ShloMosaic.Lib.Decide

@[expose] public section

set_option maxRecDepth 16384

noncomputable section

namespace Finite

open Idealize.ShloMosaic Cert.Pre_finite

theorem facts : Cert.Pre_finite.Facts where
  bcast_S_S4x8x2304x128 := by decide
  reducesTo_S4x8x2304x128_S_d0_1_2_3 := by decide
  h_S_ := by decide
  bcast_S_S2x4x8x2304x128 := by decide
  reducesTo_S2x4x8x2304x128_S_d0_1_2_3_4 := by decide
  bitsLt_bf16_f32 := by decide
  bcast_S_S4x8x2048x128 := by decide
  reducesTo_S4x8x2048x128_S_d0_1_2_3 := by decide

/-- Every entry is a real. -/
def Fin' {s : Shape} (x : s.Idx → EReal) : Prop := ∀ i, x i = (((x i).toReal : ℝ) : EReal)

theorem real_of_lt (x : Ideal .f32)
    (h : FloatOps.cmpf (F := Ideal) .olt (FloatOps.hostAbsf x) (FloatOps.ofBits (F := Ideal) .f32 0x7F800000#32) = 1#1) :
    (x : EReal) = ((EReal.toReal x : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-x) < ⊤ := by
    by_contra hn
    simp [hn] at h'
  rw [max_lt_iff] at hlt
  refine (EReal.coe_toReal hlt.1.ne fun hb => ?_).symm
  rw [hb] at hlt
  simp at hlt

instance : Subsingleton (S_ : Shape).Idx := ⟨fun a b => funext fun i => i.elim0⟩

theorem all_fin {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) : Fin' x := fun i =>
  real_of_lt (x i) (Host.reduce_andi_all _ _ hr hu j e i)

theorem split {a b : IVec S_ 1} {j : S_.Idx} (h : andi a b j = 1#1) : a j = 1#1 ∧ b j = 1#1 := IntOp.andi_eq_one.1 h

section
variable [Facts] (a0 : FVec Ideal S4x8x2304x128 .f32) (a1 a3 : FVec Ideal S2x4x8x2304x128 .f32)
  (a2 : FVec Ideal S4x8x2304x128 .bf16) (a4 : FVec Ideal S4x8x2048x128 .bf16)

theorem read (h : fn (F := Ideal) a0 a1 a2 a3 a4 = fun _ => 1#1) : Fin' a0 ∧ Fin' a1 ∧ Fin' a2 ∧ Fin' a3 ∧ Fin' a4 := by
  have h0 := congrFun h (Shape.Idx.first Facts.h_S_)
  obtain ⟨h1, e4⟩ := split h0
  obtain ⟨h2, e3⟩ := split h1
  obtain ⟨h3, e2⟩ := split h2
  obtain ⟨e0, e1⟩ := split h3
  exact ⟨all_fin a0 _ _ _ _ e0, all_fin a1 _ _ _ _ e1, all_fin (extf .f32 a2 Facts.bitsLt_bf16_f32) _ _ _ _ e2,
    all_fin a3 _ _ _ _ e3, all_fin (extf .f32 a4 Facts.bitsLt_bf16_f32) _ _ _ _ e4⟩
end

open Idealize.ShloMosaic.ValueIdx in
/-- The reals of an array, 0 outside it. -/
def tab (a b c d : ℕ) (x : Fin a → Fin b → Fin c → Fin d → EReal) (i j k l : ℕ) : ℝ :=
  if h : i < a ∧ j < b ∧ k < c ∧ l < d then (x ⟨i, h.1⟩ ⟨j, h.2.1⟩ ⟨k, h.2.2.1⟩ ⟨l, h.2.2.2⟩).toReal else 0

theorem tab_apply (a b c d : ℕ) (x : Fin a → Fin b → Fin c → Fin d → EReal) (i : Fin a) (j : Fin b) (k : Fin c) (l : Fin d) :
    tab a b c d x i.val j.val k.val l.val = (x i j k l).toReal := by
  unfold tab
  rw [dif_pos ⟨i.isLt, j.isLt, k.isLt, l.isLt⟩]

end Finite

end
-- ==== Proof.Host.lean ====
/- The chunk states, which the host's lines compute before the call. -/
module

public import proofs.«01_k».proof.Proof.Eqn
public import proofs.«01_k».proof.Proof.Cum
public import proofs.«01_k».proof.Proof.RefVal
public import Idealize.ShloMosaic.Lib.StableHlo.RunRead

@[expose] public section

set_option maxRecDepth 16384

noncomputable section

namespace Host0

open Cert.KernelIdeal Cert.KernelIdeal.Gen Idealize.ShloMosaic.TcCoe Idealize.SL.Sem Finset
open Idealize.ShloMosaic hiding ix0 ix1 ix2 ix3 ix4 ix5 eq_ix1 eq_ix2 eq_ix3 eq_ix4
open Idealize.ShloMosaic.ValueIdx Idealize.ShloMosaic.WordCmp RefVal

section
variable {F : FTy → Type} [FloatOps F]

/-- The first of two. -/
def half (x : FVec F S2x4x8x2304x128 .f32) : FVec F S4x8x2304x128 .f32 :=
  shapeCast S4x8x2304x128 (extractStridedSlice S1x4x8x2304x128 ![0, 0, 0, 0, 0] x slices_S2x4x8x2304x128_S1x4x8x2304x128_0_0_0_0_0) shapeCasts_S1x4x8x2304x128_S4x8x2304x128
/-- The running sum over the rows. -/
def cum (x : FVec F S4x8x2304x128 .f32) : FVec F S4x8x2304x128 .f32 :=
  Host.reduceWindowAdd ![1, 1, 2304, 1] ![1, 1, 1, 1] ![0, 0, 2303, 0] ![0, 0, 0, 0] x (broadcastInDim S_ ![] bcast_S_S_ (constant S_ .f32 0x00000000#32))
    reduceWindows_S4x8x2304x128_S4x8x2304x128_w1s1p0_0_w1s1p0_0_w2304s1p2303_0_w1s1p0_0 h_S_
/-- The running sum at the blocks' ends. -/
def ends (y : FVec F S4x8x2304x128 .f32) : FVec F S4x8x9x128 .f32 :=
  concatenate S4x8x9x128 2 [⟨S4x8x1x128, broadcastInDim S4x8x1x128 ![] bcast_S_S4x8x1x128 (constant S_ .f32 0x00000000#32)⟩,
    ⟨S4x8x8x128, Host.slice S4x8x8x128 ![0, 0, 255, 0] ![1, 1, 256, 1] y slicesBy_S4x8x2304x128_S4x8x8x128_0s1_0s1_255s256_0s1⟩] concatenates_S4x8x1x128_S4x8x8x128_S4x8x9x128_d2
/-- Which rows lie before each block. -/
def before : IVec S9x2304 1 :=
  cmpi .slt (broadcastInDim S9x2304 ![0, 1] bcast_S1x2304_S9x2304_0_1 (broadcastInDim S1x2304 ![1] bcast_S2304_S1x2304_1 (iotaInDim S2304 32 0)))
    (broadcastInDim S9x2304 ![0, 1] bcast_S9x1_S9x2304_0_1 (muli (broadcastInDim S9x1 ![] bcast_S_S9x1 (constantI S_ 32 256#32)) (broadcastInDim S9x1 ![0] bcast_S9_S9x1_0 (iotaInDim S9 32 0))))
/-- The rows of `k`, each decayed to each block's start. -/
def decayed (k y : FVec F S4x8x2304x128 .f32) : FVec F S4x8x9x2304x128 .f32 :=
  mulf (broadcastInDim S4x8x9x2304x128 ![0, 1, 2, 3, 4] bcast_S4x8x1x2304x128_S4x8x9x2304x128_0_1_2_3_4 (broadcastInDim S4x8x1x2304x128 ![0, 1, 3, 4] bcast_S4x8x2304x128_S4x8x1x2304x128_0_1_3_4 k))
    (Host.exp (subf (broadcastInDim S4x8x9x2304x128 ![0, 1, 2, 3, 4] bcast_S4x8x9x1x128_S4x8x9x2304x128_0_1_2_3_4 (broadcastInDim S4x8x9x1x128 ![0, 1, 2, 4] bcast_S4x8x9x128_S4x8x9x1x128_0_1_2_4 (ends y)))
      (broadcastInDim S4x8x9x2304x128 ![0, 1, 2, 3, 4] bcast_S4x8x1x2304x128_S4x8x9x2304x128_0_1_2_3_4 (broadcastInDim S4x8x1x2304x128 ![0, 1, 3, 4] bcast_S4x8x2304x128_S4x8x1x2304x128_0_1_3_4 y))))
/-- The same, those before the block only. -/
def masked (k y : FVec F S4x8x2304x128 .f32) : FVec F S4x8x9x2304x128 .f32 :=
  select (broadcastInDim S4x8x9x2304x128 ![2, 3, 4] bcast_S9x2304x1_S4x8x9x2304x128_2_3_4 (broadcastInDim S9x2304x1 ![0, 1] bcast_S9x2304_S9x2304x1_0_1 before)) (decayed k y)
    (broadcastInDim S4x8x9x2304x128 ![] bcast_S_S4x8x9x2304x128 (id (constant S_ .f32 0x00000000#32)))
/-- The states. -/
def states (k v y : FVec F S4x8x2304x128 .f32) : FVec F S4x8x9x128x128 .f32 :=
  transpose S4x8x9x128x128 [0, 1, 2, 4, 3] (Host.dotGeneral dot_S4x8x9x2304x128_S4x8x2304x128_S4x8x9x128x128_3_2_24_3_01_01 none (masked k y) v) transposes_S4x8x9x128x128_S4x8x9x128x128_0_1_2_4_3

theorem V_states (m : (ℓ : Loc nD τ sig) → Buf (Elt F) ℓ) (c : Dev nD) :
    V m c main_v31 = states (half (m ((c.tc : Thread nD τ).loc main_arg1))) (extf .f32 (m ((c.tc : Thread nD τ).loc main_arg2)) bitsLt_bf16_f32) (cum (half (m ((c.tc : Thread nD τ).loc main_arg3)))) := by
  after_reads_simp
  rfl
end

/-! The lines read at an entry. -/

/-- A row vector per block, read on every row. -/
theorem spread_n {α : Type} (x : S4x8x9x128.Idx → α) (b : Fin 4) (h : Fin 8) (n : Fin 9) (s : Fin 2304) (k : Fin 128) :
    broadcastInDim S4x8x9x2304x128 ![0, 1, 2, 3, 4] bcast_S4x8x9x1x128_S4x8x9x2304x128_0_1_2_3_4 (broadcastInDim S4x8x9x1x128 ![0, 1, 2, 4] bcast_S4x8x9x128_S4x8x9x1x128_0_1_2_4 x) (ix5 b h n s k)
      = x (ix4 b h n k) :=
  (broadcastInDim_apply _ bcast_S4x8x9x1x128_S4x8x9x2304x128_0_1_2_3_4 _ (ix5 b h n s k) (ix5 b h n 0 k) (fun a => match a with
    | ⟨0, _⟩ => rfl | ⟨1, _⟩ => rfl | ⟨2, _⟩ => rfl | ⟨3, _⟩ => rfl | ⟨4, _⟩ => rfl)).trans
  (broadcastInDim_apply _ bcast_S4x8x9x128_S4x8x9x1x128_0_1_2_4 x (ix5 b h n 0 k) (ix4 b h n k) (fun a => match a with
    | ⟨0, _⟩ => rfl | ⟨1, _⟩ => rfl | ⟨2, _⟩ => rfl | ⟨3, _⟩ => rfl))
/-- The rows, read for every block. -/
theorem spread_s {α : Type} (x : S4x8x2304x128.Idx → α) (b : Fin 4) (h : Fin 8) (n : Fin 9) (s : Fin 2304) (k : Fin 128) :
    broadcastInDim S4x8x9x2304x128 ![0, 1, 2, 3, 4] bcast_S4x8x1x2304x128_S4x8x9x2304x128_0_1_2_3_4 (broadcastInDim S4x8x1x2304x128 ![0, 1, 3, 4] bcast_S4x8x2304x128_S4x8x1x2304x128_0_1_3_4 x) (ix5 b h n s k)
      = x (ix4 b h s k) :=
  (broadcastInDim_apply _ bcast_S4x8x1x2304x128_S4x8x9x2304x128_0_1_2_3_4 _ (ix5 b h n s k) (ix5 b h 0 s k) (fun a => match a with
    | ⟨0, _⟩ => rfl | ⟨1, _⟩ => rfl | ⟨2, _⟩ => rfl | ⟨3, _⟩ => rfl | ⟨4, _⟩ => rfl)).trans
  (broadcastInDim_apply _ bcast_S4x8x2304x128_S4x8x1x2304x128_0_1_3_4 x (ix5 b h 0 s k) (ix4 b h s k) (fun a => match a with
    | ⟨0, _⟩ => rfl | ⟨1, _⟩ => rfl | ⟨2, _⟩ => rfl | ⟨3, _⟩ => rfl))

theorem mul256 : ∀ n : Fin 9, IntOp.muli 256#32 (BitVec.ofNat 32 n.val) = BitVec.ofNat 32 (256 * n.val) := by decide

theorem before_apply (n : Fin 9) (s : Fin 2304) : before (ix2 n s) = if s.val < 256 * n.val then 1#1 else 0#1 := by
  have e1 : broadcastInDim S9x2304 ![0, 1] bcast_S1x2304_S9x2304_0_1 (broadcastInDim S1x2304 ![1] bcast_S2304_S1x2304_1 (iotaInDim S2304 32 0)) (ix2 n s) = BitVec.ofNat 32 s.val :=
    (broadcastInDim_apply _ bcast_S1x2304_S9x2304_0_1 _ (ix2 n s) (ix2 0 s) (fun a => match a with | ⟨0, _⟩ => rfl | ⟨1, _⟩ => rfl)).trans
    (broadcastInDim_apply _ bcast_S2304_S1x2304_1 (iotaInDim S2304 32 0) (ix2 0 s) (ix1 s) (fun a => match a with | ⟨0, _⟩ => rfl))
  have e2 : broadcastInDim S9x1 ![0] bcast_S9_S9x1_0 (iotaInDim S9 32 0) (ix2 n 0) = BitVec.ofNat 32 n.val :=
    broadcastInDim_apply _ bcast_S9_S9x1_0 (iotaInDim S9 32 0) (ix2 n 0) (ix1 n) (fun a => match a with | ⟨0, _⟩ => rfl)
  have e3 : broadcastInDim S9x1 ![] bcast_S_S9x1 (constantI S_ 32 256#32) (ix2 n 0) = 256#32 :=
    broadcastInDim_apply _ bcast_S_S9x1 (constantI S_ 32 256#32) (ix2 n 0) (fun a => a.elim0) (fun a => a.elim0)
  have e4 : broadcastInDim S9x2304 ![0, 1] bcast_S9x1_S9x2304_0_1 (muli (broadcastInDim S9x1 ![] bcast_S_S9x1 (constantI S_ 32 256#32)) (broadcastInDim S9x1 ![0] bcast_S9_S9x1_0 (iotaInDim S9 32 0))) (ix2 n s)
      = BitVec.ofNat 32 (256 * n.val) := by
    refine (broadcastInDim_apply _ bcast_S9x1_S9x2304_0_1 _ (ix2 n s) (ix2 n 0) (fun a => match a with | ⟨0, _⟩ => rfl | ⟨1, _⟩ => rfl)).trans ?_
    show IntOp.muli (broadcastInDim S9x1 ![] bcast_S_S9x1 (constantI S_ 32 256#32) (ix2 n 0)) (broadcastInDim S9x1 ![0] bcast_S9_S9x1_0 (iotaInDim S9 32 0) (ix2 n 0)) = _
    rw [e2, e3]
    exact mul256 n
  have hs := s.isLt
  have hn := n.isLt
  show IntOp.cmpi .slt _ _ = _
  refine (congrArg₂ (IntOp.cmpi .slt) e1 e4).trans ?_
  rw [cmpi_slt_ofNat (by omega) (by omega)]
  by_cases h : s.val < 256 * n.val
  · rw [decide_eq_true h, if_pos h]; rfl
  · rw [decide_eq_false h, if_neg h]; rfl

section
variable (k v y : FVec Ideal S4x8x2304x128 .f32) (K V' G : ℕ → ℕ → ℕ → ℕ → ℝ)
variable (hk : A4 k K) (hv : A4 v V') (hy : A4 y (fun b h r j => Lift.C (G b h) (r + 1) j))

include hy in
theorem ends_apply (b : Fin 4) (h : Fin 8) (n : Fin 9) (j : Fin 128) : ends y (ix4 b h n j) = ((Lift.C (G b.val h.val) (256 * n.val) j.val : ℝ) : EReal) := by
  unfold ends
  by_cases hn : n.val = 0
  · refine (concatenate_apply_piece (t := S4x8x9x128) 2 [(⟨S4x8x1x128, broadcastInDim S4x8x1x128 ![] bcast_S_S4x8x1x128 (constant S_ .f32 0x00000000#32)⟩ : (s : Shape) × (s.Idx → Ideal .f32)), ⟨S4x8x8x128, Host.slice S4x8x8x128 ![0, 0, 255, 0] ![1, 1, 256, 1] y slicesBy_S4x8x2304x128_S4x8x8x128_0s1_0s1_255s256_0s1⟩] _ (ix4 b h n j) 0 (show 0 < 2 by omega) S4x8x1x128 _ rfl rfl 0 rfl (ix4 b h 0 j) ?_ ?_).trans ?_
    · intro a ha
      match a with
      | ⟨0, _⟩ => rfl
      | ⟨1, _⟩ => rfl
      | ⟨2, _⟩ => exact absurd rfl ha
      | ⟨3, _⟩ => rfl
    · show 0 + 0 = n.val
      omega
    · rw [hn, Nat.mul_zero, Lift.C_mono]
      exact (broadcastInDim_apply _ bcast_S_S4x8x1x128 _ (ix4 b h 0 j) (fun a => a.elim0) (fun a => a.elim0)).trans Lift.ofBits_f32
  · have hlt := n.isLt
    refine (concatenate_apply_piece (t := S4x8x9x128) 2 [(⟨S4x8x1x128, broadcastInDim S4x8x1x128 ![] bcast_S_S4x8x1x128 (constant S_ .f32 0x00000000#32)⟩ : (s : Shape) × (s.Idx → Ideal .f32)), ⟨S4x8x8x128, Host.slice S4x8x8x128 ![0, 0, 255, 0] ![1, 1, 256, 1] y slicesBy_S4x8x2304x128_S4x8x8x128_0s1_0s1_255s256_0s1⟩] _ (ix4 b h n j) 1 (show 1 < 2 by omega) S4x8x8x128 _ rfl rfl 1 rfl (ix4 b h ⟨n.val - 1, by omega⟩ j) ?_ ?_).trans ?_
    · intro a ha
      match a with
      | ⟨0, _⟩ => rfl
      | ⟨1, _⟩ => rfl
      | ⟨2, _⟩ => exact absurd rfl ha
      | ⟨3, _⟩ => rfl
    · show 1 + (n.val - 1) = n.val
      omega
    · have e : Host.slice S4x8x8x128 ![0, 0, 255, 0] ![1, 1, 256, 1] y slicesBy_S4x8x2304x128_S4x8x8x128_0s1_0s1_255s256_0s1 (ix4 b h ⟨n.val - 1, by omega⟩ j)
          = y (ix4 b h ⟨256 * n.val - 1, by omega⟩ j) := congrArg y (funext fun a => Fin.ext (by
        match a with
        | ⟨0, _⟩ => show 0 + 1 * b.val = b.val; omega
        | ⟨1, _⟩ => show 0 + 1 * h.val = h.val; omega
        | ⟨2, _⟩ => show 255 + 256 * (n.val - 1) = 256 * n.val - 1; omega
        | ⟨3, _⟩ => show 0 + 1 * j.val = j.val; omega))
      refine e.trans ((hy _).trans ?_)
      show ((Lift.C (G b.val h.val) (256 * n.val - 1 + 1) j.val : ℝ) : EReal) = _
      rw [Nat.sub_add_cancel (by omega)]

include hk hy in
theorem decayed_apply (b : Fin 4) (h : Fin 8) (n : Fin 9) (s : Fin 2304) (j : Fin 128) :
    decayed k y (ix5 b h n s j) = ((K b.val h.val s.val j.val * Real.exp (Lift.C (G b.val h.val) (256 * n.val) j.val - Lift.C (G b.val h.val) (s.val + 1) j.val) : ℝ) : EReal) := by
  unfold decayed
  have e1 := (spread_s k b h n s j).trans (hk _)
  have e2 := (spread_n (ends y) b h n s j).trans (ends_apply y G hy b h n j)
  have e3 := (spread_s y b h n s j).trans (hy _)
  exact coe_mul' e1 (coe_exp' (coe_sub' e2 e3))

include hk hy in
theorem masked_apply (b : Fin 4) (h : Fin 8) (n : Fin 9) (s : Fin 2304) (j : Fin 128) :
    masked k y (ix5 b h n s j) = (((if s.val < 256 * n.val then K b.val h.val s.val j.val * Real.exp (Lift.C (G b.val h.val) (256 * n.val) j.val - Lift.C (G b.val h.val) (s.val + 1) j.val) else 0) : ℝ) : EReal) := by
  have e1 : broadcastInDim S4x8x9x2304x128 ![2, 3, 4] bcast_S9x2304x1_S4x8x9x2304x128_2_3_4 (broadcastInDim S9x2304x1 ![0, 1] bcast_S9x2304_S9x2304x1_0_1 before) (ix5 b h n s j)
      = if s.val < 256 * n.val then 1#1 else 0#1 :=
    (broadcastInDim_apply _ bcast_S9x2304x1_S4x8x9x2304x128_2_3_4 _ (ix5 b h n s j) (ix3 n s 0) (fun a => match a with | ⟨0, _⟩ => rfl | ⟨1, _⟩ => rfl | ⟨2, _⟩ => rfl)).trans
    ((broadcastInDim_apply _ bcast_S9x2304_S9x2304x1_0_1 before (ix3 n s 0) (ix2 n s) (fun a => match a with | ⟨0, _⟩ => rfl | ⟨1, _⟩ => rfl)).trans (before_apply n s))
  have e2 := decayed_apply k y K G hk hy b h n s j
  have e3 : broadcastInDim S4x8x9x2304x128 ![] bcast_S_S4x8x9x2304x128 (id (constant S_ .f32 0x00000000#32) : FVec Ideal S_ .f32) (ix5 b h n s j) = ((0 : ℝ) : EReal) :=
    (broadcastInDim_apply _ bcast_S_S4x8x9x2304x128 _ (ix5 b h n s j) (fun a => a.elim0) (fun a => a.elim0)).trans Lift.ofBits_f32
  unfold masked
  generalize decayed k y = z at *
  exact sel e1 e2 e3
end

/-- The product's axes. -/
theorem dot_idx (b : Fin 4) (h : Fin 8) (n : Fin 9) (j i : Fin 128) (q : dot_S4x8x9x2304x128_S4x8x2304x128_S4x8x9x128x128_3_2_24_3_01_01.contr.Idx) :
    dot_S4x8x9x2304x128_S4x8x2304x128_S4x8x9x128x128_3_2_24_3_01_01.lhsIdx (ix5 b h n j i) q = ix5 b h n ⟨(q ⟨0, by decide⟩).val, (q ⟨0, by decide⟩).isLt⟩ j
    ∧ dot_S4x8x9x2304x128_S4x8x2304x128_S4x8x9x128x128_3_2_24_3_01_01.rhsIdx (ix5 b h n j i) q = ix4 b h ⟨(q ⟨0, by decide⟩).val, (q ⟨0, by decide⟩).isLt⟩ i := by
  constructor
  · refine funext fun a => Fin.ext ?_
    match a with
    | ⟨0, _⟩ => show (dot_S4x8x9x2304x128_S4x8x2304x128_S4x8x9x128x128_3_2_24_3_01_01.lhsIdx (ix5 b h n j i) q 0).val = _; unfold DotDims.lhsIdx; rw [dif_pos (show (0 : Fin S4x8x9x2304x128.rank) ∈ dot_S4x8x9x2304x128_S4x8x2304x128_S4x8x9x128x128_3_2_24_3_01_01.lhsBatch by decide)]; rfl
    | ⟨1, _⟩ => show (dot_S4x8x9x2304x128_S4x8x2304x128_S4x8x9x128x128_3_2_24_3_01_01.lhsIdx (ix5 b h n j i) q 1).val = _; unfold DotDims.lhsIdx; rw [dif_pos (show (1 : Fin S4x8x9x2304x128.rank) ∈ dot_S4x8x9x2304x128_S4x8x2304x128_S4x8x9x128x128_3_2_24_3_01_01.lhsBatch by decide)]; rfl
    | ⟨2, _⟩ => show (dot_S4x8x9x2304x128_S4x8x2304x128_S4x8x9x128x128_3_2_24_3_01_01.lhsIdx (ix5 b h n j i) q 2).val = _; unfold DotDims.lhsIdx; rw [dif_neg (show ¬(2 : Fin S4x8x9x2304x128.rank) ∈ dot_S4x8x9x2304x128_S4x8x2304x128_S4x8x9x128x128_3_2_24_3_01_01.lhsBatch by decide), dif_pos (show (2 : Fin S4x8x9x2304x128.rank) ∈ dot_S4x8x9x2304x128_S4x8x2304x128_S4x8x9x128x128_3_2_24_3_01_01.lhsNonContracting by decide)]; rfl
    | ⟨3, _⟩ => exact dot_S4x8x9x2304x128_S4x8x2304x128_S4x8x9x128x128_3_2_24_3_01_01.lhsIdx_val_of_single rfl _ q
    | ⟨4, _⟩ => show (dot_S4x8x9x2304x128_S4x8x2304x128_S4x8x9x128x128_3_2_24_3_01_01.lhsIdx (ix5 b h n j i) q 4).val = _; unfold DotDims.lhsIdx; rw [dif_neg (show ¬(4 : Fin S4x8x9x2304x128.rank) ∈ dot_S4x8x9x2304x128_S4x8x2304x128_S4x8x9x128x128_3_2_24_3_01_01.lhsBatch by decide), dif_pos (show (4 : Fin S4x8x9x2304x128.rank) ∈ dot_S4x8x9x2304x128_S4x8x2304x128_S4x8x9x128x128_3_2_24_3_01_01.lhsNonContracting by decide)]; rfl
  · refine funext fun a => Fin.ext ?_
    match a with
    | ⟨0, _⟩ => show (dot_S4x8x9x2304x128_S4x8x2304x128_S4x8x9x128x128_3_2_24_3_01_01.rhsIdx (ix5 b h n j i) q 0).val = _; unfold DotDims.rhsIdx; rw [dif_pos (show (0 : Fin S4x8x2304x128.rank) ∈ dot_S4x8x9x2304x128_S4x8x2304x128_S4x8x9x128x128_3_2_24_3_01_01.rhsBatch by decide)]; rfl
    | ⟨1, _⟩ => show (dot_S4x8x9x2304x128_S4x8x2304x128_S4x8x9x128x128_3_2_24_3_01_01.rhsIdx (ix5 b h n j i) q 1).val = _; unfold DotDims.rhsIdx; rw [dif_pos (show (1 : Fin S4x8x2304x128.rank) ∈ dot_S4x8x9x2304x128_S4x8x2304x128_S4x8x9x128x128_3_2_24_3_01_01.rhsBatch by decide)]; rfl
    | ⟨2, _⟩ => exact dot_S4x8x9x2304x128_S4x8x2304x128_S4x8x9x128x128_3_2_24_3_01_01.rhsIdx_val_of_single rfl _ q
    | ⟨3, _⟩ => show (dot_S4x8x9x2304x128_S4x8x2304x128_S4x8x9x128x128_3_2_24_3_01_01.rhsIdx (ix5 b h n j i) q 3).val = _; unfold DotDims.rhsIdx; rw [dif_neg (show ¬(3 : Fin S4x8x2304x128.rank) ∈ dot_S4x8x9x2304x128_S4x8x2304x128_S4x8x9x128x128_3_2_24_3_01_01.rhsBatch by decide), dif_pos (show (3 : Fin S4x8x2304x128.rank) ∈ dot_S4x8x9x2304x128_S4x8x2304x128_S4x8x9x128x128_3_2_24_3_01_01.rhsNonContracting by decide)]; rfl

section
variable (k v y : FVec Ideal S4x8x2304x128 .f32) (K V' G : ℕ → ℕ → ℕ → ℕ → ℝ)
variable (hk : A4 k K) (hv : A4 v V') (hy : A4 y (fun b h r j => Lift.C (G b h) (r + 1) j))

include hk hv hy in
theorem states_apply (b : Fin 4) (h : Fin 8) (n : Fin 9) (i j : Fin 128) :
    states k v y (ix5 b h n i j) = ((Lift.SG K V' G b.val h.val n.val i.val j.val : ℝ) : EReal) := by
  unfold states
  refine (transpose_apply [0, 1, 2, 4, 3] _ transposes_S4x8x9x128x128_S4x8x9x128x128_0_1_2_4_3 (ix5 b h n i j) (ix5 b h n j i) (fun a => match a with
    | ⟨0, _⟩ => rfl | ⟨1, _⟩ => rfl | ⟨2, _⟩ => rfl | ⟨3, _⟩ => rfl | ⟨4, _⟩ => rfl)).trans ?_
  have hm := masked_apply k y K G hk hy b h n
  generalize masked k y = z at hm ⊢
  simp only [Host.dotGeneral]
  rw [Ideal.dotGeneral_apply, ← Equiv.sum_comp (contrEquiv1 dot_S4x8x9x2304x128_S4x8x2304x128_S4x8x9x128x128_3_2_24_3_01_01 2304 rfl rfl).symm]
  refine (sum' (fun s => if s < 256 * n.val then V' b.val h.val s i.val * (K b.val h.val s j.val * Real.exp (Lift.C (G b.val h.val) (256 * n.val) j.val - Lift.C (G b.val h.val) (s + 1) j.val)) else 0) _ fun s => ?_).trans ?_
  · have hs := contrEquiv1_symm_val dot_S4x8x9x2304x128_S4x8x2304x128_S4x8x9x128x128_3_2_24_3_01_01 2304 rfl rfl s
    generalize (contrEquiv1 dot_S4x8x9x2304x128_S4x8x2304x128_S4x8x9x128x128_3_2_24_3_01_01 2304 rfl rfl).symm s = q at hs ⊢
    obtain ⟨e1, e2⟩ := dot_idx b h n j i q
    have eq : (⟨(q ⟨0, by decide⟩).val, (q ⟨0, by decide⟩).isLt⟩ : Fin 2304) = s := Fin.ext hs
    rw [e1, e2]
    refine (coe_mul' ((congrArg (fun s => z (ix5 b h n s j)) eq).trans (hm s j)) ((congrArg (fun s => v (ix4 b h s i)) eq).trans (hv _))).trans (congrArg _ ?_)
    show (if _ then _ else _) * V' b.val h.val s.val i.val = _
    split_ifs
    · ring
    · ring
  · refine congrArg _ ?_
    have hn := n.isLt
    unfold Lift.SG Lift.Sg
    rw [← sum_filter]; refine sum_congr ?_ fun _ _ => rfl
    ext s; simp only [mem_filter, mem_range]; omega
end

/-- The running sum of a real array. -/
theorem cum_apply (x : FVec Ideal S4x8x2304x128 .f32) (G : ℕ → ℕ → ℕ → ℕ → ℝ) (hx : A4 x G) : A4 (cum x) (fun b h r j => Lift.C (G b h) (r + 1) j) := fun i => by
  have e := Lift.cumsum_apply (A := 4) (B := 8) (N := 2304) (L := 2303) (D := 128) rfl x (broadcastInDim S_ ![] bcast_S_S_ (constant S_ .f32 0x00000000#32)) (fun n => G (i 0).val (i 1).val n (i 3).val)
    reduceWindows_S4x8x2304x128_S4x8x2304x128_w1s1p0_0_w1s1p0_0_w2304s1p2303_0_w1s1p0_0 h_S_
    Lift.ofBits_f32 (i 0) (i 1) (i 2) (i 3) fun r => hx _
  exact (congrArg (cum x) (eq_ix4 i)).trans e

/-- The states the call is given. -/
theorem V_states_apply (m : (ℓ : Loc nD τ sig) → Buf (Elt Ideal) ℓ) (c : Dev nD) (K V' G : ℕ → ℕ → ℕ → ℕ → ℝ)
    (hk : ∀ (b : Fin 4) (h : Fin 8) (r : Fin 2304) (j : Fin 128), m ((c.tc : Thread nD τ).loc main_arg1) (ix5 0 b h r j) = ((K b.val h.val r.val j.val : ℝ) : EReal))
    (hv : ∀ (b : Fin 4) (h : Fin 8) (r : Fin 2304) (j : Fin 128), m ((c.tc : Thread nD τ).loc main_arg2) (ix4 b h r j) = ((V' b.val h.val r.val j.val : ℝ) : EReal))
    (hg : ∀ (b : Fin 4) (h : Fin 8) (r : Fin 2304) (j : Fin 128), m ((c.tc : Thread nD τ).loc main_arg3) (ix5 0 b h r j) = ((G b.val h.val r.val j.val : ℝ) : EReal))
    (b : Fin 4) (h : Fin 8) (n : Fin 9) (i j : Fin 128) : V m c main_v31 (ix5 b h n i j) = ((Lift.SG K V' G b.val h.val n.val i.val j.val : ℝ) : EReal) := by
  rw [V_states m c]
  refine states_apply _ _ _ K V' G (half0 hk) (fun i => ?_) (cum_apply _ G (half0 hg)) b h n i j
  exact (congrArg (m ((c.tc : Thread nD τ).loc main_arg2)) (eq_ix4 i)).trans (hv (i 0) (i 1) (i 2) (i 3))

end Host0

end
-- ==== Proof.Alg.lean ====
/- The value claim: from arguments of real entries, the call's four gradients are the reference's. -/
module

public import proofs.«01_k».proof.Defs
public import proofs.«01_k».proof.Proof.Finite
public import proofs.«01_k».proof.Proof.Host
public import proofs.«01_k».proof.Proof.Gen.KernelIdeal.Value
public import proofs.«01_k».proof.Proof.Gen.ReferenceIdeal.Run

@[expose] public section

set_option maxRecDepth 16384

noncomputable section

namespace Alg

open Cert.KernelIdeal Cert.KernelIdeal.Gen Idealize.ShloMosaic.TcCoe Idealize.SL.Sem Finset
open Idealize.ShloMosaic hiding ix0 ix1 ix2 ix3 ix4 ix5 eq_ix1 eq_ix2 eq_ix3 eq_ix4
open Idealize.ShloMosaic.ValueIdx RefVal Finite

section
variable (m : (ℓ : Loc nD τ sig) → Buf (Elt Ideal) ℓ) (c : Dev nD)

/-! The arguments' tables. -/
def tq : ℕ → ℕ → ℕ → ℕ → ℝ := tab 4 8 2304 128 fun b h r j => m ((c.tc : Thread nD τ).loc main_arg0) (ix4 b h r j)
def tk : ℕ → ℕ → ℕ → ℕ → ℝ := tab 4 8 2304 128 fun b h r j => m ((c.tc : Thread nD τ).loc main_arg1) (ix5 0 b h r j)
def tv : ℕ → ℕ → ℕ → ℕ → ℝ := tab 4 8 2304 128 fun b h r j => m ((c.tc : Thread nD τ).loc main_arg2) (ix4 b h r j)
def tg : ℕ → ℕ → ℕ → ℕ → ℝ := tab 4 8 2304 128 fun b h r j => m ((c.tc : Thread nD τ).loc main_arg3) (ix5 0 b h r j)
def t4 : ℕ → ℕ → ℕ → ℕ → ℝ := fun b h r j => if r < 256 then 0 else
  tab 4 8 2048 128 (fun b h r j => m ((c.tc : Thread nD τ).loc main_arg4) (ix4 b h r j)) b h (r - 256) j

variable [Cert.Pre_finite.Facts] (hp : Cert.Pre_KernelIdeal_finite m)
include hp

theorem reals : Lift.Reals m c (tq m c) (tk m c) (tv m c) (tg m c) (t4 m c) (Lift.SG (tk m c) (tv m c) (tg m c)) := by
  obtain ⟨f0, f1, f2, f3, f4⟩ := Finite.read _ _ _ _ _ (hp c)
  have hk : ∀ (b : Fin 4) (h : Fin 8) (r : Fin 2304) (j : Fin 128), m ((c.tc : Thread nD τ).loc main_arg1) (ix5 0 b h r j) = ((tk m c b.val h.val r.val j.val : ℝ) : EReal) :=
    fun b h r j => (f1 _).trans (congrArg _ (by unfold tk; exact (tab_apply 4 8 2304 128 (fun b h r j => m ((c.tc : Thread nD τ).loc main_arg1) (ix5 0 b h r j)) b h r j).symm))
  have hv : ∀ (b : Fin 4) (h : Fin 8) (r : Fin 2304) (j : Fin 128), m ((c.tc : Thread nD τ).loc main_arg2) (ix4 b h r j) = ((tv m c b.val h.val r.val j.val : ℝ) : EReal) :=
    fun b h r j => (f2 _).trans (congrArg _ (by unfold tv; exact (tab_apply 4 8 2304 128 (fun b h r j => m ((c.tc : Thread nD τ).loc main_arg2) (ix4 b h r j)) b h r j).symm))
  have hg : ∀ (b : Fin 4) (h : Fin 8) (r : Fin 2304) (j : Fin 128), m ((c.tc : Thread nD τ).loc main_arg3) (ix5 0 b h r j) = ((tg m c b.val h.val r.val j.val : ℝ) : EReal) :=
    fun b h r j => (f3 _).trans (congrArg _ (by unfold tg; exact (tab_apply 4 8 2304 128 (fun b h r j => m ((c.tc : Thread nD τ).loc main_arg3) (ix5 0 b h r j)) b h r j).symm))
  refine ⟨fun b h r j => (f0 _).trans (congrArg _ (by unfold tq; exact (tab_apply 4 8 2304 128 (fun b h r j => m ((c.tc : Thread nD τ).loc main_arg0) (ix4 b h r j)) b h r j).symm)), hk, hv, hg, fun b h r j => (f4 _).trans (congrArg _ ?_), ?_,
    Host0.V_states_apply m c _ _ _ hk hv hg⟩
  · unfold t4
    rw [if_neg (by omega), Nat.add_sub_cancel_left]
    exact (tab_apply 4 8 2048 128 (fun b h r j => m ((c.tc : Thread nD τ).loc main_arg4) (ix4 b h r j)) b h r j).symm
  · intro b h r j hr
    unfold t4
    rw [if_pos hr]
end

section
variable {m : (ℓ : Loc nD τ sig) → Buf (Elt Ideal) ℓ} {c : Dev nD} {Q K V' G O : ℕ → ℕ → ℕ → ℕ → ℝ}
variable (hR : Lift.Reals m c Q K V' G O (Lift.SG K V' G))
variable (x0 : (⟨S4x8x2304x128, .f32⟩ : BufTy).Contents (Elt Ideal)) (x1 x3 : (⟨S2x4x8x2304x128, .f32⟩ : BufTy).Contents (Elt Ideal))
variable (x2 : (⟨S4x8x2304x128, .bf16⟩ : BufTy).Contents (Elt Ideal)) (x4 : (⟨S4x8x2048x128, .bf16⟩ : BufTy).Contents (Elt Ideal))
variable (h0 : x0 = m ((c.tc : Thread nD τ).loc main_arg0)) (h1 : x1 = m ((c.tc : Thread nD τ).loc main_arg1))
  (h2 : x2 = m ((c.tc : Thread nD τ).loc main_arg2)) (h3 : x3 = m ((c.tc : Thread nD τ).loc main_arg3)) (h4 : x4 = m ((c.tc : Thread nD τ).loc main_arg4))
include hR

include h0 in
theorem hq : A4 x0 Q := fun i => by subst h0; exact (congrArg (m ((c.tc : Thread nD τ).loc main_arg0)) (eq_ix4 i)).trans (hR.q (i 0) (i 1) (i 2) (i 3))
include h2 in
theorem hv : A4 x2 V' := fun i => by subst h2; exact (congrArg (m ((c.tc : Thread nD τ).loc main_arg2)) (eq_ix4 i)).trans (hR.v (i 0) (i 1) (i 2) (i 3))
include h1 in
theorem hk (b : Fin 4) (h : Fin 8) (r : Fin 2304) (j : Fin 128) : x1 (ix5 0 b h r j) = ((K b.val h.val r.val j.val : ℝ) : EReal) := by subst h1; exact hR.k b h r j
include h3 in
theorem hg (b : Fin 4) (h : Fin 8) (r : Fin 2304) (j : Fin 128) : x3 (ix5 0 b h r j) = ((G b.val h.val r.val j.val : ℝ) : EReal) := by subst h3; exact hR.g b h r j
include h4 in
theorem ho (b : Fin 4) (h : Fin 8) (r : Fin 2048) (j : Fin 128) : x4 (ix4 b h r j) = ((O b.val h.val (256 + r.val) j.val : ℝ) : EReal) := by subst h4; exact hR.o b h r j

include h1 h2 h3 h4 in
theorem res_q : Cert.ReferenceIdeal.Read.val_main_v53 (F := Ideal) x1 x2 x3 x4 = (dats m 0 c).arrAt 6 cfg0.N :=
  Eq.trans (funext fun i => (out_q x1 x3 x2 x4 K V' G O (hk hR x1 h1) (hv hR x2 h2) (hg hR x3 h3) (ho hR x4 h4) hR.o0 i).trans
    (congrArg Real.toEReal ((eq_q _ _ _ _ _ _ (i 2).isLt).trans (Lift.resQ_eq _ _ _ _ _ _ _ _ (i 2).isLt).symm))) (Lift.arr_Q hR).symm

include h0 h2 h3 h4 in
theorem res_k : Cert.ReferenceIdeal.Read.val_main_v54 (F := Ideal) x0 x2 x3 x4 = (dats m 0 c).arrAt 7 cfg0.N :=
  Eq.trans (funext fun i => (out_k x0 x3 x2 x4 Q V' G O (hq hR x0 h0) (hv hR x2 h2) (hg hR x3 h3) (ho hR x4 h4) hR.o0 i).trans
    (congrArg Real.toEReal ((eq_k _ _ _ _ _ _).trans (Lift.resK_eq _ _ _ _ _ _ _ _ (i 2).isLt).symm))) (Lift.arr_K hR).symm

include h0 h1 h3 h4 in
theorem res_v : Cert.ReferenceIdeal.Read.val_main_v55 (F := Ideal) x0 x1 x3 x4 = (dats m 0 c).arrAt 8 cfg0.N :=
  Eq.trans (funext fun i => (out_v x0 x1 x3 x4 Q K G O (hq hR x0 h0) (hk hR x1 h1) (hg hR x3 h3) (ho hR x4 h4) hR.o0 i).trans
    (congrArg Real.toEReal ((eq_v _ _ _ _ _ _).trans (Lift.resV_eq _ _ _ _ _ _ _ _ (i 2).isLt).symm))) (Lift.arr_V hR).symm

include h0 h1 h2 h3 h4 in
theorem res_g : Cert.ReferenceIdeal.Read.val_main_v56 (F := Ideal) x0 x1 x2 x3 x4 = (dats m 0 c).arrAt 9 cfg0.N :=
  Eq.trans (funext fun i => (out_g x0 x1 x3 x2 x4 Q K V' G O (hq hR x0 h0) (hk hR x1 h1) (hv hR x2 h2) (hg hR x3 h3) (ho hR x4 h4) hR.o0 i).trans
    (congrArg Real.toEReal ((eq_g _ _ _ _ _ _ _).trans (Lift.resG_eq _ _ _ _ _ _ _ _ _ (i 2).isLt).symm))) (Lift.arr_G hR).symm
end

/-- The reference's run, its results named. -/
theorem ref_run (m' : (ℓ : Loc Cert.ReferenceIdeal.nD Cert.ReferenceIdeal.τ Cert.ReferenceIdeal.sig) → Buf (Elt Ideal) ℓ) (g' : Dev Cert.ReferenceIdeal.nD → PrngReg)
    (x0 : (c : Dev Cert.ReferenceIdeal.nD) → (⟨S4x8x2304x128, .f32⟩ : BufTy).Contents (Elt Ideal)) (x1 x3 : (c : Dev Cert.ReferenceIdeal.nD) → (⟨S2x4x8x2304x128, .f32⟩ : BufTy).Contents (Elt Ideal))
    (x2 : (c : Dev Cert.ReferenceIdeal.nD) → (⟨S4x8x2304x128, .bf16⟩ : BufTy).Contents (Elt Ideal)) (x4 : (c : Dev Cert.ReferenceIdeal.nD) → (⟨S4x8x2048x128, .bf16⟩ : BufTy).Contents (Elt Ideal))
    (h0 : ∀ c : Dev Cert.ReferenceIdeal.nD, m' ((c.tc : Thread Cert.ReferenceIdeal.nD Cert.ReferenceIdeal.τ).loc Cert.ReferenceIdeal.main_arg0) = x0 c)
    (h1 : ∀ c : Dev Cert.ReferenceIdeal.nD, m' ((c.tc : Thread Cert.ReferenceIdeal.nD Cert.ReferenceIdeal.τ).loc Cert.ReferenceIdeal.main_arg1) = x1 c)
    (h2 : ∀ c : Dev Cert.ReferenceIdeal.nD, m' ((c.tc : Thread Cert.ReferenceIdeal.nD Cert.ReferenceIdeal.τ).loc Cert.ReferenceIdeal.main_arg2) = x2 c)
    (h3 : ∀ c : Dev Cert.ReferenceIdeal.nD, m' ((c.tc : Thread Cert.ReferenceIdeal.nD Cert.ReferenceIdeal.τ).loc Cert.ReferenceIdeal.main_arg3) = x3 c)
    (h4 : ∀ c : Dev Cert.ReferenceIdeal.nD, m' ((c.tc : Thread Cert.ReferenceIdeal.nD Cert.ReferenceIdeal.τ).loc Cert.ReferenceIdeal.main_arg4) = x4 c) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v53) = Cert.ReferenceIdeal.Read.val_main_v53 (F := Ideal) (x1 c) (x2 c) (x3 c) (x4 c)
      ∧ r.2.mem ((c.tc : Thread Cert.ReferenceIdeal.nD Cert.ReferenceIdeal.τ).loc Cert.ReferenceIdeal.main_v54) = Cert.ReferenceIdeal.Read.val_main_v54 (F := Ideal) (x0 c) (x2 c) (x3 c) (x4 c)
      ∧ r.2.mem ((c.tc : Thread Cert.ReferenceIdeal.nD Cert.ReferenceIdeal.τ).loc Cert.ReferenceIdeal.main_v55) = Cert.ReferenceIdeal.Read.val_main_v55 (F := Ideal) (x0 c) (x1 c) (x3 c) (x4 c)
      ∧ r.2.mem ((c.tc : Thread Cert.ReferenceIdeal.nD Cert.ReferenceIdeal.τ).loc Cert.ReferenceIdeal.main_v56) = Cert.ReferenceIdeal.Read.val_main_v56 (F := Ideal) (x0 c) (x1 c) (x2 c) (x3 c) (x4 c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) := by
  refine (θ_run Cert.ReferenceIdeal.defs _ _).mono (fun r h c => ?_) (Cert.ReferenceIdeal.Value.run (F := Ideal) m' g')
  rw [← h0 c, ← h1 c, ← h2 c, ← h3 c, ← h4 c]
  refine ⟨(h c).1.trans ?_, (h c).2.1.trans ?_, (h c).2.2.1.trans ?_, (h c).2.2.2.1.trans ?_, (h c).2.2.2.2⟩
  · exact Cert.ReferenceIdeal.Read.val_main_v53_eq _ _ _ _
  · exact Cert.ReferenceIdeal.Read.val_main_v54_eq _ _ _ _
  · exact Cert.ReferenceIdeal.Read.val_main_v55_eq _ _ _ _
  · exact Cert.ReferenceIdeal.Read.val_main_v56_eq m' c

theorem algebraic [hP : Cert.Pre_finite.Facts] : Cert.algebraic_KernelIdeal_ReferenceIdeal_pre_finite := fun m g m' g' hp ha =>
  ⟨fun c => (dats m 0 c).arrAt 6 cfg0.N, fun c => (dats m 0 c).arrAt 7 cfg0.N, fun c => (dats m 0 c).arrAt 8 cfg0.N, fun c => (dats m 0 c).arrAt 9 cfg0.N,
    Cert.KernelIdeal.Value.run_blocks m g,
    (θ_run Cert.ReferenceIdeal.defs _ _).mono (fun r h c =>
      ⟨(h c).1.trans (res_q (reals m c hp) _ _ _ _ rfl rfl rfl rfl), (h c).2.1.trans (res_k (reals m c hp) _ _ _ _ rfl rfl rfl rfl),
        (h c).2.2.1.trans (res_v (reals m c hp) _ _ _ _ rfl rfl rfl rfl), (h c).2.2.2.1.trans (res_g (reals m c hp) _ _ _ _ _ rfl rfl rfl rfl rfl), (h c).2.2.2.2⟩)
      (ref_run m' g' (fun c => m ((c.tc : Thread nD τ).loc main_arg0)) (fun c => m ((c.tc : Thread nD τ).loc main_arg1)) (fun c => m ((c.tc : Thread nD τ).loc main_arg3))
        (fun c => m ((c.tc : Thread nD τ).loc main_arg2)) (fun c => m ((c.tc : Thread nD τ).loc main_arg4))
        (fun c => (ha c).1) (fun c => (ha c).2.1) (fun c => (ha c).2.2.1) (fun c => (ha c).2.2.2.1) (fun c => (ha c).2.2.2.2))⟩

end Alg

end
-- ==== Proof.Prod.lean ====
/- Matrix products over the extended reals: tables of matrices, a product contracting one coordinate, a sum taken
   block by block, and the fold of a product accumulated over a grid's points. -/
module

public import Idealize.ShloMosaic.Lib.Pipeline.Value
public import Idealize.ShloMosaic.Lib.Pipeline.ValueKit
public import Idealize.ShloMosaic.Lib.KernelVsHost
public import Idealize.ShloMosaic.Lib.MatmulPlain
public import Idealize.ShloMosaic.PureOps.Ideal.Laws

@[expose] public section

set_option maxRecDepth 16384

noncomputable section

namespace Prod

open Idealize.ShloMosaic hiding ix0 ix1 ix2 ix3 ix4 ix5 eq_ix1 eq_ix2 eq_ix3 eq_ix4
open Idealize.ShloMosaic.ValueIdx Finset

/-- A matrix as a table, zero outside. -/
def tab {a b : ℕ} (x : (⟨2, ![a, b]⟩ : Shape).Idx → EReal) (i j : ℕ) : EReal :=
  if h : i < a ∧ j < b then x (ix2 ⟨i, h.1⟩ ⟨j, h.2⟩) else 0
/-- The parts of columns of a matrix, as one table. -/
def tab3 {n a b : ℕ} (x : (⟨3, ![n, a, b]⟩ : Shape).Idx → EReal) (i j : ℕ) : EReal :=
  if h : i < a ∧ j < n * b then x (ix3 ⟨j / b, Nat.div_lt_of_lt_mul (by rw [mul_comm]; exact h.2)⟩ ⟨i, h.1⟩ ⟨j % b, Nat.mod_lt _ (Nat.pos_of_ne_zero fun e => by have := h.2; simp [e] at this)⟩) else 0

theorem tab_ix {a b : ℕ} (x : (⟨2, ![a, b]⟩ : Shape).Idx → EReal) (i : Fin a) (j : Fin b) : x (ix2 i j) = tab x i.val j.val := by
  unfold tab; rw [dif_pos ⟨i.isLt, j.isLt⟩]
theorem tab_at {a b : ℕ} (x : (⟨2, ![a, b]⟩ : Shape).Idx → EReal) (i : (⟨2, ![a, b]⟩ : Shape).Idx) : x i = tab x (i 0).val (i 1).val :=
  (congrArg x (eq_ix2 i)).trans (tab_ix x (i 0) (i 1))
theorem tab_mk {a b : ℕ} (x : (⟨2, ![a, b]⟩ : Shape).Idx → EReal) (i j : ℕ) (hi : i < a) (hj : j < b) : tab x i j = x (ix2 ⟨i, hi⟩ ⟨j, hj⟩) := by
  unfold tab; rw [dif_pos ⟨hi, hj⟩]
theorem tab3_mk {n a b : ℕ} (x : (⟨3, ![n, a, b]⟩ : Shape).Idx → EReal) (p i j : ℕ) (hp : p < n) (hi : i < a) (hj : j < b) :
    tab3 x i (b * p + j) = x (ix3 ⟨p, hp⟩ ⟨i, hi⟩ ⟨j, hj⟩) := by
  have h1 : (b * p + j) / b = p := by rw [Nat.mul_add_div (by omega), Nat.div_eq_of_lt hj, add_zero]
  have h2 : (b * p + j) % b = j := by rw [Nat.mul_add_mod, Nat.mod_eq_of_lt hj]
  have h3 : b * p + j < n * b := by
    have : (p + 1) * b ≤ n * b := Nat.mul_le_mul_right b hp
    have e : (p + 1) * b = b * p + b := by ring
    omega
  unfold tab3; rw [dif_pos ⟨hi, h3⟩]
  refine congrArg x ?_
  funext q
  match q with
  | ⟨0, _⟩ => exact Fin.ext h1
  | ⟨1, _⟩ => rfl
  | ⟨2, _⟩ => exact Fin.ext h2

/-- A sum over all rows, block by block. -/
theorem sum_blocks (n K : ℕ) (f : ℕ → EReal) : ∑ s ∈ range n, ∑ k ∈ range K, f (K * s + k) = ∑ k ∈ range (n * K), f k := by
  induction n with
  | zero => simp
  | succ n ih => rw [sum_range_succ, ih, Nat.succ_mul, sum_range_add]; simp only [Nat.mul_comm K n]

/-- Loading columns of a matrix. -/
theorem tab_ld {a b b' o : ℕ} (x : Vec Ideal (⟨2, ![a, b]⟩ : Shape) .bf16) (inb) (i k : ℕ) (hi : i < a) (hk : k < b') :
    tab (a := a) (b := b') (View.ld (Val := Elt Ideal) (e' := .bf16) x (Rect.unit (s := (⟨2, ![a, b]⟩ : Shape)) ![0, o] ![a, b'] inb)) i k = tab (a := a) (b := b) x i (o + k) := by
  have h1 : o + b' ≤ b := inb 1
  rw [tab_mk (a := a) (b := b') _ i k hi hk, tab_mk (a := a) (b := b) x i (o + k) hi (by omega)]
  exact View.ld_unit_apply_of x _ _ inb _ _ (fun c => match c with
    | ⟨0, _⟩ => (Nat.zero_add _).symm
    | ⟨1, _⟩ => rfl)
/-- Loading one part of columns of a matrix. -/
theorem tab_part {n a b p : ℕ} (x : Vec Ideal (⟨3, ![n, a, b]⟩ : Shape) .bf16) (inb) (hc : (⟨3, ![1, a, b]⟩ : Shape).ShapeCasts ⟨2, ![a, b]⟩) (j k : ℕ) (hj : j < a) (hk : k < b) :
    tab (a := a) (b := b) (shapeCast (s := (⟨3, ![1, a, b]⟩ : Shape)) (⟨2, ![a, b]⟩ : Shape) (View.ld (Val := Elt Ideal) (e' := .bf16) x (Rect.unit (s := (⟨3, ![n, a, b]⟩ : Shape)) ![p, 0, 0] ![1, a, b] inb)) hc) j k
      = tab3 (n := n) (a := a) (b := b) x j (b * p + k) := by
  have hp : p + 1 ≤ n := inb 0
  rw [tab_mk (a := a) (b := b) _ j k hj hk, tab3_mk (n := n) (a := a) (b := b) x p j k hp hj hk]
  refine (shapeCast_apply _ hc (ix2 ⟨j, hj⟩ ⟨k, hk⟩) (ix3 0 ⟨j, hj⟩ ⟨k, hk⟩) (by
    rw [Shape.rowMajor_val_two, Shape.rowMajor_val_three]; show (0 * a + j) * b + k = j * b + k; rw [zero_mul, zero_add])).trans ?_
  exact View.ld_unit_apply_of x _ _ inb _ _ (fun c => match c with
    | ⟨0, _⟩ => rfl
    | ⟨1, _⟩ => (Nat.zero_add _).symm
    | ⟨2, _⟩ => (Nat.zero_add _).symm)

/-- A product contracting one coordinate, at an index. -/
theorem dot {sl sr so : Shape} {K : ℕ} {φ₁ φ₂ : FTy} (D : DotDims sl sr so) (hr : D.contr.rank = 1) (hs : D.contr.size ⟨0, by omega⟩ = K)
    (x : FVec Ideal sl φ₁) (y : FVec Ideal sr φ₂) (j : so.Idx) (A B : ℕ → EReal)
    (hx : ∀ k, x (D.lhsIdx j k) = A (k ⟨0, by omega⟩).val) (hy : ∀ k, y (D.rhsIdx j k) = B (k ⟨0, by omega⟩).val) :
    matmul D none x y (constant so .f32 0x00000000#32) j = ∑ k ∈ range K, A k * B k := by
  simp only [matmul]
  rw [Ideal.matmul_constant_zero_apply, ← Fin.sum_univ_eq_sum_range, ← Equiv.sum_comp (contrEquiv1 D K hr hs).symm]
  refine Fintype.sum_congr _ _ fun k => ?_
  rw [hx, hy, contrEquiv1_symm_val D K hr hs k]

/-- The product of two matrices over their rows, accumulated over the `J` points of a run, is the product over all rows. -/
theorem fold {N J tk : ℕ} {ι : Type} (a : (n : ℕ) → n < N → ι → EReal) (g : (n : ℕ) → n < N → (ι → EReal) → ι → EReal)
    (A B : ℕ → ℕ → EReal) (p : ι → ℕ) (q : ℕ → ι → ℕ) (r J' : ℕ) (hJ : J = J' + 1) (h : J * r + J' < N)
    (ha : ∀ n h i, a n h i = ∑ k ∈ range tk, A (tk * (n % J) + k) (p i) * B (tk * (n % J) + k) (q (n / J) i))
    (hg : ∀ n h acc i, g n h acc i = acc i + ∑ k ∈ range tk, A (tk * (n % J) + k) (p i) * B (tk * (n % J) + k) (q (n / J) i)) (i : ι) :
    Pipeline.accAt a g (J * r) J' h i = ∑ k ∈ range (J * tk), A k (p i) * B k (q r i) := by
  rw [Pipeline.accAt_add_apply a g (fun _ => 0) (fun n i => ∑ k ∈ range tk, A (tk * (n % J) + k) (p i) * B (tk * (n % J) + k) (q (n / J) i)) (J * r) J'
    (fun h i => by rw [ha, zero_add]) (fun n h acc i _ _ => hg n h acc i) J' le_rfl h i, zero_add, ← hJ, ← sum_blocks]
  refine sum_congr rfl fun s hs => ?_
  have hs := mem_range.1 hs
  rw [Nat.mul_add_mod, Nat.mod_eq_of_lt hs, Nat.mul_add_div (by omega), Nat.div_eq_of_lt hs, add_zero]

end Prod

end
-- ==== Proof.Ffn1OutDx.lean ====
/- The call ffn1_out_dx: the gradient of the activations leaving the first SwiGLU layer, through its gate. -/
module

public import proofs.«01_k».proof.Defs
public import proofs.«01_k».proof.Proof.Prod
public import proofs.«01_k».proof.Proof.Finite
public import Idealize.ShloMosaic.Lib.Pipeline.ValueKit
public import proofs.«01_k».proof.Proof.Gen.Kernel2Ideal.Value
public import proofs.«01_k».proof.Proof.Gen.Reference2Ideal.Run
public import proofs.«01_k».proof.Proof.Gen.Reference2Ideal.Read

@[expose] public section

set_option maxRecDepth 16384

noncomputable section

namespace P2

open Cert.Kernel2Ideal Cert.Kernel2Ideal.Gen Idealize.ShloMosaic.TcCoe Idealize.SL.Sem Finset Prod
open Idealize.ShloMosaic hiding ix0 ix1 ix2 ix3 ix4 ix5 eq_ix1 eq_ix2 eq_ix3 eq_ix4
open Idealize.ShloMosaic.ValueIdx

/-- Loading rows of a matrix. -/
theorem tab_rows {a a' b o : ℕ} (x : Vec Ideal (⟨2, ![a, b]⟩ : Shape) .bf16) (inb) (i k : ℕ) (hi : i < a') (hk : k < b) :
    tab (a := a') (b := b) (View.ld (Val := Elt Ideal) (e' := .bf16) x (Rect.unit (s := (⟨2, ![a, b]⟩ : Shape)) ![o, 0] ![a', b] inb)) i k = tab (a := a) (b := b) x (o + i) k := by
  have h1 : o + a' ≤ a := inb 0
  rw [tab_mk (a := a') (b := b) _ i k hi hk, tab_mk (a := a) (b := b) x (o + i) k (by omega) hk]
  exact View.ld_unit_apply_of x _ _ inb _ _ (fun c => match c with
    | ⟨0, _⟩ => rfl
    | ⟨1, _⟩ => (Nat.zero_add _).symm)

abbrev un : EReal := FloatOps.ofBits (F := Ideal) .f32 0x3F800000#32
/-- The logistic function as the kernel takes it. -/
def sgm (g : EReal) : EReal :=
  FloatOps.divf (F := Ideal) (φ := .f32) un (FloatOps.addf (F := Ideal) (φ := .f32) un (FloatOps.exp (F := Ideal) (φ := .f32) (FloatOps.subf (F := Ideal) (φ := .f32) (FloatOps.ofBits (F := Ideal) .f32 0x00000000#32) g)))
/-- The gradient of the gate, and of the value. -/
def lft (d g u : EReal) : EReal := (d * u) * (sgm g * (un + g * (un - sgm g)))
def rgt (d g : EReal) : EReal := d * (g * sgm g)
/-- Both, side by side. -/
def both (d u : ℕ → ℕ → EReal) (r j : ℕ) : EReal := if j < 2816 then lft (d r j) (u r j) (u r (2816 + j)) else rgt (d r (j - 2816)) (u r (j - 2816))

theorem both_lft (d u : ℕ → ℕ → EReal) (r j : ℕ) (h : j < 2816) : both d u r j = lft (d r j) (u r j) (u r (2816 + j)) := if_pos h
theorem both_rgt (d u : ℕ → ℕ → EReal) (r j : ℕ) : both d u r (2816 + j) = rgt (d r j) (u r j) := by
  unfold both; rw [if_neg (by omega), Nat.add_sub_cancel_left]

/-- One entry of the product of `x` with the rows of `w`. -/
def pre (x : Vec Ideal S256x1024 .bf16) (w : Vec Ideal S2816x1024 .bf16) (r j : ℕ) : EReal := ∑ k ∈ range 1024, tab (a := 256) (b := 1024) x r k * tab (a := 2816) (b := 1024) w j k

theorem one (x : Vec Ideal S256x1024 .bf16) (w : Vec Ideal S2816x1024 .bf16) (o : ℕ) (inb : ∀ a, (![o, 0] : Fin 2 → ℕ) a + S1408x1024.size a ≤ S2816x1024.size a) (i : S256x1408.Idx) :
    matmul (F := Ideal) (φ₁ := .bf16) (φ₂ := .bf16) dot_S256x1024_S1408x1024_S256x1408_1_1_0_0_n_n none (View.ld (Val := Elt Ideal) (e' := .bf16) x r0_0)
        (View.ld (Val := Elt Ideal) (e' := .bf16) w (Rect.unit (s := S2816x1024) ![o, 0] S1408x1024.size inb)) (constant S256x1408 .f32 0x00000000#32) i
      = pre x w (i 0).val (o + (i 1).val) := by
  rw [View.ld_unit_lit _ _ (by decide)]
  refine (Prod.dot dot_S256x1024_S1408x1024_S256x1408_1_1_0_0_n_n rfl rfl _ _ i (fun k => tab (a := 256) (b := 1024) x (i 0).val k) (fun k => tab (a := 1408) (b := 1024) _ (i 1).val k)
    (fun k => tab_at (a := 256) (b := 1024) x _) (fun k => tab_at (a := 1408) (b := 1024) _ _)).trans (sum_congr rfl fun k hk => ?_)
  exact congrArg (tab (a := 256) (b := 1024) x (i 0).val k * ·) (tab_rows (a := 2816) (a' := 1408) (b := 1024) w _ _ k (i 1).isLt (mem_range.1 hk))

theorem col (u : Vec Ideal S256x5632 .bf16) (o : ℕ) (inb : ∀ a, (![0, o] : Fin 2 → ℕ) a + S256x1408.size a ≤ S256x5632.size a) (i : S256x1408.Idx) :
    View.ld (Val := Elt Ideal) (e' := .bf16) u (Rect.unit (s := S256x5632) ![0, o] S256x1408.size inb) i = tab (a := 256) (b := 5632) u (i 0).val (o + (i 1).val) :=
  (tab_at (a := 256) (b := 1408) _ i).trans (tab_ld (a := 256) (b := 5632) (b' := 1408) u _ _ _ (i 0).isLt (i 1).isLt)

theorem place {o : ℕ} (inb : ∀ a, (![0, o] : Fin 2 → ℕ) a + S256x1408.size a ≤ S256x5632.size a) (f : ℕ → ℕ → EReal) (i : S256x1408.Idx) :
    (fun y : S256x5632.Idx => f (y 0).val (y 1).val) ((Rect.unit (s := S256x5632) ![0, o] S256x1408.size inb).emb i) = f (i 0).val (o + (i 1).val) :=
  congrArg₂ f ((Rect.idx_unit_val (s := S256x5632) _ _ inb i 0).trans (Nat.zero_add _)) (Rect.idx_unit_val (s := S256x5632) _ _ inb i 1)

theorem lft_eq {d d' g g' u u' : EReal} (h1 : d = d') (h2 : g = g') (h3 : u = u') : lft d g u = lft d' g' u' := by rw [h1, h2, h3]

theorem out (x : Vec Ideal S256x1024 .bf16) (w : Vec Ideal S2816x1024 .bf16) (u : Vec Ideal S256x5632 .bf16) (i : S256x5632.Idx) :
    out0_3 x w u i = both (pre x w) (tab (a := 256) (b := 5632) u) (i 0).val (i 1).val := by
  unfold out0_3
  refine View.canon_apply_of_pieces (Val := Elt Ideal) (e := .bf16) (fun y : S256x5632.Idx => both (pre x w) (tab (a := 256) (b := 5632) u) (y 0).val (y 1).val) _ ?_ i (cover0_3 _ _ _ _ i)
  refine List.forall_mem_cons.2 ⟨fun i => ?_, List.forall_mem_cons.2 ⟨fun i => ?_, List.forall_mem_cons.2 ⟨fun i => ?_, List.forall_mem_cons.2 ⟨fun i => ?_, fun _ h => absurd h List.not_mem_nil⟩⟩⟩⟩
  · refine Eq.trans ?_ (place (o := 4224) inb_S256x5632_S256x1408_0_4224 (both (pre x w) (tab (a := 256) (b := 5632) u)) i).symm
    have e : 4224 + (i 1).val = 2816 + (1408 + (i 1).val) := by rw [← Nat.add_assoc]
    rw [e, both_rgt]
    exact congrArg₂ rgt (one x w 1408 inb_S2816x1024_S1408x1024_1408_0 i) (col u 1408 inb_S256x5632_S256x1408_0_1408 i)
  · refine Eq.trans ?_ (place (o := 1408) inb_S256x5632_S256x1408_0_1408 (both (pre x w) (tab (a := 256) (b := 5632) u)) i).symm
    have h : (i 1).val < 1408 := (i 1).isLt
    have e : 4224 + (i 1).val = 2816 + (1408 + (i 1).val) := by rw [← Nat.add_assoc]
    rw [both_lft _ _ _ _ (by omega), ← e]
    exact lft_eq (one x w 1408 inb_S2816x1024_S1408x1024_1408_0 i) (col u 1408 inb_S256x5632_S256x1408_0_1408 i) (col u 4224 inb_S256x5632_S256x1408_0_4224 i)
  · refine Eq.trans ?_ (place (o := 2816) inb_S256x5632_S256x1408_0_2816 (both (pre x w) (tab (a := 256) (b := 5632) u)) i).symm
    rw [both_rgt, ← Nat.zero_add (i 1).val]
    exact congrArg₂ rgt (one x w 0 inb_S2816x1024_S1408x1024_0_0 i) (col u 0 inb_S256x5632_S256x1408_0_0 i)
  · refine Eq.trans ?_ (place (o := 0) inb_S256x5632_S256x1408_0_0 (both (pre x w) (tab (a := 256) (b := 5632) u)) i).symm
    have h : (i 1).val < 1408 := (i 1).isLt
    have e : 2816 + (i 1).val = 2816 + (0 + (i 1).val) := by rw [Nat.zero_add]
    rw [both_lft _ _ _ _ (by omega), ← e]
    exact lft_eq (one x w 0 inb_S2816x1024_S1408x1024_0_0 i) (col u 0 inb_S256x5632_S256x1408_0_0 i) (col u 2816 inb_S256x5632_S256x1408_0_2816 i)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0])
theorem lt (t : Fin cfg0.N) : t.val < 36 := lt_of_lt_of_eq t.isLt N_0

variable (m : (ℓ : Loc nD τ sig) → Buf (Elt Ideal) ℓ) (c : Dev nD) (t : Fin cfg0.N)

abbrev A : ℕ → ℕ → EReal := tab (a := 9216) (b := 1024) (m ((c : Thread nD τ).loc main_arg0))
abbrev B : ℕ → ℕ → EReal := tab (a := 2816) (b := 1024) (m ((c : Thread nD τ).loc main_arg1))
abbrev U : ℕ → ℕ → EReal := tab (a := 9216) (b := 5632) (m ((c : Thread nD τ).loc main_arg2))
def all (r j : ℕ) : EReal := ∑ k ∈ range 1024, A m c r k * B m c j k

theorem blk0 (i k : ℕ) (hi : i < 256) (hk : k < 1024) : tab (a := 256) (b := 1024) (iblk m c 0 t : Vec Ideal S256x1024 .bf16) i k = A m c (t.val * 256 + i) k := by
  have := lt t
  refine (tab_mk _ _ _ hi hk).trans ?_
  refine Eq.trans ?_ (tab_mk (a := 9216) (b := 1024) _ _ _ (by omega) hk).symm
  refine Eq.trans ?_ (congrFun (V_main_arg0 m c) _)
  blk_ext [iblk, (idx t).1]
theorem blk1 (j k : ℕ) : tab (a := 2816) (b := 1024) (iblk m c 1 t : Vec Ideal S2816x1024 .bf16) j k = B m c j k := by
  refine congrArg (fun w => tab (a := 2816) (b := 1024) w j k) (funext fun i => ?_)
  refine Eq.trans ?_ (congrFun (V_main_arg1 m c) _)
  blk_ext [iblk, (idx t).2.1]
theorem blk2 (i k : ℕ) (hi : i < 256) (hk : k < 5632) : tab (a := 256) (b := 5632) (iblk m c 2 t : Vec Ideal S256x5632 .bf16) i k = U m c (t.val * 256 + i) k := by
  have := lt t
  refine (tab_mk _ _ _ hi hk).trans ?_
  refine Eq.trans ?_ (tab_mk (a := 9216) (b := 5632) _ _ _ (by omega) hk).symm
  refine Eq.trans ?_ (congrFun (V_main_arg2 m c) _)
  blk_ext [iblk, (idx t).2.2.1]
theorem pre_blk (i j : ℕ) (hi : i < 256) : pre (iblk m c 0 t) (iblk m c 1 t) i j = all m c (t.val * 256 + i) j :=
  sum_congr rfl fun k hk => congrArg₂ (fun a b : EReal => a * b) (blk0 m c t i k hi (mem_range.1 hk)) (blk1 m c t j k)

theorem both_blk (i j : ℕ) (hi : i < 256) (hj : j < 5632) :
    both (pre (iblk m c 0 t) (iblk m c 1 t)) (tab (a := 256) (b := 5632) (iblk m c 2 t : Vec Ideal S256x5632 .bf16)) i j = both (all m c) (U m c) (t.val * 256 + i) j := by
  unfold both
  split
  · exact lft_eq (pre_blk m c t _ _ hi) (blk2 m c t _ _ hi hj) (blk2 m c t _ _ hi (by omega))
  · exact congrArg₂ rgt (pre_blk m c t _ _ hi) (blk2 m c t _ _ hi (by omega))

theorem arr : (dats m 0 c).arrAt 3 cfg0.N = fun i : S9216x5632.Idx => both (all m c) (U m c) (i 0).val (i 1).val := by
  refine (dats m 0 c).arrAt_eq_of_covers 3 _ (by decide +kernel) fun t hf y => ?_
  blk_simp
  rw [after0_3]
  have e0 : win0_3.index t 0 = t.val := congrFun (idx t).2.2.2 0
  have e1 : win0_3.index t 1 = 0 := congrFun (idx t).2.2.2 1
  refine (out (iblk m c 0 t) (iblk m c 1 t) (iblk m c 2 t) y).trans ?_
  rw [e0, e1, Nat.zero_mul, Nat.zero_add]
  exact both_blk m c t _ _ (y 0).isLt (y 1).isLt

/-! ## The reference -/

/-- The entry is a real. -/
def Re (x : EReal) : Prop := ∃ r : ℝ, x = (r : EReal)
theorem Re.mul {x y : EReal} (hx : Re x) (hy : Re y) : Re (x * y) := by
  obtain ⟨r, rfl⟩ := hx; obtain ⟨s, rfl⟩ := hy; exact ⟨r * s, (EReal.coe_mul r s).symm⟩
theorem Re.sum (n : ℕ) (f : ℕ → EReal) (h : ∀ k, Re (f k)) : Re (∑ k ∈ range n, f k) := by
  induction n with
  | zero => exact ⟨0, by simp⟩
  | succ n ih =>
    obtain ⟨r, hr⟩ := ih; obtain ⟨s, hs⟩ := h n
    exact ⟨r + s, by rw [sum_range_succ, hr, hs, EReal.coe_add]⟩
theorem Re.tab {a b : ℕ} (x : (⟨2, ![a, b]⟩ : Shape).Idx → EReal) (h : Finite.Fin' x) (i j : ℕ) : Re (Prod.tab x i j) := by
  unfold Prod.tab
  split
  · exact ⟨_, h _⟩
  · exact ⟨0, rfl⟩

theorem un_eq : un = ((1 : ℝ) : EReal) := by simp [un, FloatOps.ofBits, Ideal.ofBits, Ideal.ieee, -EReal.coe_mul]; norm_num

theorem sig_real (g : ℝ) : Re (sgm (g : EReal)) := by
  have e : sgm (g : EReal) = Ideal.div un (un + Ideal.exp (Ideal.ofBits .f32 0x00000000#32 - (g : EReal))) := rfl
  have hp : (0 : ℝ) < 1 + Real.exp (-g) := by positivity
  have ex : Ideal.exp (((-g : ℝ)) : EReal) = ((Real.exp (-g) : ℝ) : EReal) := rfl
  refine ⟨1 * (1 + Real.exp (-g))⁻¹, ?_⟩
  rw [e, Ideal.ofBits_zero_f32, zero_sub, ← EReal.coe_neg, ex, un_eq, ← EReal.coe_add, Ideal.div, if_neg (by exact_mod_cast hp.ne'), EReal.coe_mul, EReal.coe_inv]

theorem lft_ref {d g u : EReal} (hd : Re d) (hg : Re g) (hu : Re u) : (d * u) * sgm g + (g * (d * u)) * (sgm g * (un - sgm g)) = lft d g u := by
  obtain ⟨d, rfl⟩ := hd; obtain ⟨g, rfl⟩ := hg; obtain ⟨u, rfl⟩ := hu
  obtain ⟨s, hs⟩ := sig_real g
  unfold lft
  rw [hs, un_eq]
  exact_mod_cast (by ring : (d * u) * s + (g * (d * u)) * (s * (1 - s)) = (d * u) * (s * (1 + g * (1 - s))))

section
variable (x0 : (⟨S9216x1024, .bf16⟩ : BufTy).Contents (Elt Ideal)) (x1 : (⟨S2816x1024, .bf16⟩ : BufTy).Contents (Elt Ideal)) (x2 : (⟨S9216x5632, .bf16⟩ : BufTy).Contents (Elt Ideal))

def da (r j : ℕ) : EReal := ∑ k ∈ range 1024, tab (a := 9216) (b := 1024) x0 r k * tab (a := 2816) (b := 1024) x1 j k

theorem ref8 (i : Cert.Reference2Ideal.S9216x2816.Idx) : Cert.Reference2Ideal.Read.val_main_v8 (F := Ideal) x0 x1 i = da x0 x1 (i 0).val (i 1).val := by
  unfold da
  rw [Cert.Reference2Ideal.Read.val_main_v8_apply, ← Fin.sum_univ_eq_sum_range]
  exact Fintype.sum_congr _ _ fun k => congrArg₂ (fun a b : EReal => a * b) (tab_at (a := 9216) (b := 1024) x0 _) (tab_at (a := 2816) (b := 1024) x1 _)

theorem ref3 (i : Cert.Reference2Ideal.S9216x2816.Idx) : Cert.Reference2Ideal.Read.val_main_v3 (F := Ideal) x2 i = tab (a := 9216) (b := 5632) x2 (i 0).val (i 1).val :=
  (Cert.Reference2Ideal.Read.val_main_v3_apply x2 i).trans (tab_at (a := 9216) (b := 5632) x2 _)
theorem ref4 (i : Cert.Reference2Ideal.S9216x2816.Idx) : Cert.Reference2Ideal.Read.val_main_v4 (F := Ideal) x2 i = tab (a := 9216) (b := 5632) x2 (i 0).val (2816 + (i 1).val) :=
  (Cert.Reference2Ideal.Read.val_main_v4_apply x2 i).trans (tab_at (a := 9216) (b := 5632) x2 _)
theorem ref5 (i : Cert.Reference2Ideal.S9216x2816.Idx) : Cert.Reference2Ideal.Read.val_main_v5_2 (F := Ideal) x2 i = sgm (tab (a := 9216) (b := 5632) x2 (i 0).val (i 1).val) := by
  rw [Cert.Reference2Ideal.Read.val_main_v5_2_apply, Cert.Reference2Ideal.Read.val_main_call0_v4_apply, Cert.Reference2Ideal.Read.val_main_call0_v3_apply,
    Cert.Reference2Ideal.Read.val_main_call0_v2_apply, Cert.Reference2Ideal.Read.val_main_call0_v1_apply, Cert.Reference2Ideal.Read.val_main_call0_v0_apply, ref3]
  generalize tab (a := 9216) (b := 5632) x2 (i 0).val (i 1).val = g
  have e : FloatOps.subf (F := Ideal) (φ := .f32) (FloatOps.ofBits (F := Ideal) .f32 0x00000000#32) g = FloatOps.hostNegf (F := Ideal) (φ := .f32) g := by
    show Ideal.ofBits .f32 0x00000000#32 - g = -g
    rw [Ideal.ofBits_zero_f32, zero_sub]
  unfold sgm
  rw [e]; rfl

theorem ref9 (i : Cert.Reference2Ideal.S9216x2816.Idx) : Cert.Reference2Ideal.Read.val_main_v9 (F := Ideal) x0 x1 x2 i = rgt (da x0 x1 (i 0).val (i 1).val) (tab (a := 9216) (b := 5632) x2 (i 0).val (i 1).val) := by
  rw [Cert.Reference2Ideal.Read.val_main_v9_apply, Cert.Reference2Ideal.Read.val_main_v5_0_apply, ref8, ref5, ref3]
  exact mul_comm _ _

theorem ref11 (h0 : Finite.Fin' x0) (h1 : Finite.Fin' x1) (h2 : Finite.Fin' x2) (i : Cert.Reference2Ideal.S9216x2816.Idx) : Cert.Reference2Ideal.Read.val_main_v11 (F := Ideal) x0 x1 x2 i
    = lft (da x0 x1 (i 0).val (i 1).val) (tab (a := 9216) (b := 5632) x2 (i 0).val (i 1).val) (tab (a := 9216) (b := 5632) x2 (i 0).val (2816 + (i 1).val)) := by
  rw [Cert.Reference2Ideal.Read.val_main_v11_apply, Cert.Reference2Ideal.Read.val_main_call1_v1_apply, Cert.Reference2Ideal.Read.val_main_call1_v2_apply,
    Cert.Reference2Ideal.Read.val_main_call1_v0_apply, Cert.Reference2Ideal.Read.val_main_v10_apply, Cert.Reference2Ideal.Read.val_main_v5_1_apply,
    Cert.Reference2Ideal.Read.val_main_call0_v7_apply, Cert.Reference2Ideal.Read.val_main_call0_v6_apply, ref8, ref5, ref3, ref4]
  exact lft_ref (Re.sum _ _ fun k => (Re.tab x0 h0 _ _).mul (Re.tab x1 h1 _ _)) (Re.tab x2 h2 _ _) (Re.tab x2 h2 _ _)

theorem ref (h0 : Finite.Fin' x0) (h1 : Finite.Fin' x1) (h2 : Finite.Fin' x2) (i : S9216x5632.Idx) :
    Cert.Reference2Ideal.Read.val_main_v13 (F := Ideal) x0 x1 x2 i = both (da x0 x1) (tab (a := 9216) (b := 5632) x2) (i 0).val (i 1).val := by
  refine Eq.trans (b := Cert.Reference2Ideal.Read.val_main_v12 (F := Ideal) x0 x1 x2 i) rfl ?_
  unfold Cert.Reference2Ideal.Read.val_main_v12
  have hi : (i 1).val < 5632 := (i 1).isLt
  by_cases hj : (i 1).val < 2816
  · rw [both_lft _ _ _ _ hj]
    refine (concatenate_pair_apply_left (t := S9216x5632) (s₁ := Cert.Reference2Ideal.S9216x2816) (s₂ := Cert.Reference2Ideal.S9216x2816) 1 _ _ _ i rfl (ix2 (n0 := 9216) (n1 := 2816) (i 0) ⟨(i 1).val, hj⟩) (fun b => match b with
      | ⟨0, _⟩ => rfl
      | ⟨1, _⟩ => rfl)).trans ?_
    exact ref11 x0 x1 x2 h0 h1 h2 (ix2 (n0 := 9216) (n1 := 2816) (i 0) ⟨(i 1).val, hj⟩)
  · obtain ⟨j, hj'⟩ := Nat.exists_eq_add_of_le (Nat.le_of_not_lt hj)
    rw [hj', both_rgt]
    refine (concatenate_pair_apply_right (t := S9216x5632) (s₁ := Cert.Reference2Ideal.S9216x2816) (s₂ := Cert.Reference2Ideal.S9216x2816) 1 _ _ _ i rfl rfl (ix2 (n0 := 9216) (n1 := 2816) (i 0) ⟨j, by omega⟩) (fun b hb => match b with
      | ⟨0, _⟩ => rfl
      | ⟨1, _⟩ => absurd rfl hb) ((Nat.add_comm _ _).trans hj'.symm)).trans ?_
    exact ref9 x0 x1 x2 (ix2 (n0 := 9216) (n1 := 2816) (i 0) ⟨j, by omega⟩)
end

/-! ## The precondition read back -/

theorem facts : Cert.Pre_finite2.Facts where
  bitsLt_bf16_f32 := by decide
  bcast_S_S9216x1024 := by decide
  reducesTo_S9216x1024_S_d0_1 := by decide
  h_S_ := by decide
  bcast_S_S2816x1024 := by decide
  reducesTo_S2816x1024_S_d0_1 := by decide
  bcast_S_S9216x5632 := by decide
  reducesTo_S9216x5632_S_d0_1 := by decide

theorem read [Cert.Pre_finite2.Facts] (a0 : FVec Ideal Cert.Pre_finite2.S9216x1024 .bf16) (a1 : FVec Ideal Cert.Pre_finite2.S2816x1024 .bf16) (a2 : FVec Ideal Cert.Pre_finite2.S9216x5632 .bf16)
    (h : Cert.Pre_finite2.fn (F := Ideal) a0 a1 a2 = fun _ => 1#1) : Finite.Fin' a0 ∧ Finite.Fin' a1 ∧ Finite.Fin' a2 := by
  have h0 := congrFun h (Shape.Idx.first Cert.Pre_finite2.Facts.h_S_)
  obtain ⟨h1, e2⟩ := Finite.split h0
  obtain ⟨e0, e1⟩ := Finite.split h1
  exact ⟨Finite.all_fin (extf .f32 a0 Cert.Pre_finite2.Facts.bitsLt_bf16_f32) _ _ _ _ e0, Finite.all_fin (extf .f32 a1 Cert.Pre_finite2.Facts.bitsLt_bf16_f32) _ _ _ _ e1,
    Finite.all_fin (extf .f32 a2 Cert.Pre_finite2.Facts.bitsLt_bf16_f32) _ _ _ _ e2⟩

theorem ref_frame : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)
theorem ref_frame_pre [hF : Cert.Pre_finite2.Facts] : Cert.quiescent_Reference2Ideal_pre_finite2 := fun m ρ _ => ref_frame m ρ trivial

theorem algebraic [hF : Cert.Pre_finite2.Facts] : Cert.algebraic_Kernel2Ideal_Reference2Ideal_pre_finite2 := fun m g m' g' hp ha =>
  ⟨fun c => (dats m 0 c).arrAt 3 cfg0.N, Value.run_blocks m g, (θ_run Cert.Reference2Ideal.defs _ _).mono (fun r h c => ⟨(h c).1.trans ((Cert.Reference2Ideal.Read.val_main_v13_eq _ _ _).trans (by
    rw [(ha c).1, (ha c).2.1, (ha c).2.2]
    obtain ⟨h0, h1, h2⟩ := read _ _ _ (hp c)
    exact ((funext fun i => ref _ _ _ h0 h1 h2 i).trans (arr m c).symm))), (h c).2⟩) (Cert.Reference2Ideal.Value.run (F := Ideal) m' g')⟩

end P2

end
-- ==== Proof.Ffn1InDx.lean ====
/- The call ffn1_in_dx: the gradient of the activations entering the first SwiGLU layer. -/
module

public import proofs.«01_k».proof.Defs
public import proofs.«01_k».proof.Proof.Prod
public import Idealize.ShloMosaic.Lib.Pipeline.ValueKit
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

namespace P3

open Cert.Kernel3Ideal Cert.Kernel3Ideal.Gen Idealize.ShloMosaic.TcCoe Idealize.SL.Sem Finset Prod
open Idealize.ShloMosaic hiding ix0 ix1 ix2 ix3 ix4 ix5 eq_ix1 eq_ix2 eq_ix3 eq_ix4
open Idealize.ShloMosaic.ValueIdx

theorem one (x : Vec Ideal S256x5632 .bf16) (w : Vec Ideal S4x1024x1408 .bf16) (o p : ℕ) (hp : o = 1408 * p)
    (inb : ∀ a, (![0, o] : Fin 2 → ℕ) a + S256x1408.size a ≤ S256x5632.size a) (inb' : ∀ a, (![p, 0, 0] : Fin 3 → ℕ) a + S1x1024x1408.size a ≤ S4x1024x1408.size a) (i : S256x1024.Idx) :
    matmul (F := Ideal) (φ₁ := .bf16) (φ₂ := .bf16) dot_S256x1408_S1024x1408_S256x1024_1_1_0_0_n_n none (View.ld (Val := Elt Ideal) (e' := .bf16) x (Rect.unit (s := S256x5632) ![0, o] S256x1408.size inb))
        (shapeCast S1024x1408 (View.ld (Val := Elt Ideal) (e' := .bf16) w (Rect.unit (s := S4x1024x1408) ![p, 0, 0] S1x1024x1408.size inb')) shapeCasts_S1x1024x1408_S1024x1408) (constant S256x1024 .f32 0x00000000#32) i
      = ∑ k ∈ range 1408, tab (a := 256) (b := 5632) x (i 0).val (1408 * p + k) * tab3 (n := 4) (a := 1024) (b := 1408) w (i 1).val (1408 * p + k) := by
  subst hp
  refine (Prod.dot dot_S256x1408_S1024x1408_S256x1024_1_1_0_0_n_n rfl rfl _ _ i (fun k => tab (a := 256) (b := 1408) _ (i 0).val k) (fun k => tab (a := 1024) (b := 1408) _ (i 1).val k)
    (fun k => tab_at (a := 256) (b := 1408) _ _) (fun k => tab_at (a := 1024) (b := 1408) _ _)).trans (sum_congr rfl fun k hk => ?_)
  have hk := mem_range.1 hk
  exact congrArg₂ (fun a b : EReal => a * b) (tab_ld (a := 256) (b := 5632) (b' := 1408) x _ _ k (i 0).isLt hk) (tab_part (n := 4) (a := 1024) (b := 1408) w _ _ _ k (i 1).isLt hk)

theorem out (x : Vec Ideal S256x5632 .bf16) (w : Vec Ideal S4x1024x1408 .bf16) (i : S256x1024.Idx) :
    out0_2 x w i = ∑ k ∈ range 5632, tab (a := 256) (b := 5632) x (i 0).val k * tab3 (n := 4) (a := 1024) (b := 1408) w (i 1).val k := by
  unfold out0_2
  rw [View.canon_cons_unit_lit _ _ _ (by decide)]
  unfold k0_pay1
  refine Eq.trans ?_ (sum_blocks 4 1408 fun k => tab (a := 256) (b := 5632) x (i 0).val k * tab3 (n := 4) (a := 1024) (b := 1408) w (i 1).val k)
  rw [sum_range_succ, sum_range_succ, sum_range_succ, sum_range_one]
  exact congrArg₂ (fun a b : EReal => a + b) (congrArg₂ (fun a b : EReal => a + b) (congrArg₂ (fun a b : EReal => a + b)
    (one x w 0 0 rfl _ _ i) (one x w 1408 1 rfl _ _ i)) (one x w 2816 2 rfl _ _ i)) (one x w 4224 3 rfl _ _ i)

theorem idx : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])
theorem lt (t : Fin cfg0.N) : t.val < 36 := lt_of_lt_of_eq t.isLt N_0

variable (m : (ℓ : Loc nD τ sig) → Buf (Elt Ideal) ℓ) (c : Dev nD) (t : Fin cfg0.N)

abbrev A : ℕ → ℕ → EReal := tab (a := 9216) (b := 5632) (m ((c : Thread nD τ).loc main_arg0))
abbrev B : ℕ → ℕ → EReal := tab3 (n := 4) (a := 1024) (b := 1408) (m ((c : Thread nD τ).loc main_arg1))

theorem blk0 (i k : ℕ) (hi : i < 256) (hk : k < 5632) : tab (a := 256) (b := 5632) (iblk m c 0 t : Vec Ideal S256x5632 .bf16) i k = A m c (t.val * 256 + i) k := by
  have := lt t
  refine (tab_mk _ _ _ hi hk).trans ?_
  refine Eq.trans ?_ (tab_mk (a := 9216) (b := 5632) _ _ _ (by omega) hk).symm
  refine Eq.trans ?_ (congrFun (V_main_arg0 m c) _)
  blk_ext [iblk, (idx t).1]
theorem blk1 (j k : ℕ) (hj : j < 1024) (hk : k < 5632) : tab3 (n := 4) (a := 1024) (b := 1408) (iblk m c 1 t : Vec Ideal S4x1024x1408 .bf16) j k = B m c j k := by
  refine congrArg (fun w => tab3 (n := 4) (a := 1024) (b := 1408) w j k) (funext fun i => ?_)
  refine Eq.trans ?_ (congrFun (V_main_arg1 m c) _)
  blk_ext [iblk, (idx t).2.1]

/-- The array the run leaves: the whole product. -/
theorem arr : (dats m 0 c).arrAt 2 cfg0.N = fun i : S9216x1024.Idx => ∑ k ∈ range 5632, A m c (i 0).val k * B m c (i 1).val k := by
  refine (dats m 0 c).arrAt_eq_of_covers 2 _ (by decide +kernel) fun t hf y => ?_
  blk_simp
  rw [after0_2]
  have e0 : win0_2.index t 0 = t.val := congrFun (idx t).2.2 0
  have e1 : win0_2.index t 1 = 0 := congrFun (idx t).2.2 1
  refine (out (iblk m c 0 t) (iblk m c 1 t) y).trans (sum_congr rfl fun k hk => ?_)
  have hk := mem_range.1 hk
  rw [e0, e1, Nat.zero_mul, Nat.zero_add]
  exact congrArg₂ (fun a b : EReal => a * b) (blk0 m c t _ k (y 0).isLt hk) (blk1 m c t _ k (y 1).isLt hk)

/-- The reference's result is the whole product. -/
theorem ref (x0 : (⟨S9216x5632, .bf16⟩ : BufTy).Contents (Elt Ideal)) (x1 : (⟨S4x1024x1408, .bf16⟩ : BufTy).Contents (Elt Ideal)) (i : S9216x1024.Idx) :
    Cert.Reference3Ideal.Read.val_main_v7 (F := Ideal) x0 x1 i = ∑ k ∈ range 5632, tab (a := 9216) (b := 5632) x0 (i 0).val k * tab3 (n := 4) (a := 1024) (b := 1408) x1 (i 1).val k := by
  rw [Cert.Reference3Ideal.Read.val_main_v7_apply]
  refine (Cert.Reference3Ideal.Read.val_main_v6_apply x0 x1 i).trans ?_
  rw [← Fin.sum_univ_eq_sum_range]
  refine Fintype.sum_congr _ _ fun k => congrArg₂ (fun a b : EReal => a * b) (tab_at (a := 9216) (b := 5632) x0 _) ?_
  rw [Cert.Reference3Ideal.Read.val_main_v3_apply, Cert.Reference3Ideal.Read.val_main_v2_apply]
  have h1 : (i 1).val < 1024 := (i 1).isLt
  have hd : 1408 * (k.val / 1408) + k.val % 1408 = k.val := Nat.div_add_mod _ _
  refine Eq.trans ?_ ((tab3_mk (n := 4) (a := 1024) (b := 1408) x1 (k.val / 1408) (i 1).val (k.val % 1408) (by omega) h1 (by omega)).symm.trans (by rw [hd]))
  refine congrArg x1 (funext fun a => Fin.ext ?_)
  match a with
  | ⟨0, _⟩ => show ((i 1).val * 5632 + k.val) / 1408 % 4 = k.val / 1408; omega
  | ⟨1, _⟩ => show ((i 1).val * 5632 + k.val) / 5632 = (i 1).val; omega
  | ⟨2, _⟩ => show ((i 1).val * 5632 + k.val) % 1408 = k.val % 1408; omega

theorem ref_frame : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

theorem algebraic : Cert.algebraic_Kernel3Ideal_Reference3Ideal := fun m g m' g' _ ha =>
  ⟨fun c => (dats m 0 c).arrAt 2 cfg0.N, Value.run_blocks m g, (θ_run Cert.Reference3Ideal.defs _ _).mono (fun r h c => ⟨(h c).1.trans ((Cert.Reference3Ideal.Read.val_main_v7_eq _ _).trans (by
    rw [(ha c).1, (ha c).2]; exact ((funext fun i => ref _ _ i).trans (arr m c).symm))), (h c).2⟩) (Cert.Reference3Ideal.Value.run (F := Ideal) m' g')⟩

end P3

end
-- ==== Proof.Ffn1InDw.lean ====
/- The call ffn1_in_dw: the gradient of the input projection of the first SwiGLU layer, in four parts of columns. -/
module

public import proofs.«01_k».proof.Defs
public import proofs.«01_k».proof.Proof.Prod
public import Idealize.ShloMosaic.Lib.Pipeline.ValueKit
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

namespace P4

open Cert.Kernel4Ideal Cert.Kernel4Ideal.Gen Idealize.ShloMosaic.TcCoe Idealize.SL.Sem Finset Prod
open Idealize.ShloMosaic hiding ix0 ix1 ix2 ix3 ix4 ix5 eq_ix1 eq_ix2 eq_ix3 eq_ix4
open Idealize.ShloMosaic.ValueIdx

theorem pay1 (i : S1x1024x1408.Idx) : (k0_pay1 (F := Ideal)) i = 0 := Ideal.ofBits_zero_f32

theorem pay2 (x : Vec Ideal S1536x1024 .bf16) (y : Vec Ideal S1536x1408 .bf16) (acc : Vec Ideal S1x1024x1408 .f32) (i : S1x1024x1408.Idx) :
    k0_pay2 x y acc i = acc i + ∑ k ∈ range 1536, tab (a := 1536) (b := 1024) x k (i 1).val * tab (a := 1536) (b := 1408) y k (i 2).val := by
  have h : (i 0).val = 0 := by have : (i 0).val < 1 := (i 0).isLt; omega
  have e : (Shape.rowMajor S1024x1408 (ix2 (i 1) (i 2))).val = (Shape.rowMajor S1x1024x1408 i).val := by
    rw [Shape.rowMajor_val_two, Shape.rowMajor_val_three]
    show (i 1).val * 1408 + (i 2).val = ((i 0).val * 1024 + (i 1).val) * 1408 + (i 2).val
    omega
  unfold k0_pay2
  refine (shapeCast_apply _ _ i (ix2 (i 1) (i 2)) e).trans ?_
  refine congrArg₂ (fun a b : EReal => a + b) (shapeCast_apply acc _ (ix2 (i 1) (i 2)) i e.symm) ?_
  exact Prod.dot dot_S1536x1024_S1536x1408_S1024x1408_0_0_1_1_n_n rfl rfl x y (ix2 (i 1) (i 2)) (fun k => tab (a := 1536) (b := 1024) x k (i 1).val) (fun k => tab (a := 1536) (b := 1408) y k (i 2).val)
    (fun k => tab_at (a := 1536) (b := 1024) x _) (fun k => tab_at (a := 1536) (b := 1408) y _)

theorem idx : ∀ t : Fin cfg0.N, win0_0.index t = ![t.val % 6, 0] ∧ win0_1.index t = ![t.val % 6, t.val / 6] :=
  (by decide +kernel : ∀ t : Fin grid0.N, win0_0.index t = ![t.val % 6, 0] ∧ win0_1.index t = ![t.val % 6, t.val / 6])
theorem lt (t : Fin cfg0.N) : t.val < 24 := lt_of_lt_of_eq t.isLt N_0

variable (m : (ℓ : Loc nD τ sig) → Buf (Elt Ideal) ℓ) (c : Dev nD) (t : Fin cfg0.N)

abbrev A : ℕ → ℕ → EReal := tab (a := 9216) (b := 1024) (m ((c : Thread nD τ).loc main_arg0))
abbrev B : ℕ → ℕ → EReal := tab (a := 9216) (b := 5632) (m ((c : Thread nD τ).loc main_arg1))

theorem blk0 (k : Fin 1536) (i : Fin 1024) : (iblk m c 0 t : Vec Ideal S1536x1024 .bf16) (ix2 k i) = A m c (1536 * (t.val % 6) + k.val) i.val := by
  have := lt t
  refine Eq.trans ?_ (tab_mk (a := 9216) (b := 1024) _ _ _ (by omega) i.isLt).symm
  refine Eq.trans ?_ (congrFun (V_main_arg0 m c) _)
  blk_ext [iblk, (idx t).1]
  show t.val % 6 * 1536 + k.val = 1536 * (t.val % 6) + k.val
  omega
theorem blk1 (k : Fin 1536) (j : Fin 1408) : (iblk m c 1 t : Vec Ideal S1536x1408 .bf16) (ix2 k j) = B m c (1536 * (t.val % 6) + k.val) (1408 * (t.val / 6) + j.val) := by
  have := lt t
  refine Eq.trans ?_ (tab_mk (a := 9216) (b := 5632) _ _ _ (by omega) (by omega)).symm
  refine Eq.trans ?_ (congrFun (V_main_arg1 m c) _)
  blk_ext [iblk, (idx t).2]
  · show t.val % 6 * 1536 + k.val = 1536 * (t.val % 6) + k.val
    omega
  · show t.val / 6 * 1408 + j.val = 1408 * (t.val / 6) + j.val
    omega

theorem part (n : ℕ) (h : n < cfg0.N) (acc : Vec Ideal S1x1024x1408 .f32) (i : S1x1024x1408.Idx) : k0_pay2 (iblk m c 0 ⟨n, h⟩) (iblk m c 1 ⟨n, h⟩) acc i
    = acc i + ∑ k ∈ range 1536, A m c (1536 * (n % 6) + k) (i 1).val * B m c (1536 * (n % 6) + k) ((fun (r : ℕ) (i : S1x1024x1408.Idx) => 1408 * r + (i 2).val) (n / 6) i) := by
  rw [pay2]
  refine congrArg (acc i + ·) (sum_congr rfl fun k hk => ?_)
  have hk := mem_range.1 hk
  exact congrArg₂ (fun a b : EReal => a * b) ((tab_mk _ _ _ hk (i 1).isLt).trans (blk0 m c ⟨n, h⟩ ⟨k, hk⟩ (i 1))) ((tab_mk _ _ _ hk (i 2).isLt).trans (blk1 m c ⟨n, h⟩ ⟨k, hk⟩ (i 2)))

/-- The array the run leaves: the whole product. -/
theorem arr (i : S4x1024x1408.Idx) : (Value.G2 m c : S4x1024x1408.Idx → EReal) i = ∑ k ∈ range 9216, A m c k (i 1).val * B m c k (1408 * (i 0).val + (i 2).val) := by
  have h0 : (i 0).val < 4 := (i 0).isLt
  have h1 : (i 1).val < 1024 := (i 1).isLt
  have h2 : (i 2).val < 1408 := (i 2).isLt
  have e : Value.run2Of i = (i 0).val := by show 1 * ((i 0).val / 1 - 0) + 1 * ((i 1).val / 1024 - 0) + 1 * ((i 2).val / 1408 - 0) = _; omega
  have hN : 6 * Value.run2Of i + 5 < cfg0.N := lt_of_lt_of_eq (by rw [e]; omega : _ < 24) N_0.symm
  unfold Value.G2
  rw [dif_pos hN]
  refine (fold (N := cfg0.N) (ι := S1x1024x1408.Idx) (tk := 1536) (J := 6) (Value.reset2 m c) (Value.step2 m c) (A m c) (B m c) (fun i => (i 1).val) (fun r i => 1408 * r + (i 2).val) (Value.run2Of i) 5 rfl hN
    (fun n h i => (part m c n h _ i).trans (by rw [pay1, zero_add])) (fun n h acc i => part m c n h acc i) (Value.loc2Of i)).trans ?_
  have f1 : (Value.loc2Of i 1).val = (i 1).val := Nat.mod_eq_of_lt h1
  have f2 : (Value.loc2Of i 2).val = (i 2).val := Nat.mod_eq_of_lt h2
  simp only [f1, f2, e, Nat.mod_eq_of_lt h1, Nat.mod_eq_of_lt h2]

/-- The reference's result is the whole product. -/
theorem ref (x0 : (⟨S9216x1024, .bf16⟩ : BufTy).Contents (Elt Ideal)) (x1 : (⟨S9216x5632, .bf16⟩ : BufTy).Contents (Elt Ideal)) (i : S4x1024x1408.Idx) :
    Cert.Reference4Ideal.Read.val_main_v7 (F := Ideal) x0 x1 i = ∑ k ∈ range 9216, tab (a := 9216) (b := 1024) x0 k (i 1).val * tab (a := 9216) (b := 5632) x1 k (1408 * (i 0).val + (i 2).val) := by
  have h0 : (i 0).val < 4 := (i 0).isLt
  have h1 : (i 1).val < 1024 := (i 1).isLt
  have h2 : (i 2).val < 1408 := (i 2).isLt
  rw [Cert.Reference4Ideal.Read.val_main_v7_apply, Cert.Reference4Ideal.Read.val_main_v6_apply, Cert.Reference4Ideal.Read.val_main_v5_apply, Cert.Reference4Ideal.Read.val_main_v4_apply, ← Fin.sum_univ_eq_sum_range]
  refine Fintype.sum_congr _ _ fun k => (mul_comm _ _).trans (congrArg₂ (fun a b : EReal => a * b) ((tab_at (a := 9216) (b := 1024) x0 _).trans ?_) ((tab_at (a := 9216) (b := 5632) x1 _).trans ?_))
  · refine congrArg (tab (a := 9216) (b := 1024) x0 k.val) ?_
    show (((i 1).val * 4 + (i 0).val) * 1408 + (i 2).val) / 5632 = (i 1).val
    omega
  · refine congrArg (tab (a := 9216) (b := 5632) x1 k.val) ?_
    show (((i 1).val * 4 + (i 0).val) * 1408 + (i 2).val) % 5632 = 1408 * (i 0).val + (i 2).val
    omega

theorem ref_frame : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

theorem algebraic : Cert.algebraic_Kernel4Ideal_Reference4Ideal := fun m g m' g' _ ha =>
  ⟨fun c => Value.G2 m c, Value.run m g, (θ_run Cert.Reference4Ideal.defs _ _).mono (fun r h c => ⟨(h c).1.trans ((Cert.Reference4Ideal.Read.val_main_v7_eq _ _).trans (by
    rw [(ha c).1, (ha c).2]; exact (funext fun i => (ref _ _ i).trans ((arr m c i).symm)))), (h c).2⟩) (Cert.Reference4Ideal.Value.run (F := Ideal) m' g')⟩

end P4

end
-- ==== Proof.Ffn1OutDw.lean ====
/- The call ffn1_out_dw: the gradient of the output projection of the first SwiGLU layer. -/
module

public import proofs.«01_k».proof.Defs
public import proofs.«01_k».proof.Proof.Prod
public import Idealize.ShloMosaic.Lib.Pipeline.ValueKit
public import proofs.«01_k».proof.Proof.Gen.Kernel5Ideal.Value
public import proofs.«01_k».proof.Proof.Gen.Reference5Ideal.Run
public import proofs.«01_k».proof.Proof.Gen.Reference5Ideal.Read

@[expose] public section

set_option maxRecDepth 16384

noncomputable section

namespace P5

open Cert.Kernel5Ideal Cert.Kernel5Ideal.Gen Idealize.ShloMosaic.TcCoe Idealize.SL.Sem Finset Prod
open Idealize.ShloMosaic hiding ix0 ix1 ix2 ix3 ix4 ix5 eq_ix1 eq_ix2 eq_ix3 eq_ix4
open Idealize.ShloMosaic.ValueIdx

theorem pay1 (i : S2816x512.Idx) : (k0_pay1 (F := Ideal)) i = 0 := Ideal.ofBits_zero_f32

theorem pay2 (x : Vec Ideal S1024x2816 .bf16) (y : Vec Ideal S1024x512 .bf16) (acc : Vec Ideal S2816x512 .f32) (i : S2816x512.Idx) :
    k0_pay2 x y acc i = acc i + ∑ k ∈ range 1024, tab (a := 1024) (b := 2816) x k (i 0).val * tab (a := 1024) (b := 512) y k (i 1).val := by
  unfold k0_pay2
  refine congrArg₂ (fun a b : EReal => a + b) (congrFun (shapeCast_self acc _) i) ?_
  exact Prod.dot dot_S1024x2816_S1024x512_S2816x512_0_0_1_1_n_n rfl rfl x y i (fun k => tab (a := 1024) (b := 2816) x k (i 0).val) (fun k => tab (a := 1024) (b := 512) y k (i 1).val)
    (fun k => tab_at (a := 1024) (b := 2816) x _) (fun k => tab_at (a := 1024) (b := 512) y _)

theorem idx : ∀ t : Fin cfg0.N, win0_0.index t = ![t.val % 9, 0] ∧ win0_1.index t = ![t.val % 9, t.val / 9] :=
  (by decide +kernel : ∀ t : Fin grid0.N, win0_0.index t = ![t.val % 9, 0] ∧ win0_1.index t = ![t.val % 9, t.val / 9])
theorem lt (t : Fin cfg0.N) : t.val < 18 := lt_of_lt_of_eq t.isLt N_0

variable (m : (ℓ : Loc nD τ sig) → Buf (Elt Ideal) ℓ) (c : Dev nD) (t : Fin cfg0.N)

abbrev A : ℕ → ℕ → EReal := tab (a := 9216) (b := 2816) (m ((c : Thread nD τ).loc main_arg0))
abbrev B : ℕ → ℕ → EReal := tab (a := 9216) (b := 1024) (m ((c : Thread nD τ).loc main_arg1))

theorem blk0 (k : Fin 1024) (i : Fin 2816) : (iblk m c 0 t : Vec Ideal S1024x2816 .bf16) (ix2 k i) = A m c (1024 * (t.val % 9) + k.val) i.val := by
  have := lt t
  refine Eq.trans ?_ (tab_mk (a := 9216) (b := 2816) _ _ _ (by omega) i.isLt).symm
  refine Eq.trans ?_ (congrFun (V_main_arg0 m c) _)
  blk_ext [iblk, (idx t).1]
  show t.val % 9 * 1024 + k.val = 1024 * (t.val % 9) + k.val
  omega
theorem blk1 (k : Fin 1024) (j : Fin 512) : (iblk m c 1 t : Vec Ideal S1024x512 .bf16) (ix2 k j) = B m c (1024 * (t.val % 9) + k.val) (512 * (t.val / 9) + j.val) := by
  have := lt t
  refine Eq.trans ?_ (tab_mk (a := 9216) (b := 1024) _ _ _ (by omega) (by omega)).symm
  refine Eq.trans ?_ (congrFun (V_main_arg1 m c) _)
  blk_ext [iblk, (idx t).2]
  · show t.val % 9 * 1024 + k.val = 1024 * (t.val % 9) + k.val
    omega
  · show t.val / 9 * 512 + j.val = 512 * (t.val / 9) + j.val
    omega

theorem part (n : ℕ) (h : n < cfg0.N) (acc : Vec Ideal S2816x512 .f32) (i : S2816x512.Idx) : k0_pay2 (iblk m c 0 ⟨n, h⟩) (iblk m c 1 ⟨n, h⟩) acc i
    = acc i + ∑ k ∈ range 1024, A m c (1024 * (n % 9) + k) (i 0).val * B m c (1024 * (n % 9) + k) ((fun (r : ℕ) (i : S2816x512.Idx) => 512 * r + (i 1).val) (n / 9) i) := by
  rw [pay2]
  refine congrArg (acc i + ·) (sum_congr rfl fun k hk => ?_)
  have hk := mem_range.1 hk
  exact congrArg₂ (fun a b : EReal => a * b) ((tab_mk _ _ _ hk (i 0).isLt).trans (blk0 m c ⟨n, h⟩ ⟨k, hk⟩ (i 0))) ((tab_mk _ _ _ hk (i 1).isLt).trans (blk1 m c ⟨n, h⟩ ⟨k, hk⟩ (i 1)))

/-- The array the run leaves: the whole product. -/
theorem arr (i : S2816x1024.Idx) : (Value.G2 m c : S2816x1024.Idx → EReal) i = ∑ k ∈ range 9216, A m c k (i 0).val * B m c k ((i 1).val) := by
  have h0 : (i 0).val < 2816 := (i 0).isLt
  have h1 : (i 1).val < 1024 := (i 1).isLt
  have e : Value.run2Of i = (i 1).val / 512 := by show 2 * ((i 0).val / 2816 - 0) + 1 * ((i 1).val / 512 - 0) = _; omega
  have hN : 9 * Value.run2Of i + 8 < cfg0.N := lt_of_lt_of_eq (by rw [e]; omega : _ < 18) N_0.symm
  unfold Value.G2
  rw [dif_pos hN]
  refine (fold (N := cfg0.N) (ι := S2816x512.Idx) (tk := 1024) (J := 9) (Value.reset2 m c) (Value.step2 m c) (A m c) (B m c) (fun i => (i 0).val) (fun r i => 512 * r + (i 1).val) (Value.run2Of i) 8 rfl hN
    (fun n h i => (part m c n h _ i).trans (by rw [pay1, zero_add])) (fun n h acc i => part m c n h acc i) (Value.loc2Of i)).trans ?_
  have f1 : (Value.loc2Of i 0).val = (i 0).val := Nat.mod_eq_of_lt h0
  have f2 : (Value.loc2Of i 1).val = (i 1).val % 512 := rfl
  have f3 : 512 * ((i 1).val / 512) + (i 1).val % 512 = (i 1).val := Nat.div_add_mod _ _
  simp only [f1, f2, e, f3, Nat.mod_eq_of_lt h0]

/-- The reference's result is the whole product. -/
theorem ref (x0 : (⟨S9216x2816, .bf16⟩ : BufTy).Contents (Elt Ideal)) (x1 : (⟨S9216x1024, .bf16⟩ : BufTy).Contents (Elt Ideal)) (i : S2816x1024.Idx) :
    Cert.Reference5Ideal.Read.val_main_v5 (F := Ideal) x0 x1 i = ∑ k ∈ range 9216, tab (a := 9216) (b := 2816) x0 k (i 0).val * tab (a := 9216) (b := 1024) x1 k ((i 1).val) := by
  rw [Cert.Reference5Ideal.Read.val_main_v5_apply, Cert.Reference5Ideal.Read.val_main_v4_apply, ← Fin.sum_univ_eq_sum_range]
  exact Fintype.sum_congr _ _ fun k => (mul_comm _ _).trans (congrArg₂ (fun a b : EReal => a * b) (tab_at (a := 9216) (b := 2816) x0 _) (tab_at (a := 9216) (b := 1024) x1 _))

theorem ref_frame : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

theorem algebraic : Cert.algebraic_Kernel5Ideal_Reference5Ideal := fun m g m' g' _ ha =>
  ⟨fun c => Value.G2 m c, Value.run m g, (θ_run Cert.Reference5Ideal.defs _ _).mono (fun r h c => ⟨(h c).1.trans ((Cert.Reference5Ideal.Read.val_main_v5_eq _ _).trans (by
    rw [(ha c).1, (ha c).2]; exact (funext fun i => (ref _ _ i).trans ((arr m c i).symm)))), (h c).2⟩) (Cert.Reference5Ideal.Value.run (F := Ideal) m' g')⟩

end P5

end
-- ==== Proof.Ffn1In.lean ====
/- The call ffn1_in: the input projection of the first SwiGLU layer and its activation. -/
module

public import proofs.«01_k».proof.Defs
public import proofs.«01_k».proof.Proof.Prod
public import Idealize.ShloMosaic.Lib.Pipeline.ValueKit
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384

noncomputable section

namespace P6

open Cert.Kernel6Ideal Cert.Kernel6Ideal.Gen Idealize.ShloMosaic.TcCoe Idealize.SL.Sem Finset Prod
open Idealize.ShloMosaic hiding ix0 ix1 ix2 ix3 ix4 ix5 eq_ix1 eq_ix2 eq_ix3 eq_ix4
open Idealize.ShloMosaic.ValueIdx

/-- SwiGLU of one gate and one value. -/
def act (g u : EReal) : EReal :=
  FloatOps.mulf (F := Ideal) (φ := .f32) (FloatOps.mulf (F := Ideal) (φ := .f32) g (FloatOps.hostDivf (F := Ideal) (φ := .f32) (FloatOps.ofBits (F := Ideal) .f32 0x3F800000#32)
    (FloatOps.addf (F := Ideal) (φ := .f32) (FloatOps.ofBits (F := Ideal) .f32 0x3F800000#32) (FloatOps.hostUnary (F := Ideal) (φ := .f32) .exp (FloatOps.hostNegf (F := Ideal) (φ := .f32) g))))) u

/-- One entry of the product of `x` with the parts of columns `w`. -/
def pre (x : Vec Ideal S256x1024 .bf16) (w : Vec Ideal S4x1024x1408 .bf16) (r j : ℕ) : EReal := ∑ k ∈ range 1024, tab (a := 256) (b := 1024) x r k * tab3 (n := 4) (a := 1024) (b := 1408) w k j

theorem one (x : Vec Ideal S256x1024 .bf16) (w : Vec Ideal S4x1024x1408 .bf16) (p : ℕ) (inb : ∀ a, (![p, 0, 0] : Fin 3 → ℕ) a + S1x1024x1408.size a ≤ S4x1024x1408.size a) (i : S256x1408.Idx) :
    matmul (F := Ideal) (φ₁ := .bf16) (φ₂ := .bf16) dot_S256x1024_S1024x1408_S256x1408_1_0_0_1_n_n none (View.ld (Val := Elt Ideal) (e' := .bf16) x r0_0)
        (shapeCast S1024x1408 (View.ld (Val := Elt Ideal) (e' := .bf16) w (Rect.unit (s := S4x1024x1408) ![p, 0, 0] S1x1024x1408.size inb)) shapeCasts_S1x1024x1408_S1024x1408) (constant S256x1408 .f32 0x00000000#32) i
      = pre x w (i 0).val (1408 * p + (i 1).val) := by
  rw [View.ld_unit_lit _ _ (by decide)]
  refine (Prod.dot dot_S256x1024_S1024x1408_S256x1408_1_0_0_1_n_n rfl rfl _ _ i (fun k => tab (a := 256) (b := 1024) x (i 0).val k) (fun k => tab (a := 1024) (b := 1408) _ k (i 1).val)
    (fun k => tab_at (a := 256) (b := 1024) x _) (fun k => tab_at (a := 1024) (b := 1408) _ _)).trans (sum_congr rfl fun k hk => ?_)
  exact congrArg (tab (a := 256) (b := 1024) x (i 0).val k * ·) (tab_part (n := 4) (a := 1024) (b := 1408) w _ _ k _ (mem_range.1 hk) (i 1).isLt)

theorem place {b o : ℕ} (inb : ∀ a, (![0, o] : Fin 2 → ℕ) a + (![256, 1408] : Fin 2 → ℕ) a ≤ (![256, b] : Fin 2 → ℕ) a) (f : ℕ → ℕ → EReal) (i : S256x1408.Idx) :
    (fun y : (⟨2, ![256, b]⟩ : Shape).Idx => f (y 0).val (y 1).val) ((Rect.unit (s := (⟨2, ![256, b]⟩ : Shape)) ![0, o] ![256, 1408] inb).emb i) = f (i 0).val (o + (i 1).val) :=
  congrArg₂ f ((Rect.idx_unit_val (s := (⟨2, ![256, b]⟩ : Shape)) _ _ inb i 0).trans (Nat.zero_add _)) (Rect.idx_unit_val (s := (⟨2, ![256, b]⟩ : Shape)) _ _ inb i 1)

theorem out2 (x : Vec Ideal S256x1024 .bf16) (w : Vec Ideal S4x1024x1408 .bf16) (i : S256x5632.Idx) : out0_2 x w i = pre x w (i 0).val (i 1).val := by
  unfold out0_2
  refine View.canon_apply_of_pieces (Val := Elt Ideal) (e := .bf16) (fun y : S256x5632.Idx => pre x w (y 0).val (y 1).val) _ ?_ i (cover0_2 _ _ _ _ i)
  refine List.forall_mem_cons.2 ⟨fun i => ?_, List.forall_mem_cons.2 ⟨fun i => ?_, List.forall_mem_cons.2 ⟨fun i => ?_, List.forall_mem_cons.2 ⟨fun i => ?_, fun _ h => absurd h List.not_mem_nil⟩⟩⟩⟩
  · exact (one x w 3 _ i).trans (place (b := 5632) (o := 4224) inb_S256x5632_S256x1408_0_4224 (pre x w) i).symm
  · exact (one x w 1 _ i).trans (place (b := 5632) (o := 1408) inb_S256x5632_S256x1408_0_1408 (pre x w) i).symm
  · exact (one x w 2 _ i).trans (place (b := 5632) (o := 2816) inb_S256x5632_S256x1408_0_2816 (pre x w) i).symm
  · exact (one x w 0 _ i).trans (place (b := 5632) (o := 0) inb_S256x5632_S256x1408_0_0 (pre x w) i).symm

theorem act_eq (g u : EReal) : FloatOps.mulf (F := Ideal) (φ := .f32) (FloatOps.mulf (F := Ideal) (φ := .f32) g (FloatOps.divf (F := Ideal) (φ := .f32) (FloatOps.ofBits (F := Ideal) .f32 0x3F800000#32)
    (FloatOps.addf (F := Ideal) (φ := .f32) (FloatOps.ofBits (F := Ideal) .f32 0x3F800000#32) (FloatOps.exp (F := Ideal) (φ := .f32) (FloatOps.subf (F := Ideal) (φ := .f32) (FloatOps.ofBits (F := Ideal) .f32 0x00000000#32) g))))) u = act g u := by
  have e : FloatOps.subf (F := Ideal) (φ := .f32) (FloatOps.ofBits (F := Ideal) .f32 0x00000000#32) g = FloatOps.hostNegf (F := Ideal) (φ := .f32) g := by
    show Ideal.ofBits .f32 0x00000000#32 - g = -g
    rw [Ideal.ofBits_zero_f32, zero_sub]
  rw [e]; rfl

theorem out3 (x : Vec Ideal S256x1024 .bf16) (w : Vec Ideal S4x1024x1408 .bf16) (i : S256x2816.Idx) : out0_3 x w i = act (pre x w (i 0).val (i 1).val) (pre x w (i 0).val (2816 + (i 1).val)) := by
  unfold out0_3
  refine View.canon_apply_of_pieces (Val := Elt Ideal) (e := .bf16) (fun y : S256x2816.Idx => act (pre x w (y 0).val (y 1).val) (pre x w (y 0).val (2816 + (y 1).val))) _ ?_ i (cover0_3 _ _ i)
  refine List.forall_mem_cons.2 ⟨fun i => ?_, List.forall_mem_cons.2 ⟨fun i => ?_, fun _ h => absurd h List.not_mem_nil⟩⟩
  · refine Eq.trans ?_ (place (b := 2816) (o := 1408) inb_S256x2816_S256x1408_0_1408 (fun r j => act (pre x w r j) (pre x w r (2816 + j))) i).symm
    refine (act_eq _ _).trans (congrArg₂ act (one x w 1 _ i) ((one x w 3 _ i).trans (congrArg (pre x w (i 0).val) ?_)))
    show 4224 + (i 1).val = 2816 + (1408 + (i 1).val)
    rw [← Nat.add_assoc]
  · refine Eq.trans ?_ (place (b := 2816) (o := 0) inb_S256x2816_S256x1408_0_0 (fun r j => act (pre x w r j) (pre x w r (2816 + j))) i).symm
    refine (act_eq _ _).trans (congrArg₂ act (one x w 0 _ i) ((one x w 2 _ i).trans (congrArg (pre x w (i 0).val) ?_)))
    show 2816 + (i 1).val = 2816 + (0 + (i 1).val)
    rw [Nat.zero_add]

theorem idx : ∀ t : Fin cfg0.N, win0_0.index t = ![t.val, 0] ∧ win0_1.index t = ![0, 0, 0] ∧ win0_2.index t = ![t.val, 0] ∧ win0_3.index t = ![t.val, 0] :=
  (by decide +kernel : ∀ t : Fin grid0.N, win0_0.index t = ![t.val, 0] ∧ win0_1.index t = ![0, 0, 0] ∧ win0_2.index t = ![t.val, 0] ∧ win0_3.index t = ![t.val, 0])
theorem lt (t : Fin cfg0.N) : t.val < 36 := lt_of_lt_of_eq t.isLt N_0

variable (m : (ℓ : Loc nD τ sig) → Buf (Elt Ideal) ℓ) (c : Dev nD) (t : Fin cfg0.N)

abbrev A : ℕ → ℕ → EReal := tab (a := 9216) (b := 1024) (m ((c : Thread nD τ).loc main_arg0))
abbrev B : ℕ → ℕ → EReal := tab3 (n := 4) (a := 1024) (b := 1408) (m ((c : Thread nD τ).loc main_arg1))
def all (r j : ℕ) : EReal := ∑ k ∈ range 1024, A m c r k * B m c k j

theorem blk0 (i k : ℕ) (hi : i < 256) (hk : k < 1024) : tab (a := 256) (b := 1024) (iblk m c 0 t : Vec Ideal S256x1024 .bf16) i k = A m c (t.val * 256 + i) k := by
  have := lt t
  refine (tab_mk _ _ _ hi hk).trans ?_
  refine Eq.trans ?_ (tab_mk (a := 9216) (b := 1024) _ _ _ (by omega) hk).symm
  refine Eq.trans ?_ (congrFun (V_main_arg0 m c) _)
  blk_ext [iblk, (idx t).1]
theorem blk1 (j k : ℕ) : tab3 (n := 4) (a := 1024) (b := 1408) (iblk m c 1 t : Vec Ideal S4x1024x1408 .bf16) j k = B m c j k := by
  refine congrArg (fun w => tab3 (n := 4) (a := 1024) (b := 1408) w j k) (funext fun i => ?_)
  refine Eq.trans ?_ (congrFun (V_main_arg1 m c) _)
  blk_ext [iblk, (idx t).2.1]
theorem pre_blk (i j : ℕ) (hi : i < 256) : pre (iblk m c 0 t) (iblk m c 1 t) i j = all m c (t.val * 256 + i) j :=
  sum_congr rfl fun k hk => congrArg₂ (fun a b : EReal => a * b) (blk0 m c t i k hi (mem_range.1 hk)) (blk1 m c t k j)

theorem arr2 : (dats m 0 c).arrAt 2 cfg0.N = fun i : S9216x5632.Idx => all m c (i 0).val (i 1).val := by
  refine (dats m 0 c).arrAt_eq_of_covers 2 _ (by decide +kernel) fun t hf y => ?_
  blk_simp
  rw [after0_2]
  have e0 : win0_2.index t 0 = t.val := congrFun (idx t).2.2.1 0
  have e1 : win0_2.index t 1 = 0 := congrFun (idx t).2.2.1 1
  refine (out2 (iblk m c 0 t) (iblk m c 1 t) y).trans ?_
  rw [e0, e1, Nat.zero_mul, Nat.zero_add]
  exact pre_blk m c t _ _ (y 0).isLt
theorem arr3 : (dats m 0 c).arrAt 3 cfg0.N = fun i : S9216x2816.Idx => act (all m c (i 0).val (i 1).val) (all m c (i 0).val (2816 + (i 1).val)) := by
  refine (dats m 0 c).arrAt_eq_of_covers 3 _ (by decide +kernel) fun t hf y => ?_
  blk_simp
  rw [after0_3]
  have e0 : win0_3.index t 0 = t.val := congrFun (idx t).2.2.2 0
  have e1 : win0_3.index t 1 = 0 := congrFun (idx t).2.2.2 1
  refine (out3 (iblk m c 0 t) (iblk m c 1 t) y).trans ?_
  rw [e0, e1, Nat.zero_mul, Nat.zero_add]
  exact congrArg₂ act (pre_blk m c t _ _ (y 0).isLt) (pre_blk m c t _ _ (y 0).isLt)

section
variable (x0 : (⟨S9216x1024, .bf16⟩ : BufTy).Contents (Elt Ideal)) (x1 : (⟨S4x1024x1408, .bf16⟩ : BufTy).Contents (Elt Ideal))

theorem ref4 (i : S9216x5632.Idx) : Cert.Reference6Ideal.Read.val_main_v4 (F := Ideal) x0 x1 i
    = ∑ k ∈ range 1024, tab (a := 9216) (b := 1024) x0 (i 0).val k * tab3 (n := 4) (a := 1024) (b := 1408) x1 k (i 1).val := by
  refine (Cert.Reference6Ideal.Read.val_main_v4_apply x0 x1 i).trans ?_
  rw [← Fin.sum_univ_eq_sum_range]
  refine Fintype.sum_congr _ _ fun k => congrArg₂ (fun a b : EReal => a * b) (tab_at (a := 9216) (b := 1024) x0 _) ?_
  rw [Cert.Reference6Ideal.Read.val_main_v3_apply, Cert.Reference6Ideal.Read.val_main_v2_apply]
  have h1 : (i 1).val < 5632 := (i 1).isLt
  have hk := k.isLt
  have hd : 1408 * ((i 1).val / 1408) + (i 1).val % 1408 = (i 1).val := Nat.div_add_mod _ _
  refine Eq.trans ?_ ((tab3_mk (n := 4) (a := 1024) (b := 1408) x1 ((i 1).val / 1408) k.val ((i 1).val % 1408) (by omega) hk (by omega)).symm.trans (by rw [hd]))
  refine congrArg x1 (funext fun a => Fin.ext ?_)
  match a with
  | ⟨0, _⟩ => show (k.val * 5632 + (i 1).val) / 1408 % 4 = (i 1).val / 1408; omega
  | ⟨1, _⟩ => show (k.val * 5632 + (i 1).val) / 5632 = k.val; omega
  | ⟨2, _⟩ => show (k.val * 5632 + (i 1).val) % 1408 = (i 1).val % 1408; omega

theorem ref10 (i : S9216x2816.Idx) : Cert.Reference6Ideal.Read.val_main_v10 (F := Ideal) x0 x1 i
    = act (∑ k ∈ range 1024, tab (a := 9216) (b := 1024) x0 (i 0).val k * tab3 (n := 4) (a := 1024) (b := 1408) x1 k (i 1).val)
      (∑ k ∈ range 1024, tab (a := 9216) (b := 1024) x0 (i 0).val k * tab3 (n := 4) (a := 1024) (b := 1408) x1 k (2816 + (i 1).val)) := by
  rw [← ref4 x0 x1 (Cert.Reference6Ideal.Read.idx_main_v6 i), ← ref4 x0 x1 (Cert.Reference6Ideal.Read.idx_main_v7 i),
    ← Cert.Reference6Ideal.Read.val_main_v6_apply, ← Cert.Reference6Ideal.Read.val_main_v7_apply, Cert.Reference6Ideal.Read.val_main_v10_apply,
    Cert.Reference6Ideal.Read.val_main_v9_apply, Cert.Reference6Ideal.Read.val_main_v8_apply, Cert.Reference6Ideal.Read.val_main_call0_v5_apply,
    Cert.Reference6Ideal.Read.val_main_call0_v4_apply, Cert.Reference6Ideal.Read.val_main_call0_v3_apply, Cert.Reference6Ideal.Read.val_main_call0_v2_apply,
    Cert.Reference6Ideal.Read.val_main_call0_v1_apply, Cert.Reference6Ideal.Read.val_main_call0_v0_apply]
  rfl
end

theorem ref_frame : Cert.quiescent_Reference6Ideal := fun m ρ _ =>
  (θ_run Cert.Reference6Ideal.defs _ _).mono (fun r h => ⟨fun c => (h c).2.2, sem_eq_zero_of_no_sems (by decide) r.2⟩) (Cert.Reference6Ideal.Value.run (F := Ideal) m ρ)

theorem algebraic : Cert.algebraic_Kernel6Ideal_Reference6Ideal := fun m g m' g' _ ha =>
  ⟨fun c => (dats m 0 c).arrAt 2 cfg0.N, fun c => (dats m 0 c).arrAt 3 cfg0.N, Value.run_blocks m g, (θ_run Cert.Reference6Ideal.defs _ _).mono (fun r h c =>
    ⟨(h c).1.trans ((Cert.Reference6Ideal.Read.val_main_v5_eq _ _).trans (by
      rw [(ha c).1, (ha c).2]; exact (funext fun i => ref4 _ _ i).trans (arr2 m c).symm)),
    (h c).2.1.trans ((Cert.Reference6Ideal.Read.val_main_v10_eq _ _).trans (by
      rw [(ha c).1, (ha c).2]; exact (funext fun i => ref10 _ _ i).trans (arr3 m c).symm)), (h c).2.2⟩) (Cert.Reference6Ideal.Value.run (F := Ideal) m' g')⟩

end P6

end
-- ==== Proof.Ffn1Out.lean ====
/- The call ffn1_out: the output projection of the first SwiGLU layer. -/
module

public import proofs.«01_k».proof.Defs
public import proofs.«01_k».proof.Proof.Prod
public import Idealize.ShloMosaic.Lib.Pipeline.ValueKit
public import proofs.«01_k».proof.Proof.Gen.Kernel7Ideal.Value
public import proofs.«01_k».proof.Proof.Gen.Reference7Ideal.Run
public import proofs.«01_k».proof.Proof.Gen.Reference7Ideal.Read

@[expose] public section

set_option maxRecDepth 16384

noncomputable section

namespace P7

open Cert.Kernel7Ideal Cert.Kernel7Ideal.Gen Idealize.ShloMosaic.TcCoe Idealize.SL.Sem Finset Prod
open Idealize.ShloMosaic hiding ix0 ix1 ix2 ix3 ix4 ix5 eq_ix1 eq_ix2 eq_ix3 eq_ix4
open Idealize.ShloMosaic.ValueIdx

theorem out (x : Vec Ideal S256x2816 .bf16) (y : Vec Ideal S2816x1024 .bf16) (i : S256x1024.Idx) :
    out0_2 x y i = ∑ k ∈ range 2816, tab (a := 256) (b := 2816) x (i 0).val k * tab (a := 2816) (b := 1024) y k (i 1).val := by
  unfold out0_2
  rw [View.canon_cons_unit_lit _ _ _ (by decide), View.ld_unit_lit _ _ (by decide), View.ld_unit_lit _ _ (by decide)]
  unfold k0_pay1
  exact Prod.dot (φ₁ := .bf16) (φ₂ := .bf16) dot_S256x2816_S2816x1024_S256x1024_1_0_0_1_n_n rfl rfl x y i (fun k => tab (a := 256) (b := 2816) x (i 0).val k) (fun k => tab (a := 2816) (b := 1024) y k (i 1).val)
    (fun k => tab_at (a := 256) (b := 2816) x _) (fun k => tab_at (a := 2816) (b := 1024) y _)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])
theorem lt (t : Fin cfg0.N) : t.val < 36 := lt_of_lt_of_eq t.isLt N_0

variable (m : (ℓ : Loc nD τ sig) → Buf (Elt Ideal) ℓ) (c : Dev nD) (t : Fin cfg0.N)

abbrev A : ℕ → ℕ → EReal := tab (a := 9216) (b := 2816) (m ((c : Thread nD τ).loc main_arg0))
abbrev B : ℕ → ℕ → EReal := tab (a := 2816) (b := 1024) (m ((c : Thread nD τ).loc main_arg1))

theorem blk0 (i k : ℕ) (hi : i < 256) (hk : k < 2816) : tab (a := 256) (b := 2816) (iblk m c 0 t : Vec Ideal S256x2816 .bf16) i k = A m c (t.val * 256 + i) k := by
  have := lt t
  refine (tab_mk _ _ _ hi hk).trans ?_
  refine Eq.trans ?_ (tab_mk (a := 9216) (b := 2816) _ _ _ (by omega) hk).symm
  refine Eq.trans ?_ (congrFun (V_main_arg0 m c) _)
  blk_ext [iblk, (idx t).1]
theorem blk1 (k j : ℕ) (hk : k < 2816) (hj : j < 1024) : tab (a := 2816) (b := 1024) (iblk m c 1 t : Vec Ideal S2816x1024 .bf16) k j = B m c k j := by
  refine (tab_mk _ _ _ hk hj).trans ?_
  refine Eq.trans ?_ (tab_mk (a := 2816) (b := 1024) _ _ _ hk hj).symm
  refine Eq.trans ?_ (congrFun (V_main_arg1 m c) _)
  blk_ext [iblk, (idx t).2.1]

/-- The array the run leaves: the whole product. -/
theorem arr : (dats m 0 c).arrAt 2 cfg0.N = fun i : S9216x1024.Idx => ∑ k ∈ range 2816, A m c (i 0).val k * B m c k (i 1).val := by
  refine (dats m 0 c).arrAt_eq_of_covers 2 _ (by decide +kernel) fun t hf y => ?_
  blk_simp
  rw [after0_2]
  have e0 : win0_2.index t 0 = t.val := congrFun (idx t).2.2 0
  have e1 : win0_2.index t 1 = 0 := congrFun (idx t).2.2 1
  refine (out (iblk m c 0 t) (iblk m c 1 t) y).trans (sum_congr rfl fun k hk => ?_)
  have hk := mem_range.1 hk
  rw [e0, e1, Nat.zero_mul, Nat.zero_add]
  exact congrArg₂ (fun a b : EReal => a * b) (blk0 m c t _ k (y 0).isLt hk) (blk1 m c t k _ hk (y 1).isLt)

/-- The reference's result is the whole product. -/
theorem ref (x0 : (⟨S9216x2816, .bf16⟩ : BufTy).Contents (Elt Ideal)) (x1 : (⟨S2816x1024, .bf16⟩ : BufTy).Contents (Elt Ideal)) (i : S9216x1024.Idx) :
    Cert.Reference7Ideal.Read.val_main_v3 (F := Ideal) x0 x1 i = ∑ k ∈ range 2816, tab (a := 9216) (b := 2816) x0 (i 0).val k * tab (a := 2816) (b := 1024) x1 k (i 1).val := by
  rw [Cert.Reference7Ideal.Read.val_main_v3_apply]
  refine (Cert.Reference7Ideal.Read.val_main_v2_apply x0 x1 i).trans ?_
  rw [← Fin.sum_univ_eq_sum_range]
  exact Fintype.sum_congr _ _ fun k => congrArg₂ (fun a b : EReal => a * b) (tab_at (a := 9216) (b := 2816) x0 _) (tab_at (a := 2816) (b := 1024) x1 _)

theorem ref_frame : Cert.quiescent_Reference7Ideal := fun m ρ _ =>
  (θ_run Cert.Reference7Ideal.defs _ _).mono (fun r h => ⟨fun c => (h c).2, sem_eq_zero_of_no_sems (by decide) r.2⟩) (Cert.Reference7Ideal.Value.run (F := Ideal) m ρ)

theorem algebraic : Cert.algebraic_Kernel7Ideal_Reference7Ideal := fun m g m' g' _ ha =>
  ⟨fun c => (dats m 0 c).arrAt 2 cfg0.N, Value.run_blocks m g, (θ_run Cert.Reference7Ideal.defs _ _).mono (fun r h c => ⟨(h c).1.trans ((Cert.Reference7Ideal.Read.val_main_v3_eq _ _).trans (by
    rw [(ha c).1, (ha c).2]; exact ((funext fun i => ref _ _ i).trans (arr m c).symm))), (h c).2⟩) (Cert.Reference7Ideal.Value.run (F := Ideal) m' g')⟩

end P7

end
-- ==== Proof.Ffn2Out.lean ====
/- The call ffn2_out: the output projection of the second SwiGLU layer. -/
module

public import proofs.«01_k».proof.Defs
public import proofs.«01_k».proof.Proof.Prod
public import Idealize.ShloMosaic.Lib.Pipeline.ValueKit
public import proofs.«01_k».proof.Proof.Gen.Kernel8Ideal.Value
public import proofs.«01_k».proof.Proof.Gen.Reference8Ideal.Run
public import proofs.«01_k».proof.Proof.Gen.Reference8Ideal.Read

@[expose] public section

set_option maxRecDepth 16384

noncomputable section

namespace P8

open Cert.Kernel8Ideal Cert.Kernel8Ideal.Gen Idealize.ShloMosaic.TcCoe Idealize.SL.Sem Finset Prod
open Idealize.ShloMosaic hiding ix0 ix1 ix2 ix3 ix4 ix5 eq_ix1 eq_ix2 eq_ix3 eq_ix4
open Idealize.ShloMosaic.ValueIdx

theorem out (x : Vec Ideal S256x2816 .bf16) (y : Vec Ideal S2816x1024 .bf16) (i : S256x1024.Idx) :
    out0_2 x y i = ∑ k ∈ range 2816, tab (a := 256) (b := 2816) x (i 0).val k * tab (a := 2816) (b := 1024) y k (i 1).val := by
  unfold out0_2
  rw [View.canon_cons_unit_lit _ _ _ (by decide), View.ld_unit_lit _ _ (by decide), View.ld_unit_lit _ _ (by decide)]
  unfold k0_pay1
  exact Prod.dot (φ₁ := .bf16) (φ₂ := .bf16) dot_S256x2816_S2816x1024_S256x1024_1_0_0_1_n_n rfl rfl x y i (fun k => tab (a := 256) (b := 2816) x (i 0).val k) (fun k => tab (a := 2816) (b := 1024) y k (i 1).val)
    (fun k => tab_at (a := 256) (b := 2816) x _) (fun k => tab_at (a := 2816) (b := 1024) y _)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])
theorem lt (t : Fin cfg0.N) : t.val < 32 := lt_of_lt_of_eq t.isLt N_0

variable (m : (ℓ : Loc nD τ sig) → Buf (Elt Ideal) ℓ) (c : Dev nD) (t : Fin cfg0.N)

abbrev A : ℕ → ℕ → EReal := tab (a := 8192) (b := 2816) (m ((c : Thread nD τ).loc main_arg0))
abbrev B : ℕ → ℕ → EReal := tab (a := 2816) (b := 1024) (m ((c : Thread nD τ).loc main_arg1))

theorem blk0 (i k : ℕ) (hi : i < 256) (hk : k < 2816) : tab (a := 256) (b := 2816) (iblk m c 0 t : Vec Ideal S256x2816 .bf16) i k = A m c (t.val * 256 + i) k := by
  have := lt t
  refine (tab_mk _ _ _ hi hk).trans ?_
  refine Eq.trans ?_ (tab_mk (a := 8192) (b := 2816) _ _ _ (by omega) hk).symm
  refine Eq.trans ?_ (congrFun (V_main_arg0 m c) _)
  blk_ext [iblk, (idx t).1]
theorem blk1 (k j : ℕ) (hk : k < 2816) (hj : j < 1024) : tab (a := 2816) (b := 1024) (iblk m c 1 t : Vec Ideal S2816x1024 .bf16) k j = B m c k j := by
  refine (tab_mk _ _ _ hk hj).trans ?_
  refine Eq.trans ?_ (tab_mk (a := 2816) (b := 1024) _ _ _ hk hj).symm
  refine Eq.trans ?_ (congrFun (V_main_arg1 m c) _)
  blk_ext [iblk, (idx t).2.1]

/-- The array the run leaves: the whole product. -/
theorem arr : (dats m 0 c).arrAt 2 cfg0.N = fun i : S8192x1024.Idx => ∑ k ∈ range 2816, A m c (i 0).val k * B m c k (i 1).val := by
  refine (dats m 0 c).arrAt_eq_of_covers 2 _ (by decide +kernel) fun t hf y => ?_
  blk_simp
  rw [after0_2]
  have e0 : win0_2.index t 0 = t.val := congrFun (idx t).2.2 0
  have e1 : win0_2.index t 1 = 0 := congrFun (idx t).2.2 1
  refine (out (iblk m c 0 t) (iblk m c 1 t) y).trans (sum_congr rfl fun k hk => ?_)
  have hk := mem_range.1 hk
  rw [e0, e1, Nat.zero_mul, Nat.zero_add]
  exact congrArg₂ (fun a b : EReal => a * b) (blk0 m c t _ k (y 0).isLt hk) (blk1 m c t k _ hk (y 1).isLt)

/-- The reference's result is the whole product. -/
theorem ref (x0 : (⟨S8192x2816, .bf16⟩ : BufTy).Contents (Elt Ideal)) (x1 : (⟨S2816x1024, .bf16⟩ : BufTy).Contents (Elt Ideal)) (i : S8192x1024.Idx) :
    Cert.Reference8Ideal.Read.val_main_v3 (F := Ideal) x0 x1 i = ∑ k ∈ range 2816, tab (a := 8192) (b := 2816) x0 (i 0).val k * tab (a := 2816) (b := 1024) x1 k (i 1).val := by
  rw [Cert.Reference8Ideal.Read.val_main_v3_apply]
  refine (Cert.Reference8Ideal.Read.val_main_v2_apply x0 x1 i).trans ?_
  rw [← Fin.sum_univ_eq_sum_range]
  exact Fintype.sum_congr _ _ fun k => congrArg₂ (fun a b : EReal => a * b) (tab_at (a := 8192) (b := 2816) x0 _) (tab_at (a := 2816) (b := 1024) x1 _)

theorem ref_frame : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)

theorem algebraic : Cert.algebraic_Kernel8Ideal_Reference8Ideal := fun m g m' g' _ ha =>
  ⟨fun c => (dats m 0 c).arrAt 2 cfg0.N, Value.run_blocks m g, (θ_run Cert.Reference8Ideal.defs _ _).mono (fun r h c => ⟨(h c).1.trans ((Cert.Reference8Ideal.Read.val_main_v3_eq _ _).trans (by
    rw [(ha c).1, (ha c).2]; exact ((funext fun i => ref _ _ i).trans (arr m c).symm))), (h c).2⟩) (Cert.Reference8Ideal.Value.run (F := Ideal) m' g')⟩

end P8

end
-- ==== Proof.Ffn2InDx.lean ====
/- The call ffn2_in_dx: the gradient of the activations entering the second SwiGLU layer. -/
module

public import proofs.«01_k».proof.Defs
public import proofs.«01_k».proof.Proof.Prod
public import Idealize.ShloMosaic.Lib.Pipeline.ValueKit
public import proofs.«01_k».proof.Proof.Gen.Kernel9Ideal.Value
public import proofs.«01_k».proof.Proof.Gen.Reference9Ideal.Run
public import proofs.«01_k».proof.Proof.Gen.Reference9Ideal.Read

@[expose] public section

set_option maxRecDepth 16384

noncomputable section

namespace P9

open Cert.Kernel9Ideal Cert.Kernel9Ideal.Gen Idealize.ShloMosaic.TcCoe Idealize.SL.Sem Finset Prod
open Idealize.ShloMosaic hiding ix0 ix1 ix2 ix3 ix4 ix5 eq_ix1 eq_ix2 eq_ix3 eq_ix4
open Idealize.ShloMosaic.ValueIdx

theorem one (x : Vec Ideal S256x5632 .bf16) (w : Vec Ideal S4x1024x1408 .bf16) (o p : ℕ) (hp : o = 1408 * p)
    (inb : ∀ a, (![0, o] : Fin 2 → ℕ) a + S256x1408.size a ≤ S256x5632.size a) (inb' : ∀ a, (![p, 0, 0] : Fin 3 → ℕ) a + S1x1024x1408.size a ≤ S4x1024x1408.size a) (i : S256x1024.Idx) :
    matmul (F := Ideal) (φ₁ := .bf16) (φ₂ := .bf16) dot_S256x1408_S1024x1408_S256x1024_1_1_0_0_n_n none (View.ld (Val := Elt Ideal) (e' := .bf16) x (Rect.unit (s := S256x5632) ![0, o] S256x1408.size inb))
        (shapeCast S1024x1408 (View.ld (Val := Elt Ideal) (e' := .bf16) w (Rect.unit (s := S4x1024x1408) ![p, 0, 0] S1x1024x1408.size inb')) shapeCasts_S1x1024x1408_S1024x1408) (constant S256x1024 .f32 0x00000000#32) i
      = ∑ k ∈ range 1408, tab (a := 256) (b := 5632) x (i 0).val (1408 * p + k) * tab3 (n := 4) (a := 1024) (b := 1408) w (i 1).val (1408 * p + k) := by
  subst hp
  refine (Prod.dot dot_S256x1408_S1024x1408_S256x1024_1_1_0_0_n_n rfl rfl _ _ i (fun k => tab (a := 256) (b := 1408) _ (i 0).val k) (fun k => tab (a := 1024) (b := 1408) _ (i 1).val k)
    (fun k => tab_at (a := 256) (b := 1408) _ _) (fun k => tab_at (a := 1024) (b := 1408) _ _)).trans (sum_congr rfl fun k hk => ?_)
  have hk := mem_range.1 hk
  exact congrArg₂ (fun a b : EReal => a * b) (tab_ld (a := 256) (b := 5632) (b' := 1408) x _ _ k (i 0).isLt hk) (tab_part (n := 4) (a := 1024) (b := 1408) w _ _ _ k (i 1).isLt hk)

theorem out (x : Vec Ideal S256x5632 .bf16) (w : Vec Ideal S4x1024x1408 .bf16) (i : S256x1024.Idx) :
    out0_2 x w i = ∑ k ∈ range 5632, tab (a := 256) (b := 5632) x (i 0).val k * tab3 (n := 4) (a := 1024) (b := 1408) w (i 1).val k := by
  unfold out0_2
  rw [View.canon_cons_unit_lit _ _ _ (by decide)]
  unfold k0_pay1
  refine Eq.trans ?_ (sum_blocks 4 1408 fun k => tab (a := 256) (b := 5632) x (i 0).val k * tab3 (n := 4) (a := 1024) (b := 1408) w (i 1).val k)
  rw [sum_range_succ, sum_range_succ, sum_range_succ, sum_range_one]
  exact congrArg₂ (fun a b : EReal => a + b) (congrArg₂ (fun a b : EReal => a + b) (congrArg₂ (fun a b : EReal => a + b)
    (one x w 0 0 rfl _ _ i) (one x w 1408 1 rfl _ _ i)) (one x w 2816 2 rfl _ _ i)) (one x w 4224 3 rfl _ _ i)

theorem idx : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])
theorem lt (t : Fin cfg0.N) : t.val < 32 := lt_of_lt_of_eq t.isLt N_0

variable (m : (ℓ : Loc nD τ sig) → Buf (Elt Ideal) ℓ) (c : Dev nD) (t : Fin cfg0.N)

abbrev A : ℕ → ℕ → EReal := tab (a := 8192) (b := 5632) (m ((c : Thread nD τ).loc main_arg0))
abbrev B : ℕ → ℕ → EReal := tab3 (n := 4) (a := 1024) (b := 1408) (m ((c : Thread nD τ).loc main_arg1))

theorem blk0 (i k : ℕ) (hi : i < 256) (hk : k < 5632) : tab (a := 256) (b := 5632) (iblk m c 0 t : Vec Ideal S256x5632 .bf16) i k = A m c (t.val * 256 + i) k := by
  have := lt t
  refine (tab_mk _ _ _ hi hk).trans ?_
  refine Eq.trans ?_ (tab_mk (a := 8192) (b := 5632) _ _ _ (by omega) hk).symm
  refine Eq.trans ?_ (congrFun (V_main_arg0 m c) _)
  blk_ext [iblk, (idx t).1]
theorem blk1 (j k : ℕ) (hj : j < 1024) (hk : k < 5632) : tab3 (n := 4) (a := 1024) (b := 1408) (iblk m c 1 t : Vec Ideal S4x1024x1408 .bf16) j k = B m c j k := by
  refine congrArg (fun w => tab3 (n := 4) (a := 1024) (b := 1408) w j k) (funext fun i => ?_)
  refine Eq.trans ?_ (congrFun (V_main_arg1 m c) _)
  blk_ext [iblk, (idx t).2.1]

/-- The array the run leaves: the whole product. -/
theorem arr : (dats m 0 c).arrAt 2 cfg0.N = fun i : S8192x1024.Idx => ∑ k ∈ range 5632, A m c (i 0).val k * B m c (i 1).val k := by
  refine (dats m 0 c).arrAt_eq_of_covers 2 _ (by decide +kernel) fun t hf y => ?_
  blk_simp
  rw [after0_2]
  have e0 : win0_2.index t 0 = t.val := congrFun (idx t).2.2 0
  have e1 : win0_2.index t 1 = 0 := congrFun (idx t).2.2 1
  refine (out (iblk m c 0 t) (iblk m c 1 t) y).trans (sum_congr rfl fun k hk => ?_)
  have hk := mem_range.1 hk
  rw [e0, e1, Nat.zero_mul, Nat.zero_add]
  exact congrArg₂ (fun a b : EReal => a * b) (blk0 m c t _ k (y 0).isLt hk) (blk1 m c t _ k (y 1).isLt hk)

/-- The reference's result is the whole product. -/
theorem ref (x0 : (⟨S8192x5632, .bf16⟩ : BufTy).Contents (Elt Ideal)) (x1 : (⟨S4x1024x1408, .bf16⟩ : BufTy).Contents (Elt Ideal)) (i : S8192x1024.Idx) :
    Cert.Reference9Ideal.Read.val_main_v7 (F := Ideal) x0 x1 i = ∑ k ∈ range 5632, tab (a := 8192) (b := 5632) x0 (i 0).val k * tab3 (n := 4) (a := 1024) (b := 1408) x1 (i 1).val k := by
  rw [Cert.Reference9Ideal.Read.val_main_v7_apply]
  refine (Cert.Reference9Ideal.Read.val_main_v6_apply x0 x1 i).trans ?_
  rw [← Fin.sum_univ_eq_sum_range]
  refine Fintype.sum_congr _ _ fun k => congrArg₂ (fun a b : EReal => a * b) (tab_at (a := 8192) (b := 5632) x0 _) ?_
  rw [Cert.Reference9Ideal.Read.val_main_v3_apply, Cert.Reference9Ideal.Read.val_main_v2_apply]
  have h1 : (i 1).val < 1024 := (i 1).isLt
  have hd : 1408 * (k.val / 1408) + k.val % 1408 = k.val := Nat.div_add_mod _ _
  refine Eq.trans ?_ ((tab3_mk (n := 4) (a := 1024) (b := 1408) x1 (k.val / 1408) (i 1).val (k.val % 1408) (by omega) h1 (by omega)).symm.trans (by rw [hd]))
  refine congrArg x1 (funext fun a => Fin.ext ?_)
  match a with
  | ⟨0, _⟩ => show ((i 1).val * 5632 + k.val) / 1408 % 4 = k.val / 1408; omega
  | ⟨1, _⟩ => show ((i 1).val * 5632 + k.val) / 5632 = (i 1).val; omega
  | ⟨2, _⟩ => show ((i 1).val * 5632 + k.val) % 1408 = k.val % 1408; omega

theorem ref_frame : Cert.quiescent_Reference9Ideal := fun m ρ _ =>
  (θ_run Cert.Reference9Ideal.defs _ _).mono (fun r h => ⟨fun c => (h c).2, sem_eq_zero_of_no_sems (by decide) r.2⟩) (Cert.Reference9Ideal.Value.run (F := Ideal) m ρ)

theorem algebraic : Cert.algebraic_Kernel9Ideal_Reference9Ideal := fun m g m' g' _ ha =>
  ⟨fun c => (dats m 0 c).arrAt 2 cfg0.N, Value.run_blocks m g, (θ_run Cert.Reference9Ideal.defs _ _).mono (fun r h c => ⟨(h c).1.trans ((Cert.Reference9Ideal.Read.val_main_v7_eq _ _).trans (by
    rw [(ha c).1, (ha c).2]; exact ((funext fun i => ref _ _ i).trans (arr m c).symm))), (h c).2⟩) (Cert.Reference9Ideal.Value.run (F := Ideal) m' g')⟩

end P9

end
-- ==== Proof.Ffn2InDw.lean ====
/- The call ffn2_in_dw: the gradient of the input projection of the second SwiGLU layer, in four parts of columns. -/
module

public import proofs.«01_k».proof.Defs
public import proofs.«01_k».proof.Proof.Prod
public import Idealize.ShloMosaic.Lib.Pipeline.ValueKit
public import proofs.«01_k».proof.Proof.Gen.Kernel10Ideal.Value
public import proofs.«01_k».proof.Proof.Gen.Reference10Ideal.Run
public import proofs.«01_k».proof.Proof.Gen.Reference10Ideal.Read

@[expose] public section

set_option maxRecDepth 16384

noncomputable section

namespace P10

open Cert.Kernel10Ideal Cert.Kernel10Ideal.Gen Idealize.ShloMosaic.TcCoe Idealize.SL.Sem Finset Prod
open Idealize.ShloMosaic hiding ix0 ix1 ix2 ix3 ix4 ix5 eq_ix1 eq_ix2 eq_ix3 eq_ix4
open Idealize.ShloMosaic.ValueIdx

theorem pay1 (i : S1x1024x1408.Idx) : (k0_pay1 (F := Ideal)) i = 0 := Ideal.ofBits_zero_f32

theorem pay2 (x : Vec Ideal S2048x1024 .bf16) (y : Vec Ideal S2048x1408 .bf16) (acc : Vec Ideal S1x1024x1408 .f32) (i : S1x1024x1408.Idx) :
    k0_pay2 x y acc i = acc i + ∑ k ∈ range 2048, tab (a := 2048) (b := 1024) x k (i 1).val * tab (a := 2048) (b := 1408) y k (i 2).val := by
  have h : (i 0).val = 0 := by have : (i 0).val < 1 := (i 0).isLt; omega
  have e : (Shape.rowMajor S1024x1408 (ix2 (i 1) (i 2))).val = (Shape.rowMajor S1x1024x1408 i).val := by
    rw [Shape.rowMajor_val_two, Shape.rowMajor_val_three]
    show (i 1).val * 1408 + (i 2).val = ((i 0).val * 1024 + (i 1).val) * 1408 + (i 2).val
    omega
  unfold k0_pay2
  refine (shapeCast_apply _ _ i (ix2 (i 1) (i 2)) e).trans ?_
  refine congrArg₂ (fun a b : EReal => a + b) (shapeCast_apply acc _ (ix2 (i 1) (i 2)) i e.symm) ?_
  exact Prod.dot dot_S2048x1024_S2048x1408_S1024x1408_0_0_1_1_n_n rfl rfl x y (ix2 (i 1) (i 2)) (fun k => tab (a := 2048) (b := 1024) x k (i 1).val) (fun k => tab (a := 2048) (b := 1408) y k (i 2).val)
    (fun k => tab_at (a := 2048) (b := 1024) x _) (fun k => tab_at (a := 2048) (b := 1408) y _)

theorem idx : ∀ t : Fin cfg0.N, win0_0.index t = ![t.val % 4, 0] ∧ win0_1.index t = ![t.val % 4, t.val / 4] :=
  (by decide +kernel : ∀ t : Fin grid0.N, win0_0.index t = ![t.val % 4, 0] ∧ win0_1.index t = ![t.val % 4, t.val / 4])
theorem lt (t : Fin cfg0.N) : t.val < 16 := lt_of_lt_of_eq t.isLt N_0

variable (m : (ℓ : Loc nD τ sig) → Buf (Elt Ideal) ℓ) (c : Dev nD) (t : Fin cfg0.N)

abbrev A : ℕ → ℕ → EReal := tab (a := 8192) (b := 1024) (m ((c : Thread nD τ).loc main_arg0))
abbrev B : ℕ → ℕ → EReal := tab (a := 8192) (b := 5632) (m ((c : Thread nD τ).loc main_arg1))

theorem blk0 (k : Fin 2048) (i : Fin 1024) : (iblk m c 0 t : Vec Ideal S2048x1024 .bf16) (ix2 k i) = A m c (2048 * (t.val % 4) + k.val) i.val := by
  have := lt t
  refine Eq.trans ?_ (tab_mk (a := 8192) (b := 1024) _ _ _ (by omega) i.isLt).symm
  refine Eq.trans ?_ (congrFun (V_main_arg0 m c) _)
  blk_ext [iblk, (idx t).1]
  show t.val % 4 * 2048 + k.val = 2048 * (t.val % 4) + k.val
  omega
theorem blk1 (k : Fin 2048) (j : Fin 1408) : (iblk m c 1 t : Vec Ideal S2048x1408 .bf16) (ix2 k j) = B m c (2048 * (t.val % 4) + k.val) (1408 * (t.val / 4) + j.val) := by
  have := lt t
  refine Eq.trans ?_ (tab_mk (a := 8192) (b := 5632) _ _ _ (by omega) (by omega)).symm
  refine Eq.trans ?_ (congrFun (V_main_arg1 m c) _)
  blk_ext [iblk, (idx t).2]
  · show t.val % 4 * 2048 + k.val = 2048 * (t.val % 4) + k.val
    omega
  · show t.val / 4 * 1408 + j.val = 1408 * (t.val / 4) + j.val
    omega

theorem part (n : ℕ) (h : n < cfg0.N) (acc : Vec Ideal S1x1024x1408 .f32) (i : S1x1024x1408.Idx) : k0_pay2 (iblk m c 0 ⟨n, h⟩) (iblk m c 1 ⟨n, h⟩) acc i
    = acc i + ∑ k ∈ range 2048, A m c (2048 * (n % 4) + k) (i 1).val * B m c (2048 * (n % 4) + k) ((fun (r : ℕ) (i : S1x1024x1408.Idx) => 1408 * r + (i 2).val) (n / 4) i) := by
  rw [pay2]
  refine congrArg (acc i + ·) (sum_congr rfl fun k hk => ?_)
  have hk := mem_range.1 hk
  exact congrArg₂ (fun a b : EReal => a * b) ((tab_mk _ _ _ hk (i 1).isLt).trans (blk0 m c ⟨n, h⟩ ⟨k, hk⟩ (i 1))) ((tab_mk _ _ _ hk (i 2).isLt).trans (blk1 m c ⟨n, h⟩ ⟨k, hk⟩ (i 2)))

/-- The array the run leaves: the whole product. -/
theorem arr (i : S4x1024x1408.Idx) : (Value.G2 m c : S4x1024x1408.Idx → EReal) i = ∑ k ∈ range 8192, A m c k (i 1).val * B m c k (1408 * (i 0).val + (i 2).val) := by
  have h0 : (i 0).val < 4 := (i 0).isLt
  have h1 : (i 1).val < 1024 := (i 1).isLt
  have h2 : (i 2).val < 1408 := (i 2).isLt
  have e : Value.run2Of i = (i 0).val := by show 1 * ((i 0).val / 1 - 0) + 1 * ((i 1).val / 1024 - 0) + 1 * ((i 2).val / 1408 - 0) = _; omega
  have hN : 4 * Value.run2Of i + 3 < cfg0.N := lt_of_lt_of_eq (by rw [e]; omega : _ < 16) N_0.symm
  unfold Value.G2
  rw [dif_pos hN]
  refine (fold (N := cfg0.N) (ι := S1x1024x1408.Idx) (tk := 2048) (J := 4) (Value.reset2 m c) (Value.step2 m c) (A m c) (B m c) (fun i => (i 1).val) (fun r i => 1408 * r + (i 2).val) (Value.run2Of i) 3 rfl hN
    (fun n h i => (part m c n h _ i).trans (by rw [pay1, zero_add])) (fun n h acc i => part m c n h acc i) (Value.loc2Of i)).trans ?_
  have f1 : (Value.loc2Of i 1).val = (i 1).val := Nat.mod_eq_of_lt h1
  have f2 : (Value.loc2Of i 2).val = (i 2).val := Nat.mod_eq_of_lt h2
  simp only [f1, f2, e, Nat.mod_eq_of_lt h1, Nat.mod_eq_of_lt h2]

/-- The reference's result is the whole product. -/
theorem ref (x0 : (⟨S8192x1024, .bf16⟩ : BufTy).Contents (Elt Ideal)) (x1 : (⟨S8192x5632, .bf16⟩ : BufTy).Contents (Elt Ideal)) (i : S4x1024x1408.Idx) :
    Cert.Reference10Ideal.Read.val_main_v7 (F := Ideal) x0 x1 i = ∑ k ∈ range 8192, tab (a := 8192) (b := 1024) x0 k (i 1).val * tab (a := 8192) (b := 5632) x1 k (1408 * (i 0).val + (i 2).val) := by
  have h0 : (i 0).val < 4 := (i 0).isLt
  have h1 : (i 1).val < 1024 := (i 1).isLt
  have h2 : (i 2).val < 1408 := (i 2).isLt
  rw [Cert.Reference10Ideal.Read.val_main_v7_apply, Cert.Reference10Ideal.Read.val_main_v6_apply, Cert.Reference10Ideal.Read.val_main_v5_apply, Cert.Reference10Ideal.Read.val_main_v4_apply, ← Fin.sum_univ_eq_sum_range]
  refine Fintype.sum_congr _ _ fun k => (mul_comm _ _).trans (congrArg₂ (fun a b : EReal => a * b) ((tab_at (a := 8192) (b := 1024) x0 _).trans ?_) ((tab_at (a := 8192) (b := 5632) x1 _).trans ?_))
  · refine congrArg (tab (a := 8192) (b := 1024) x0 k.val) ?_
    show (((i 1).val * 4 + (i 0).val) * 1408 + (i 2).val) / 5632 = (i 1).val
    omega
  · refine congrArg (tab (a := 8192) (b := 5632) x1 k.val) ?_
    show (((i 1).val * 4 + (i 0).val) * 1408 + (i 2).val) % 5632 = 1408 * (i 0).val + (i 2).val
    omega

theorem ref_frame : Cert.quiescent_Reference10Ideal := fun m ρ _ =>
  (θ_run Cert.Reference10Ideal.defs _ _).mono (fun r h => ⟨fun c => (h c).2, sem_eq_zero_of_no_sems (by decide) r.2⟩) (Cert.Reference10Ideal.Value.run (F := Ideal) m ρ)

theorem algebraic : Cert.algebraic_Kernel10Ideal_Reference10Ideal := fun m g m' g' _ ha =>
  ⟨fun c => Value.G2 m c, Value.run m g, (θ_run Cert.Reference10Ideal.defs _ _).mono (fun r h c => ⟨(h c).1.trans ((Cert.Reference10Ideal.Read.val_main_v7_eq _ _).trans (by
    rw [(ha c).1, (ha c).2]; exact (funext fun i => (ref _ _ i).trans ((arr m c i).symm)))), (h c).2⟩) (Cert.Reference10Ideal.Value.run (F := Ideal) m' g')⟩

end P10

end
-- ==== Proof.Ffn2OutDw.lean ====
/- The call ffn2_out_dw: the gradient of the output projection of the second SwiGLU layer. -/
module

public import proofs.«01_k».proof.Defs
public import proofs.«01_k».proof.Proof.Prod
public import Idealize.ShloMosaic.Lib.Pipeline.ValueKit
public import proofs.«01_k».proof.Proof.Gen.Kernel11Ideal.Value
public import proofs.«01_k».proof.Proof.Gen.Reference11Ideal.Run
public import proofs.«01_k».proof.Proof.Gen.Reference11Ideal.Read

@[expose] public section

set_option maxRecDepth 16384

noncomputable section

namespace P11

open Cert.Kernel11Ideal Cert.Kernel11Ideal.Gen Idealize.ShloMosaic.TcCoe Idealize.SL.Sem Finset Prod
open Idealize.ShloMosaic hiding ix0 ix1 ix2 ix3 ix4 ix5 eq_ix1 eq_ix2 eq_ix3 eq_ix4
open Idealize.ShloMosaic.ValueIdx

theorem pay1 (i : S2816x512.Idx) : (k0_pay1 (F := Ideal)) i = 0 := Ideal.ofBits_zero_f32

theorem pay2 (x : Vec Ideal S1024x2816 .bf16) (y : Vec Ideal S1024x512 .bf16) (acc : Vec Ideal S2816x512 .f32) (i : S2816x512.Idx) :
    k0_pay2 x y acc i = acc i + ∑ k ∈ range 1024, tab (a := 1024) (b := 2816) x k (i 0).val * tab (a := 1024) (b := 512) y k (i 1).val := by
  unfold k0_pay2
  refine congrArg₂ (fun a b : EReal => a + b) (congrFun (shapeCast_self acc _) i) ?_
  exact Prod.dot dot_S1024x2816_S1024x512_S2816x512_0_0_1_1_n_n rfl rfl x y i (fun k => tab (a := 1024) (b := 2816) x k (i 0).val) (fun k => tab (a := 1024) (b := 512) y k (i 1).val)
    (fun k => tab_at (a := 1024) (b := 2816) x _) (fun k => tab_at (a := 1024) (b := 512) y _)

theorem idx : ∀ t : Fin cfg0.N, win0_0.index t = ![t.val % 8, 0] ∧ win0_1.index t = ![t.val % 8, t.val / 8] :=
  (by decide +kernel : ∀ t : Fin grid0.N, win0_0.index t = ![t.val % 8, 0] ∧ win0_1.index t = ![t.val % 8, t.val / 8])
theorem lt (t : Fin cfg0.N) : t.val < 16 := lt_of_lt_of_eq t.isLt N_0

variable (m : (ℓ : Loc nD τ sig) → Buf (Elt Ideal) ℓ) (c : Dev nD) (t : Fin cfg0.N)

abbrev A : ℕ → ℕ → EReal := tab (a := 8192) (b := 2816) (m ((c : Thread nD τ).loc main_arg0))
abbrev B : ℕ → ℕ → EReal := tab (a := 8192) (b := 1024) (m ((c : Thread nD τ).loc main_arg1))

theorem blk0 (k : Fin 1024) (i : Fin 2816) : (iblk m c 0 t : Vec Ideal S1024x2816 .bf16) (ix2 k i) = A m c (1024 * (t.val % 8) + k.val) i.val := by
  have := lt t
  refine Eq.trans ?_ (tab_mk (a := 8192) (b := 2816) _ _ _ (by omega) i.isLt).symm
  refine Eq.trans ?_ (congrFun (V_main_arg0 m c) _)
  blk_ext [iblk, (idx t).1]
  show t.val % 8 * 1024 + k.val = 1024 * (t.val % 8) + k.val
  omega
theorem blk1 (k : Fin 1024) (j : Fin 512) : (iblk m c 1 t : Vec Ideal S1024x512 .bf16) (ix2 k j) = B m c (1024 * (t.val % 8) + k.val) (512 * (t.val / 8) + j.val) := by
  have := lt t
  refine Eq.trans ?_ (tab_mk (a := 8192) (b := 1024) _ _ _ (by omega) (by omega)).symm
  refine Eq.trans ?_ (congrFun (V_main_arg1 m c) _)
  blk_ext [iblk, (idx t).2]
  · show t.val % 8 * 1024 + k.val = 1024 * (t.val % 8) + k.val
    omega
  · show t.val / 8 * 512 + j.val = 512 * (t.val / 8) + j.val
    omega

theorem part (n : ℕ) (h : n < cfg0.N) (acc : Vec Ideal S2816x512 .f32) (i : S2816x512.Idx) : k0_pay2 (iblk m c 0 ⟨n, h⟩) (iblk m c 1 ⟨n, h⟩) acc i
    = acc i + ∑ k ∈ range 1024, A m c (1024 * (n % 8) + k) (i 0).val * B m c (1024 * (n % 8) + k) ((fun (r : ℕ) (i : S2816x512.Idx) => 512 * r + (i 1).val) (n / 8) i) := by
  rw [pay2]
  refine congrArg (acc i + ·) (sum_congr rfl fun k hk => ?_)
  have hk := mem_range.1 hk
  exact congrArg₂ (fun a b : EReal => a * b) ((tab_mk _ _ _ hk (i 0).isLt).trans (blk0 m c ⟨n, h⟩ ⟨k, hk⟩ (i 0))) ((tab_mk _ _ _ hk (i 1).isLt).trans (blk1 m c ⟨n, h⟩ ⟨k, hk⟩ (i 1)))

/-- The array the run leaves: the whole product. -/
theorem arr (i : S2816x1024.Idx) : (Value.G2 m c : S2816x1024.Idx → EReal) i = ∑ k ∈ range 8192, A m c k (i 0).val * B m c k ((i 1).val) := by
  have h0 : (i 0).val < 2816 := (i 0).isLt
  have h1 : (i 1).val < 1024 := (i 1).isLt
  have e : Value.run2Of i = (i 1).val / 512 := by show 2 * ((i 0).val / 2816 - 0) + 1 * ((i 1).val / 512 - 0) = _; omega
  have hN : 8 * Value.run2Of i + 7 < cfg0.N := lt_of_lt_of_eq (by rw [e]; omega : _ < 16) N_0.symm
  unfold Value.G2
  rw [dif_pos hN]
  refine (fold (N := cfg0.N) (ι := S2816x512.Idx) (tk := 1024) (J := 8) (Value.reset2 m c) (Value.step2 m c) (A m c) (B m c) (fun i => (i 0).val) (fun r i => 512 * r + (i 1).val) (Value.run2Of i) 7 rfl hN
    (fun n h i => (part m c n h _ i).trans (by rw [pay1, zero_add])) (fun n h acc i => part m c n h acc i) (Value.loc2Of i)).trans ?_
  have f1 : (Value.loc2Of i 0).val = (i 0).val := Nat.mod_eq_of_lt h0
  have f2 : (Value.loc2Of i 1).val = (i 1).val % 512 := rfl
  have f3 : 512 * ((i 1).val / 512) + (i 1).val % 512 = (i 1).val := Nat.div_add_mod _ _
  simp only [f1, f2, e, f3, Nat.mod_eq_of_lt h0]

/-- The reference's result is the whole product. -/
theorem ref (x0 : (⟨S8192x2816, .bf16⟩ : BufTy).Contents (Elt Ideal)) (x1 : (⟨S8192x1024, .bf16⟩ : BufTy).Contents (Elt Ideal)) (i : S2816x1024.Idx) :
    Cert.Reference11Ideal.Read.val_main_v5 (F := Ideal) x0 x1 i = ∑ k ∈ range 8192, tab (a := 8192) (b := 2816) x0 k (i 0).val * tab (a := 8192) (b := 1024) x1 k ((i 1).val) := by
  rw [Cert.Reference11Ideal.Read.val_main_v5_apply, Cert.Reference11Ideal.Read.val_main_v4_apply, ← Fin.sum_univ_eq_sum_range]
  exact Fintype.sum_congr _ _ fun k => (mul_comm _ _).trans (congrArg₂ (fun a b : EReal => a * b) (tab_at (a := 8192) (b := 2816) x0 _) (tab_at (a := 8192) (b := 1024) x1 _))

theorem ref_frame : Cert.quiescent_Reference11Ideal := fun m ρ _ =>
  (θ_run Cert.Reference11Ideal.defs _ _).mono (fun r h => ⟨fun c => (h c).2, sem_eq_zero_of_no_sems (by decide) r.2⟩) (Cert.Reference11Ideal.Value.run (F := Ideal) m ρ)

theorem algebraic : Cert.algebraic_Kernel11Ideal_Reference11Ideal := fun m g m' g' _ ha =>
  ⟨fun c => Value.G2 m c, Value.run m g, (θ_run Cert.Reference11Ideal.defs _ _).mono (fun r h c => ⟨(h c).1.trans ((Cert.Reference11Ideal.Read.val_main_v5_eq _ _).trans (by
    rw [(ha c).1, (ha c).2]; exact (funext fun i => (ref _ _ i).trans ((arr m c i).symm)))), (h c).2⟩) (Cert.Reference11Ideal.Value.run (F := Ideal) m' g')⟩

end P11

end
-- ==== Proof.MixOutDw.lean ====
/- The call mix_out_dw: the gradient of the mixer's output projection. -/
module

public import proofs.«01_k».proof.Defs
public import proofs.«01_k».proof.Proof.Prod
public import Idealize.ShloMosaic.Lib.Pipeline.ValueKit
public import proofs.«01_k».proof.Proof.Gen.Kernel12Ideal.Value
public import proofs.«01_k».proof.Proof.Gen.Reference12Ideal.Run
public import proofs.«01_k».proof.Proof.Gen.Reference12Ideal.Read

@[expose] public section

set_option maxRecDepth 16384

noncomputable section

namespace P12

open Cert.Kernel12Ideal Cert.Kernel12Ideal.Gen Idealize.ShloMosaic.TcCoe Idealize.SL.Sem Finset Prod
open Idealize.ShloMosaic hiding ix0 ix1 ix2 ix3 ix4 ix5 eq_ix1 eq_ix2 eq_ix3 eq_ix4
open Idealize.ShloMosaic.ValueIdx

theorem pay1 (i : S1024x1024.Idx) : (k0_pay1 (F := Ideal)) i = 0 := Ideal.ofBits_zero_f32

theorem pay2 (x : Vec Ideal S2048x1024 .bf16) (y : Vec Ideal S2048x1024 .bf16) (acc : Vec Ideal S1024x1024 .f32) (i : S1024x1024.Idx) :
    k0_pay2 x y acc i = acc i + ∑ k ∈ range 2048, tab (a := 2048) (b := 1024) x k (i 0).val * tab (a := 2048) (b := 1024) y k (i 1).val := by
  unfold k0_pay2
  refine congrArg₂ (fun a b : EReal => a + b) (congrFun (shapeCast_self acc _) i) ?_
  exact Prod.dot dot_S2048x1024_S2048x1024_S1024x1024_0_0_1_1_n_n rfl rfl x y i (fun k => tab (a := 2048) (b := 1024) x k (i 0).val) (fun k => tab (a := 2048) (b := 1024) y k (i 1).val)
    (fun k => tab_at (a := 2048) (b := 1024) x _) (fun k => tab_at (a := 2048) (b := 1024) y _)

theorem idx : ∀ t : Fin cfg0.N, win0_0.index t = ![t.val % 4, 0] ∧ win0_1.index t = ![t.val % 4, t.val / 4] :=
  (by decide +kernel : ∀ t : Fin grid0.N, win0_0.index t = ![t.val % 4, 0] ∧ win0_1.index t = ![t.val % 4, t.val / 4])
theorem lt (t : Fin cfg0.N) : t.val < 4 := lt_of_lt_of_eq t.isLt N_0

variable (m : (ℓ : Loc nD τ sig) → Buf (Elt Ideal) ℓ) (c : Dev nD) (t : Fin cfg0.N)

abbrev A : ℕ → ℕ → EReal := tab (a := 8192) (b := 1024) (m ((c : Thread nD τ).loc main_arg0))
abbrev B : ℕ → ℕ → EReal := tab (a := 8192) (b := 1024) (m ((c : Thread nD τ).loc main_arg1))

theorem blk0 (k : Fin 2048) (i : Fin 1024) : (iblk m c 0 t : Vec Ideal S2048x1024 .bf16) (ix2 k i) = A m c (2048 * (t.val % 4) + k.val) i.val := by
  have := lt t
  refine Eq.trans ?_ (tab_mk (a := 8192) (b := 1024) _ _ _ (by omega) i.isLt).symm
  refine Eq.trans ?_ (congrFun (V_main_arg0 m c) _)
  blk_ext [iblk, (idx t).1]
  show t.val % 4 * 2048 + k.val = 2048 * (t.val % 4) + k.val
  omega
theorem blk1 (k : Fin 2048) (j : Fin 1024) : (iblk m c 1 t : Vec Ideal S2048x1024 .bf16) (ix2 k j) = B m c (2048 * (t.val % 4) + k.val) (1024 * (t.val / 4) + j.val) := by
  have := lt t
  refine Eq.trans ?_ (tab_mk (a := 8192) (b := 1024) _ _ _ (by omega) (by omega)).symm
  refine Eq.trans ?_ (congrFun (V_main_arg1 m c) _)
  blk_ext [iblk, (idx t).2]
  · show t.val % 4 * 2048 + k.val = 2048 * (t.val % 4) + k.val
    omega
  · show t.val / 4 * 1024 + j.val = 1024 * (t.val / 4) + j.val
    omega

theorem part (n : ℕ) (h : n < cfg0.N) (acc : Vec Ideal S1024x1024 .f32) (i : S1024x1024.Idx) : k0_pay2 (iblk m c 0 ⟨n, h⟩) (iblk m c 1 ⟨n, h⟩) acc i
    = acc i + ∑ k ∈ range 2048, A m c (2048 * (n % 4) + k) (i 0).val * B m c (2048 * (n % 4) + k) ((fun (r : ℕ) (i : S1024x1024.Idx) => 1024 * r + (i 1).val) (n / 4) i) := by
  rw [pay2]
  refine congrArg (acc i + ·) (sum_congr rfl fun k hk => ?_)
  have hk := mem_range.1 hk
  exact congrArg₂ (fun a b : EReal => a * b) ((tab_mk _ _ _ hk (i 0).isLt).trans (blk0 m c ⟨n, h⟩ ⟨k, hk⟩ (i 0))) ((tab_mk _ _ _ hk (i 1).isLt).trans (blk1 m c ⟨n, h⟩ ⟨k, hk⟩ (i 1)))

/-- The array the run leaves: the whole product. -/
theorem arr (i : S1024x1024.Idx) : (Value.G2 m c : S1024x1024.Idx → EReal) i = ∑ k ∈ range 8192, A m c k (i 0).val * B m c k ((i 1).val) := by
  have h0 : (i 0).val < 1024 := (i 0).isLt
  have h1 : (i 1).val < 1024 := (i 1).isLt
  have e : Value.run2Of i = (i 1).val / 1024 := by show 1 * ((i 0).val / 1024 - 0) + 1 * ((i 1).val / 1024 - 0) = _; omega
  have hN : 4 * Value.run2Of i + 3 < cfg0.N := lt_of_lt_of_eq (by rw [e]; omega : _ < 4) N_0.symm
  unfold Value.G2
  rw [dif_pos hN]
  refine (fold (N := cfg0.N) (ι := S1024x1024.Idx) (tk := 2048) (J := 4) (Value.reset2 m c) (Value.step2 m c) (A m c) (B m c) (fun i => (i 0).val) (fun r i => 1024 * r + (i 1).val) (Value.run2Of i) 3 rfl hN
    (fun n h i => (part m c n h _ i).trans (by rw [pay1, zero_add])) (fun n h acc i => part m c n h acc i) (Value.loc2Of i)).trans ?_
  have f1 : (Value.loc2Of i 0).val = (i 0).val := Nat.mod_eq_of_lt h0
  have f2 : (Value.loc2Of i 1).val = (i 1).val % 1024 := rfl
  have f3 : 1024 * ((i 1).val / 1024) + (i 1).val % 1024 = (i 1).val := Nat.div_add_mod _ _
  simp only [f1, f2, e, f3, Nat.mod_eq_of_lt h0]

/-- The reference's result is the whole product. -/
theorem ref (x0 : (⟨S8192x1024, .bf16⟩ : BufTy).Contents (Elt Ideal)) (x1 : (⟨S8192x1024, .bf16⟩ : BufTy).Contents (Elt Ideal)) (i : S1024x1024.Idx) :
    Cert.Reference12Ideal.Read.val_main_v5 (F := Ideal) x0 x1 i = ∑ k ∈ range 8192, tab (a := 8192) (b := 1024) x0 k (i 0).val * tab (a := 8192) (b := 1024) x1 k ((i 1).val) := by
  rw [Cert.Reference12Ideal.Read.val_main_v5_apply, Cert.Reference12Ideal.Read.val_main_v4_apply, ← Fin.sum_univ_eq_sum_range]
  exact Fintype.sum_congr _ _ fun k => (mul_comm _ _).trans (congrArg₂ (fun a b : EReal => a * b) (tab_at (a := 8192) (b := 1024) x0 _) (tab_at (a := 8192) (b := 1024) x1 _))

theorem ref_frame : Cert.quiescent_Reference12Ideal := fun m ρ _ =>
  (θ_run Cert.Reference12Ideal.defs _ _).mono (fun r h => ⟨fun c => (h c).2, sem_eq_zero_of_no_sems (by decide) r.2⟩) (Cert.Reference12Ideal.Value.run (F := Ideal) m ρ)

theorem algebraic : Cert.algebraic_Kernel12Ideal_Reference12Ideal := fun m g m' g' _ ha =>
  ⟨fun c => Value.G2 m c, Value.run m g, (θ_run Cert.Reference12Ideal.defs _ _).mono (fun r h c => ⟨(h c).1.trans ((Cert.Reference12Ideal.Read.val_main_v5_eq _ _).trans (by
    rw [(ha c).1, (ha c).2]; exact (funext fun i => (ref _ _ i).trans ((arr m c i).symm)))), (h c).2⟩) (Cert.Reference12Ideal.Value.run (F := Ideal) m' g')⟩

end P12

end
-- ==== Proof.MixInDw.lean ====
/- The call mix_in_dw: the gradient of the mixer's input projections. -/
module

public import proofs.«01_k».proof.Defs
public import proofs.«01_k».proof.Proof.Prod
public import Idealize.ShloMosaic.Lib.Pipeline.ValueKit
public import proofs.«01_k».proof.Proof.Gen.Kernel13Ideal.Value
public import proofs.«01_k».proof.Proof.Gen.Reference13Ideal.Run
public import proofs.«01_k».proof.Proof.Gen.Reference13Ideal.Read

@[expose] public section

set_option maxRecDepth 16384

noncomputable section

namespace P13

open Cert.Kernel13Ideal Cert.Kernel13Ideal.Gen Idealize.ShloMosaic.TcCoe Idealize.SL.Sem Finset Prod
open Idealize.ShloMosaic hiding ix0 ix1 ix2 ix3 ix4 ix5 eq_ix1 eq_ix2 eq_ix3 eq_ix4
open Idealize.ShloMosaic.ValueIdx

theorem pay1 (i : S1024x1280.Idx) : (k0_pay1 (F := Ideal)) i = 0 := Ideal.ofBits_zero_f32

theorem pay2 (x : Vec Ideal S1536x1024 .bf16) (y : Vec Ideal S1536x1280 .bf16) (acc : Vec Ideal S1024x1280 .f32) (i : S1024x1280.Idx) :
    k0_pay2 x y acc i = acc i + ∑ k ∈ range 1536, tab (a := 1536) (b := 1024) x k (i 0).val * tab (a := 1536) (b := 1280) y k (i 1).val := by
  unfold k0_pay2
  refine congrArg₂ (fun a b : EReal => a + b) (congrFun (shapeCast_self acc _) i) ?_
  exact Prod.dot dot_S1536x1024_S1536x1280_S1024x1280_0_0_1_1_n_n rfl rfl x y i (fun k => tab (a := 1536) (b := 1024) x k (i 0).val) (fun k => tab (a := 1536) (b := 1280) y k (i 1).val)
    (fun k => tab_at (a := 1536) (b := 1024) x _) (fun k => tab_at (a := 1536) (b := 1280) y _)

theorem idx : ∀ t : Fin cfg0.N, win0_0.index t = ![t.val % 6, 0] ∧ win0_1.index t = ![t.val % 6, t.val / 6] :=
  (by decide +kernel : ∀ t : Fin grid0.N, win0_0.index t = ![t.val % 6, 0] ∧ win0_1.index t = ![t.val % 6, t.val / 6])
theorem lt (t : Fin cfg0.N) : t.val < 24 := lt_of_lt_of_eq t.isLt N_0

variable (m : (ℓ : Loc nD τ sig) → Buf (Elt Ideal) ℓ) (c : Dev nD) (t : Fin cfg0.N)

abbrev A : ℕ → ℕ → EReal := tab (a := 9216) (b := 1024) (m ((c : Thread nD τ).loc main_arg0))
abbrev B : ℕ → ℕ → EReal := tab (a := 9216) (b := 5120) (m ((c : Thread nD τ).loc main_arg1))

theorem blk0 (k : Fin 1536) (i : Fin 1024) : (iblk m c 0 t : Vec Ideal S1536x1024 .bf16) (ix2 k i) = A m c (1536 * (t.val % 6) + k.val) i.val := by
  have := lt t
  refine Eq.trans ?_ (tab_mk (a := 9216) (b := 1024) _ _ _ (by omega) i.isLt).symm
  refine Eq.trans ?_ (congrFun (V_main_arg0 m c) _)
  blk_ext [iblk, (idx t).1]
  show t.val % 6 * 1536 + k.val = 1536 * (t.val % 6) + k.val
  omega
theorem blk1 (k : Fin 1536) (j : Fin 1280) : (iblk m c 1 t : Vec Ideal S1536x1280 .bf16) (ix2 k j) = B m c (1536 * (t.val % 6) + k.val) (1280 * (t.val / 6) + j.val) := by
  have := lt t
  refine Eq.trans ?_ (tab_mk (a := 9216) (b := 5120) _ _ _ (by omega) (by omega)).symm
  refine Eq.trans ?_ (congrFun (V_main_arg1 m c) _)
  blk_ext [iblk, (idx t).2]
  · show t.val % 6 * 1536 + k.val = 1536 * (t.val % 6) + k.val
    omega
  · show t.val / 6 * 1280 + j.val = 1280 * (t.val / 6) + j.val
    omega

theorem part (n : ℕ) (h : n < cfg0.N) (acc : Vec Ideal S1024x1280 .f32) (i : S1024x1280.Idx) : k0_pay2 (iblk m c 0 ⟨n, h⟩) (iblk m c 1 ⟨n, h⟩) acc i
    = acc i + ∑ k ∈ range 1536, A m c (1536 * (n % 6) + k) (i 0).val * B m c (1536 * (n % 6) + k) ((fun (r : ℕ) (i : S1024x1280.Idx) => 1280 * r + (i 1).val) (n / 6) i) := by
  rw [pay2]
  refine congrArg (acc i + ·) (sum_congr rfl fun k hk => ?_)
  have hk := mem_range.1 hk
  exact congrArg₂ (fun a b : EReal => a * b) ((tab_mk _ _ _ hk (i 0).isLt).trans (blk0 m c ⟨n, h⟩ ⟨k, hk⟩ (i 0))) ((tab_mk _ _ _ hk (i 1).isLt).trans (blk1 m c ⟨n, h⟩ ⟨k, hk⟩ (i 1)))

/-- The array the run leaves: the whole product. -/
theorem arr (i : S1024x5120.Idx) : (Value.G2 m c : S1024x5120.Idx → EReal) i = ∑ k ∈ range 9216, A m c k (i 0).val * B m c k ((i 1).val) := by
  have h0 : (i 0).val < 1024 := (i 0).isLt
  have h1 : (i 1).val < 5120 := (i 1).isLt
  have e : Value.run2Of i = (i 1).val / 1280 := by show 4 * ((i 0).val / 1024 - 0) + 1 * ((i 1).val / 1280 - 0) = _; omega
  have hN : 6 * Value.run2Of i + 5 < cfg0.N := lt_of_lt_of_eq (by rw [e]; omega : _ < 24) N_0.symm
  unfold Value.G2
  rw [dif_pos hN]
  refine (fold (N := cfg0.N) (ι := S1024x1280.Idx) (tk := 1536) (J := 6) (Value.reset2 m c) (Value.step2 m c) (A m c) (B m c) (fun i => (i 0).val) (fun r i => 1280 * r + (i 1).val) (Value.run2Of i) 5 rfl hN
    (fun n h i => (part m c n h _ i).trans (by rw [pay1, zero_add])) (fun n h acc i => part m c n h acc i) (Value.loc2Of i)).trans ?_
  have f1 : (Value.loc2Of i 0).val = (i 0).val := Nat.mod_eq_of_lt h0
  have f2 : (Value.loc2Of i 1).val = (i 1).val % 1280 := rfl
  have f3 : 1280 * ((i 1).val / 1280) + (i 1).val % 1280 = (i 1).val := Nat.div_add_mod _ _
  simp only [f1, f2, e, f3, Nat.mod_eq_of_lt h0]

/-- The reference's result is the whole product. -/
theorem ref (x0 : (⟨S9216x1024, .bf16⟩ : BufTy).Contents (Elt Ideal)) (x1 : (⟨S9216x5120, .bf16⟩ : BufTy).Contents (Elt Ideal)) (i : S1024x5120.Idx) :
    Cert.Reference13Ideal.Read.val_main_v5 (F := Ideal) x0 x1 i = ∑ k ∈ range 9216, tab (a := 9216) (b := 1024) x0 k (i 0).val * tab (a := 9216) (b := 5120) x1 k ((i 1).val) := by
  rw [Cert.Reference13Ideal.Read.val_main_v5_apply, Cert.Reference13Ideal.Read.val_main_v4_apply, ← Fin.sum_univ_eq_sum_range]
  exact Fintype.sum_congr _ _ fun k => (mul_comm _ _).trans (congrArg₂ (fun a b : EReal => a * b) (tab_at (a := 9216) (b := 1024) x0 _) (tab_at (a := 9216) (b := 5120) x1 _))

theorem ref_frame : Cert.quiescent_Reference13Ideal := fun m ρ _ =>
  (θ_run Cert.Reference13Ideal.defs _ _).mono (fun r h => ⟨fun c => (h c).2, sem_eq_zero_of_no_sems (by decide) r.2⟩) (Cert.Reference13Ideal.Value.run (F := Ideal) m ρ)

theorem algebraic : Cert.algebraic_Kernel13Ideal_Reference13Ideal := fun m g m' g' _ ha =>
  ⟨fun c => Value.G2 m c, Value.run m g, (θ_run Cert.Reference13Ideal.defs _ _).mono (fun r h c => ⟨(h c).1.trans ((Cert.Reference13Ideal.Read.val_main_v5_eq _ _).trans (by
    rw [(ha c).1, (ha c).2]; exact (funext fun i => (ref _ _ i).trans ((arr m c i).symm)))), (h c).2⟩) (Cert.Reference13Ideal.Value.run (F := Ideal) m' g')⟩

end P13

end
-- ==== Proof.Norm.lean ====
/- A row normalised to mean zero and variance one, over the extended reals: what the calls' bodies compute of a block of
   rows, read at an index. -/
module

public import proofs.«01_k».proof.Proof.Prod

@[expose] public section

set_option maxRecDepth 16384

noncomputable section

namespace Norm

open Idealize.ShloMosaic hiding ix0 ix1 ix2 ix3 ix4 ix5 eq_ix1 eq_ix2 eq_ix3 eq_ix4
open Idealize.ShloMosaic.ValueIdx Finset Prod

abbrev V (a b : ℕ) : Type := FVec Ideal (⟨2, ![a, b]⟩ : Shape) .f32

def width : EReal := FloatOps.ofBits (F := Ideal) .f32 0x44800000#32
def eps : EReal := FloatOps.ofBits (F := Ideal) .f32 0x3727C5AC#32

/-- The mean of a row. -/
def mean (f : ℕ → EReal) : EReal := FloatOps.divf (F := Ideal) (φ := .f32) (∑ k ∈ range 1024, f k) width
/-- A row less its mean. -/
def cent (f : ℕ → EReal) (j : ℕ) : EReal := FloatOps.subf (F := Ideal) (φ := .f32) (f j) (mean f)
/-- The reciprocal of a row's deviation. -/
def dev (f : ℕ → EReal) : EReal :=
  FloatOps.rsqrt (F := Ideal) (φ := .f32) (FloatOps.addf (F := Ideal) (φ := .f32) (mean fun k => FloatOps.mulf (F := Ideal) (φ := .f32) (cent f k) (cent f k)) eps)
/-- A row normalised. -/
def nrm (f : ℕ → EReal) (j : ℕ) : EReal := FloatOps.mulf (F := Ideal) (φ := .f32) (cent f j) (dev f)

theorem mean_congr {f g : ℕ → EReal} (h : ∀ k, k < 1024 → f k = g k) : mean f = mean g :=
  congrArg (FloatOps.divf (F := Ideal) (φ := .f32) · width) (sum_congr rfl fun k hk => h k (mem_range.1 hk))
theorem cent_congr {f g : ℕ → EReal} (h : ∀ k, k < 1024 → f k = g k) (j : ℕ) (hj : j < 1024) : cent f j = cent g j :=
  congrArg₂ (FloatOps.subf (F := Ideal) (φ := .f32)) (h j hj) (mean_congr h)
theorem dev_congr {f g : ℕ → EReal} (h : ∀ k, k < 1024 → f k = g k) : dev f = dev g :=
  congrArg (fun m => FloatOps.rsqrt (F := Ideal) (φ := .f32) (FloatOps.addf (F := Ideal) (φ := .f32) m eps))
    (mean_congr fun k hk => by rw [cent_congr h k hk])
theorem nrm_congr {f g : ℕ → EReal} (h : ∀ k, k < 1024 → f k = g k) (j : ℕ) (hj : j < 1024) : nrm f j = nrm g j :=
  congrArg₂ (FloatOps.mulf (F := Ideal) (φ := .f32)) (cent_congr h j hj) (dev_congr h)

section
variable (hr : (⟨2, ![256, 1024]⟩ : Shape).Reduces [1] ⟨1, ![256]⟩) (hc : (⟨1, ![256]⟩ : Shape).ShapeCasts ⟨2, ![256, 1]⟩)
  (hb : (⟨2, ![256, 1]⟩ : Shape).Broadcasts ⟨2, ![256, 1024]⟩)

/-- The means of a block's rows, as the bodies take them. -/
def kmean (z : V 256 1024) : V 256 1 :=
  divf (shapeCast _ (multiReduction .add [1] ⟨1, ![256]⟩ z 0x00000000#32 hr (.inl rfl) rfl) hc) (broadcast _ (Scalar.ofBits (F := Ideal) .f32 0x44800000#32))
def kcent (z : V 256 1024) : V 256 1024 := subf z (broadcastTo _ (kmean hr hc z) hb)
def kdev (z : V 256 1024) : V 256 1 :=
  rsqrt (addf (kmean hr hc (mulf (kcent hr hc hb z) (kcent hr hc hb z))) (broadcast _ (Scalar.ofBits (F := Ideal) .f32 0x3727C5AC#32)))
def knorm (z : V 256 1024) : V 256 1024 := mulf (kcent hr hc hb z) (broadcastTo _ (kdev hr hc hb z) hb)

theorem kmean_apply (z : V 256 1024) (f : ℕ → ℕ → EReal) (h : ∀ i, z i = f (i 0).val (i 1).val) (i : (⟨2, ![256, 1]⟩ : Shape).Idx) :
    kmean hr hc z i = mean (f (i 0).val) := by
  refine congrArg (FloatOps.divf (F := Ideal) (φ := .f32) · width) ?_
  refine (shapeCast_apply _ hc i (ix1 (i 0)) (by
    rw [Shape.rowMajor_val_one, Shape.rowMajor_val_two]
    have h1 : (i 1).val < 1 := (i 1).isLt
    show (i 0).val = (i 0).val * 1 + (i 1).val
    omega)).trans ?_
  refine (Ideal.multiReduction_add_single _ _ _ _ _ _).trans ?_
  rw [← Fin.sum_univ_eq_sum_range]
  refine Fintype.sum_congr _ _ fun k => (h _).trans ?_
  rfl
theorem col_apply (x : V 256 1) (i : (⟨2, ![256, 1024]⟩ : Shape).Idx) : broadcastTo _ x hb i = x (ix2 (i 0) 0) :=
  broadcastTo_apply _ hb i _ (fun a => match a with
    | ⟨0, _⟩ => rfl
    | ⟨1, _⟩ => rfl)
theorem kcent_apply (z : V 256 1024) (f : ℕ → ℕ → EReal) (h : ∀ i, z i = f (i 0).val (i 1).val) (i : (⟨2, ![256, 1024]⟩ : Shape).Idx) :
    kcent hr hc hb z i = cent (f (i 0).val) (i 1).val :=
  congrArg₂ (FloatOps.subf (F := Ideal) (φ := .f32)) (h i) ((col_apply hb _ i).trans (kmean_apply hr hc z f h _))
theorem kdev_apply (z : V 256 1024) (f : ℕ → ℕ → EReal) (h : ∀ i, z i = f (i 0).val (i 1).val) (i : (⟨2, ![256, 1]⟩ : Shape).Idx) :
    kdev hr hc hb z i = dev (f (i 0).val) :=
  congrArg (fun m => FloatOps.rsqrt (F := Ideal) (φ := .f32) (FloatOps.addf (F := Ideal) (φ := .f32) m eps))
    (kmean_apply hr hc _ (fun r k => FloatOps.mulf (F := Ideal) (φ := .f32) (cent (f r) k) (cent (f r) k))
      (fun i => congrArg₂ (FloatOps.mulf (F := Ideal) (φ := .f32)) (kcent_apply hr hc hb z f h i) (kcent_apply hr hc hb z f h i)) i)
theorem knorm_apply (z : V 256 1024) (f : ℕ → ℕ → EReal) (h : ∀ i, z i = f (i 0).val (i 1).val) (i : (⟨2, ![256, 1024]⟩ : Shape).Idx) :
    knorm hr hc hb z i = nrm (f (i 0).val) (i 1).val :=
  congrArg₂ (FloatOps.mulf (F := Ideal) (φ := .f32)) (kcent_apply hr hc hb z f h i) ((col_apply hb _ i).trans (kdev_apply hr hc hb z f h _))
end

/-- One row for all rows of a block. -/
theorem row_apply (hb : (⟨2, ![1, 1024]⟩ : Shape).Broadcasts ⟨2, ![256, 1024]⟩) (x : V 1 1024) (i : (⟨2, ![256, 1024]⟩ : Shape).Idx) :
    broadcastTo _ x hb i = x (ix2 0 (i 1)) :=
  broadcastTo_apply _ hb i _ (fun a => match a with
    | ⟨0, _⟩ => rfl
    | ⟨1, _⟩ => rfl)

/-- One row of the modulations' block. -/
theorem mod_apply {p : ℕ} (m : Vec Ideal (⟨4, ![1, 1, 9, 1024]⟩ : Shape) .f32) (inb) (hc : (⟨4, ![1, 1, 1, 1024]⟩ : Shape).ShapeCasts ⟨2, ![1, 1024]⟩) (hp : p < 9)
    (i : (⟨2, ![1, 1024]⟩ : Shape).Idx) :
    shapeCast (s := (⟨4, ![1, 1, 1, 1024]⟩ : Shape)) (⟨2, ![1, 1024]⟩ : Shape) (View.ld (Val := Elt Ideal) (e' := .f32) m (Rect.unit (s := (⟨4, ![1, 1, 9, 1024]⟩ : Shape)) ![0, 0, p, 0] ![1, 1, 1, 1024] inb)) hc i
      = m (ix4 0 0 ⟨p, hp⟩ (i 1)) := by
  refine (shapeCast_apply _ hc i (ix4 0 0 0 (i 1)) (by
    rw [Shape.rowMajor_val_two, Shape.rowMajor_val_four]
    have h0 : (i 0).val < 1 := (i 0).isLt
    show ((0 * 1 + 0) * 1 + 0) * 1024 + (i 1).val = (i 0).val * 1024 + (i 1).val
    omega)).trans ?_
  exact View.ld_unit_apply_of m _ _ inb (ix4 0 0 0 (i 1)) (ix4 0 0 ⟨p, hp⟩ (i 1)) (fun c => match c with
    | ⟨0, _⟩ => rfl
    | ⟨1, _⟩ => rfl
    | ⟨2, _⟩ => rfl
    | ⟨3, _⟩ => (Nat.zero_add _).symm)

/-- One row of a pair of rows. -/
theorem pair_apply {p : ℕ} (g : Vec Ideal (⟨2, ![2, 1024]⟩ : Shape) .f32) (inb) (hp : p < 2) (i : (⟨2, ![1, 1024]⟩ : Shape).Idx) :
    View.ld (Val := Elt Ideal) (e' := .f32) g (Rect.unit (s := (⟨2, ![2, 1024]⟩ : Shape)) ![p, 0] ![1, 1024] inb) i = g (ix2 ⟨p, hp⟩ (i 1)) :=
  View.ld_unit_apply_of g _ _ inb i (ix2 ⟨p, hp⟩ (i 1)) (fun c => match c with
    | ⟨0, _⟩ => by have h0 : (i 0).val < 1 := (i 0).isLt; show p = p + (i 0).val; omega
    | ⟨1, _⟩ => (Nat.zero_add _).symm)

def un : EReal := FloatOps.ofBits (F := Ideal) .f32 0x3F800000#32
def alpha : EReal := FloatOps.ofBits (F := Ideal) .f32 0x3F9837F0#32

/-- A row of the residual: the stream and the gated output of a sub-layer, before the norm. -/
def resid (w : EReal) (x g y : ℕ → EReal) (k : ℕ) : EReal :=
  FloatOps.addf (F := Ideal) (φ := .f32) (FloatOps.mulf (F := Ideal) (φ := .f32) alpha (x k)) (FloatOps.mulf (F := Ideal) (φ := .f32) (FloatOps.mulf (F := Ideal) (φ := .f32) w (g k)) (y k))
/-- A row normalised, with a gain and a bias. -/
def post (z g b : ℕ → EReal) (j : ℕ) : EReal := FloatOps.addf (F := Ideal) (φ := .f32) (FloatOps.mulf (F := Ideal) (φ := .f32) (nrm z j) (g j)) (b j)
/-- A row normalised and modulated. -/
def modu (x a b : ℕ → EReal) (j : ℕ) : EReal :=
  FloatOps.addf (F := Ideal) (φ := .f32) (FloatOps.mulf (F := Ideal) (φ := .f32) (nrm x j) (FloatOps.addf (F := Ideal) (φ := .f32) un (a j))) (b j)

theorem resid_congr {w : EReal} {x g y x' g' y' : ℕ → EReal} {k : ℕ} (hx : x k = x' k) (hg : g k = g' k) (hy : y k = y' k) :
    resid w x g y k = resid w x' g' y' k := by unfold resid; rw [hx, hg, hy]
theorem post_congr {z g b z' g' b' : ℕ → EReal} (hz : ∀ k, k < 1024 → z k = z' k) {j : ℕ} (hj : j < 1024) (hg : g j = g' j) (hb : b j = b' j) :
    post z g b j = post z' g' b' j := by unfold post; rw [nrm_congr hz j hj, hg, hb]
theorem modu_congr {z g b z' g' b' : ℕ → EReal} (hz : ∀ k, k < 1024 → z k = z' k) {j : ℕ} (hj : j < 1024) (hg : g j = g' j) (hb : b j = b' j) :
    modu z g b j = modu z' g' b' j := by unfold modu; rw [nrm_congr hz j hj, hg, hb]

/-- A row of the modulations, of one sequence's latent tokens. -/
def mrow (m : (⟨4, ![4, 2, 9, 1024]⟩ : Shape).Idx → EReal) (p : Fin 9) (b k : ℕ) : EReal := if h : b < 4 ∧ k < 1024 then m (ix4 ⟨b, h.1⟩ 1 p ⟨k, h.2⟩) else 0
/-- A row of the modulations' block. -/
def brow (m : (⟨4, ![1, 1, 9, 1024]⟩ : Shape).Idx → EReal) (p : Fin 9) (k : ℕ) : EReal := if h : k < 1024 then m (ix4 0 0 p ⟨k, h⟩) else 0
theorem brow_at (m : (⟨4, ![1, 1, 9, 1024]⟩ : Shape).Idx → EReal) (p : Fin 9) (k : Fin 1024) : m (ix4 0 0 p k) = brow m p k.val := by
  unfold brow; rw [dif_pos k.isLt]
theorem mrow_at (m : (⟨4, ![4, 2, 9, 1024]⟩ : Shape).Idx → EReal) (p : Fin 9) (b : Fin 4) (k : Fin 1024) : m (ix4 b 1 p k) = mrow m p b.val k.val := by
  unfold mrow; rw [dif_pos ⟨b.isLt, k.isLt⟩]

end Norm

end
-- ==== Proof.Ffn2In.lean ====
/- The call ffn2_in: the mixer's residual and norm, the modulation, the input projection of the second SwiGLU layer and
   its activation. -/
module

public import proofs.«01_k».proof.Defs
public import proofs.«01_k».proof.Proof.Prod
public import proofs.«01_k».proof.Proof.Norm
public import Idealize.ShloMosaic.Lib.Pipeline.ValueKit
public import proofs.«01_k».proof.Proof.Gen.Kernel14Ideal.Value
public import proofs.«01_k».proof.Proof.Gen.Reference14Ideal.Run
public import proofs.«01_k».proof.Proof.Gen.Reference14Ideal.Read

@[expose] public section

set_option maxRecDepth 16384

noncomputable section

namespace P14

open Cert.Kernel14Ideal Cert.Kernel14Ideal.Gen Idealize.ShloMosaic.TcCoe Idealize.SL.Sem Finset Prod Norm
open Idealize.ShloMosaic hiding ix0 ix1 ix2 ix3 ix4 ix5 eq_ix1 eq_ix2 eq_ix3 eq_ix4
open Idealize.ShloMosaic.ValueIdx

/-- SwiGLU of one gate and one value. -/
def act (g u : EReal) : EReal :=
  FloatOps.mulf (F := Ideal) (φ := .f32) (FloatOps.mulf (F := Ideal) (φ := .f32) g (FloatOps.hostDivf (F := Ideal) (φ := .f32) (FloatOps.ofBits (F := Ideal) .f32 0x3F800000#32)
    (FloatOps.addf (F := Ideal) (φ := .f32) (FloatOps.ofBits (F := Ideal) .f32 0x3F800000#32) (FloatOps.hostUnary (F := Ideal) (φ := .f32) .exp (FloatOps.hostNegf (F := Ideal) (φ := .f32) g))))) u

/-- The residual of a block of rows, before its norm. -/
abbrev kz (P1 : Vec Ideal S1x1x1x1024 .f32) (P2 : Vec Ideal S256x1024 .bf16) (P0 : Vec Ideal S256x1024 .f32) : FVec Ideal S256x1024 .f32 :=
  addf (mulf (broadcast S256x1024 (Scalar.ofBits (F := Ideal) .f32 0x3F9837F0#32)) P0)
    (mulf (broadcastTo S256x1024 (mulf (broadcast S1x1024 (Scalar.ofBits (F := Ideal) .f32 0x3F800000#32)) (shapeCast S1x1024 P1 shapeCasts_S1x1x1x1024_S1x1024)) broadcasts_S1x1024_S256x1024)
      (extf .f32 P2 bitsLt_bf16_f32))
abbrev knrm (z : FVec Ideal S256x1024 .f32) : FVec Ideal S256x1024 .f32 := knorm reduces_S256x1024_S256 shapeCasts_S256_S256x1 broadcasts_S256x1_S256x1024 z

theorem pay2_eq (P1 : Vec Ideal S1x1x1x1024 .f32) (P2 : Vec Ideal S256x1024 .bf16) (P0 : Vec Ideal S256x1024 .f32) (P3 P4 : Vec Ideal S1x1024 .f32) : k0_pay2 P1 P2 P0 P3 P4
    = addf (mulf (knrm (kz P1 P2 P0)) (broadcastTo S256x1024 P3 broadcasts_S1x1024_S256x1024)) (broadcastTo S256x1024 P4 broadcasts_S1x1024_S256x1024) := rfl
theorem pay3_eq (z : FVec Ideal S256x1024 .f32) (P5 P6 : Vec Ideal S1x1x1x1024 .f32) : k0_pay3 z P5 P6
    = truncf .bf16 (addf (mulf (knrm z) (broadcastTo S256x1024 (addf (broadcast S1x1024 (Scalar.ofBits (F := Ideal) .f32 0x3F800000#32)) (shapeCast S1x1024 P5 shapeCasts_S1x1x1x1024_S1x1024)) broadcasts_S1x1024_S256x1024))
      (broadcastTo S256x1024 (shapeCast S1x1024 P6 shapeCasts_S1x1x1x1024_S1x1024) broadcasts_S1x1024_S256x1024)) bitsLt_bf16_f32 := rfl

section block
variable (x : Vec Ideal S256x1024 .f32) (y : Vec Ideal S256x1024 .bf16) (mo : Vec Ideal S1x1x9x1024 .f32) (gb : Vec Ideal S2x1024 .f32) (w : Vec Ideal S4x1024x1408 .bf16)

/-- A block's row before the norm, after it, and modulated. -/
def bz (r : ℕ) : ℕ → EReal := resid un (tab (a := 256) (b := 1024) x r) (brow mo 5) (tab (a := 256) (b := 1024) y r)
def bx (r : ℕ) : ℕ → EReal := post (bz x y mo r) (tab (a := 2) (b := 1024) gb 0) (tab (a := 2) (b := 1024) gb 1)
def bh (r : ℕ) : ℕ → EReal := modu (bx x y mo gb r) (brow mo 6) (brow mo 7)
def bu (r j : ℕ) : EReal := ∑ k ∈ range 1024, bh x y mo gb r k * tab3 (n := 4) (a := 1024) (b := 1408) w k j

theorem kz_apply (i : S256x1024.Idx) : kz (View.ld mo r0_0) (View.ld y r0_1) (View.ld x r0_1) i = bz x y mo (i 0).val (i 1).val := by
  rw [View.ld_unit_lit _ y (by decide), View.ld_unit_lit _ x (by decide)]
  refine congrArg₂ (FloatOps.addf (F := Ideal) (φ := .f32)) (congrArg (FloatOps.mulf (F := Ideal) (φ := .f32) alpha) (tab_at (a := 256) (b := 1024) x i))
    (congrArg₂ (FloatOps.mulf (F := Ideal) (φ := .f32)) ((row_apply _ _ i).trans (congrArg (FloatOps.mulf (F := Ideal) (φ := .f32) un) ?_)) (tab_at (a := 256) (b := 1024) y i))
  exact (mod_apply mo _ _ (by decide) _).trans (brow_at mo 5 (i 1))

theorem pay14 (i : S256x1024.Idx) : k0_pay14 x y mo gb w i = bx x y mo gb (i 0).val (i 1).val := by
  unfold k0_pay14
  rw [pay2_eq]
  refine congrArg₂ (FloatOps.addf (F := Ideal) (φ := .f32)) (congrArg₂ (FloatOps.mulf (F := Ideal) (φ := .f32)) (knorm_apply _ _ _ _ (bz x y mo) (kz_apply x y mo) i) ?_) ?_
  · exact ((row_apply _ _ i).trans (pair_apply gb _ (by decide) _)).trans (tab_ix (a := 2) (b := 1024) gb 0 (i 1))
  · exact ((row_apply _ _ i).trans (pair_apply gb _ (by decide) _)).trans (tab_ix (a := 2) (b := 1024) gb 1 (i 1))
theorem pay15 (i : S256x1024.Idx) : k0_pay15 x y mo gb w i = bh x y mo gb (i 0).val (i 1).val := by
  unfold k0_pay15
  rw [pay3_eq]
  refine congrArg₂ (FloatOps.addf (F := Ideal) (φ := .f32)) (congrArg₂ (FloatOps.mulf (F := Ideal) (φ := .f32)) (knorm_apply _ _ _ _ (bx x y mo gb) (pay14 x y mo gb w) i) ((row_apply _ _ i).trans (congrArg (FloatOps.addf (F := Ideal) (φ := .f32) un) ?_))) ((row_apply _ _ i).trans ?_)
  · exact (mod_apply mo _ _ (by decide) _).trans (brow_at mo 6 (i 1))
  · exact (mod_apply mo _ _ (by decide) _).trans (brow_at mo 7 (i 1))

theorem one (p : ℕ) (inb : ∀ a, (![p, 0, 0] : Fin 3 → ℕ) a + S1x1024x1408.size a ≤ S4x1024x1408.size a) (i : S256x1408.Idx) :
    matmul (F := Ideal) (φ₁ := .bf16) (φ₂ := .bf16) dot_S256x1024_S1024x1408_S256x1408_1_0_0_1_n_n none (k0_pay15 x y mo gb w)
        (shapeCast S1024x1408 (View.ld (Val := Elt Ideal) (e' := .bf16) w (Rect.unit (s := S4x1024x1408) ![p, 0, 0] S1x1024x1408.size inb)) shapeCasts_S1x1024x1408_S1024x1408) (constant S256x1408 .f32 0x00000000#32) i
      = bu x y mo gb w (i 0).val (1408 * p + (i 1).val) := by
  refine (Prod.dot dot_S256x1024_S1024x1408_S256x1408_1_0_0_1_n_n rfl rfl _ _ i (bh x y mo gb (i 0).val) (fun k => tab (a := 1024) (b := 1408) _ k (i 1).val)
    (fun k => pay15 x y mo gb w _) (fun k => tab_at (a := 1024) (b := 1408) _ _)).trans (sum_congr rfl fun k hk => ?_)
  exact congrArg (bh x y mo gb (i 0).val k * ·) (tab_part (n := 4) (a := 1024) (b := 1408) w _ _ k _ (mem_range.1 hk) (i 1).isLt)
end block

theorem place {b o : ℕ} (inb : ∀ a, (![0, o] : Fin 2 → ℕ) a + (![256, 1408] : Fin 2 → ℕ) a ≤ (![256, b] : Fin 2 → ℕ) a) (f : ℕ → ℕ → EReal) (i : S256x1408.Idx) :
    (fun y : (⟨2, ![256, b]⟩ : Shape).Idx => f (y 0).val (y 1).val) ((Rect.unit (s := (⟨2, ![256, b]⟩ : Shape)) ![0, o] ![256, 1408] inb).emb i) = f (i 0).val (o + (i 1).val) :=
  congrArg₂ f ((Rect.idx_unit_val (s := (⟨2, ![256, b]⟩ : Shape)) _ _ inb i 0).trans (Nat.zero_add _)) (Rect.idx_unit_val (s := (⟨2, ![256, b]⟩ : Shape)) _ _ inb i 1)

section out
variable (x : Vec Ideal S256x1024 .f32) (y : Vec Ideal S256x1024 .bf16) (mo : Vec Ideal S1x1x9x1024 .f32) (gb : Vec Ideal S2x1024 .f32) (w : Vec Ideal S4x1024x1408 .bf16)

theorem out5 (i : S256x5632.Idx) : out0_5 x y mo gb w i = bu x y mo gb w (i 0).val (i 1).val := by
  unfold out0_5
  refine View.canon_apply_of_pieces (Val := Elt Ideal) (e := .bf16) (fun q : S256x5632.Idx => bu x y mo gb w (q 0).val (q 1).val) _ ?_ i (cover0_5 _ _ _ _ i)
  refine List.forall_mem_cons.2 ⟨fun i => ?_, List.forall_mem_cons.2 ⟨fun i => ?_, List.forall_mem_cons.2 ⟨fun i => ?_, List.forall_mem_cons.2 ⟨fun i => ?_, fun _ h => absurd h List.not_mem_nil⟩⟩⟩⟩
  · exact (one x y mo gb w 3 _ i).trans (place (b := 5632) (o := 4224) inb_S256x5632_S256x1408_0_4224 (bu x y mo gb w) i).symm
  · exact (one x y mo gb w 1 _ i).trans (place (b := 5632) (o := 1408) inb_S256x5632_S256x1408_0_1408 (bu x y mo gb w) i).symm
  · exact (one x y mo gb w 2 _ i).trans (place (b := 5632) (o := 2816) inb_S256x5632_S256x1408_0_2816 (bu x y mo gb w) i).symm
  · exact (one x y mo gb w 0 _ i).trans (place (b := 5632) (o := 0) inb_S256x5632_S256x1408_0_0 (bu x y mo gb w) i).symm

theorem act_eq (g u : EReal) : FloatOps.mulf (F := Ideal) (φ := .f32) (FloatOps.mulf (F := Ideal) (φ := .f32) g (FloatOps.divf (F := Ideal) (φ := .f32) (FloatOps.ofBits (F := Ideal) .f32 0x3F800000#32)
    (FloatOps.addf (F := Ideal) (φ := .f32) (FloatOps.ofBits (F := Ideal) .f32 0x3F800000#32) (FloatOps.exp (F := Ideal) (φ := .f32) (FloatOps.subf (F := Ideal) (φ := .f32) (FloatOps.ofBits (F := Ideal) .f32 0x00000000#32) g))))) u = act g u := by
  have e : FloatOps.subf (F := Ideal) (φ := .f32) (FloatOps.ofBits (F := Ideal) .f32 0x00000000#32) g = FloatOps.hostNegf (F := Ideal) (φ := .f32) g := by
    show Ideal.ofBits .f32 0x00000000#32 - g = -g
    rw [Ideal.ofBits_zero_f32, zero_sub]
  rw [e]; rfl

theorem out6 (i : S256x2816.Idx) : out0_6 x y mo gb w i = act (bu x y mo gb w (i 0).val (i 1).val) (bu x y mo gb w (i 0).val (2816 + (i 1).val)) := by
  unfold out0_6
  refine View.canon_apply_of_pieces (Val := Elt Ideal) (e := .bf16) (fun q : S256x2816.Idx => act (bu x y mo gb w (q 0).val (q 1).val) (bu x y mo gb w (q 0).val (2816 + (q 1).val))) _ ?_ i (cover0_6 _ _ i)
  refine List.forall_mem_cons.2 ⟨fun i => ?_, List.forall_mem_cons.2 ⟨fun i => ?_, fun _ h => absurd h List.not_mem_nil⟩⟩
  · refine Eq.trans ?_ (place (b := 2816) (o := 1408) inb_S256x2816_S256x1408_0_1408 (fun r j => act (bu x y mo gb w r j) (bu x y mo gb w r (2816 + j))) i).symm
    refine (act_eq _ _).trans (congrArg₂ act (one x y mo gb w 1 _ i) ((one x y mo gb w 3 _ i).trans (congrArg (bu x y mo gb w (i 0).val) ?_)))
    show 4224 + (i 1).val = 2816 + (1408 + (i 1).val)
    rw [← Nat.add_assoc]
  · refine Eq.trans ?_ (place (b := 2816) (o := 0) inb_S256x2816_S256x1408_0_0 (fun r j => act (bu x y mo gb w r j) (bu x y mo gb w r (2816 + j))) i).symm
    refine (act_eq _ _).trans (congrArg₂ act (one x y mo gb w 0 _ i) ((one x y mo gb w 2 _ i).trans (congrArg (bu x y mo gb w (i 0).val) ?_)))
    show 2816 + (i 1).val = 2816 + (0 + (i 1).val)
    rw [Nat.zero_add]
theorem out7 (i : S256x1024.Idx) : out0_7 x y mo gb w i = bx x y mo gb (i 0).val (i 1).val := by
  unfold out0_7
  rw [View.canon_cons_unit_lit _ _ _ (by decide)]
  exact pay14 x y mo gb w i
theorem out8 (i : S256x1024.Idx) : out0_8 x y mo gb w i = bh x y mo gb (i 0).val (i 1).val := by
  unfold out0_8
  rw [View.canon_cons_unit_lit _ _ _ (by decide)]
  exact pay15 x y mo gb w i
end out

theorem idx : ∀ t : Fin cfg0.N, win0_0.index t = ![t.val / 8 * 9 + 1 + t.val % 8, 0] ∧ win0_1.index t = ![t.val, 0] ∧ win0_2.index t = ![t.val / 8, 1, 0, 0] ∧ win0_3.index t = ![0, 0]
    ∧ win0_4.index t = ![0, 0, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val / 8 * 9 + 1 + t.val % 8, 0] ∧ win0_1.index t = ![t.val, 0] ∧ win0_2.index t = ![t.val / 8, 1, 0, 0] ∧ win0_3.index t = ![0, 0]
    ∧ win0_4.index t = ![0, 0, 0] ∧ win0_5.index t = ![t.val, 0] ∧ win0_6.index t = ![t.val, 0] ∧ win0_7.index t = ![t.val, 0] ∧ win0_8.index t = ![t.val, 0])
theorem lt (t : Fin cfg0.N) : t.val < 32 := lt_of_lt_of_eq t.isLt N_0

/-! The whole arrays, row by row. -/
section whole
variable (x : S9216x1024.Idx → EReal) (y : S8192x1024.Idx → EReal) (mo : S4x2x9x1024.Idx → EReal) (gb : S2x1024.Idx → EReal) (w : S4x1024x1408.Idx → EReal)
def gz (R : ℕ) : ℕ → EReal := resid un (tab (a := 9216) (b := 1024) x (R / 2048 * 2304 + 256 + R % 2048)) (mrow mo 5 (R / 2048)) (tab (a := 8192) (b := 1024) y R)
def gx (R : ℕ) : ℕ → EReal := post (gz x y mo R) (tab (a := 2) (b := 1024) gb 0) (tab (a := 2) (b := 1024) gb 1)
def gh (R : ℕ) : ℕ → EReal := modu (gx x y mo gb R) (mrow mo 6 (R / 2048)) (mrow mo 7 (R / 2048))
def gu (R j : ℕ) : EReal := ∑ k ∈ range 1024, gh x y mo gb R k * tab3 (n := 4) (a := 1024) (b := 1408) w k j
end whole

variable (m : (ℓ : Loc nD τ sig) → Buf (Elt Ideal) ℓ) (c : Dev nD) (t : Fin cfg0.N)

abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)

theorem blk0 (i k : ℕ) (hi : i < 256) (hk : k < 1024) : tab (a := 256) (b := 1024) (iblk m c 0 t : Vec Ideal S256x1024 .f32) i k
    = tab (a := 9216) (b := 1024) (X0 m c) ((t.val * 256 + i) / 2048 * 2304 + 256 + (t.val * 256 + i) % 2048) k := by
  have := lt t
  have e : (t.val * 256 + i) / 2048 * 2304 + 256 + (t.val * 256 + i) % 2048 = (t.val / 8 * 9 + 1 + t.val % 8) * 256 + i := by omega
  rw [e]
  refine (tab_mk _ _ _ hi hk).trans ?_
  refine Eq.trans ?_ (tab_mk (a := 9216) (b := 1024) _ _ _ (by omega) hk).symm
  refine Eq.trans ?_ (congrFun (V_main_arg0 m c) _)
  blk_ext [iblk, (idx t).1]
theorem blk1 (i k : ℕ) (hi : i < 256) (hk : k < 1024) : tab (a := 256) (b := 1024) (iblk m c 1 t : Vec Ideal S256x1024 .bf16) i k = tab (a := 8192) (b := 1024) (X1 m c) (t.val * 256 + i) k := by
  have := lt t
  refine (tab_mk _ _ _ hi hk).trans ?_
  refine Eq.trans ?_ (tab_mk (a := 8192) (b := 1024) _ _ _ (by omega) hk).symm
  refine Eq.trans ?_ (congrFun (V_main_arg1 m c) _)
  blk_ext [iblk, (idx t).2.1]
theorem blk2 (p : Fin 9) (i k : ℕ) (hi : i < 256) (hk : k < 1024) : brow (iblk m c 2 t : Vec Ideal S1x1x9x1024 .f32) p k = mrow (X2 m c) p ((t.val * 256 + i) / 2048) k := by
  have := lt t
  have e : (t.val * 256 + i) / 2048 = t.val / 8 := by omega
  rw [e]
  refine (brow_at _ p ⟨k, hk⟩).symm.trans ?_
  refine Eq.trans ?_ (mrow_at (X2 m c) p ⟨t.val / 8, by omega⟩ ⟨k, hk⟩)
  refine Eq.trans ?_ (congrFun (V_main_arg2 m c) _)
  blk_ext [iblk, (idx t).2.2.1]
theorem blk3 (i k : ℕ) : tab (a := 2) (b := 1024) (iblk m c 3 t : Vec Ideal S2x1024 .f32) i k = tab (a := 2) (b := 1024) (X3 m c) i k := by
  refine congrArg (fun w => tab (a := 2) (b := 1024) w i k) (funext fun i => ?_)
  refine Eq.trans ?_ (congrFun (V_main_arg3 m c) _)
  blk_ext [iblk, (idx t).2.2.2.1]
theorem blk4 (j k : ℕ) : tab3 (n := 4) (a := 1024) (b := 1408) (iblk m c 4 t : Vec Ideal S4x1024x1408 .bf16) j k = tab3 (n := 4) (a := 1024) (b := 1408) (X4 m c) j k := by
  refine congrArg (fun w => tab3 (n := 4) (a := 1024) (b := 1408) w j k) (funext fun i => ?_)
  refine Eq.trans ?_ (congrFun (V_main_arg4 m c) _)
  blk_ext [iblk, (idx t).2.2.2.2.1]

theorem bx_blk (i j : ℕ) (hi : i < 256) (hj : j < 1024) : bx (iblk m c 0 t) (iblk m c 1 t) (iblk m c 2 t) (iblk m c 3 t) i j = gx (X0 m c) (X1 m c) (X2 m c) (X3 m c) (t.val * 256 + i) j :=
  post_congr (fun k hk => resid_congr (blk0 m c t i k hi hk) (blk2 m c t 5 i k hi hk) (blk1 m c t i k hi hk)) hj (blk3 m c t 0 j) (blk3 m c t 1 j)
theorem bh_blk (i j : ℕ) (hi : i < 256) (hj : j < 1024) : bh (iblk m c 0 t) (iblk m c 1 t) (iblk m c 2 t) (iblk m c 3 t) i j = gh (X0 m c) (X1 m c) (X2 m c) (X3 m c) (t.val * 256 + i) j :=
  modu_congr (fun k hk => bx_blk m c t i k hi hk) hj (blk2 m c t 6 i j hi hj) (blk2 m c t 7 i j hi hj)
theorem bu_blk (i j : ℕ) (hi : i < 256) : bu (iblk m c 0 t) (iblk m c 1 t) (iblk m c 2 t) (iblk m c 3 t) (iblk m c 4 t) i j = gu (X0 m c) (X1 m c) (X2 m c) (X3 m c) (X4 m c) (t.val * 256 + i) j :=
  sum_congr rfl fun k hk => congrArg₂ (fun a b : EReal => a * b) (bh_blk m c t i k hi (mem_range.1 hk)) (blk4 m c t k j)

theorem arr5 : (dats m 0 c).arrAt 5 cfg0.N = fun i : S8192x5632.Idx => gu (X0 m c) (X1 m c) (X2 m c) (X3 m c) (X4 m c) (i 0).val (i 1).val := by
  refine (dats m 0 c).arrAt_eq_of_covers 5 _ (by decide +kernel) fun t hf y => ?_
  blk_simp
  rw [after0_5]
  have e0 : win0_5.index t 0 = t.val := congrFun (idx t).2.2.2.2.2.1 0
  have e1 : win0_5.index t 1 = 0 := congrFun (idx t).2.2.2.2.2.1 1
  refine (out5 (iblk m c 0 t) (iblk m c 1 t) (iblk m c 2 t) (iblk m c 3 t) (iblk m c 4 t) y).trans ?_
  rw [e0, e1, Nat.zero_mul, Nat.zero_add]
  exact bu_blk m c t _ _ (y 0).isLt
theorem arr6 : (dats m 0 c).arrAt 6 cfg0.N = fun i : S8192x2816.Idx => act (gu (X0 m c) (X1 m c) (X2 m c) (X3 m c) (X4 m c) (i 0).val (i 1).val) (gu (X0 m c) (X1 m c) (X2 m c) (X3 m c) (X4 m c) (i 0).val (2816 + (i 1).val)) := by
  refine (dats m 0 c).arrAt_eq_of_covers 6 _ (by decide +kernel) fun t hf y => ?_
  blk_simp
  rw [after0_6]
  have e0 : win0_6.index t 0 = t.val := congrFun (idx t).2.2.2.2.2.2.1 0
  have e1 : win0_6.index t 1 = 0 := congrFun (idx t).2.2.2.2.2.2.1 1
  refine (out6 (iblk m c 0 t) (iblk m c 1 t) (iblk m c 2 t) (iblk m c 3 t) (iblk m c 4 t) y).trans ?_
  rw [e0, e1, Nat.zero_mul, Nat.zero_add]
  exact congrArg₂ act (bu_blk m c t _ _ (y 0).isLt) (bu_blk m c t _ _ (y 0).isLt)
theorem arr7 : (dats m 0 c).arrAt 7 cfg0.N = fun i : S8192x1024.Idx => gx (X0 m c) (X1 m c) (X2 m c) (X3 m c) (i 0).val (i 1).val := by
  refine (dats m 0 c).arrAt_eq_of_covers 7 _ (by decide +kernel) fun t hf y => ?_
  blk_simp
  rw [after0_7]
  have e0 : win0_7.index t 0 = t.val := congrFun (idx t).2.2.2.2.2.2.2.1 0
  have e1 : win0_7.index t 1 = 0 := congrFun (idx t).2.2.2.2.2.2.2.1 1
  refine (out7 (iblk m c 0 t) (iblk m c 1 t) (iblk m c 2 t) (iblk m c 3 t) (iblk m c 4 t) y).trans ?_
  rw [e0, e1, Nat.zero_mul, Nat.zero_add]
  exact bx_blk m c t _ _ (y 0).isLt (y 1).isLt
theorem arr8 : (dats m 0 c).arrAt 8 cfg0.N = fun i : S8192x1024.Idx => gh (X0 m c) (X1 m c) (X2 m c) (X3 m c) (i 0).val (i 1).val := by
  refine (dats m 0 c).arrAt_eq_of_covers 8 _ (by decide +kernel) fun t hf y => ?_
  blk_simp
  rw [after0_8]
  have e0 : win0_8.index t 0 = t.val := congrFun (idx t).2.2.2.2.2.2.2.2 0
  have e1 : win0_8.index t 1 = 0 := congrFun (idx t).2.2.2.2.2.2.2.2 1
  refine (out8 (iblk m c 0 t) (iblk m c 1 t) (iblk m c 2 t) (iblk m c 3 t) (iblk m c 4 t) y).trans ?_
  rw [e0, e1, Nat.zero_mul, Nat.zero_add]
  exact bh_blk m c t _ _ (y 0).isLt (y 1).isLt

section
variable (x0 : (⟨S9216x1024, .f32⟩ : BufTy).Contents (Elt Ideal)) (x1 : (⟨S8192x1024, .bf16⟩ : BufTy).Contents (Elt Ideal))
  (x2 : (⟨S4x2x9x1024, .f32⟩ : BufTy).Contents (Elt Ideal)) (x3 : (⟨S2x1024, .f32⟩ : BufTy).Contents (Elt Ideal)) (x4 : (⟨S4x1024x1408, .bf16⟩ : BufTy).Contents (Elt Ideal))

theorem seq (i : Cert.Reference14Ideal.S4x2048x1024.Idx) : ((i 0).val * 2048 + (i 1).val) / 2048 = (i 0).val := by
  have h1 : (i 1).val < 2048 := (i 1).isLt
  omega

theorem ref17 (i : Cert.Reference14Ideal.S4x2048x1024.Idx) : Cert.Reference14Ideal.Read.val_main_v17 (F := Ideal) x2 i = FloatOps.mulf (F := Ideal) (φ := .f32) un (mrow x2 5 (i 0).val (i 2).val) := by
  rw [Cert.Reference14Ideal.Read.val_main_v17_apply, Cert.Reference14Ideal.Read.val_main_v16_apply, Cert.Reference14Ideal.Read.val_main_v14_apply, Cert.Reference14Ideal.Read.val_main_v7_apply, Cert.Reference14Ideal.Read.val_main_v6_apply, Cert.Reference14Ideal.Read.val_main_v5_apply, Cert.Reference14Ideal.Read.val_main_v4_apply]
  refine congrArg (FloatOps.mulf (F := Ideal) (φ := .f32) un) (Eq.trans ?_ (mrow_at x2 5 (i 0) (i 2)))
  have h0 : (i 0).val < 4 := (i 0).isLt
  have h2 : (i 2).val < 1024 := (i 2).isLt
  refine congrArg x2 (funext fun a => Fin.ext ?_)
  match a with
  | ⟨0, _⟩ => show (((((i 0).val * 1024 + (i 2).val) / 1024) * 9 + 5) * 1024 + ((i 0).val * 1024 + (i 2).val) % 1024) / 9216 = (i 0).val; omega
  | ⟨1, _⟩ => rfl
  | ⟨2, _⟩ => show (((((i 0).val * 1024 + (i 2).val) / 1024) * 9 + 5) * 1024 + ((i 0).val * 1024 + (i 2).val) % 1024) / 1024 % 9 = 5; omega
  | ⟨3, _⟩ => show (((((i 0).val * 1024 + (i 2).val) / 1024) * 9 + 5) * 1024 + ((i 0).val * 1024 + (i 2).val) % 1024) % 1024 = (i 2).val; omega
theorem ref67 (i : Cert.Reference14Ideal.S4x2048x1024.Idx) : Cert.Reference14Ideal.Read.val_main_v67 (F := Ideal) x2 i = FloatOps.addf (F := Ideal) (φ := .f32) un (mrow x2 6 (i 0).val (i 2).val) := by
  rw [Cert.Reference14Ideal.Read.val_main_v67_apply, Cert.Reference14Ideal.Read.val_main_v66_apply, Cert.Reference14Ideal.Read.val_main_v64_apply, Cert.Reference14Ideal.Read.val_main_v63_apply, Cert.Reference14Ideal.Read.val_main_v62_apply, Cert.Reference14Ideal.Read.val_main_v5_apply, Cert.Reference14Ideal.Read.val_main_v4_apply]
  refine congrArg (FloatOps.addf (F := Ideal) (φ := .f32) un) (Eq.trans ?_ (mrow_at x2 6 (i 0) (i 2)))
  have h0 : (i 0).val < 4 := (i 0).isLt
  have h2 : (i 2).val < 1024 := (i 2).isLt
  refine congrArg x2 (funext fun a => Fin.ext ?_)
  match a with
  | ⟨0, _⟩ => show (((((i 0).val * 1024 + (i 2).val) / 1024) * 9 + 6) * 1024 + ((i 0).val * 1024 + (i 2).val) % 1024) / 9216 = (i 0).val; omega
  | ⟨1, _⟩ => rfl
  | ⟨2, _⟩ => show (((((i 0).val * 1024 + (i 2).val) / 1024) * 9 + 6) * 1024 + ((i 0).val * 1024 + (i 2).val) % 1024) / 1024 % 9 = 6; omega
  | ⟨3, _⟩ => show (((((i 0).val * 1024 + (i 2).val) / 1024) * 9 + 6) * 1024 + ((i 0).val * 1024 + (i 2).val) % 1024) % 1024 = (i 2).val; omega
theorem ref72 (i : Cert.Reference14Ideal.S4x2048x1024.Idx) : Cert.Reference14Ideal.Read.val_main_v72 (F := Ideal) x2 i = mrow x2 7 (i 0).val (i 2).val := by
  rw [Cert.Reference14Ideal.Read.val_main_v72_apply, Cert.Reference14Ideal.Read.val_main_v71_apply, Cert.Reference14Ideal.Read.val_main_v70_apply, Cert.Reference14Ideal.Read.val_main_v69_apply, Cert.Reference14Ideal.Read.val_main_v5_apply, Cert.Reference14Ideal.Read.val_main_v4_apply]
  refine Eq.trans ?_ (mrow_at x2 7 (i 0) (i 2))
  have h0 : (i 0).val < 4 := (i 0).isLt
  have h2 : (i 2).val < 1024 := (i 2).isLt
  refine congrArg x2 (funext fun a => Fin.ext ?_)
  match a with
  | ⟨0, _⟩ => show (((((i 0).val * 1024 + (i 2).val) / 1024) * 9 + 7) * 1024 + ((i 0).val * 1024 + (i 2).val) % 1024) / 9216 = (i 0).val; omega
  | ⟨1, _⟩ => rfl
  | ⟨2, _⟩ => show (((((i 0).val * 1024 + (i 2).val) / 1024) * 9 + 7) * 1024 + ((i 0).val * 1024 + (i 2).val) % 1024) / 1024 % 9 = 7; omega
  | ⟨3, _⟩ => show (((((i 0).val * 1024 + (i 2).val) / 1024) * 9 + 7) * 1024 + ((i 0).val * 1024 + (i 2).val) % 1024) % 1024 = (i 2).val; omega
theorem ref39 (i : Cert.Reference14Ideal.S4x2048x1024.Idx) : Cert.Reference14Ideal.Read.val_main_v39 (F := Ideal) x3 i = tab (a := 2) (b := 1024) x3 0 (i 2).val := by
  rw [Cert.Reference14Ideal.Read.val_main_v39_apply, Cert.Reference14Ideal.Read.val_main_v38_apply, Cert.Reference14Ideal.Read.val_main_v9_apply, Cert.Reference14Ideal.Read.val_main_v8_apply]
  refine Eq.trans (congrArg x3 (funext fun a => Fin.ext ?_)) (tab_ix (a := 2) (b := 1024) x3 0 (i 2))
  match a with
  | ⟨0, _⟩ => rfl
  | ⟨1, _⟩ => exact Nat.mod_eq_of_lt (i 2).isLt
theorem ref42 (i : Cert.Reference14Ideal.S4x2048x1024.Idx) : Cert.Reference14Ideal.Read.val_main_v42 (F := Ideal) x3 i = tab (a := 2) (b := 1024) x3 1 (i 2).val := by
  rw [Cert.Reference14Ideal.Read.val_main_v42_apply, Cert.Reference14Ideal.Read.val_main_v41_apply, Cert.Reference14Ideal.Read.val_main_v11_apply, Cert.Reference14Ideal.Read.val_main_v10_apply]
  refine Eq.trans (congrArg x3 (funext fun a => Fin.ext ?_)) (tab_ix (a := 2) (b := 1024) x3 1 (i 2))
  match a with
  | ⟨0, _⟩ => rfl
  | ⟨1, _⟩ => exact Nat.mod_eq_of_lt (i 2).isLt
theorem ref1 (i : Cert.Reference14Ideal.S4x2048x1024.Idx) : Cert.Reference14Ideal.Read.val_main_v1 (F := Ideal) x0 i
    = tab (a := 9216) (b := 1024) x0 (((i 0).val * 2048 + (i 1).val) / 2048 * 2304 + 256 + ((i 0).val * 2048 + (i 1).val) % 2048) (i 2).val := by
  rw [Cert.Reference14Ideal.Read.val_main_v1_apply, Cert.Reference14Ideal.Read.val_main_v0_apply]
  have h0 : (i 0).val < 4 := (i 0).isLt
  have h1 : (i 1).val < 2048 := (i 1).isLt
  have h2 : (i 2).val < 1024 := (i 2).isLt
  have e : ((i 0).val * 2048 + (i 1).val) / 2048 * 2304 + 256 + ((i 0).val * 2048 + (i 1).val) % 2048 = (i 0).val * 2304 + (256 + (i 1).val) := by omega
  rw [e]
  refine (tab_at (a := 9216) (b := 1024) x0 _).trans (congrArg₂ (tab (a := 9216) (b := 1024) x0) ?_ ?_)
  · show (((i 0).val * 2304 + (256 + (i 1).val)) * 1024 + (i 2).val) / 1024 = _; omega
  · show (((i 0).val * 2304 + (256 + (i 1).val)) * 1024 + (i 2).val) % 1024 = _; omega
theorem ref3 (i : Cert.Reference14Ideal.S4x2048x1024.Idx) : Cert.Reference14Ideal.Read.val_main_v3 (F := Ideal) x1 i = tab (a := 8192) (b := 1024) x1 ((i 0).val * 2048 + (i 1).val) (i 2).val := by
  rw [Cert.Reference14Ideal.Read.val_main_v3_apply, Cert.Reference14Ideal.Read.val_main_v2_apply]
  have h2 : (i 2).val < 1024 := (i 2).isLt
  refine (tab_at (a := 8192) (b := 1024) x1 _).trans (congrArg₂ (tab (a := 8192) (b := 1024) x1) ?_ ?_)
  · show (((i 0).val * 2048 + (i 1).val) * 1024 + (i 2).val) / 1024 = _; omega
  · show (((i 0).val * 2048 + (i 1).val) * 1024 + (i 2).val) % 1024 = _; omega
theorem ref19 (i : Cert.Reference14Ideal.S4x2048x1024.Idx) : Cert.Reference14Ideal.Read.val_main_v19 (F := Ideal) x0 x1 x2 i = gz x0 x1 x2 ((i 0).val * 2048 + (i 1).val) (i 2).val := by
  unfold gz resid
  rw [Cert.Reference14Ideal.Read.val_main_v19_apply, Cert.Reference14Ideal.Read.val_main_v18_apply, Cert.Reference14Ideal.Read.val_main_v13_apply, ref17, ref1, ref3, seq]
  rfl
theorem ref23 (i : Cert.Reference14Ideal.S4x2048x1.Idx) : Cert.Reference14Ideal.Read.val_main_v23 (F := Ideal) x0 x1 x2 i = mean (gz x0 x1 x2 ((i 0).val * 2048 + (i 1).val)) := by
  rw [Cert.Reference14Ideal.Read.val_main_v23_apply, Cert.Reference14Ideal.Read.val_main_v21_apply, Cert.Reference14Ideal.Read.val_main_v20_apply]
  refine congrArg (FloatOps.divf (F := Ideal) (φ := .f32) · width) ?_
  rw [← Fin.sum_univ_eq_sum_range]
  refine (congrArg (· + _) (Ideal.ofBits_zero .f32)).trans ((zero_add _).trans (Fintype.sum_congr _ _ fun k => ref19 x0 x1 x2 _))
theorem ref25 (i : Cert.Reference14Ideal.S4x2048x1024.Idx) : Cert.Reference14Ideal.Read.val_main_v25 (F := Ideal) x0 x1 x2 i = cent (gz x0 x1 x2 ((i 0).val * 2048 + (i 1).val)) (i 2).val := by
  rw [Cert.Reference14Ideal.Read.val_main_v25_apply, Cert.Reference14Ideal.Read.val_main_v24_apply, ref23, ref19]
  rfl
theorem ref35 (i : Cert.Reference14Ideal.S4x2048x1.Idx) : Cert.Reference14Ideal.Read.val_main_v35 (F := Ideal) x0 x1 x2 i = dev (gz x0 x1 x2 ((i 0).val * 2048 + (i 1).val)) := by
  rw [Cert.Reference14Ideal.Read.val_main_v35_apply, Cert.Reference14Ideal.Read.val_main_v34_apply, Cert.Reference14Ideal.Read.val_main_v30_apply, Cert.Reference14Ideal.Read.val_main_v28_apply, Cert.Reference14Ideal.Read.val_main_v27_apply]
  refine congrArg (fun m => FloatOps.rsqrt (F := Ideal) (φ := .f32) (FloatOps.addf (F := Ideal) (φ := .f32) (FloatOps.divf (F := Ideal) (φ := .f32) m width) eps)) ?_
  rw [← Fin.sum_univ_eq_sum_range]
  refine (congrArg (· + _) (Ideal.ofBits_zero .f32)).trans ((zero_add _).trans (Fintype.sum_congr _ _ fun k => ?_))
  rw [Cert.Reference14Ideal.Read.val_main_v26_apply, ref25]
theorem ref37 (i : Cert.Reference14Ideal.S4x2048x1024.Idx) : Cert.Reference14Ideal.Read.val_main_v37 (F := Ideal) x0 x1 x2 i = nrm (gz x0 x1 x2 ((i 0).val * 2048 + (i 1).val)) (i 2).val := by
  rw [Cert.Reference14Ideal.Read.val_main_v37_apply, Cert.Reference14Ideal.Read.val_main_v32_apply, Cert.Reference14Ideal.Read.val_main_v31_apply, Cert.Reference14Ideal.Read.val_main_v36_apply, ref23, ref35, ref19]
  rfl
theorem ref43 (i : Cert.Reference14Ideal.S4x2048x1024.Idx) : Cert.Reference14Ideal.Read.val_main_v43 (F := Ideal) x0 x1 x2 x3 i = gx x0 x1 x2 x3 ((i 0).val * 2048 + (i 1).val) (i 2).val := by
  rw [Cert.Reference14Ideal.Read.val_main_v43_apply, Cert.Reference14Ideal.Read.val_main_v40_apply, ref37, ref39, ref42]
  rfl
theorem ref47 (i : Cert.Reference14Ideal.S4x2048x1.Idx) : Cert.Reference14Ideal.Read.val_main_v47 (F := Ideal) x0 x1 x2 x3 i = mean (gx x0 x1 x2 x3 ((i 0).val * 2048 + (i 1).val)) := by
  rw [Cert.Reference14Ideal.Read.val_main_v47_apply, Cert.Reference14Ideal.Read.val_main_v45_apply, Cert.Reference14Ideal.Read.val_main_v44_apply]
  refine congrArg (FloatOps.divf (F := Ideal) (φ := .f32) · width) ?_
  rw [← Fin.sum_univ_eq_sum_range]
  refine (congrArg (· + _) (Ideal.ofBits_zero .f32)).trans ((zero_add _).trans (Fintype.sum_congr _ _ fun k => ref43 x0 x1 x2 x3 _))
theorem ref49 (i : Cert.Reference14Ideal.S4x2048x1024.Idx) : Cert.Reference14Ideal.Read.val_main_v49 (F := Ideal) x0 x1 x2 x3 i = cent (gx x0 x1 x2 x3 ((i 0).val * 2048 + (i 1).val)) (i 2).val := by
  rw [Cert.Reference14Ideal.Read.val_main_v49_apply, Cert.Reference14Ideal.Read.val_main_v48_apply, ref47, ref43]
  rfl
theorem ref59 (i : Cert.Reference14Ideal.S4x2048x1.Idx) : Cert.Reference14Ideal.Read.val_main_v59 (F := Ideal) x0 x1 x2 x3 i = dev (gx x0 x1 x2 x3 ((i 0).val * 2048 + (i 1).val)) := by
  rw [Cert.Reference14Ideal.Read.val_main_v59_apply, Cert.Reference14Ideal.Read.val_main_v58_apply, Cert.Reference14Ideal.Read.val_main_v54_apply, Cert.Reference14Ideal.Read.val_main_v52_apply, Cert.Reference14Ideal.Read.val_main_v51_apply]
  refine congrArg (fun m => FloatOps.rsqrt (F := Ideal) (φ := .f32) (FloatOps.addf (F := Ideal) (φ := .f32) (FloatOps.divf (F := Ideal) (φ := .f32) m width) eps)) ?_
  rw [← Fin.sum_univ_eq_sum_range]
  refine (congrArg (· + _) (Ideal.ofBits_zero .f32)).trans ((zero_add _).trans (Fintype.sum_congr _ _ fun k => ?_))
  rw [Cert.Reference14Ideal.Read.val_main_v50_apply, ref49]
theorem ref61 (i : Cert.Reference14Ideal.S4x2048x1024.Idx) : Cert.Reference14Ideal.Read.val_main_v61 (F := Ideal) x0 x1 x2 x3 i = nrm (gx x0 x1 x2 x3 ((i 0).val * 2048 + (i 1).val)) (i 2).val := by
  rw [Cert.Reference14Ideal.Read.val_main_v61_apply, Cert.Reference14Ideal.Read.val_main_v56_apply, Cert.Reference14Ideal.Read.val_main_v55_apply, Cert.Reference14Ideal.Read.val_main_v60_apply, ref47, ref59, ref43]
  rfl
theorem ref73 (i : Cert.Reference14Ideal.S4x2048x1024.Idx) : Cert.Reference14Ideal.Read.val_main_v73 (F := Ideal) x0 x1 x2 x3 i = gh x0 x1 x2 x3 ((i 0).val * 2048 + (i 1).val) (i 2).val := by
  unfold gh modu
  rw [Cert.Reference14Ideal.Read.val_main_v73_apply, Cert.Reference14Ideal.Read.val_main_v68_apply, ref61, ref67, ref72, seq]

theorem row (i : S8192x1024.Idx) : ((i 0).val * 1024 + (i 1).val) / 2097152 * 2048 + ((i 0).val * 1024 + (i 1).val) / 1024 % 2048 = (i 0).val ∧ ((i 0).val * 1024 + (i 1).val) % 1024 = (i 1).val := by
  have h0 : (i 0).val < 8192 := (i 0).isLt
  have h1 : (i 1).val < 1024 := (i 1).isLt
  omega
theorem ref87 (i : S8192x1024.Idx) : Cert.Reference14Ideal.Read.val_main_v87 (F := Ideal) x0 x1 x2 x3 i = gx x0 x1 x2 x3 (i 0).val (i 1).val := by
  rw [Cert.Reference14Ideal.Read.val_main_v87_apply]
  exact (ref43 x0 x1 x2 x3 _).trans (congrArg₂ (gx x0 x1 x2 x3) (row i).1 (row i).2)
theorem ref89 (i : S8192x1024.Idx) : Cert.Reference14Ideal.Read.val_main_v89 (F := Ideal) x0 x1 x2 x3 i = gh x0 x1 x2 x3 (i 0).val (i 1).val := by
  rw [Cert.Reference14Ideal.Read.val_main_v89_apply, Cert.Reference14Ideal.Read.val_main_v88_apply]
  exact (ref73 x0 x1 x2 x3 _).trans (congrArg₂ (gh x0 x1 x2 x3) (row i).1 (row i).2)
theorem ref76 (i : S8192x1024.Idx) : Cert.Reference14Ideal.Read.val_main_v76 (F := Ideal) x0 x1 x2 x3 i = gh x0 x1 x2 x3 (i 0).val (i 1).val := by
  rw [Cert.Reference14Ideal.Read.val_main_v76_apply, Cert.Reference14Ideal.Read.val_main_v75_apply, Cert.Reference14Ideal.Read.val_main_v74_apply]
  exact (ref73 x0 x1 x2 x3 _).trans (congrArg₂ (gh x0 x1 x2 x3) (row i).1 (row i).2)

theorem ref80 (i : S8192x5632.Idx) : Cert.Reference14Ideal.Read.val_main_v80 (F := Ideal) x0 x1 x2 x3 x4 i = gu x0 x1 x2 x3 x4 (i 0).val (i 1).val := by
  refine (Cert.Reference14Ideal.Read.val_main_v80_apply x0 x1 x2 x3 x4 i).trans ?_
  unfold gu
  rw [← Fin.sum_univ_eq_sum_range]
  refine Fintype.sum_congr _ _ fun k => congrArg₂ (fun a b : EReal => a * b) (ref76 x0 x1 x2 x3 _) ?_
  rw [Cert.Reference14Ideal.Read.val_main_v79_apply, Cert.Reference14Ideal.Read.val_main_v78_apply]
  have h1 : (i 1).val < 5632 := (i 1).isLt
  have hk := k.isLt
  have hd : 1408 * ((i 1).val / 1408) + (i 1).val % 1408 = (i 1).val := Nat.div_add_mod _ _
  refine Eq.trans ?_ ((tab3_mk (n := 4) (a := 1024) (b := 1408) x4 ((i 1).val / 1408) k.val ((i 1).val % 1408) (by omega) hk (by omega)).symm.trans (by rw [hd]))
  refine congrArg x4 (funext fun a => Fin.ext ?_)
  match a with
  | ⟨0, _⟩ => show (k.val * 5632 + (i 1).val) / 1408 % 4 = (i 1).val / 1408; omega
  | ⟨1, _⟩ => show (k.val * 5632 + (i 1).val) / 5632 = k.val; omega
  | ⟨2, _⟩ => show (k.val * 5632 + (i 1).val) % 1408 = (i 1).val % 1408; omega
theorem ref81 (i : S8192x5632.Idx) : Cert.Reference14Ideal.Read.val_main_v81 (F := Ideal) x0 x1 x2 x3 x4 i = gu x0 x1 x2 x3 x4 (i 0).val (i 1).val := ref80 x0 x1 x2 x3 x4 i
theorem ref86 (i : S8192x2816.Idx) : Cert.Reference14Ideal.Read.val_main_v86 (F := Ideal) x0 x1 x2 x3 x4 i
    = act (gu x0 x1 x2 x3 x4 (i 0).val (i 1).val) (gu x0 x1 x2 x3 x4 (i 0).val (2816 + (i 1).val)) := by
  rw [Cert.Reference14Ideal.Read.val_main_v86_apply, Cert.Reference14Ideal.Read.val_main_v85_apply, Cert.Reference14Ideal.Read.val_main_v84_apply, Cert.Reference14Ideal.Read.val_main_call0_v5_apply, Cert.Reference14Ideal.Read.val_main_call0_v4_apply, Cert.Reference14Ideal.Read.val_main_call0_v3_apply, Cert.Reference14Ideal.Read.val_main_call0_v2_apply, Cert.Reference14Ideal.Read.val_main_call0_v1_apply, Cert.Reference14Ideal.Read.val_main_call0_v0_apply, Cert.Reference14Ideal.Read.val_main_v82_apply, Cert.Reference14Ideal.Read.val_main_v83_apply, ref80, ref80]
  rfl
end

theorem ref_frame : Cert.quiescent_Reference14Ideal := fun m ρ _ =>
  (θ_run Cert.Reference14Ideal.defs _ _).mono (fun r h => ⟨fun c => (h c).2.2.2.2, sem_eq_zero_of_no_sems (by decide) r.2⟩) (Cert.Reference14Ideal.Value.run (F := Ideal) m ρ)

theorem algebraic : Cert.algebraic_Kernel14Ideal_Reference14Ideal := fun m g m' g' _ ha =>
  ⟨fun c => (dats m 0 c).arrAt 5 cfg0.N, fun c => (dats m 0 c).arrAt 6 cfg0.N, fun c => (dats m 0 c).arrAt 7 cfg0.N, fun c => (dats m 0 c).arrAt 8 cfg0.N,
    Value.run_blocks m g, (θ_run Cert.Reference14Ideal.defs _ _).mono (fun r h c =>
    ⟨(h c).1.trans ((Cert.Reference14Ideal.Read.val_main_v81_eq _).trans (by
      rw [show StableHlo.launchContents m' c (Proc.tc.devRef Cert.Reference14Ideal.main_arg0) = _ from (ha c).1, show StableHlo.launchContents m' c (Proc.tc.devRef Cert.Reference14Ideal.main_arg1) = _ from (ha c).2.1, show StableHlo.launchContents m' c (Proc.tc.devRef Cert.Reference14Ideal.main_arg2) = _ from (ha c).2.2.1, show StableHlo.launchContents m' c (Proc.tc.devRef Cert.Reference14Ideal.main_arg3) = _ from (ha c).2.2.2.1, show StableHlo.launchContents m' c (Proc.tc.devRef Cert.Reference14Ideal.main_arg4) = _ from (ha c).2.2.2.2]; exact (funext fun i => ref81 _ _ _ _ _ i).trans (arr5 m c).symm)),
    (h c).2.1.trans ((Cert.Reference14Ideal.Read.val_main_v86_eq _).trans (by
      rw [show StableHlo.launchContents m' c (Proc.tc.devRef Cert.Reference14Ideal.main_arg0) = _ from (ha c).1, show StableHlo.launchContents m' c (Proc.tc.devRef Cert.Reference14Ideal.main_arg1) = _ from (ha c).2.1, show StableHlo.launchContents m' c (Proc.tc.devRef Cert.Reference14Ideal.main_arg2) = _ from (ha c).2.2.1, show StableHlo.launchContents m' c (Proc.tc.devRef Cert.Reference14Ideal.main_arg3) = _ from (ha c).2.2.2.1, show StableHlo.launchContents m' c (Proc.tc.devRef Cert.Reference14Ideal.main_arg4) = _ from (ha c).2.2.2.2]; exact (funext fun i => ref86 _ _ _ _ _ i).trans (arr6 m c).symm)),
    (h c).2.2.1.trans ((Cert.Reference14Ideal.Read.val_main_v87_eq _).trans (by
      rw [show StableHlo.launchContents m' c (Proc.tc.devRef Cert.Reference14Ideal.main_arg0) = _ from (ha c).1, show StableHlo.launchContents m' c (Proc.tc.devRef Cert.Reference14Ideal.main_arg1) = _ from (ha c).2.1, show StableHlo.launchContents m' c (Proc.tc.devRef Cert.Reference14Ideal.main_arg2) = _ from (ha c).2.2.1, show StableHlo.launchContents m' c (Proc.tc.devRef Cert.Reference14Ideal.main_arg3) = _ from (ha c).2.2.2.1]; exact (funext fun i => ref87 _ _ _ _ i).trans (arr7 m c).symm)),
    (h c).2.2.2.1.trans ((Cert.Reference14Ideal.Read.val_main_v89_eq _).trans (by
      rw [show StableHlo.launchContents m' c (Proc.tc.devRef Cert.Reference14Ideal.main_arg0) = _ from (ha c).1, show StableHlo.launchContents m' c (Proc.tc.devRef Cert.Reference14Ideal.main_arg1) = _ from (ha c).2.1, show StableHlo.launchContents m' c (Proc.tc.devRef Cert.Reference14Ideal.main_arg2) = _ from (ha c).2.2.1, show StableHlo.launchContents m' c (Proc.tc.devRef Cert.Reference14Ideal.main_arg3) = _ from (ha c).2.2.2.1]; exact (funext fun i => ref89 _ _ _ _ i).trans (arr8 m c).symm)), (h c).2.2.2.2⟩) (Cert.Reference14Ideal.Value.run (F := Ideal) m' g')⟩

end P14

end
-- ==== Proof.NormBwd.lean ====
/- The gradient of a row's normalisation: what the calls compute of a row, and what differentiation makes of it. -/
module

public import proofs.«01_k».proof.Proof.Norm
public import proofs.«01_k».proof.Proof.Ffn1OutDx

@[expose] public section

set_option maxRecDepth 16384

noncomputable section

namespace Norm

open Idealize.ShloMosaic hiding ix0 ix1 ix2 ix3 ix4 ix5 eq_ix1 eq_ix2 eq_ix3 eq_ix4
open Idealize.ShloMosaic.ValueIdx Finset Prod
open P2 (Re)

def part : EReal := FloatOps.ofBits (F := Ideal) .f32 0x3A800000#32
def half : EReal := FloatOps.ofBits (F := Ideal) .f32 0x3F000000#32
def mhalf : EReal := FloatOps.ofBits (F := Ideal) .f32 0xBF000000#32
def deux : EReal := FloatOps.ofBits (F := Ideal) .f32 0x40000000#32

abbrev mul (a b : EReal) : EReal := FloatOps.mulf (F := Ideal) (φ := .f32) a b
abbrev add (a b : EReal) : EReal := FloatOps.addf (F := Ideal) (φ := .f32) a b
abbrev sub (a b : EReal) : EReal := FloatOps.subf (F := Ideal) (φ := .f32) a b
abbrev quo (a b : EReal) : EReal := FloatOps.divf (F := Ideal) (φ := .f32) a b
abbrev neg (a : EReal) : EReal := FloatOps.hostNegf (F := Ideal) (φ := .f32) a

/-- A row's gradient through its norm, as the calls take it. -/
def back (z d : ℕ → EReal) (j : ℕ) : EReal :=
  mul (dev z) (sub (sub (d j) (mean d)) (mul (nrm z j) (mean fun k => mul (d k) (nrm z k))))

/-- The variance of a row. -/
def vari (z : ℕ → EReal) : EReal := add (mean fun k => mul (cent z k) (cent z k)) eps
/-- The gradient of the variance, then through the square of an entry. -/
def lam (z d : ℕ → EReal) : EReal := quo (mul (∑ k ∈ range 1024, mul (cent z k) (d k)) (mul mhalf (quo (dev z) (vari z)))) width
def square (z d : ℕ → EReal) (j : ℕ) : EReal := mul (lam z d) (mul deux (cent z j))
/-- A row's gradient through its norm, as differentiation makes it. -/
def grad (z d : ℕ → EReal) (j : ℕ) : EReal :=
  add (add (mul (d j) (dev z)) (square z d j)) (quo (add (∑ k ∈ range 1024, neg (mul (d k) (dev z))) (∑ k ∈ range 1024, neg (square z d k))) width)

theorem back_congr {z z' d d' : ℕ → EReal} (hz : ∀ k, k < 1024 → z k = z' k) (hd : ∀ k, k < 1024 → d k = d' k) (j : ℕ) (hj : j < 1024) : back z d j = back z' d' j := by
  unfold back
  rw [dev_congr hz, mean_congr hd, nrm_congr hz j hj, hd j hj, mean_congr (f := fun k => mul (d k) (nrm z k)) (g := fun k => mul (d' k) (nrm z' k)) fun k hk => by rw [hd k hk, nrm_congr hz k hk]]

theorem width_eq : width = ((1024 : ℝ) : EReal) := by simp [width, FloatOps.ofBits, Ideal.ofBits, Ideal.ieee, -EReal.coe_mul]; norm_num
theorem part_eq : part = ((1 / 1024 : ℝ) : EReal) := by simp [part, FloatOps.ofBits, Ideal.ofBits, Ideal.ieee, -EReal.coe_mul]; norm_num
theorem half_eq : half = ((1 / 2 : ℝ) : EReal) := by simp [half, FloatOps.ofBits, Ideal.ofBits, Ideal.ieee, -EReal.coe_mul]; norm_num
theorem mhalf_eq : mhalf = ((-(1 / 2) : ℝ) : EReal) := by simp [mhalf, FloatOps.ofBits, Ideal.ofBits, Ideal.ieee, -EReal.coe_mul]; norm_num
theorem deux_eq : deux = ((2 : ℝ) : EReal) := by simp [deux, FloatOps.ofBits, Ideal.ofBits, Ideal.ieee, -EReal.coe_mul]; norm_num
theorem un_eq : un = ((1 : ℝ) : EReal) := P2.un_eq
theorem alpha_real : Re alpha := by
  refine ⟨623487 / 524288, ?_⟩
  simp [alpha, FloatOps.ofBits, Ideal.ofBits, Ideal.ieee, -EReal.coe_mul]; norm_num
theorem eps_pos : ∃ e : ℝ, 0 < e ∧ eps = (e : EReal) := by
  refine ⟨10995116 / 2 ^ 40, by norm_num, ?_⟩
  simp [eps, FloatOps.ofBits, Ideal.ofBits, Ideal.ieee, -EReal.coe_mul]; norm_num

theorem csum (n : ℕ) (f : ℕ → ℝ) : ∑ k ∈ range n, ((f k : ℝ) : EReal) = ((∑ k ∈ range n, f k : ℝ) : EReal) := by
  induction n with
  | zero => simp
  | succ n ih => rw [sum_range_succ, sum_range_succ, ih, EReal.coe_add]
theorem quo_coe (a b : ℝ) (h : b ≠ 0) : quo (a : EReal) (b : EReal) = ((a / b : ℝ) : EReal) := by
  show Ideal.div _ _ = _
  rw [Ideal.div, if_neg (by exact_mod_cast h), div_eq_mul_inv, EReal.coe_mul, EReal.coe_inv]
theorem mul_coe (a b : ℝ) : mul (a : EReal) (b : EReal) = ((a * b : ℝ) : EReal) := (EReal.coe_mul a b).symm
theorem add_coe (a b : ℝ) : add (a : EReal) (b : EReal) = ((a + b : ℝ) : EReal) := (EReal.coe_add a b).symm
theorem sub_coe (a b : ℝ) : sub (a : EReal) (b : EReal) = ((a - b : ℝ) : EReal) := (EReal.coe_sub a b).symm
theorem neg_coe (a : ℝ) : neg (a : EReal) = ((-a : ℝ) : EReal) := (EReal.coe_neg a).symm
theorem mean_coe (f : ℕ → ℝ) : mean (fun k => (f k : EReal)) = (((∑ k ∈ range 1024, f k) / 1024 : ℝ) : EReal) := by
  unfold mean; rw [csum, width_eq]; exact quo_coe _ _ (by norm_num)

section
variable (z : ℕ → ℝ)
def rcent (k : ℕ) : ℝ := z k - (∑ k ∈ range 1024, z k) / 1024
theorem cent_coe (k : ℕ) : cent (fun k => (z k : EReal)) k = ((rcent z k : ℝ) : EReal) := by
  unfold cent; rw [mean_coe]; exact sub_coe _ _
theorem sum_rcent : ∑ k ∈ range 1024, rcent z k = 0 := by
  unfold rcent
  rw [sum_sub_distrib, sum_const, card_range, nsmul_eq_mul]
  push_cast
  ring
theorem vari_coe : ∃ v : ℝ, 0 < v ∧ vari (fun k => (z k : EReal)) = (v : EReal) := by
  obtain ⟨e, he, h⟩ := eps_pos
  refine ⟨(∑ k ∈ range 1024, rcent z k * rcent z k) / 1024 + e, ?_, ?_⟩
  · have : 0 ≤ ∑ k ∈ range 1024, rcent z k * rcent z k := sum_nonneg fun k _ => mul_self_nonneg _
    positivity
  · unfold vari
    rw [h, ← add_coe, ← mean_coe]
    refine congrArg (fun f => add (mean f) (e : EReal)) (funext fun k => ?_)
    rw [cent_coe]; exact mul_coe _ _
theorem dev_coe {v : ℝ} (hv : 0 < v) (h : vari (fun k => (z k : EReal)) = (v : EReal)) : dev (fun k => (z k : EReal)) = (((Real.sqrt v)⁻¹ : ℝ) : EReal) := by
  refine (congrArg (FloatOps.rsqrt (F := Ideal) (φ := .f32)) h).trans ?_
  show Ideal.rsqrt (v : EReal) = _
  rw [Ideal.rsqrt_coe, if_neg (not_lt.2 hv.le), if_neg hv.ne']
end

/-- On rows of reals both agree. -/
theorem back_eq (z d : ℕ → EReal) (hz : ∀ k, Re (z k)) (hd : ∀ k, Re (d k)) (j : ℕ) : back z d j = grad z d j ∧ Re (back z d j) := by
  choose z' hz using hz
  choose d' hd using hd
  obtain rfl := funext hz
  obtain rfl := funext hd
  obtain ⟨v, hv, h⟩ := vari_coe z'
  have hr := dev_coe z' hv h
  have hs : (Real.sqrt v)⁻¹ * (Real.sqrt v)⁻¹ = v⁻¹ := by rw [← mul_inv, Real.mul_self_sqrt hv.le]
  generalize (Real.sqrt v)⁻¹ = r at hr hs
  have hn : ∀ k, nrm (fun k => (z' k : EReal)) k = ((rcent z' k * r : ℝ) : EReal) := fun k => by unfold nrm; rw [cent_coe, hr]; exact mul_coe _ _
  have e1 : back (fun k => (z' k : EReal)) (fun k => (d' k : EReal)) j
      = ((r * ((d' j - (∑ k ∈ range 1024, d' k) / 1024) - (rcent z' j * r) * ((∑ k ∈ range 1024, d' k * (rcent z' k * r)) / 1024)) : ℝ) : EReal) := by
    unfold back
    simp only [hn, hr, mul_coe, mean_coe, sub_coe]
  have el : lam (fun k => (z' k : EReal)) (fun k => (d' k : EReal)) = (((∑ k ∈ range 1024, rcent z' k * d' k) * (-(1 / 2) * (r / v)) / 1024 : ℝ) : EReal) := by
    unfold lam
    rw [hr, h, mhalf_eq, width_eq, quo_coe _ _ hv.ne', mul_coe]
    simp only [cent_coe, mul_coe, csum]
    exact quo_coe _ _ (by norm_num)
  have hc := sum_rcent z'
  have es : ∑ k ∈ range 1024, d' k * (rcent z' k * r) = r * ∑ k ∈ range 1024, rcent z' k * d' k := by
    rw [mul_sum]; exact sum_congr rfl fun k _ => by ring
  generalize hq : ∑ k ∈ range 1024, rcent z' k * d' k = q at el es
  generalize hL : q * (-(1 / 2) * (r / v)) / 1024 = L at el
  have eq : ∀ k, square (fun k => (z' k : EReal)) (fun k => (d' k : EReal)) k = ((L * (2 * rcent z' k) : ℝ) : EReal) := fun k => by
    unfold square; rw [el, deux_eq, cent_coe, mul_coe, mul_coe]
  have e2 : grad (fun k => (z' k : EReal)) (fun k => (d' k : EReal)) j
      = ((d' j * r + L * (2 * rcent z' j) + (∑ k ∈ range 1024, -(d' k * r) + ∑ k ∈ range 1024, -(L * (2 * rcent z' k))) / 1024 : ℝ) : EReal) := by
    unfold grad
    simp only [eq, hr, mul_coe, neg_coe, csum, add_coe, width_eq]
    rw [quo_coe _ _ (by norm_num), add_coe]
  refine ⟨?_, _, e1⟩
  rw [e1, e2, es]
  refine congrArg _ ?_
  have f1 : ∑ k ∈ range 1024, -(d' k * r) = -(r * ∑ k ∈ range 1024, d' k) := by
    rw [sum_neg_distrib, mul_sum]; exact congrArg _ (sum_congr rfl fun k _ => mul_comm _ _)
  have f2 : ∑ k ∈ range 1024, -(L * (2 * rcent z' k)) = 0 := by
    have : ∀ k, -(L * (2 * rcent z' k)) = (-2 * L) * rcent z' k := fun k => by ring
    simp only [this]
    rw [← mul_sum, hc, mul_zero]
  rw [f1, f2, ← hL, div_eq_mul_inv r v, ← hs]
  ring

/-- The norm of a row of reals is real. -/
theorem nrm_real (z : ℕ → EReal) (hz : ∀ k, Re (z k)) (j : ℕ) : Re (nrm z j) := by
  choose z' hz using hz
  obtain rfl := funext hz
  obtain ⟨v, hv, h⟩ := vari_coe z'
  unfold nrm
  rw [cent_coe, dev_coe z' hv h]
  exact ⟨_, mul_coe _ _⟩

/-- The gradient of half the mean square of an error, times the gain. -/
def kerr (e g : EReal) : EReal := mul (mul e part) g
def rerr (e g : EReal) : EReal := mul (mul (quo (mul half un) width) (mul deux e)) g
theorem kerr_eq {e g : EReal} (he : Re e) (hg : Re g) : kerr e g = rerr e g ∧ Re (kerr e g) := by
  obtain ⟨e, rfl⟩ := he
  obtain ⟨g, rfl⟩ := hg
  have h : kerr (e : EReal) (g : EReal) = ((e * (1 / 1024) * g : ℝ) : EReal) := by unfold kerr; rw [part_eq, mul_coe, mul_coe]
  refine ⟨?_, _, h⟩
  rw [h]
  unfold rerr
  rw [half_eq, un_eq, width_eq, deux_eq, mul_coe, mul_coe, quo_coe _ _ (by norm_num), mul_coe, mul_coe]
  refine congrArg _ ?_
  ring

/-! A row with an infinite entry: the variance is infinite, the deviation's inverse is zero, and so is either gradient. -/
theorem sq_nonneg (a : EReal) : 0 ≤ mul a a := by
  induction a with
  | bot => exact le_of_lt (by show (0 : EReal) < ⊥ * ⊥; simp)
  | top => exact le_of_lt (by show (0 : EReal) < ⊤ * ⊤; simp)
  | coe r => rw [mul_coe]; exact_mod_cast mul_self_nonneg r
theorem sq_top {a b : EReal} (h : ¬ Re a) : mul (sub a b) (sub a b) = ⊤ := by
  induction a with
  | bot => show (⊥ - b) * (⊥ - b) = ⊤; rw [sub_eq_add_neg, EReal.bot_add]; simp
  | coe r => exact absurd ⟨r, rfl⟩ h
  | top =>
    show (⊤ - b) * (⊤ - b) = ⊤
    induction b with
    | bot => simp
    | coe r => simp
    | top => simp
theorem vari_top {z : ℕ → EReal} {k : ℕ} (hk : k < 1024) (h : ¬ Re (z k)) : vari z = ⊤ := by
  have e : ∑ k ∈ range 1024, mul (cent z k) (cent z k) = ⊤ := by
    refine top_le_iff.1 ?_
    have e' : mul (cent z k) (cent z k) = ⊤ := sq_top h
    rw [← e']
    exact single_le_sum (f := fun k => mul (cent z k) (cent z k)) (fun k _ => sq_nonneg _) (mem_range.2 hk)
  obtain ⟨r, hr, h⟩ := eps_pos
  unfold vari mean
  rw [e, width_eq, h]
  show Ideal.div ⊤ _ + _ = _
  rw [Ideal.div, if_neg (by norm_num), ← EReal.coe_inv, EReal.top_mul_coe_of_pos (by norm_num)]
  exact EReal.top_add_coe r
theorem dev_zero {z : ℕ → EReal} {k : ℕ} (hk : k < 1024) (h : ¬ Re (z k)) : dev z = 0 :=
  (congrArg (FloatOps.rsqrt (F := Ideal) (φ := .f32)) (vari_top hk h)).trans rfl
theorem quo_zero {a : EReal} (h : a ≠ 0) : quo 0 a = 0 := by
  show Ideal.div 0 a = 0
  rw [Ideal.div, if_neg h, zero_mul]
theorem zmul (a : EReal) : mul 0 a = 0 := zero_mul a
theorem mulz (a : EReal) : mul a 0 = 0 := mul_zero a
theorem nrm_zero {z : ℕ → EReal} {k : ℕ} (hk : k < 1024) (h : ¬ Re (z k)) (j : ℕ) : nrm z j = 0 := by
  show mul (cent z j) (dev z) = 0
  rw [dev_zero hk h, mulz]
theorem back_zero {z : ℕ → EReal} {k : ℕ} (hk : k < 1024) (h : ¬ Re (z k)) (d : ℕ → EReal) (j : ℕ) : back z d j = 0 := by
  unfold back
  rw [dev_zero hk h, zmul]
theorem square_zero {z : ℕ → EReal} {k : ℕ} (hk : k < 1024) (h : ¬ Re (z k)) (d : ℕ → EReal) (j : ℕ) : square z d j = 0 := by
  unfold square lam
  rw [dev_zero hk h, vari_top hk h, quo_zero (by simp), mulz, mulz, quo_zero (by rw [width_eq]; norm_num), zmul]
theorem grad_zero {z : ℕ → EReal} {k : ℕ} (hk : k < 1024) (h : ¬ Re (z k)) (d : ℕ → EReal) (j : ℕ) : grad z d j = 0 := by
  have hn : neg 0 = 0 := neg_zero (G := EReal)
  have ha : add 0 0 = 0 := add_zero (0 : EReal)
  unfold grad
  simp only [dev_zero hk h, square_zero hk h, mulz, hn, sum_const_zero]
  rw [ha, quo_zero (by rw [width_eq]; norm_num), ha]

/-- The call's gradient is the derivative's, whatever the row, if the cotangent is real. -/
theorem back_grad (z d : ℕ → EReal) (hz : ∀ k, 1024 ≤ k → Re (z k)) (hd : ∀ k, Re (d k)) (j : ℕ) : back z d j = grad z d j ∧ Re (back z d j) := by
  by_cases h : ∀ k, Re (z k)
  · exact back_eq z d h hd j
  · obtain ⟨k, hk⟩ := not_forall.1 h
    have hk' : k < 1024 := by
      by_contra hn
      exact hk (hz k (Nat.le_of_not_lt hn))
    rw [back_zero hk' hk, grad_zero hk' hk]
    exact ⟨rfl, 0, rfl⟩
theorem nrm_real' (z : ℕ → EReal) (hz : ∀ k, 1024 ≤ k → Re (z k)) (j : ℕ) : Re (nrm z j) := by
  by_cases h : ∀ k, Re (z k)
  · exact nrm_real z h j
  · obtain ⟨k, hk⟩ := not_forall.1 h
    have hk' : k < 1024 := by
      by_contra hn
      exact hk (hz k (Nat.le_of_not_lt hn))
    rw [nrm_zero hk' hk]
    exact ⟨0, rfl⟩

end Norm

end
-- ==== Proof.TailRun.lean ====
/- What the call resid2_loss_bwd writes at one grid point, window by window. -/
module

public import proofs.«01_k».proof.Proof.NormBwd
public import Idealize.ShloMosaic.Lib.Pipeline.ValueKit
public import proofs.«01_k».proof.Proof.Gen.Kernel15Ideal.Value

@[expose] public section

set_option maxRecDepth 16384

noncomputable section

namespace P15

open Cert.Kernel15Ideal Cert.Kernel15Ideal.Gen Idealize.ShloMosaic.TcCoe Idealize.SL.Sem Finset Prod Norm
open Idealize.ShloMosaic hiding ix0 ix1 ix2 ix3 ix4 ix5 eq_ix1 eq_ix2 eq_ix3 eq_ix4
open Idealize.ShloMosaic.ValueIdx

section run
variable {F : FTy → Type} [FloatOps F]

abbrev rR : Rect S256x1024 := Rect.unit (s := S256x1024) ![0, 0] S256x1024.size inb_S256x1024_S256x1024_0_0
abbrev rM : Rect S1x1x9x1024 := Rect.unit (s := S1x1x9x1024) ![0, 0, 8, 0] S1x1x1x1024.size inb_S1x1x9x1024_S1x1x1x1024_0_0_8_0
abbrev rG : Rect S2x1024 := Rect.unit (s := S2x1024) ![0, 0] S1x1024.size inb_S2x1024_S1x1024_0_0
abbrev rB : Rect S2x1024 := Rect.unit (s := S2x1024) ![1, 0] S1x1024.size inb_S2x1024_S1x1024_1_0
abbrev rT : Rect S1x256x1024 := Rect.unit (s := S1x256x1024) ![0, 0, 0] S1x256x1024.size inb_S1x256x1024_S1x256x1024_0_0_0
abbrev rW (o : ℕ) (h : ∀ a, (![o, 0] : Fin 2 → ℕ) a + S1408x1024.size a ≤ S2816x1024.size a) : Rect S2816x1024 := Rect.unit (s := S2816x1024) ![o, 0] S1408x1024.size h
abbrev rU (o : ℕ) (h : ∀ a, (![0, o] : Fin 2 → ℕ) a + S256x1408.size a ≤ S256x5632.size a) : Rect S256x5632 := Rect.unit (s := S256x5632) ![0, o] S256x1408.size h

/-- The gradients of the two terms of the residual, and of the activations, as functions of what is loaded. -/
def pX (v0 : Vec F S1x1x1x1024 .f32) (v4 : Vec F S256x1024 .bf16) (v6 : Vec F S256x1024 .f32) (v28 v31 : Vec F S1x1024 .f32) (v34 : Vec F S1x256x1024 .f32) : FVec F S256x1024 .f32 :=
  k0_pay18 (k0_pay9 v0 v4 v6) (k0_pay10 v0 v4 v6) (k0_pay11 v0 v4 v6 v28 v31) (k0_pay12 v34) v28
def pY (v0 : Vec F S1x1x1x1024 .f32) (v4 : Vec F S256x1024 .bf16) (v6 : Vec F S256x1024 .f32) (v28 v31 : Vec F S1x1024 .f32) (v34 : Vec F S1x256x1024 .f32) : FVec F S256x1024 .bf16 :=
  k0_pay20 (k0_pay19 (k0_pay6 v0) (k0_pay9 v0 v4 v6) (k0_pay10 v0 v4 v6) (k0_pay11 v0 v4 v6 v28 v31) (k0_pay12 v34) v28)
def pU (v109 : FVec F S256x1024 .bf16) (w0 w1 : Vec F S1408x1024 .bf16) (u0 u1 u2 u3 : Vec F S256x1408 .bf16) : List (View.Piece (Elt F) S256x5632 .bf16) :=
  [⟨rU 4224 inb_S256x5632_S256x1408_0_4224, k0_pay5 (k0_pay27 v109) w1 (constant S256x1408 .f32 0x00000000#32) u1⟩,
   ⟨rU 1408 inb_S256x5632_S256x1408_0_1408, k0_pay4 (k0_pay27 v109) w1 (constant S256x1408 .f32 0x00000000#32) u1 u3⟩,
   ⟨rU 2816 inb_S256x5632_S256x1408_0_2816, k0_pay32 v109 w0 u0⟩,
   ⟨rU 0 inb_S256x5632_S256x1408_0_0, k0_pay31 v109 w0 u0 u2⟩]

def dX (x : Vec F S256x1024 .f32) (y : Vec F S256x1024 .bf16) (mo : Vec F S1x1x9x1024 .f32) (gb : Vec F S2x1024 .f32) (tt : Vec F S1x256x1024 .f32) : FVec F S256x1024 .f32 :=
  pX (View.ld (Val := Elt F) (e' := .f32) mo rM) (View.ld (Val := Elt F) (e' := .bf16) y rR) (View.ld (Val := Elt F) (e' := .f32) x rR) (View.ld (Val := Elt F) (e' := .f32) gb rG) (View.ld (Val := Elt F) (e' := .f32) gb rB) (View.ld (Val := Elt F) (e' := .f32) tt rT)
def dY (x : Vec F S256x1024 .f32) (y : Vec F S256x1024 .bf16) (mo : Vec F S1x1x9x1024 .f32) (gb : Vec F S2x1024 .f32) (tt : Vec F S1x256x1024 .f32) : FVec F S256x1024 .bf16 :=
  pY (View.ld (Val := Elt F) (e' := .f32) mo rM) (View.ld (Val := Elt F) (e' := .bf16) y rR) (View.ld (Val := Elt F) (e' := .f32) x rR) (View.ld (Val := Elt F) (e' := .f32) gb rG) (View.ld (Val := Elt F) (e' := .f32) gb rB) (View.ld (Val := Elt F) (e' := .f32) tt rT)

theorem pay27 (v : Vec F S256x1024 .bf16) : k0_pay27 v = v := by
  unfold k0_pay27
  exact shapeCast_self _ _
theorem du (Y : FVec F S256x1024 .bf16) (w : Vec F S2816x1024 .bf16) (u : Vec F S256x5632 .bf16) :
    View.canon (pU Y (View.ld (Val := Elt F) (e' := .bf16) w (rW 0 inb_S2816x1024_S1408x1024_0_0)) (View.ld (Val := Elt F) (e' := .bf16) w (rW 1408 inb_S2816x1024_S1408x1024_1408_0))
      (View.ld (Val := Elt F) (e' := .bf16) u (rU 0 inb_S256x5632_S256x1408_0_0)) (View.ld (Val := Elt F) (e' := .bf16) u (rU 1408 inb_S256x5632_S256x1408_0_1408))
      (View.ld (Val := Elt F) (e' := .bf16) u (rU 2816 inb_S256x5632_S256x1408_0_2816)) (View.ld (Val := Elt F) (e' := .bf16) u (rU 4224 inb_S256x5632_S256x1408_0_4224)))
      = Cert.Kernel2Ideal.Gen.out0_3 Y w u := by
  unfold Cert.Kernel2Ideal.Gen.out0_3 Cert.Kernel2Ideal.Gen.k0_pay11 Cert.Kernel2Ideal.Gen.k0_pay12 pU k0_pay31 k0_pay32 k0_pay28
  have e : View.ld (Val := Elt F) (e' := .bf16) Y Cert.Kernel2Ideal.Gen.r0_0 = Y := by
    unfold Cert.Kernel2Ideal.Gen.r0_0
    exact View.ld_unit_lit (Val := Elt F) (e := .bf16) (S := S256x1024) (off := ![0, 0]) _ Y (by decide)
  rw [e, pay27]
  rfl

section A
variable (c : Dev nD) (i : grid0.Coords) (arg2 : Memref sig .tc .vmem S256x1024 .f32) (harg2 : arg2.IsWhole) (arg3 : Memref sig .tc .vmem S256x1024 .bf16) (harg3 : arg3.IsWhole) (arg4 : Memref sig .tc .vmem S1x1x9x1024 .f32) (harg4 : arg4.IsWhole) (arg5 : Memref sig .tc .vmem S2x1024 .f32) (harg5 : arg5.IsWhole) (arg6 : Memref sig .tc .vmem S1x256x1024 .f32) (harg6 : arg6.IsWhole) (arg7 : Memref sig .tc .vmem S2816x1024 .bf16) (harg7 : arg7.IsWhole) (arg8 : Memref sig .tc .vmem S256x5632 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S1x1x1x1024 .f32) (harg11 : arg11.IsWhole) (arg12 : Memref sig .tc .vmem S2x1024 .f32) (harg12 : arg12.IsWhole) (arg13 : Memref sig .tc .vmem S1x1024 .f32) (harg13 : arg13.IsWhole) (arg14 : Memref sig .tc .vmem S256x5632 .bf16) (harg14 : arg14.IsWhole) (hc0 : cond0_0 i) (hc1 : cond0_1 i) (hc2 : cond0_2 i) (x0 : Vec F S256x1024 .f32) (x1 : Vec F S256x1024 .bf16) (x2 : Vec F S1x1x9x1024 .f32) (x3 : Vec F S2x1024 .f32) (x4 : Vec F S1x256x1024 .f32) (x5 : Vec F S2816x1024 .bf16) (x6 : Vec F S256x5632 .bf16)

theorem runA_7 : (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).1 = [⟨rR, pX (View.readAt (Elt F) arg4.view (rM).toLoadRect (harg4.unread x2)) (View.readAt (Elt F) arg3.view (rR).toLoadRect (harg3.unread x1)) (View.readAt (Elt F) arg2.view (rR).toLoadRect (harg2.unread x0)) (View.readAt (Elt F) arg5.view (rG).toLoadRect (harg5.unread x3)) (View.readAt (Elt F) arg5.view (rB).toLoadRect (harg5.unread x3)) (View.readAt (Elt F) arg6.view (rT).toLoadRect (harg6.unread x4))⟩] := by sl_kernel_rfl
theorem runA_8 : (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).2.1 = [⟨rR, pY (View.readAt (Elt F) arg4.view (rM).toLoadRect (harg4.unread x2)) (View.readAt (Elt F) arg3.view (rR).toLoadRect (harg3.unread x1)) (View.readAt (Elt F) arg2.view (rR).toLoadRect (harg2.unread x0)) (View.readAt (Elt F) arg5.view (rG).toLoadRect (harg5.unread x3)) (View.readAt (Elt F) arg5.view (rB).toLoadRect (harg5.unread x3)) (View.readAt (Elt F) arg6.view (rT).toLoadRect (harg6.unread x4))⟩] := by sl_kernel_rfl
theorem runA_12 : (kernelRun0_A c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6).2.2.2.2.2.1 = pU (View.readCov (Val := Elt F) (e := .bf16) arg10.view [⟨rR, pY (View.readAt (Elt F) arg4.view (rM).toLoadRect (harg4.unread x2)) (View.readAt (Elt F) arg3.view (rR).toLoadRect (harg3.unread x1)) (View.readAt (Elt F) arg2.view (rR).toLoadRect (harg2.unread x0)) (View.readAt (Elt F) arg5.view (rG).toLoadRect (harg5.unread x3)) (View.readAt (Elt F) arg5.view (rB).toLoadRect (harg5.unread x3)) (View.readAt (Elt F) arg6.view (rT).toLoadRect (harg6.unread x4))⟩] rR.toLoadRect) (View.readAt (Elt F) arg7.view (rW 0 inb_S2816x1024_S1408x1024_0_0).toLoadRect (harg7.unread x5)) (View.readAt (Elt F) arg7.view (rW 1408 inb_S2816x1024_S1408x1024_1408_0).toLoadRect (harg7.unread x5)) (View.readAt (Elt F) arg8.view (rU 0 inb_S256x5632_S256x1408_0_0).toLoadRect (harg8.unread x6)) (View.readAt (Elt F) arg8.view (rU 1408 inb_S256x5632_S256x1408_0_1408).toLoadRect (harg8.unread x6)) (View.readAt (Elt F) arg8.view (rU 2816 inb_S256x5632_S256x1408_0_2816).toLoadRect (harg8.unread x6)) (View.readAt (Elt F) arg8.view (rU 4224 inb_S256x5632_S256x1408_0_4224).toLoadRect (harg8.unread x6)) := by sl_kernel_rfl
theorem outA_7 : out0_A_7 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 = dX x0 x1 x2 x3 x4 := by
  unfold out0_A_7 dX
  rw [View.read_writes_junk_eq_canon, runA_7, View.canon_cons_unit_lit _ _ _ (by decide)]
  simp only [View.readAt_eq_ld]
  rw [harg4.read_unread, harg3.read_unread, harg2.read_unread, harg5.read_unread, harg6.read_unread]
theorem outA_8 : out0_A_8 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 = dY x0 x1 x2 x3 x4 := by
  unfold out0_A_8 dY
  rw [View.read_writes_junk_eq_canon, runA_8, View.canon_cons_unit_lit _ _ _ (by decide)]
  simp only [View.readAt_eq_ld]
  rw [harg4.read_unread, harg3.read_unread, harg2.read_unread, harg5.read_unread, harg6.read_unread]
theorem outA_12 : out0_A_12 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 = Cert.Kernel2Ideal.Gen.out0_3 (dY x0 x1 x2 x3 x4) x5 x6 := by
  unfold out0_A_12
  rw [View.read_writes_junk_eq_canon, runA_12, View.readCov_unit_lit _ _ _ (by decide)]
  simp only [View.readAt_eq_ld]
  rw [harg4.read_unread, harg3.read_unread, harg2.read_unread, harg5.read_unread, harg6.read_unread, harg7.read_unread, harg8.read_unread]
  exact du (dY x0 x1 x2 x3 x4) x5 x6
end A

section B
variable (c : Dev nD) (i : grid0.Coords) (arg2 : Memref sig .tc .vmem S256x1024 .f32) (harg2 : arg2.IsWhole) (arg3 : Memref sig .tc .vmem S256x1024 .bf16) (harg3 : arg3.IsWhole) (arg4 : Memref sig .tc .vmem S1x1x9x1024 .f32) (harg4 : arg4.IsWhole) (arg5 : Memref sig .tc .vmem S2x1024 .f32) (harg5 : arg5.IsWhole) (arg6 : Memref sig .tc .vmem S1x256x1024 .f32) (harg6 : arg6.IsWhole) (arg7 : Memref sig .tc .vmem S2816x1024 .bf16) (harg7 : arg7.IsWhole) (arg8 : Memref sig .tc .vmem S256x5632 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S1x1x1x1024 .f32) (harg11 : arg11.IsWhole) (arg12 : Memref sig .tc .vmem S2x1024 .f32) (harg12 : arg12.IsWhole) (arg13 : Memref sig .tc .vmem S1x1024 .f32) (harg13 : arg13.IsWhole) (arg14 : Memref sig .tc .vmem S256x5632 .bf16) (harg14 : arg14.IsWhole) (hc0 : ¬cond0_0 i) (hc1 : ¬cond0_1 i) (hc2 : ¬cond0_2 i) (x0 : Vec F S256x1024 .f32) (x1 : Vec F S256x1024 .bf16) (x2 : Vec F S1x1x9x1024 .f32) (x3 : Vec F S2x1024 .f32) (x4 : Vec F S1x256x1024 .f32) (x5 : Vec F S2816x1024 .bf16) (x6 : Vec F S256x5632 .bf16) (xo9 : Vec F S1x1x1x1024 .f32) (xo10 : Vec F S2x1024 .f32) (xo11 : Vec F S1x1024 .f32)

theorem runB_7 : (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo9 xo10 xo11).1 = [⟨rR, pX (View.readAt (Elt F) arg4.view (rM).toLoadRect (harg4.unread x2)) (View.readAt (Elt F) arg3.view (rR).toLoadRect (harg3.unread x1)) (View.readAt (Elt F) arg2.view (rR).toLoadRect (harg2.unread x0)) (View.readAt (Elt F) arg5.view (rG).toLoadRect (harg5.unread x3)) (View.readAt (Elt F) arg5.view (rB).toLoadRect (harg5.unread x3)) (View.readAt (Elt F) arg6.view (rT).toLoadRect (harg6.unread x4))⟩] := by sl_kernel_rfl
theorem runB_8 : (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo9 xo10 xo11).2.1 = [⟨rR, pY (View.readAt (Elt F) arg4.view (rM).toLoadRect (harg4.unread x2)) (View.readAt (Elt F) arg3.view (rR).toLoadRect (harg3.unread x1)) (View.readAt (Elt F) arg2.view (rR).toLoadRect (harg2.unread x0)) (View.readAt (Elt F) arg5.view (rG).toLoadRect (harg5.unread x3)) (View.readAt (Elt F) arg5.view (rB).toLoadRect (harg5.unread x3)) (View.readAt (Elt F) arg6.view (rT).toLoadRect (harg6.unread x4))⟩] := by sl_kernel_rfl
theorem runB_12 : (kernelRun0_B c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo9 xo10 xo11).2.2.2.2.2.1 = pU (View.readCov (Val := Elt F) (e := .bf16) arg10.view [⟨rR, pY (View.readAt (Elt F) arg4.view (rM).toLoadRect (harg4.unread x2)) (View.readAt (Elt F) arg3.view (rR).toLoadRect (harg3.unread x1)) (View.readAt (Elt F) arg2.view (rR).toLoadRect (harg2.unread x0)) (View.readAt (Elt F) arg5.view (rG).toLoadRect (harg5.unread x3)) (View.readAt (Elt F) arg5.view (rB).toLoadRect (harg5.unread x3)) (View.readAt (Elt F) arg6.view (rT).toLoadRect (harg6.unread x4))⟩] rR.toLoadRect) (View.readAt (Elt F) arg7.view (rW 0 inb_S2816x1024_S1408x1024_0_0).toLoadRect (harg7.unread x5)) (View.readAt (Elt F) arg7.view (rW 1408 inb_S2816x1024_S1408x1024_1408_0).toLoadRect (harg7.unread x5)) (View.readAt (Elt F) arg8.view (rU 0 inb_S256x5632_S256x1408_0_0).toLoadRect (harg8.unread x6)) (View.readAt (Elt F) arg8.view (rU 1408 inb_S256x5632_S256x1408_0_1408).toLoadRect (harg8.unread x6)) (View.readAt (Elt F) arg8.view (rU 2816 inb_S256x5632_S256x1408_0_2816).toLoadRect (harg8.unread x6)) (View.readAt (Elt F) arg8.view (rU 4224 inb_S256x5632_S256x1408_0_4224).toLoadRect (harg8.unread x6)) := by sl_kernel_rfl
theorem outB_7 : out0_B_7 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo9 xo10 xo11 = dX x0 x1 x2 x3 x4 := by
  unfold out0_B_7 dX
  rw [View.read_writes_junk_eq_canon, runB_7, View.canon_cons_unit_lit _ _ _ (by decide)]
  simp only [View.readAt_eq_ld]
  rw [harg4.read_unread, harg3.read_unread, harg2.read_unread, harg5.read_unread, harg6.read_unread]
theorem outB_8 : out0_B_8 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo9 xo10 xo11 = dY x0 x1 x2 x3 x4 := by
  unfold out0_B_8 dY
  rw [View.read_writes_junk_eq_canon, runB_8, View.canon_cons_unit_lit _ _ _ (by decide)]
  simp only [View.readAt_eq_ld]
  rw [harg4.read_unread, harg3.read_unread, harg2.read_unread, harg5.read_unread, harg6.read_unread]
theorem outB_12 : out0_B_12 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo9 xo10 xo11 = Cert.Kernel2Ideal.Gen.out0_3 (dY x0 x1 x2 x3 x4) x5 x6 := by
  unfold out0_B_12
  rw [View.read_writes_junk_eq_canon, runB_12, View.readCov_unit_lit _ _ _ (by decide)]
  simp only [View.readAt_eq_ld]
  rw [harg4.read_unread, harg3.read_unread, harg2.read_unread, harg5.read_unread, harg6.read_unread, harg7.read_unread, harg8.read_unread]
  exact du (dY x0 x1 x2 x3 x4) x5 x6
end B

section C
variable (c : Dev nD) (i : grid0.Coords) (arg2 : Memref sig .tc .vmem S256x1024 .f32) (harg2 : arg2.IsWhole) (arg3 : Memref sig .tc .vmem S256x1024 .bf16) (harg3 : arg3.IsWhole) (arg4 : Memref sig .tc .vmem S1x1x9x1024 .f32) (harg4 : arg4.IsWhole) (arg5 : Memref sig .tc .vmem S2x1024 .f32) (harg5 : arg5.IsWhole) (arg6 : Memref sig .tc .vmem S1x256x1024 .f32) (harg6 : arg6.IsWhole) (arg7 : Memref sig .tc .vmem S2816x1024 .bf16) (harg7 : arg7.IsWhole) (arg8 : Memref sig .tc .vmem S256x5632 .bf16) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S1x1x1x1024 .f32) (harg11 : arg11.IsWhole) (arg12 : Memref sig .tc .vmem S2x1024 .f32) (harg12 : arg12.IsWhole) (arg13 : Memref sig .tc .vmem S1x1024 .f32) (harg13 : arg13.IsWhole) (arg14 : Memref sig .tc .vmem S256x5632 .bf16) (harg14 : arg14.IsWhole) (hc0 : ¬cond0_0 i) (hc1 : ¬cond0_1 i) (hc2 : cond0_2 i) (x0 : Vec F S256x1024 .f32) (x1 : Vec F S256x1024 .bf16) (x2 : Vec F S1x1x9x1024 .f32) (x3 : Vec F S2x1024 .f32) (x4 : Vec F S1x256x1024 .f32) (x5 : Vec F S2816x1024 .bf16) (x6 : Vec F S256x5632 .bf16) (xo10 : Vec F S2x1024 .f32) (xo11 : Vec F S1x1024 .f32)

theorem runC_7 : (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo10 xo11).1 = [⟨rR, pX (View.readAt (Elt F) arg4.view (rM).toLoadRect (harg4.unread x2)) (View.readAt (Elt F) arg3.view (rR).toLoadRect (harg3.unread x1)) (View.readAt (Elt F) arg2.view (rR).toLoadRect (harg2.unread x0)) (View.readAt (Elt F) arg5.view (rG).toLoadRect (harg5.unread x3)) (View.readAt (Elt F) arg5.view (rB).toLoadRect (harg5.unread x3)) (View.readAt (Elt F) arg6.view (rT).toLoadRect (harg6.unread x4))⟩] := by sl_kernel_rfl
theorem runC_8 : (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo10 xo11).2.1 = [⟨rR, pY (View.readAt (Elt F) arg4.view (rM).toLoadRect (harg4.unread x2)) (View.readAt (Elt F) arg3.view (rR).toLoadRect (harg3.unread x1)) (View.readAt (Elt F) arg2.view (rR).toLoadRect (harg2.unread x0)) (View.readAt (Elt F) arg5.view (rG).toLoadRect (harg5.unread x3)) (View.readAt (Elt F) arg5.view (rB).toLoadRect (harg5.unread x3)) (View.readAt (Elt F) arg6.view (rT).toLoadRect (harg6.unread x4))⟩] := by sl_kernel_rfl
theorem runC_12 : (kernelRun0_C c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo10 xo11).2.2.2.2.2.1 = pU (View.readCov (Val := Elt F) (e := .bf16) arg10.view [⟨rR, pY (View.readAt (Elt F) arg4.view (rM).toLoadRect (harg4.unread x2)) (View.readAt (Elt F) arg3.view (rR).toLoadRect (harg3.unread x1)) (View.readAt (Elt F) arg2.view (rR).toLoadRect (harg2.unread x0)) (View.readAt (Elt F) arg5.view (rG).toLoadRect (harg5.unread x3)) (View.readAt (Elt F) arg5.view (rB).toLoadRect (harg5.unread x3)) (View.readAt (Elt F) arg6.view (rT).toLoadRect (harg6.unread x4))⟩] rR.toLoadRect) (View.readAt (Elt F) arg7.view (rW 0 inb_S2816x1024_S1408x1024_0_0).toLoadRect (harg7.unread x5)) (View.readAt (Elt F) arg7.view (rW 1408 inb_S2816x1024_S1408x1024_1408_0).toLoadRect (harg7.unread x5)) (View.readAt (Elt F) arg8.view (rU 0 inb_S256x5632_S256x1408_0_0).toLoadRect (harg8.unread x6)) (View.readAt (Elt F) arg8.view (rU 1408 inb_S256x5632_S256x1408_0_1408).toLoadRect (harg8.unread x6)) (View.readAt (Elt F) arg8.view (rU 2816 inb_S256x5632_S256x1408_0_2816).toLoadRect (harg8.unread x6)) (View.readAt (Elt F) arg8.view (rU 4224 inb_S256x5632_S256x1408_0_4224).toLoadRect (harg8.unread x6)) := by sl_kernel_rfl
theorem outC_7 : out0_C_7 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo10 xo11 = dX x0 x1 x2 x3 x4 := by
  unfold out0_C_7 dX
  rw [View.read_writes_junk_eq_canon, runC_7, View.canon_cons_unit_lit _ _ _ (by decide)]
  simp only [View.readAt_eq_ld]
  rw [harg4.read_unread, harg3.read_unread, harg2.read_unread, harg5.read_unread, harg6.read_unread]
theorem outC_8 : out0_C_8 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo10 xo11 = dY x0 x1 x2 x3 x4 := by
  unfold out0_C_8 dY
  rw [View.read_writes_junk_eq_canon, runC_8, View.canon_cons_unit_lit _ _ _ (by decide)]
  simp only [View.readAt_eq_ld]
  rw [harg4.read_unread, harg3.read_unread, harg2.read_unread, harg5.read_unread, harg6.read_unread]
theorem outC_12 : out0_C_12 c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 xo10 xo11 = Cert.Kernel2Ideal.Gen.out0_3 (dY x0 x1 x2 x3 x4) x5 x6 := by
  unfold out0_C_12
  rw [View.read_writes_junk_eq_canon, runC_12, View.readCov_unit_lit _ _ _ (by decide)]
  simp only [View.readAt_eq_ld]
  rw [harg4.read_unread, harg3.read_unread, harg2.read_unread, harg5.read_unread, harg6.read_unread, harg7.read_unread, harg8.read_unread]
  exact du (dY x0 x1 x2 x3 x4) x5 x6
end C

end run

end P15
-- ==== Proof.TailKernel.lean ====
/- The call resid2_loss_bwd: the gradient of the loss through the last norm and residual and the second SwiGLU layer's
   gate, at the two terms of the residual and at the layer's input projection. -/
module

public import proofs.«01_k».proof.Proof.TailRun

@[expose] public section

set_option maxRecDepth 16384

noncomputable section

namespace P15

open Cert.Kernel15Ideal Cert.Kernel15Ideal.Gen Idealize.ShloMosaic.TcCoe Idealize.SL.Sem Finset Prod Norm
open Idealize.ShloMosaic hiding ix0 ix1 ix2 ix3 ix4 ix5 eq_ix1 eq_ix2 eq_ix3 eq_ix4
open Idealize.ShloMosaic.ValueIdx
open P2 (Re both lft rgt pre both_lft both_rgt lft_eq lft_ref sgm)

/-- The residual of a block of rows, before its norm. -/
abbrev kz (P1 : Vec Ideal S1x1x1x1024 .f32) (P2 : Vec Ideal S256x1024 .bf16) (P0 : Vec Ideal S256x1024 .f32) : FVec Ideal S256x1024 .f32 :=
  addf (mulf (broadcast S256x1024 (Scalar.ofBits (F := Ideal) .f32 0x3F9837F0#32)) P0) (mulf (broadcastTo S256x1024 (k0_pay6 P1) broadcasts_S1x1024_S256x1024) (k0_pay7 P2))
/-- The error of a block of rows, times its weight and the gain. -/
abbrev kd (a b : FVec Ideal S256x1024 .f32) (g : Vec Ideal S1x1024 .f32) : FVec Ideal S256x1024 .f32 :=
  mulf (mulf (subf a b) (broadcast S256x1024 (Scalar.ofBits (F := Ideal) .f32 0x3A800000#32))) (broadcastTo S256x1024 g broadcasts_S1x1024_S256x1024)
abbrev kmn (z : FVec Ideal S256x1024 .f32) : FVec Ideal S256x1024 .f32 := broadcastTo S256x1024 (kmean reduces_S256x1024_S256 shapeCasts_S256_S256x1 z) broadcasts_S256x1_S256x1024
abbrev knm (z : FVec Ideal S256x1024 .f32) : FVec Ideal S256x1024 .f32 := knorm reduces_S256x1024_S256 shapeCasts_S256_S256x1 broadcasts_S256x1_S256x1024 z
abbrev kdv (z : FVec Ideal S256x1024 .f32) : FVec Ideal S256x1 .f32 := kdev reduces_S256x1024_S256 shapeCasts_S256_S256x1 broadcasts_S256x1_S256x1024 z

theorem pay9_eq (P1 : Vec Ideal S1x1x1x1024 .f32) (P2 : Vec Ideal S256x1024 .bf16) (P0 : Vec Ideal S256x1024 .f32) : k0_pay9 P1 P2 P0 = kdv (kz P1 P2 P0) := rfl
theorem pay10_eq (P1 : Vec Ideal S1x1x1x1024 .f32) (P2 : Vec Ideal S256x1024 .bf16) (P0 : Vec Ideal S256x1024 .f32) : k0_pay10 P1 P2 P0 = knm (kz P1 P2 P0) := rfl
theorem pay17_eq (e : FVec Ideal S256x1 .f32) (n a b : FVec Ideal S256x1024 .f32) (g : Vec Ideal S1x1024 .f32) : k0_pay17 e n a b g
    = mulf (broadcastTo S256x1024 e broadcasts_S256x1_S256x1024) (subf (subf (kd a b g) (kmn (kd a b g))) (mulf n (kmn (mulf (kd a b g) n)))) := rfl

/-- A row of the target, of a block and of the whole. -/
def tblk (x : S1x256x1024.Idx → EReal) (r k : ℕ) : EReal := if h : r < 256 ∧ k < 1024 then x (ix3 0 ⟨r, h.1⟩ ⟨k, h.2⟩) else 0
theorem tblk_at (x : S1x256x1024.Idx → EReal) (r : Fin 256) (k : Fin 1024) : x (ix3 0 r k) = tblk x r.val k.val := by
  unfold tblk; rw [dif_pos ⟨r.isLt, k.isLt⟩]
def trow (x : S4x2048x1024.Idx → EReal) (R k : ℕ) : EReal :=
  if h : R < 8192 ∧ k < 1024 then x (ix3 (⟨R / 2048, by omega⟩ : Fin 4) (⟨R % 2048, Nat.mod_lt _ (by decide)⟩ : Fin 2048) ⟨k, h.2⟩) else 0
theorem trow_at (x : S4x2048x1024.Idx → EReal) (b : Fin 4) (r : Fin 2048) (k : Fin 1024) : x (ix3 b r k) = trow x (b.val * 2048 + r.val) k.val := by
  have hb := b.isLt
  have hr := r.isLt
  unfold trow
  rw [dif_pos ⟨by omega, k.isLt⟩]
  refine congrArg x (funext fun a => Fin.ext ?_)
  match a with
  | ⟨0, _⟩ => show b.val = (b.val * 2048 + r.val) / 2048; omega
  | ⟨1, _⟩ => show r.val = (b.val * 2048 + r.val) % 2048; omega
  | ⟨2, _⟩ => rfl

section block
variable (x : Vec Ideal S256x1024 .f32) (y : Vec Ideal S256x1024 .bf16) (mo : Vec Ideal S1x1x9x1024 .f32) (gb : Vec Ideal S2x1024 .f32) (tt : Vec Ideal S1x256x1024 .f32)
  (w : Vec Ideal S2816x1024 .bf16) (u : Vec Ideal S256x5632 .bf16)

/-- A block's row before the norm; its error; the error's gradient times the gain; the gradient before the norm. -/
def bz (r : ℕ) : ℕ → EReal := resid half (tab (a := 256) (b := 1024) x r) (brow mo 8) (tab (a := 256) (b := 1024) y r)
def be (r k : ℕ) : EReal := sub (post (bz x y mo r) (tab (a := 2) (b := 1024) gb 0) (tab (a := 2) (b := 1024) gb 1) k) (tblk tt r k)
def bd (r k : ℕ) : EReal := kerr (be x y mo gb tt r k) (tab (a := 2) (b := 1024) gb 0 k)
def bk (r j : ℕ) : EReal := back (bz x y mo r) (bd x y mo gb tt r) j
def bX (r j : ℕ) : EReal := mul alpha (bk x y mo gb tt r j)
def bY (r j : ℕ) : EReal := mul (mul half (brow mo 8 j)) (bk x y mo gb tt r j)
def bP (r j : ℕ) : EReal := ∑ k ∈ range 1024, bY x y mo gb tt r k * tab (a := 2816) (b := 1024) w j k

abbrev lM := View.ld (Val := Elt Ideal) (e' := .f32) mo rM
abbrev lY := View.ld (Val := Elt Ideal) (e' := .bf16) y rR
abbrev lX := View.ld (Val := Elt Ideal) (e' := .f32) x rR
abbrev lG := View.ld (Val := Elt Ideal) (e' := .f32) gb rG
abbrev lB := View.ld (Val := Elt Ideal) (e' := .f32) gb rB
abbrev lT := View.ld (Val := Elt Ideal) (e' := .f32) tt rT

theorem gate_apply (i : S256x1024.Idx) : broadcastTo S256x1024 (k0_pay6 (lM mo)) broadcasts_S1x1024_S256x1024 i = mul half (brow mo 8 (i 1).val) := by
  refine (row_apply _ _ i).trans (congrArg (FloatOps.mulf (F := Ideal) (φ := .f32) half) ?_)
  exact (mod_apply mo _ _ (by decide) _).trans (brow_at mo 8 (i 1))
theorem kz_apply (i : S256x1024.Idx) : kz (lM mo) (lY y) (lX x) i = bz x y mo (i 0).val (i 1).val := by
  unfold lY lX rR
  rw [View.ld_unit_lit _ y (by decide), View.ld_unit_lit _ x (by decide)]
  exact congrArg₂ (FloatOps.addf (F := Ideal) (φ := .f32)) (congrArg ((FloatOps.mulf (F := Ideal) (φ := .f32)) alpha) (tab_at (a := 256) (b := 1024) x i)) (congrArg₂ (FloatOps.mulf (F := Ideal) (φ := .f32)) (gate_apply mo i) (tab_at (a := 256) (b := 1024) y i))
theorem gain_apply (i : S256x1024.Idx) : broadcastTo S256x1024 (lG gb) broadcasts_S1x1024_S256x1024 i = tab (a := 2) (b := 1024) gb 0 (i 1).val :=
  ((row_apply _ _ i).trans (pair_apply gb _ (by decide) _)).trans (tab_ix (a := 2) (b := 1024) gb 0 (i 1))
theorem bias_apply (i : S256x1024.Idx) : broadcastTo S256x1024 (lB gb) broadcasts_S1x1024_S256x1024 i = tab (a := 2) (b := 1024) gb 1 (i 1).val :=
  ((row_apply _ _ i).trans (pair_apply gb _ (by decide) _)).trans (tab_ix (a := 2) (b := 1024) gb 1 (i 1))
theorem pay11 (i : S256x1024.Idx) : k0_pay11 (lM mo) (lY y) (lX x) (lG gb) (lB gb) i = post (bz x y mo (i 0).val) (tab (a := 2) (b := 1024) gb 0) (tab (a := 2) (b := 1024) gb 1) (i 1).val :=
  congrArg₂ (FloatOps.addf (F := Ideal) (φ := .f32)) (congrArg₂ (FloatOps.mulf (F := Ideal) (φ := .f32)) (knorm_apply _ _ _ _ (bz x y mo) (kz_apply x y mo) i) (gain_apply gb i)) (bias_apply gb i)
theorem pay12 (i : S256x1024.Idx) : k0_pay12 (lT tt) i = tblk tt (i 0).val (i 1).val := by
  unfold lT rT
  rw [View.ld_unit_lit _ tt (by decide)]
  refine (shapeCast_apply _ shapeCasts_S1x256x1024_S256x1024 i (ix3 0 (i 0) (i 1)) (by
    rw [Shape.rowMajor_val_three, Shape.rowMajor_val_two]
    show (0 * 256 + (i 0).val) * 1024 + (i 1).val = (i 0).val * 1024 + (i 1).val
    omega)).trans (tblk_at tt (i 0) (i 1))
theorem kd_apply (i : S256x1024.Idx) : kd (k0_pay11 (lM mo) (lY y) (lX x) (lG gb) (lB gb)) (k0_pay12 (lT tt)) (lG gb) i = bd x y mo gb tt (i 0).val (i 1).val :=
  congrArg₂ (FloatOps.mulf (F := Ideal) (φ := .f32)) (congrArg (fun e => (FloatOps.mulf (F := Ideal) (φ := .f32)) e part) (congrArg₂ (FloatOps.subf (F := Ideal) (φ := .f32)) (pay11 x y mo gb i) (pay12 tt i))) (gain_apply gb i)
theorem pay17 (i : S256x1024.Idx) : k0_pay17 (k0_pay9 (lM mo) (lY y) (lX x)) (k0_pay10 (lM mo) (lY y) (lX x)) (k0_pay11 (lM mo) (lY y) (lX x) (lG gb) (lB gb)) (k0_pay12 (lT tt)) (lG gb) i
    = bk x y mo gb tt (i 0).val (i 1).val := by
  rw [pay17_eq, pay9_eq, pay10_eq]
  have hn (i : S256x1024.Idx) : knm (kz (lM mo) (lY y) (lX x)) i = nrm (bz x y mo (i 0).val) (i 1).val := knorm_apply _ _ _ _ (bz x y mo) (kz_apply x y mo) i
  exact congrArg₂ (FloatOps.mulf (F := Ideal) (φ := .f32)) ((col_apply _ _ i).trans (kdev_apply _ _ _ _ (bz x y mo) (kz_apply x y mo) _))
    (congrArg₂ (FloatOps.subf (F := Ideal) (φ := .f32)) (congrArg₂ (FloatOps.subf (F := Ideal) (φ := .f32)) (kd_apply x y mo gb tt i) ((col_apply _ _ i).trans (kmean_apply _ _ _ (bd x y mo gb tt) (kd_apply x y mo gb tt) _)))
      (congrArg₂ (FloatOps.mulf (F := Ideal) (φ := .f32)) (hn i) ((col_apply _ _ i).trans (kmean_apply _ _ _ (fun r k => mul (bd x y mo gb tt r k) (nrm (bz x y mo r) k)) (fun i => congrArg₂ (FloatOps.mulf (F := Ideal) (φ := .f32)) (kd_apply x y mo gb tt i) (hn i)) _))))
theorem dX_apply (i : S256x1024.Idx) : dX x y mo gb tt i = bX x y mo gb tt (i 0).val (i 1).val :=
  congrArg ((FloatOps.mulf (F := Ideal) (φ := .f32)) alpha) (pay17 x y mo gb tt i)
theorem dY_apply (i : S256x1024.Idx) : dY x y mo gb tt i = bY x y mo gb tt (i 0).val (i 1).val :=
  congrArg₂ (FloatOps.mulf (F := Ideal) (φ := .f32)) (gate_apply mo i) (pay17 x y mo gb tt i)
theorem pre_eq (r j : ℕ) (hr : r < 256) : pre (dY x y mo gb tt) w r j = bP x y mo gb tt w r j :=
  sum_congr rfl fun k hk => congrArg (· * tab (a := 2816) (b := 1024) w j k) ((tab_mk (a := 256) (b := 1024) _ r k hr (mem_range.1 hk)).trans (dY_apply x y mo gb tt _))
theorem both_congr {d d' v v' : ℕ → ℕ → EReal} {r r' j : ℕ} (hj : j < 5632) (hd : ∀ j, d r j = d' r' j) (hv : ∀ j, j < 5632 → v r j = v' r' j) : both d v r j = both d' v' r' j := by
  unfold both
  split
  · exact lft_eq (hd _) (hv _ hj) (hv _ (by omega))
  · exact congrArg₂ rgt (hd _) (hv _ (by omega))
theorem du_apply (i : S256x5632.Idx) : Cert.Kernel2Ideal.Gen.out0_3 (dY x y mo gb tt) w u i = both (bP x y mo gb tt w) (tab (a := 256) (b := 5632) u) (i 0).val (i 1).val :=
  (P2.out (dY x y mo gb tt) w u i).trans (both_congr (i 1).isLt (fun j => pre_eq x y mo gb tt w _ j (i 0).isLt) fun j _ => rfl)
end block

/-! The whole arrays, row by row. -/
section whole
variable (x : S8192x1024.Idx → EReal) (y : S8192x1024.Idx → EReal) (mo : S4x2x9x1024.Idx → EReal) (gb : S2x1024.Idx → EReal) (tt : S4x2048x1024.Idx → EReal) (w : S2816x1024.Idx → EReal)
def gz (R : ℕ) : ℕ → EReal := resid half (tab (a := 8192) (b := 1024) x R) (mrow mo 8 (R / 2048)) (tab (a := 8192) (b := 1024) y R)
def ge (R k : ℕ) : EReal := sub (post (gz x y mo R) (tab (a := 2) (b := 1024) gb 0) (tab (a := 2) (b := 1024) gb 1) k) (trow tt R k)
def gd (R k : ℕ) : EReal := kerr (ge x y mo gb tt R k) (tab (a := 2) (b := 1024) gb 0 k)
def gk (R j : ℕ) : EReal := back (gz x y mo R) (gd x y mo gb tt R) j
def gX (R j : ℕ) : EReal := mul alpha (gk x y mo gb tt R j)
def gY (R j : ℕ) : EReal := mul (mul half (mrow mo 8 (R / 2048) j)) (gk x y mo gb tt R j)
def gP (R j : ℕ) : EReal := ∑ k ∈ range 1024, gY x y mo gb tt R k * tab (a := 2816) (b := 1024) w j k
end whole

theorem idx : ∀ t : Fin cfg0.N, win0_0.index t = ![t.val, 0] ∧ win0_1.index t = ![t.val, 0] ∧ win0_2.index t = ![t.val / 8, 1, 0, 0] ∧ win0_3.index t = ![0, 0] ∧ win0_4.index t = ![t.val / 8, t.val % 8, 0] ∧ win0_5.index t = ![0, 0] ∧ win0_6.index t = ![t.val, 0] ∧ win0_7.index t = ![t.val, 0] ∧ win0_8.index t = ![t.val, 0] ∧ win0_12.index t = ![t.val, 0] :=
  (by decide +kernel : ∀ t : Fin grid0.N, win0_0.index t = ![t.val, 0] ∧ win0_1.index t = ![t.val, 0] ∧ win0_2.index t = ![t.val / 8, 1, 0, 0] ∧ win0_3.index t = ![0, 0] ∧ win0_4.index t = ![t.val / 8, t.val % 8, 0] ∧ win0_5.index t = ![0, 0] ∧ win0_6.index t = ![t.val, 0] ∧ win0_7.index t = ![t.val, 0] ∧ win0_8.index t = ![t.val, 0] ∧ win0_12.index t = ![t.val, 0])
theorem lt (t : Fin cfg0.N) : t.val < 32 := lt_of_lt_of_eq t.isLt N_0

variable (m : (ℓ : Loc nD τ sig) → Buf (Elt Ideal) ℓ) (c : Dev nD) (t : Fin cfg0.N)

abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)
abbrev X5 := m ((c : Thread nD τ).loc main_arg5)
abbrev X6 := m ((c : Thread nD τ).loc main_arg6)
theorem blk0 (i k : ℕ) (hi : i < 256) (hk : k < 1024) : tab (a := 256) (b := 1024) (iblk m c 0 t : Vec Ideal S256x1024 .f32) i k = tab (a := 8192) (b := 1024) (X0 m c) (t.val * 256 + i) k := by
  have := lt t
  refine (tab_mk _ _ _ hi hk).trans ?_
  refine Eq.trans ?_ (tab_mk (a := 8192) (b := 1024) _ _ _ (by omega) hk).symm
  refine Eq.trans ?_ (congrFun (V_main_arg0 m c) _)
  blk_ext [iblk, (idx t).1]
theorem blk1 (i k : ℕ) (hi : i < 256) (hk : k < 1024) : tab (a := 256) (b := 1024) (iblk m c 1 t : Vec Ideal S256x1024 .bf16) i k = tab (a := 8192) (b := 1024) (X1 m c) (t.val * 256 + i) k := by
  have := lt t
  refine (tab_mk _ _ _ hi hk).trans ?_
  refine Eq.trans ?_ (tab_mk (a := 8192) (b := 1024) _ _ _ (by omega) hk).symm
  refine Eq.trans ?_ (congrFun (V_main_arg1 m c) _)
  blk_ext [iblk, (idx t).2.1]
theorem blk6 (i k : ℕ) (hi : i < 256) (hk : k < 5632) : tab (a := 256) (b := 5632) (iblk m c 6 t : Vec Ideal S256x5632 .bf16) i k = tab (a := 8192) (b := 5632) (X6 m c) (t.val * 256 + i) k := by
  have := lt t
  refine (tab_mk _ _ _ hi hk).trans ?_
  refine Eq.trans ?_ (tab_mk (a := 8192) (b := 5632) _ _ _ (by omega) hk).symm
  refine Eq.trans ?_ (congrFun (V_main_arg6 m c) _)
  blk_ext [iblk, (idx t).2.2.2.2.2.2.1]
theorem blk3 (i k : ℕ) : tab (a := 2) (b := 1024) (iblk m c 3 t : Vec Ideal S2x1024 .f32) i k = tab (a := 2) (b := 1024) (X3 m c) i k := by
  refine congrArg (fun w => tab (a := 2) (b := 1024) w i k) (funext fun i => ?_)
  refine Eq.trans ?_ (congrFun (V_main_arg3 m c) _)
  blk_ext [iblk, (idx t).2.2.2.1]
theorem blk5 (i k : ℕ) : tab (a := 2816) (b := 1024) (iblk m c 5 t : Vec Ideal S2816x1024 .bf16) i k = tab (a := 2816) (b := 1024) (X5 m c) i k := by
  refine congrArg (fun w => tab (a := 2816) (b := 1024) w i k) (funext fun i => ?_)
  refine Eq.trans ?_ (congrFun (V_main_arg5 m c) _)
  blk_ext [iblk, (idx t).2.2.2.2.2.1]
theorem blk2 (p : Fin 9) (i k : ℕ) (hi : i < 256) (hk : k < 1024) : brow (iblk m c 2 t : Vec Ideal S1x1x9x1024 .f32) p k = mrow (X2 m c) p ((t.val * 256 + i) / 2048) k := by
  have := lt t
  have e : (t.val * 256 + i) / 2048 = t.val / 8 := by omega
  rw [e]
  refine (brow_at _ p ⟨k, hk⟩).symm.trans ?_
  refine Eq.trans ?_ (mrow_at (X2 m c) p ⟨t.val / 8, by omega⟩ ⟨k, hk⟩)
  refine Eq.trans ?_ (congrFun (V_main_arg2 m c) _)
  blk_ext [iblk, (idx t).2.2.1]
theorem blk4 (i k : ℕ) (hi : i < 256) (hk : k < 1024) : tblk (iblk m c 4 t : Vec Ideal S1x256x1024 .f32) i k = trow (X4 m c) (t.val * 256 + i) k := by
  have := lt t
  have e : t.val * 256 + i = t.val / 8 * 2048 + (t.val % 8 * 256 + i) := by omega
  rw [e]
  refine (tblk_at _ ⟨i, hi⟩ ⟨k, hk⟩).symm.trans ?_
  refine Eq.trans ?_ (trow_at (X4 m c) ⟨t.val / 8, by omega⟩ ⟨t.val % 8 * 256 + i, by omega⟩ ⟨k, hk⟩)
  refine Eq.trans ?_ (congrFun (V_main_arg4 m c) _)
  blk_ext [iblk, (idx t).2.2.2.2.1]

theorem bk_blk (i j : ℕ) (hi : i < 256) (hj : j < 1024) : bk (iblk m c 0 t) (iblk m c 1 t) (iblk m c 2 t) (iblk m c 3 t) (iblk m c 4 t) i j = gk (X0 m c) (X1 m c) (X2 m c) (X3 m c) (X4 m c) (t.val * 256 + i) j :=
  have hz (k : ℕ) (hk : k < 1024) : bz (iblk m c 0 t) (iblk m c 1 t) (iblk m c 2 t) i k = gz (X0 m c) (X1 m c) (X2 m c) (t.val * 256 + i) k :=
    resid_congr (blk0 m c t i k hi hk) (blk2 m c t 8 i k hi hk) (blk1 m c t i k hi hk)
  back_congr hz (fun k hk => congrArg₂ kerr (congrArg₂ (FloatOps.subf (F := Ideal) (φ := .f32)) (post_congr hz hk (blk3 m c t 0 k) (blk3 m c t 1 k)) (blk4 m c t i k hi hk)) (blk3 m c t 0 k)) j hj
theorem bX_blk (i j : ℕ) (hi : i < 256) (hj : j < 1024) : bX (iblk m c 0 t) (iblk m c 1 t) (iblk m c 2 t) (iblk m c 3 t) (iblk m c 4 t) i j = gX (X0 m c) (X1 m c) (X2 m c) (X3 m c) (X4 m c) (t.val * 256 + i) j :=
  congrArg ((FloatOps.mulf (F := Ideal) (φ := .f32)) alpha) (bk_blk m c t i j hi hj)
theorem bY_blk (i j : ℕ) (hi : i < 256) (hj : j < 1024) : bY (iblk m c 0 t) (iblk m c 1 t) (iblk m c 2 t) (iblk m c 3 t) (iblk m c 4 t) i j = gY (X0 m c) (X1 m c) (X2 m c) (X3 m c) (X4 m c) (t.val * 256 + i) j :=
  congrArg₂ (FloatOps.mulf (F := Ideal) (φ := .f32)) (congrArg ((FloatOps.mulf (F := Ideal) (φ := .f32)) half) (blk2 m c t 8 i j hi hj)) (bk_blk m c t i j hi hj)
theorem bP_blk (i j : ℕ) (hi : i < 256) : bP (iblk m c 0 t) (iblk m c 1 t) (iblk m c 2 t) (iblk m c 3 t) (iblk m c 4 t) (iblk m c 5 t) i j = gP (X0 m c) (X1 m c) (X2 m c) (X3 m c) (X4 m c) (X5 m c) (t.val * 256 + i) j :=
  sum_congr rfl fun k hk => congrArg₂ (fun a b : EReal => a * b) (bY_blk m c t i k hi (mem_range.1 hk)) (blk5 m c t j k)

end P15

end
-- ==== Proof.TailArr.lean ====
/- The arrays the call leaves: each grid point writes its blocks, whichever way it came to its three sums. -/
module

public import proofs.«01_k».proof.Proof.TailKernel

@[expose] public section

set_option maxRecDepth 16384

noncomputable section

namespace P15

open Cert.Kernel15Ideal Cert.Kernel15Ideal.Gen Idealize.ShloMosaic.TcCoe Idealize.SL.Sem Finset Prod Norm
open Idealize.ShloMosaic hiding ix0 ix1 ix2 ix3 ix4 ix5 eq_ix1 eq_ix2 eq_ix3 eq_ix4
open Idealize.ShloMosaic.ValueIdx
open P2 (Re both lft rgt pre both_lft both_rgt lft_eq lft_ref sgm)

variable (m : (ℓ : Loc nD τ sig) → Buf (Elt Ideal) ℓ) (c : Dev nD) (t : Fin cfg0.N)

theorem fst_of {α β : Type} {p : α × β} {a : α} {b : β} (h : p = (a, b)) : p.1 = a := congrArg Prod.fst h
theorem snd_of {α β : Type} {p : α × β} {a : α} {b : β} (h : p = (a, b)) : p.2 = b := congrArg Prod.snd h

theorem outsA_7 (h0 : t.val % 32 = 0) (h2 : t.val % 8 = 0) : (outsAt0 m c t.val t.isLt).1 = dX (iblk m c 0 t) (iblk m c 1 t) (iblk m c 2 t) (iblk m c 3 t) (iblk m c 4 t) :=
  (fst_of (outsAt0_A m c t h0 h0 h2)).trans (outA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) ((hcond0_1 t).mpr h0) ((hcond0_2 t).mpr h2) (iblk m c 0 t) (iblk m c 1 t) (iblk m c 2 t) (iblk m c 3 t) (iblk m c 4 t) (iblk m c 5 t) (iblk m c 6 t))
theorem outsA_8 (h0 : t.val % 32 = 0) (h2 : t.val % 8 = 0) : (outsAt0 m c t.val t.isLt).2.1 = dY (iblk m c 0 t) (iblk m c 1 t) (iblk m c 2 t) (iblk m c 3 t) (iblk m c 4 t) :=
  (fst_of (snd_of (outsAt0_A m c t h0 h0 h2))).trans (outA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) ((hcond0_1 t).mpr h0) ((hcond0_2 t).mpr h2) (iblk m c 0 t) (iblk m c 1 t) (iblk m c 2 t) (iblk m c 3 t) (iblk m c 4 t) (iblk m c 5 t) (iblk m c 6 t))
theorem outsA_12 (h0 : t.val % 32 = 0) (h2 : t.val % 8 = 0) : (outsAt0 m c t.val t.isLt).2.2.2.2.2 = Cert.Kernel2Ideal.Gen.out0_3 (F := Ideal) (dY (iblk m c 0 t) (iblk m c 1 t) (iblk m c 2 t) (iblk m c 3 t) (iblk m c 4 t)) (iblk m c 5 t) (iblk m c 6 t) :=
  (snd_of (snd_of (snd_of (snd_of (snd_of (outsAt0_A m c t h0 h0 h2)))))).trans (outA_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) ((hcond0_1 t).mpr h0) ((hcond0_2 t).mpr h2) (iblk m c 0 t) (iblk m c 1 t) (iblk m c 2 t) (iblk m c 3 t) (iblk m c 4 t) (iblk m c 5 t) (iblk m c 6 t))
theorem outsB_7 (h0 : ¬ t.val % 32 = 0) (h2 : ¬ t.val % 8 = 0) : (outsAt0 m c t.val t.isLt).1 = dX (iblk m c 0 t) (iblk m c 1 t) (iblk m c 2 t) (iblk m c 3 t) (iblk m c 4 t) :=
  (fst_of (outsAt0_B m c t h0 h0 h2)).trans (outB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (fun h => h0 ((hcond0_1 t).mp h)) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1)
theorem outsB_8 (h0 : ¬ t.val % 32 = 0) (h2 : ¬ t.val % 8 = 0) : (outsAt0 m c t.val t.isLt).2.1 = dY (iblk m c 0 t) (iblk m c 1 t) (iblk m c 2 t) (iblk m c 3 t) (iblk m c 4 t) :=
  (fst_of (snd_of (outsAt0_B m c t h0 h0 h2))).trans (outB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (fun h => h0 ((hcond0_1 t).mp h)) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1)
theorem outsB_12 (h0 : ¬ t.val % 32 = 0) (h2 : ¬ t.val % 8 = 0) : (outsAt0 m c t.val t.isLt).2.2.2.2.2 = Cert.Kernel2Ideal.Gen.out0_3 (F := Ideal) (dY (iblk m c 0 t) (iblk m c 1 t) (iblk m c 2 t) (iblk m c 3 t) (iblk m c 4 t)) (iblk m c 5 t) (iblk m c 6 t) :=
  (snd_of (snd_of (snd_of (snd_of (snd_of (outsAt0_B m c t h0 h0 h2)))))).trans (outB_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (fun h => h0 ((hcond0_1 t).mp h)) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1)
theorem outsC_7 (h0 : ¬ t.val % 32 = 0) (h2 : t.val % 8 = 0) : (outsAt0 m c t.val t.isLt).1 = dX (iblk m c 0 t) (iblk m c 1 t) (iblk m c 2 t) (iblk m c 3 t) (iblk m c 4 t) :=
  (fst_of (outsAt0_C m c t h0 h0 h2)).trans (outC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (fun h => h0 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1)
theorem outsC_8 (h0 : ¬ t.val % 32 = 0) (h2 : t.val % 8 = 0) : (outsAt0 m c t.val t.isLt).2.1 = dY (iblk m c 0 t) (iblk m c 1 t) (iblk m c 2 t) (iblk m c 3 t) (iblk m c 4 t) :=
  (fst_of (snd_of (outsAt0_C m c t h0 h0 h2))).trans (outC_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (fun h => h0 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1)
theorem outsC_12 (h0 : ¬ t.val % 32 = 0) (h2 : t.val % 8 = 0) : (outsAt0 m c t.val t.isLt).2.2.2.2.2 = Cert.Kernel2Ideal.Gen.out0_3 (F := Ideal) (dY (iblk m c 0 t) (iblk m c 1 t) (iblk m c 2 t) (iblk m c 3 t) (iblk m c 4 t)) (iblk m c 5 t) (iblk m c 6 t) :=
  (snd_of (snd_of (snd_of (snd_of (snd_of (outsAt0_C m c t h0 h0 h2)))))).trans (outC_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (fun h => h0 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1)
theorem outs_7 : (outsAt0 m c t.val t.isLt).1 = dX (iblk m c 0 t) (iblk m c 1 t) (iblk m c 2 t) (iblk m c 3 t) (iblk m c 4 t) := by
  by_cases h2 : t.val % 8 = 0
  · by_cases h0 : t.val % 32 = 0
    · exact outsA_7 m c t h0 h2
    · exact outsC_7 m c t h0 h2
  · exact outsB_7 m c t (by omega) h2
theorem outs_8 : (outsAt0 m c t.val t.isLt).2.1 = dY (iblk m c 0 t) (iblk m c 1 t) (iblk m c 2 t) (iblk m c 3 t) (iblk m c 4 t) := by
  by_cases h2 : t.val % 8 = 0
  · by_cases h0 : t.val % 32 = 0
    · exact outsA_8 m c t h0 h2
    · exact outsC_8 m c t h0 h2
  · exact outsB_8 m c t (by omega) h2
theorem outs_12 : (outsAt0 m c t.val t.isLt).2.2.2.2.2 = Cert.Kernel2Ideal.Gen.out0_3 (F := Ideal) (dY (iblk m c 0 t) (iblk m c 1 t) (iblk m c 2 t) (iblk m c 3 t) (iblk m c 4 t)) (iblk m c 5 t) (iblk m c 6 t) := by
  by_cases h2 : t.val % 8 = 0
  · by_cases h0 : t.val % 32 = 0
    · exact outsA_12 m c t h0 h2
    · exact outsC_12 m c t h0 h2
  · exact outsB_12 m c t (by omega) h2
theorem arr7 : (dats m 0 c).arrAt 7 cfg0.N = fun i : S8192x1024.Idx => gX (X0 m c) (X1 m c) (X2 m c) (X3 m c) (X4 m c) (i 0).val (i 1).val := by
  refine (dats m 0 c).arrAt_eq_of_covers 7 _ (by decide +kernel) fun t hf y => ?_
  blk_simp
  rw [after0_7]
  have e0 : win0_7.index t 0 = t.val := congrFun (idx t).2.2.2.2.2.2.2.1 0
  have e1 : win0_7.index t 1 = 0 := congrFun (idx t).2.2.2.2.2.2.2.1 1
  refine (congrFun (outs_7 m c t) y).trans ((dX_apply (iblk m c 0 t) (iblk m c 1 t) (iblk m c 2 t) (iblk m c 3 t) (iblk m c 4 t) y).trans ?_)
  rw [e0, e1, Nat.zero_mul, Nat.zero_add]
  exact bX_blk m c t _ _ (y 0).isLt (y 1).isLt
theorem arr8 : (dats m 0 c).arrAt 8 cfg0.N = fun i : S8192x1024.Idx => gY (X0 m c) (X1 m c) (X2 m c) (X3 m c) (X4 m c) (i 0).val (i 1).val := by
  refine (dats m 0 c).arrAt_eq_of_covers 8 _ (by decide +kernel) fun t hf y => ?_
  blk_simp
  rw [after0_8]
  have e0 : win0_8.index t 0 = t.val := congrFun (idx t).2.2.2.2.2.2.2.2.1 0
  have e1 : win0_8.index t 1 = 0 := congrFun (idx t).2.2.2.2.2.2.2.2.1 1
  refine (congrFun (outs_8 m c t) y).trans ((dY_apply (iblk m c 0 t) (iblk m c 1 t) (iblk m c 2 t) (iblk m c 3 t) (iblk m c 4 t) y).trans ?_)
  rw [e0, e1, Nat.zero_mul, Nat.zero_add]
  exact bY_blk m c t _ _ (y 0).isLt (y 1).isLt
theorem arr12 : (dats m 0 c).arrAt 12 cfg0.N = fun i : S8192x5632.Idx => both (gP (X0 m c) (X1 m c) (X2 m c) (X3 m c) (X4 m c) (X5 m c)) (tab (a := 8192) (b := 5632) (X6 m c)) (i 0).val (i 1).val := by
  refine (dats m 0 c).arrAt_eq_of_covers 12 _ (by decide +kernel) fun t hf y => ?_
  blk_simp
  rw [after0_12]
  have e0 : win0_12.index t 0 = t.val := congrFun (idx t).2.2.2.2.2.2.2.2.2 0
  have e1 : win0_12.index t 1 = 0 := congrFun (idx t).2.2.2.2.2.2.2.2.2 1
  refine (congrFun (outs_12 m c t) y).trans ((du_apply (iblk m c 0 t) (iblk m c 1 t) (iblk m c 2 t) (iblk m c 3 t) (iblk m c 4 t) (iblk m c 5 t) (iblk m c 6 t) y).trans ?_)
  rw [e0, e1, Nat.zero_mul, Nat.zero_add]
  exact both_congr (y 1).isLt (fun j => bP_blk m c t _ j (y 0).isLt) fun j hj => blk6 m c t _ j (y 0).isLt hj

end P15

end
-- ==== Proof.Tail.lean ====
/- The call resid2_loss_bwd: the gradient of the loss through the last norm and residual and the second SwiGLU layer's
   gate, at the two terms of the residual and at the layer's input projection, against its reference. -/
module

public import proofs.«01_k».proof.Defs
public import proofs.«01_k».proof.Proof.TailArr
public import proofs.«01_k».proof.Proof.Gen.Reference15Ideal.Run
public import proofs.«01_k».proof.Proof.Gen.Reference15Ideal.Read

@[expose] public section

set_option maxRecDepth 16384

noncomputable section

namespace P15

open Cert.Kernel15Ideal Cert.Kernel15Ideal.Gen Idealize.ShloMosaic.TcCoe Idealize.SL.Sem Finset Prod Norm
open Idealize.ShloMosaic hiding ix0 ix1 ix2 ix3 ix4 ix5 eq_ix1 eq_ix2 eq_ix3 eq_ix4
open Idealize.ShloMosaic.ValueIdx
open P2 (Re both lft rgt both_lft both_rgt lft_ref sgm)

section
variable (x0 : (⟨S8192x1024, .f32⟩ : BufTy).Contents (Elt Ideal)) (x1 : (⟨S8192x1024, .bf16⟩ : BufTy).Contents (Elt Ideal))
  (x2 : (⟨S4x2x9x1024, .f32⟩ : BufTy).Contents (Elt Ideal)) (x3 : (⟨S2x1024, .f32⟩ : BufTy).Contents (Elt Ideal)) (x4 : (⟨S4x2048x1024, .f32⟩ : BufTy).Contents (Elt Ideal))
  (x5 : (⟨S2816x1024, .bf16⟩ : BufTy).Contents (Elt Ideal)) (x6 : (⟨S8192x5632, .bf16⟩ : BufTy).Contents (Elt Ideal))

/-- The error's gradient times the gain, as differentiation makes it. -/
def hd (R k : ℕ) : EReal := rerr (ge x0 x1 x2 x3 x4 R k) (tab (a := 2) (b := 1024) x3 0 k)

theorem ref14 (i : Cert.Reference15Ideal.S4x2048x1024.Idx) : Cert.Reference15Ideal.Read.val_main_v14 (F := Ideal) x2 i = mul half (mrow x2 8 (i 0).val (i 2).val) := by
  rw [Cert.Reference15Ideal.Read.val_main_v14_apply, Cert.Reference15Ideal.Read.val_main_v13_apply, Cert.Reference15Ideal.Read.val_main_v11_apply, Cert.Reference15Ideal.Read.val_main_v4_apply, Cert.Reference15Ideal.Read.val_main_v3_apply]
  refine congrArg (FloatOps.mulf (F := Ideal) (φ := .f32) half) (Eq.trans ?_ (mrow_at x2 8 (i 0) (i 2)))
  have h0 : (i 0).val < 4 := (i 0).isLt
  have h2 : (i 2).val < 1024 := (i 2).isLt
  refine congrArg x2 (funext fun a => Fin.ext ?_)
  match a with
  | ⟨0, _⟩ => show ((i 0).val * 1024 + (i 2).val) / 1024 = (i 0).val; omega
  | ⟨1, _⟩ => rfl
  | ⟨2, _⟩ => rfl
  | ⟨3, _⟩ => show ((i 0).val * 1024 + (i 2).val) % 1024 = (i 2).val; omega
theorem ref87 (i : Cert.Reference15Ideal.S4x2048x1024.Idx) : Cert.Reference15Ideal.Read.val_main_v87 (F := Ideal) x2 i = mul half (mrow x2 8 (i 0).val (i 2).val) := by
  rw [Cert.Reference15Ideal.Read.val_main_v87_apply, Cert.Reference15Ideal.Read.val_main_v13_apply, Cert.Reference15Ideal.Read.val_main_v11_apply, Cert.Reference15Ideal.Read.val_main_v4_apply, Cert.Reference15Ideal.Read.val_main_v3_apply]
  refine congrArg (FloatOps.mulf (F := Ideal) (φ := .f32) half) (Eq.trans ?_ (mrow_at x2 8 (i 0) (i 2)))
  have h0 : (i 0).val < 4 := (i 0).isLt
  have h2 : (i 2).val < 1024 := (i 2).isLt
  refine congrArg x2 (funext fun a => Fin.ext ?_)
  match a with
  | ⟨0, _⟩ => show ((i 0).val * 1024 + (i 2).val) / 1024 = (i 0).val; omega
  | ⟨1, _⟩ => rfl
  | ⟨2, _⟩ => rfl
  | ⟨3, _⟩ => show ((i 0).val * 1024 + (i 2).val) % 1024 = (i 2).val; omega
theorem ref41 (i : Cert.Reference15Ideal.S4x2048x1024.Idx) : Cert.Reference15Ideal.Read.val_main_v41 (F := Ideal) x3 i = tab (a := 2) (b := 1024) x3 0 (i 2).val := by
  rw [Cert.Reference15Ideal.Read.val_main_v41_apply, Cert.Reference15Ideal.Read.val_main_v40_apply, Cert.Reference15Ideal.Read.val_main_v6_apply, Cert.Reference15Ideal.Read.val_main_v5_apply]
  refine Eq.trans (congrArg x3 (funext fun a => Fin.ext ?_)) (tab_ix (a := 2) (b := 1024) x3 0 (i 2))
  match a with
  | ⟨0, _⟩ => rfl
  | ⟨1, _⟩ => exact Nat.mod_eq_of_lt (i 2).isLt
theorem ref61 (i : Cert.Reference15Ideal.S4x2048x1024.Idx) : Cert.Reference15Ideal.Read.val_main_v61 (F := Ideal) x3 i = tab (a := 2) (b := 1024) x3 0 (i 2).val := by
  rw [Cert.Reference15Ideal.Read.val_main_v61_apply, Cert.Reference15Ideal.Read.val_main_v40_apply, Cert.Reference15Ideal.Read.val_main_v6_apply, Cert.Reference15Ideal.Read.val_main_v5_apply]
  refine Eq.trans (congrArg x3 (funext fun a => Fin.ext ?_)) (tab_ix (a := 2) (b := 1024) x3 0 (i 2))
  match a with
  | ⟨0, _⟩ => rfl
  | ⟨1, _⟩ => exact Nat.mod_eq_of_lt (i 2).isLt
theorem ref44 (i : Cert.Reference15Ideal.S4x2048x1024.Idx) : Cert.Reference15Ideal.Read.val_main_v44 (F := Ideal) x3 i = tab (a := 2) (b := 1024) x3 1 (i 2).val := by
  rw [Cert.Reference15Ideal.Read.val_main_v44_apply, Cert.Reference15Ideal.Read.val_main_v43_apply, Cert.Reference15Ideal.Read.val_main_v8_apply, Cert.Reference15Ideal.Read.val_main_v7_apply]
  refine Eq.trans (congrArg x3 (funext fun a => Fin.ext ?_)) (tab_ix (a := 2) (b := 1024) x3 1 (i 2))
  match a with
  | ⟨0, _⟩ => rfl
  | ⟨1, _⟩ => exact Nat.mod_eq_of_lt (i 2).isLt
theorem ref0 (i : Cert.Reference15Ideal.S4x2048x1024.Idx) : Cert.Reference15Ideal.Read.val_main_v0 (F := Ideal) x0 i = tab (a := 8192) (b := 1024) x0 ((i 0).val * 2048 + (i 1).val) (i 2).val := by
  rw [Cert.Reference15Ideal.Read.val_main_v0_apply]
  have h2 : (i 2).val < 1024 := (i 2).isLt
  refine (tab_at (a := 8192) (b := 1024) x0 _).trans (congrArg₂ (tab (a := 8192) (b := 1024) x0) ?_ ?_)
  · show (((i 0).val * 2048 + (i 1).val) * 1024 + (i 2).val) / 1024 = _; omega
  · show (((i 0).val * 2048 + (i 1).val) * 1024 + (i 2).val) % 1024 = _; omega
theorem ref2 (i : Cert.Reference15Ideal.S4x2048x1024.Idx) : Cert.Reference15Ideal.Read.val_main_v2 (F := Ideal) x1 i = tab (a := 8192) (b := 1024) x1 ((i 0).val * 2048 + (i 1).val) (i 2).val := by
  rw [Cert.Reference15Ideal.Read.val_main_v2_apply, Cert.Reference15Ideal.Read.val_main_v1_apply]
  have h2 : (i 2).val < 1024 := (i 2).isLt
  refine (tab_at (a := 8192) (b := 1024) x1 _).trans (congrArg₂ (tab (a := 8192) (b := 1024) x1) ?_ ?_)
  · show (((i 0).val * 2048 + (i 1).val) * 1024 + (i 2).val) / 1024 = _; omega
  · show (((i 0).val * 2048 + (i 1).val) * 1024 + (i 2).val) % 1024 = _; omega
theorem seq (i : Cert.Reference15Ideal.S4x2048x1024.Idx) : ((i 0).val * 2048 + (i 1).val) / 2048 = (i 0).val := by
  have h1 : (i 1).val < 2048 := (i 1).isLt
  omega
theorem part0 (i : Cert.Reference15Ideal.S4x2048x1.Idx) : (((i 0).val * 2048 + (i 1).val) * 1 + (i 2).val) / 2048 = (i 0).val := by
  have h1 : (i 1).val < 2048 := (i 1).isLt
  have h2 : (i 2).val < 1 := (i 2).isLt
  omega
theorem part1 (i : Cert.Reference15Ideal.S4x2048x1.Idx) : (((i 0).val * 2048 + (i 1).val) * 1 + (i 2).val) % 2048 = (i 1).val := by
  have h1 : (i 1).val < 2048 := (i 1).isLt
  have h2 : (i 2).val < 1 := (i 2).isLt
  omega
theorem ref16 (i : Cert.Reference15Ideal.S4x2048x1024.Idx) : Cert.Reference15Ideal.Read.val_main_v16 (F := Ideal) x0 x1 x2 i = gz x0 x1 x2 ((i 0).val * 2048 + (i 1).val) (i 2).val := by
  unfold gz resid
  rw [Cert.Reference15Ideal.Read.val_main_v16_apply, Cert.Reference15Ideal.Read.val_main_v10_apply, Cert.Reference15Ideal.Read.val_main_v15_apply, ref14, ref0, ref2, seq]
  rfl
theorem ref20 (i : Cert.Reference15Ideal.S4x2048x1.Idx) : Cert.Reference15Ideal.Read.val_main_v20 (F := Ideal) x0 x1 x2 i = mean (gz x0 x1 x2 ((i 0).val * 2048 + (i 1).val)) := by
  rw [Cert.Reference15Ideal.Read.val_main_v20_apply, Cert.Reference15Ideal.Read.val_main_v18_apply, Cert.Reference15Ideal.Read.val_main_v17_apply]
  refine congrArg (FloatOps.divf (F := Ideal) (φ := .f32) · width) ?_
  rw [← Fin.sum_univ_eq_sum_range]
  refine (congrArg (· + _) (Ideal.ofBits_zero .f32)).trans ((zero_add _).trans (Fintype.sum_congr _ _ fun k => ref16 x0 x1 x2 _))
theorem ref22 (i : Cert.Reference15Ideal.S4x2048x1024.Idx) : Cert.Reference15Ideal.Read.val_main_v22 (F := Ideal) x0 x1 x2 i = cent (gz x0 x1 x2 ((i 0).val * 2048 + (i 1).val)) (i 2).val := by
  rw [Cert.Reference15Ideal.Read.val_main_v22_apply, Cert.Reference15Ideal.Read.val_main_v21_apply, ref20, ref16]
  rfl
theorem ref31 (i : Cert.Reference15Ideal.S4x2048x1024.Idx) : Cert.Reference15Ideal.Read.val_main_v31 (F := Ideal) x0 x1 x2 i = cent (gz x0 x1 x2 ((i 0).val * 2048 + (i 1).val)) (i 2).val := by
  rw [Cert.Reference15Ideal.Read.val_main_v31_apply, Cert.Reference15Ideal.Read.val_main_v30_apply, ref20, ref16]
  rfl
theorem ref33 (i : Cert.Reference15Ideal.S4x2048x1.Idx) : Cert.Reference15Ideal.Read.val_main_v33 (F := Ideal) x0 x1 x2 i = vari (gz x0 x1 x2 ((i 0).val * 2048 + (i 1).val)) := by
  rw [Cert.Reference15Ideal.Read.val_main_v33_apply, Cert.Reference15Ideal.Read.val_main_v29_apply, Cert.Reference15Ideal.Read.val_main_v27_apply, Cert.Reference15Ideal.Read.val_main_v26_apply]
  refine congrArg (fun m => FloatOps.addf (F := Ideal) (φ := .f32) (FloatOps.divf (F := Ideal) (φ := .f32) m width) eps) ?_
  rw [← Fin.sum_univ_eq_sum_range]
  refine (congrArg (· + _) (Ideal.ofBits_zero .f32)).trans ((zero_add _).trans (Fintype.sum_congr _ _ fun k => ?_))
  rw [Cert.Reference15Ideal.Read.val_main_v23_apply, ref22]
theorem ref34 (i : Cert.Reference15Ideal.S4x2048x1.Idx) : Cert.Reference15Ideal.Read.val_main_v34 (F := Ideal) x0 x1 x2 i = dev (gz x0 x1 x2 ((i 0).val * 2048 + (i 1).val)) := by
  rw [Cert.Reference15Ideal.Read.val_main_v34_apply, ref33]
  rfl
theorem ref37 (i : Cert.Reference15Ideal.S4x2048x1.Idx) : Cert.Reference15Ideal.Read.val_main_v37 (F := Ideal) x0 x1 x2 i = mul mhalf (quo (dev (gz x0 x1 x2 ((i 0).val * 2048 + (i 1).val))) (vari (gz x0 x1 x2 ((i 0).val * 2048 + (i 1).val)))) := by
  rw [Cert.Reference15Ideal.Read.val_main_v37_apply, Cert.Reference15Ideal.Read.val_main_v35_apply, ref33, ref34]
  rfl
theorem ref39 (i : Cert.Reference15Ideal.S4x2048x1024.Idx) : Cert.Reference15Ideal.Read.val_main_v39 (F := Ideal) x0 x1 x2 i = nrm (gz x0 x1 x2 ((i 0).val * 2048 + (i 1).val)) (i 2).val := by
  rw [Cert.Reference15Ideal.Read.val_main_v39_apply, Cert.Reference15Ideal.Read.val_main_v38_apply, ref31, ref34]
  rfl
theorem ref46 (i : Cert.Reference15Ideal.S4x2048x1024.Idx) : Cert.Reference15Ideal.Read.val_main_v46 (F := Ideal) x0 x1 x2 x3 x4 i = ge x0 x1 x2 x3 x4 ((i 0).val * 2048 + (i 1).val) (i 2).val := by
  rw [Cert.Reference15Ideal.Read.val_main_v46_apply, Cert.Reference15Ideal.Read.val_main_v45_apply, Cert.Reference15Ideal.Read.val_main_v42_apply, ref39, ref41, ref44]
  refine congrArg (fun e => FloatOps.subf (F := Ideal) (φ := .f32) (post (gz x0 x1 x2 ((i 0).val * 2048 + (i 1).val)) (tab (a := 2) (b := 1024) x3 0) (tab (a := 2) (b := 1024) x3 1) (i 2).val) e) ?_
  exact (congrArg x4 (eq_ix3 i)).trans (trow_at x4 (i 0) (i 1) (i 2))
theorem ref62 (i : Cert.Reference15Ideal.S4x2048x1024.Idx) : Cert.Reference15Ideal.Read.val_main_v62 (F := Ideal) x0 x1 x2 x3 x4 i = hd x0 x1 x2 x3 x4 ((i 0).val * 2048 + (i 1).val) (i 2).val := by
  rw [Cert.Reference15Ideal.Read.val_main_v62_apply, Cert.Reference15Ideal.Read.val_main_v60_apply, Cert.Reference15Ideal.Read.val_main_v59_apply, Cert.Reference15Ideal.Read.val_main_v49_apply, Cert.Reference15Ideal.Read.val_main_v58_apply, Cert.Reference15Ideal.Read.val_main_v56_apply, Cert.Reference15Ideal.Read.val_main_v55_apply, ref46, ref61]
  rfl
theorem ref65 (i : Cert.Reference15Ideal.S4x2048x1.Idx) : Cert.Reference15Ideal.Read.val_main_v65 (F := Ideal) x0 x1 x2 x3 x4 i = ∑ k ∈ range 1024, mul (cent (gz x0 x1 x2 ((i 0).val * 2048 + (i 1).val)) k) ((hd x0 x1 x2 x3 x4 ((i 0).val * 2048 + (i 1).val)) k) := by
  rw [Cert.Reference15Ideal.Read.val_main_v65_apply, Cert.Reference15Ideal.Read.val_main_v64_apply]
  rw [← Fin.sum_univ_eq_sum_range]
  refine (congrArg (· + _) (Ideal.ofBits_zero .f32)).trans ((zero_add _).trans (Fintype.sum_congr _ _ fun k => ?_))
  rw [Cert.Reference15Ideal.Read.val_main_v63_apply, ref31, ref62]
  exact congrArg₂ (fun R k : ℕ => mul (cent (gz x0 x1 x2 R) k) (hd x0 x1 x2 x3 x4 R k)) (congrArg₂ (fun a b : ℕ => a * 2048 + b) (part0 i) (part1 i)) (show (Cert.Reference15Ideal.Read.idx_main_v64 (Cert.Reference15Ideal.Read.idx_main_v65 i) k 2).val = k.val from rfl)
theorem ref67 (i : Cert.Reference15Ideal.S4x2048x1024.Idx) : Cert.Reference15Ideal.Read.val_main_v67 (F := Ideal) x0 x1 x2 x3 x4 i = mul ((hd x0 x1 x2 x3 x4 ((i 0).val * 2048 + (i 1).val)) (i 2).val) (dev (gz x0 x1 x2 ((i 0).val * 2048 + (i 1).val))) := by
  rw [Cert.Reference15Ideal.Read.val_main_v67_apply, Cert.Reference15Ideal.Read.val_main_v66_apply, ref62, ref34]
theorem ref71 (i : Cert.Reference15Ideal.S4x2048x1.Idx) : Cert.Reference15Ideal.Read.val_main_v71 (F := Ideal) x0 x1 x2 x3 x4 i = ∑ k ∈ range 1024, neg (mul ((hd x0 x1 x2 x3 x4 ((i 0).val * 2048 + (i 1).val)) k) (dev (gz x0 x1 x2 ((i 0).val * 2048 + (i 1).val)))) := by
  rw [Cert.Reference15Ideal.Read.val_main_v71_apply, Cert.Reference15Ideal.Read.val_main_v70_apply]
  rw [← Fin.sum_univ_eq_sum_range]
  refine (congrArg (· + _) (Ideal.ofBits_zero .f32)).trans ((zero_add _).trans (Fintype.sum_congr _ _ fun k => ?_))
  rw [Cert.Reference15Ideal.Read.val_main_v69_apply, ref67]
  exact congrArg₂ (fun R k : ℕ => neg (mul (hd x0 x1 x2 x3 x4 R k) (dev (gz x0 x1 x2 R)))) (congrArg₂ (fun a b : ℕ => a * 2048 + b) (part0 i) (part1 i)) (show (Cert.Reference15Ideal.Read.idx_main_v70 (Cert.Reference15Ideal.Read.idx_main_v71 i) k 2).val = k.val from rfl)
theorem ref73 (i : Cert.Reference15Ideal.S4x2048x1.Idx) : Cert.Reference15Ideal.Read.val_main_v73 (F := Ideal) x0 x1 x2 x3 x4 i = lam (gz x0 x1 x2 ((i 0).val * 2048 + (i 1).val)) (hd x0 x1 x2 x3 x4 ((i 0).val * 2048 + (i 1).val)) := by
  rw [Cert.Reference15Ideal.Read.val_main_v73_apply, Cert.Reference15Ideal.Read.val_main_v68_apply, ref65, ref37]
  rfl
theorem ref75 (i : Cert.Reference15Ideal.S4x2048x1024.Idx) : Cert.Reference15Ideal.Read.val_main_v75 (F := Ideal) x0 x1 x2 x3 x4 i = lam (gz x0 x1 x2 ((i 0).val * 2048 + (i 1).val)) (hd x0 x1 x2 x3 x4 ((i 0).val * 2048 + (i 1).val)) := by
  rw [Cert.Reference15Ideal.Read.val_main_v75_apply, Cert.Reference15Ideal.Read.val_main_v74_apply, Fin.sum_univ_one, ref73]
  exact (congrArg (· + _) (Ideal.ofBits_zero .f32)).trans (zero_add _)
theorem ref76 (i : Cert.Reference15Ideal.S4x2048x1024.Idx) : Cert.Reference15Ideal.Read.val_main_v76 (F := Ideal) x0 x1 x2 x3 x4 i = square (gz x0 x1 x2 ((i 0).val * 2048 + (i 1).val)) (hd x0 x1 x2 x3 x4 ((i 0).val * 2048 + (i 1).val)) (i 2).val := by
  rw [Cert.Reference15Ideal.Read.val_main_v76_apply, Cert.Reference15Ideal.Read.val_main_v25_apply, ref75, ref22]
  rfl
theorem ref79 (i : Cert.Reference15Ideal.S4x2048x1.Idx) : Cert.Reference15Ideal.Read.val_main_v79 (F := Ideal) x0 x1 x2 x3 x4 i = ∑ k ∈ range 1024, neg (square (gz x0 x1 x2 ((i 0).val * 2048 + (i 1).val)) (hd x0 x1 x2 x3 x4 ((i 0).val * 2048 + (i 1).val)) k) := by
  rw [Cert.Reference15Ideal.Read.val_main_v79_apply, Cert.Reference15Ideal.Read.val_main_v78_apply]
  rw [← Fin.sum_univ_eq_sum_range]
  refine (congrArg (· + _) (Ideal.ofBits_zero .f32)).trans ((zero_add _).trans (Fintype.sum_congr _ _ fun k => ?_))
  rw [Cert.Reference15Ideal.Read.val_main_v77_apply, ref76]
  exact congrArg₂ (fun R k : ℕ => neg (square (gz x0 x1 x2 R) (hd x0 x1 x2 x3 x4 R) k)) (congrArg₂ (fun a b : ℕ => a * 2048 + b) (part0 i) (part1 i)) (show (Cert.Reference15Ideal.Read.idx_main_v78 (Cert.Reference15Ideal.Read.idx_main_v79 i) k 2).val = k.val from rfl)
theorem ref83 (i : Cert.Reference15Ideal.S4x2048x1.Idx) : Cert.Reference15Ideal.Read.val_main_v83 (F := Ideal) x0 x1 x2 x3 x4 i = quo (add (∑ k ∈ range 1024, neg (mul ((hd x0 x1 x2 x3 x4 ((i 0).val * 2048 + (i 1).val)) k) (dev (gz x0 x1 x2 ((i 0).val * 2048 + (i 1).val))))) (∑ k ∈ range 1024, neg (square (gz x0 x1 x2 ((i 0).val * 2048 + (i 1).val)) (hd x0 x1 x2 x3 x4 ((i 0).val * 2048 + (i 1).val)) k))) width := by
  rw [Cert.Reference15Ideal.Read.val_main_v83_apply, Cert.Reference15Ideal.Read.val_main_v81_apply, ref71, ref79]
  rfl
theorem ref86 (i : Cert.Reference15Ideal.S4x2048x1024.Idx) : Cert.Reference15Ideal.Read.val_main_v86 (F := Ideal) x0 x1 x2 x3 x4 i = grad (gz x0 x1 x2 ((i 0).val * 2048 + (i 1).val)) (hd x0 x1 x2 x3 x4 ((i 0).val * 2048 + (i 1).val)) (i 2).val := by
  rw [Cert.Reference15Ideal.Read.val_main_v86_apply, Cert.Reference15Ideal.Read.val_main_v80_apply, Cert.Reference15Ideal.Read.val_main_v85_apply, Cert.Reference15Ideal.Read.val_main_v84_apply, Fin.sum_univ_one, ref83, ref67, ref76]
  exact congrArg (FloatOps.addf (F := Ideal) (φ := .f32) _) ((congrArg (· + _) (Ideal.ofBits_zero .f32)).trans (zero_add _))

/-! Of finite modulations, gain, bias and target the reference's gradient is the call's. -/
theorem add_real {a b : EReal} (ha : Re a) (hb : Re b) : Re (add a b) := by
  obtain ⟨a, rfl⟩ := ha; obtain ⟨b, rfl⟩ := hb; exact ⟨_, add_coe a b⟩
theorem mul_real {a b : EReal} (ha : Re a) (hb : Re b) : Re (mul a b) := by
  obtain ⟨a, rfl⟩ := ha; obtain ⟨b, rfl⟩ := hb; exact ⟨_, mul_coe a b⟩
theorem sub_real {a b : EReal} (ha : Re a) (hb : Re b) : Re (sub a b) := by
  obtain ⟨a, rfl⟩ := ha; obtain ⟨b, rfl⟩ := hb; exact ⟨a - b, (EReal.coe_sub a b).symm⟩
theorem mrow_real (p : Fin 9) (b k : ℕ) (h : Finite.Fin' x2) : Re (mrow x2 p b k) := by
  unfold mrow
  split
  · exact ⟨_, h _⟩
  · exact ⟨0, rfl⟩
theorem trow_real (R k : ℕ) (h : Finite.Fin' x4) : Re (trow x4 R k) := by
  unfold trow
  split
  · exact ⟨_, h _⟩
  · exact ⟨0, rfl⟩
theorem tab_zero {a b : ℕ} (x : (⟨2, ![a, b]⟩ : Shape).Idx → EReal) (i k : ℕ) (h : b ≤ k) : tab x i k = 0 := by
  unfold tab
  split
  · omega
  · rfl
theorem gz_real (R k : ℕ) (h : 1024 ≤ k) : Re (gz x0 x1 x2 R k) := by
  unfold gz resid
  rw [tab_zero x0 _ _ h, tab_zero x1 _ _ h]
  exact ⟨0, (congrArg₂ add (mul_zero _) (mul_zero _)).trans (add_zero (0 : EReal))⟩
theorem ge_real (h2 : Finite.Fin' x2) (h3 : Finite.Fin' x3) (h4 : Finite.Fin' x4) (R k : ℕ) : Re (ge x0 x1 x2 x3 x4 R k) :=
  sub_real (add_real (mul_real (nrm_real' _ (gz_real x0 x1 x2 R) k) (Re.tab x3 h3 _ _)) (Re.tab x3 h3 _ _)) (trow_real x4 R k h4)
theorem gd_eq (h2 : Finite.Fin' x2) (h3 : Finite.Fin' x3) (h4 : Finite.Fin' x4) (R : ℕ) : hd x0 x1 x2 x3 x4 R = gd x0 x1 x2 x3 x4 R :=
  funext fun k => (kerr_eq (ge_real x0 x1 x2 x3 x4 h2 h3 h4 R k) (Re.tab x3 h3 0 k)).1.symm
theorem gk_eq (h2 : Finite.Fin' x2) (h3 : Finite.Fin' x3) (h4 : Finite.Fin' x4) (R j : ℕ) :
    grad (gz x0 x1 x2 R) (hd x0 x1 x2 x3 x4 R) j = gk x0 x1 x2 x3 x4 R j ∧ Re (gk x0 x1 x2 x3 x4 R j) := by
  rw [gd_eq x0 x1 x2 x3 x4 h2 h3 h4 R]
  have h := back_grad (gz x0 x1 x2 R) (gd x0 x1 x2 x3 x4 R) (gz_real x0 x1 x2 R) (fun k => (kerr_eq (ge_real x0 x1 x2 x3 x4 h2 h3 h4 R k) (Re.tab x3 h3 0 k)).2) j
  exact ⟨h.1.symm, h.2⟩
theorem gY_real (h2 : Finite.Fin' x2) (h3 : Finite.Fin' x3) (h4 : Finite.Fin' x4) (R j : ℕ) : Re (gY x0 x1 x2 x3 x4 R j) :=
  mul_real (mul_real ⟨_, half_eq⟩ (mrow_real x2 8 _ _ h2)) (gk_eq x0 x1 x2 x3 x4 h2 h3 h4 R j).2

theorem row (i : S8192x1024.Idx) : ((i 0).val * 1024 + (i 1).val) / 2097152 * 2048 + ((i 0).val * 1024 + (i 1).val) / 1024 % 2048 = (i 0).val ∧ ((i 0).val * 1024 + (i 1).val) % 1024 = (i 1).val := by
  have h0 : (i 0).val < 8192 := (i 0).isLt
  have h1 : (i 1).val < 1024 := (i 1).isLt
  omega

theorem ref90 (h2 : Finite.Fin' x2) (h3 : Finite.Fin' x3) (h4 : Finite.Fin' x4) (i : Cert.Reference15Ideal.S4x2048x1024.Idx) : Cert.Reference15Ideal.Read.val_main_v90 (F := Ideal) x0 x1 x2 x3 x4 i = gX x0 x1 x2 x3 x4 ((i 0).val * 2048 + (i 1).val) (i 2).val := by
  unfold gX
  rw [Cert.Reference15Ideal.Read.val_main_v90_apply, ref86, (gk_eq x0 x1 x2 x3 x4 h2 h3 h4 _ _).1]
  rfl
theorem ref88 (h2 : Finite.Fin' x2) (h3 : Finite.Fin' x3) (h4 : Finite.Fin' x4) (i : Cert.Reference15Ideal.S4x2048x1024.Idx) : Cert.Reference15Ideal.Read.val_main_v88 (F := Ideal) x0 x1 x2 x3 x4 i = gY x0 x1 x2 x3 x4 ((i 0).val * 2048 + (i 1).val) (i 2).val := by
  unfold gY
  rw [Cert.Reference15Ideal.Read.val_main_v88_apply, ref87, ref86, (gk_eq x0 x1 x2 x3 x4 h2 h3 h4 _ _).1, seq]
theorem ref93 (h2 : Finite.Fin' x2) (h3 : Finite.Fin' x3) (h4 : Finite.Fin' x4) (i : S8192x1024.Idx) : Cert.Reference15Ideal.Read.val_main_v93 (F := Ideal) x0 x1 x2 x3 x4 i = gX x0 x1 x2 x3 x4 (i 0).val (i 1).val := by
  rw [Cert.Reference15Ideal.Read.val_main_v93_apply]
  exact (ref90 x0 x1 x2 x3 x4 h2 h3 h4 _).trans (congrArg₂ (gX x0 x1 x2 x3 x4) (row i).1 (row i).2)
theorem ref92 (h2 : Finite.Fin' x2) (h3 : Finite.Fin' x3) (h4 : Finite.Fin' x4) (i : S8192x1024.Idx) : Cert.Reference15Ideal.Read.val_main_v92 (F := Ideal) x0 x1 x2 x3 x4 i = gY x0 x1 x2 x3 x4 (i 0).val (i 1).val := by
  rw [Cert.Reference15Ideal.Read.val_main_v92_apply, Cert.Reference15Ideal.Read.val_main_v91_apply]
  exact (ref88 x0 x1 x2 x3 x4 h2 h3 h4 _).trans (congrArg₂ (gY x0 x1 x2 x3 x4) (row i).1 (row i).2)

theorem ref102 (h2 : Finite.Fin' x2) (h3 : Finite.Fin' x3) (h4 : Finite.Fin' x4) (i : Cert.Reference15Ideal.S8192x2816.Idx) : Cert.Reference15Ideal.Read.val_main_v102 (F := Ideal) x0 x1 x2 x3 x4 x5 i = gP x0 x1 x2 x3 x4 x5 (i 0).val (i 1).val := by
  unfold gP
  rw [Cert.Reference15Ideal.Read.val_main_v102_apply, ← Fin.sum_univ_eq_sum_range]
  exact Fintype.sum_congr _ _ fun k => congrArg₂ (fun a b : EReal => a * b) (ref92 x0 x1 x2 x3 x4 h2 h3 h4 _) (tab_at (a := 2816) (b := 1024) x5 _)
theorem ref97 (i : Cert.Reference15Ideal.S8192x2816.Idx) : Cert.Reference15Ideal.Read.val_main_v97 (F := Ideal) x6 i = tab (a := 8192) (b := 5632) x6 (i 0).val (i 1).val :=
  (Cert.Reference15Ideal.Read.val_main_v97_apply x6 i).trans (tab_at (a := 8192) (b := 5632) x6 _)
theorem ref98 (i : Cert.Reference15Ideal.S8192x2816.Idx) : Cert.Reference15Ideal.Read.val_main_v98 (F := Ideal) x6 i = tab (a := 8192) (b := 5632) x6 (i 0).val (2816 + (i 1).val) :=
  (Cert.Reference15Ideal.Read.val_main_v98_apply x6 i).trans (tab_at (a := 8192) (b := 5632) x6 _)
theorem ref99 (i : Cert.Reference15Ideal.S8192x2816.Idx) : Cert.Reference15Ideal.Read.val_main_v99_2 (F := Ideal) x6 i = sgm (tab (a := 8192) (b := 5632) x6 (i 0).val (i 1).val) := by
  rw [Cert.Reference15Ideal.Read.val_main_v99_2_apply, Cert.Reference15Ideal.Read.val_main_call0_v4_apply, Cert.Reference15Ideal.Read.val_main_call0_v3_apply, Cert.Reference15Ideal.Read.val_main_call0_v2_apply, Cert.Reference15Ideal.Read.val_main_call0_v1_apply, Cert.Reference15Ideal.Read.val_main_call0_v0_apply, ref97]
  generalize tab (a := 8192) (b := 5632) x6 (i 0).val (i 1).val = g
  have e : FloatOps.subf (F := Ideal) (φ := .f32) (FloatOps.ofBits (F := Ideal) .f32 0x00000000#32) g = FloatOps.hostNegf (F := Ideal) (φ := .f32) g := by
    show Ideal.ofBits .f32 0x00000000#32 - g = -g
    rw [Ideal.ofBits_zero_f32, zero_sub]
  unfold sgm
  rw [e]; rfl

theorem ref103 (h2 : Finite.Fin' x2) (h3 : Finite.Fin' x3) (h4 : Finite.Fin' x4) (i : Cert.Reference15Ideal.S8192x2816.Idx) : Cert.Reference15Ideal.Read.val_main_v103 (F := Ideal) x0 x1 x2 x3 x4 x5 x6 i = rgt (gP x0 x1 x2 x3 x4 x5 (i 0).val (i 1).val) (tab (a := 8192) (b := 5632) x6 (i 0).val (i 1).val) := by
  rw [Cert.Reference15Ideal.Read.val_main_v103_apply, Cert.Reference15Ideal.Read.val_main_v99_0_apply, ref102 x0 x1 x2 x3 x4 x5 h2 h3 h4, ref99, ref97]
  exact mul_comm _ _
theorem ref105 (h2 : Finite.Fin' x2) (h3 : Finite.Fin' x3) (h4 : Finite.Fin' x4) (h5 : Finite.Fin' x5) (h6 : Finite.Fin' x6) (i : Cert.Reference15Ideal.S8192x2816.Idx) : Cert.Reference15Ideal.Read.val_main_v105 (F := Ideal) x0 x1 x2 x3 x4 x5 x6 i = lft (gP x0 x1 x2 x3 x4 x5 (i 0).val (i 1).val) (tab (a := 8192) (b := 5632) x6 (i 0).val (i 1).val) (tab (a := 8192) (b := 5632) x6 (i 0).val (2816 + (i 1).val)) := by
  rw [Cert.Reference15Ideal.Read.val_main_v105_apply, Cert.Reference15Ideal.Read.val_main_call1_v1_apply, Cert.Reference15Ideal.Read.val_main_call1_v2_apply, Cert.Reference15Ideal.Read.val_main_call1_v0_apply, Cert.Reference15Ideal.Read.val_main_v104_apply, Cert.Reference15Ideal.Read.val_main_v99_1_apply, Cert.Reference15Ideal.Read.val_main_call0_v7_apply, Cert.Reference15Ideal.Read.val_main_call0_v6_apply, ref102 x0 x1 x2 x3 x4 x5 h2 h3 h4, ref99, ref97, ref98]
  exact lft_ref (Re.sum _ _ fun k => (gY_real x0 x1 x2 x3 x4 h2 h3 h4 _ _).mul (Re.tab x5 h5 _ _)) (Re.tab x6 h6 _ _) (Re.tab x6 h6 _ _)

theorem ref107 (h2 : Finite.Fin' x2) (h3 : Finite.Fin' x3) (h4 : Finite.Fin' x4) (h5 : Finite.Fin' x5) (h6 : Finite.Fin' x6) (i : S8192x5632.Idx) : Cert.Reference15Ideal.Read.val_main_v107 (F := Ideal) x0 x1 x2 x3 x4 x5 x6 i = both (gP x0 x1 x2 x3 x4 x5) (tab (a := 8192) (b := 5632) x6) (i 0).val (i 1).val := by
  refine Eq.trans (b := Cert.Reference15Ideal.Read.val_main_v106 (F := Ideal) x0 x1 x2 x3 x4 x5 x6 i) rfl ?_
  unfold Cert.Reference15Ideal.Read.val_main_v106
  have hi : (i 1).val < 5632 := (i 1).isLt
  by_cases hj : (i 1).val < 2816
  · rw [both_lft _ _ _ _ hj]
    refine (concatenate_pair_apply_left (t := S8192x5632) (s₁ := Cert.Reference15Ideal.S8192x2816) (s₂ := Cert.Reference15Ideal.S8192x2816) 1 _ _ _ i rfl (ix2 (n0 := 8192) (n1 := 2816) (i 0) ⟨(i 1).val, hj⟩) (fun b => match b with
      | ⟨0, _⟩ => rfl
      | ⟨1, _⟩ => rfl)).trans ?_
    exact ref105 x0 x1 x2 x3 x4 x5 x6 h2 h3 h4 h5 h6 (ix2 (n0 := 8192) (n1 := 2816) (i 0) ⟨(i 1).val, hj⟩)
  · obtain ⟨j, hj'⟩ := Nat.exists_eq_add_of_le (Nat.le_of_not_lt hj)
    rw [hj', both_rgt]
    refine (concatenate_pair_apply_right (t := S8192x5632) (s₁ := Cert.Reference15Ideal.S8192x2816) (s₂ := Cert.Reference15Ideal.S8192x2816) 1 _ _ _ i rfl rfl (ix2 (n0 := 8192) (n1 := 2816) (i 0) ⟨j, by omega⟩) (fun b hb => match b with
      | ⟨0, _⟩ => rfl
      | ⟨1, _⟩ => absurd rfl hb) ((Nat.add_comm _ _).trans hj'.symm)).trans ?_
    exact ref103 x0 x1 x2 x3 x4 x5 x6 h2 h3 h4 (ix2 (n0 := 8192) (n1 := 2816) (i 0) ⟨j, by omega⟩)
end

/-! ## The precondition read back -/

theorem facts : Cert.Pre_finite15.Facts where
  bcast_S_S4x2x9x1024 := by decide
  reducesTo_S4x2x9x1024_S_d0_1_2_3 := by decide
  h_S_ := by decide
  bcast_S_S2x1024 := by decide
  reducesTo_S2x1024_S_d0_1 := by decide
  bcast_S_S4x2048x1024 := by decide
  reducesTo_S4x2048x1024_S_d0_1_2 := by decide
  bitsLt_bf16_f32 := by decide
  bcast_S_S2816x1024 := by decide
  reducesTo_S2816x1024_S_d0_1 := by decide
  bcast_S_S8192x5632 := by decide
  reducesTo_S8192x5632_S_d0_1 := by decide

theorem read [Cert.Pre_finite15.Facts] (a0 : FVec Ideal Cert.Pre_finite15.S8192x1024 .f32) (a1 : FVec Ideal Cert.Pre_finite15.S8192x1024 .bf16) (a2 : FVec Ideal Cert.Pre_finite15.S4x2x9x1024 .f32) (a3 : FVec Ideal Cert.Pre_finite15.S2x1024 .f32) (a4 : FVec Ideal Cert.Pre_finite15.S4x2048x1024 .f32) (a5 : FVec Ideal Cert.Pre_finite15.S2816x1024 .bf16) (a6 : FVec Ideal Cert.Pre_finite15.S8192x5632 .bf16)
    (h : Cert.Pre_finite15.fn (F := Ideal) a0 a1 a2 a3 a4 a5 a6 = fun _ => 1#1) : Finite.Fin' a2 ∧ Finite.Fin' a3 ∧ Finite.Fin' a4 ∧ Finite.Fin' a5 ∧ Finite.Fin' a6 := by
  have h0 := congrFun h (Shape.Idx.first Cert.Pre_finite15.Facts.h_S_)
  obtain ⟨h1, e6⟩ := Finite.split h0
  obtain ⟨h2, e5⟩ := Finite.split h1
  obtain ⟨h3, e4⟩ := Finite.split h2
  obtain ⟨e2, e3⟩ := Finite.split h3
  exact ⟨Finite.all_fin a2 _ _ _ _ e2, Finite.all_fin a3 _ _ _ _ e3, Finite.all_fin a4 _ _ _ _ e4, Finite.all_fin (extf .f32 a5 Cert.Pre_finite15.Facts.bitsLt_bf16_f32) _ _ _ _ e5, Finite.all_fin (extf .f32 a6 Cert.Pre_finite15.Facts.bitsLt_bf16_f32) _ _ _ _ e6⟩

theorem ref_frame : Cert.quiescent_Reference15Ideal := fun m ρ _ =>
  (θ_run Cert.Reference15Ideal.defs _ _).mono (fun r h => ⟨fun c => (h c).2.2.2, sem_eq_zero_of_no_sems (by decide) r.2⟩) (Cert.Reference15Ideal.Value.run (F := Ideal) m ρ)
theorem ref_frame_pre [hF : Cert.Pre_finite15.Facts] : Cert.quiescent_Reference15Ideal_pre_finite15 := fun m ρ _ => ref_frame m ρ trivial

theorem algebraic [hF : Cert.Pre_finite15.Facts] : Cert.algebraic_Kernel15Ideal_Reference15Ideal_pre_finite15 := fun m g m' g' hp ha =>
  ⟨fun c => (dats m 0 c).arrAt 7 cfg0.N, fun c => (dats m 0 c).arrAt 8 cfg0.N, fun c => (dats m 0 c).arrAt 12 cfg0.N,
    (θ_run Cert.Kernel15Ideal.defs _ _).mono (fun r h c => ⟨(h c).1, (h c).2.1, (h c).2.2.2.2.2.1, (h c).2.2.2.2.2.2⟩) (Value.run_blocks m g), (θ_run Cert.Reference15Ideal.defs _ _).mono (fun r h c => by
    obtain ⟨h2, h3, h4, h5, h6⟩ := read _ _ _ _ _ _ _ (hp c)
    exact ⟨(h c).1.trans ((Cert.Reference15Ideal.Read.val_main_v93_eq _).trans (by
      rw [show StableHlo.launchContents m' c (Proc.tc.devRef Cert.Reference15Ideal.main_arg0) = _ from (ha c).1, show StableHlo.launchContents m' c (Proc.tc.devRef Cert.Reference15Ideal.main_arg1) = _ from (ha c).2.1, show StableHlo.launchContents m' c (Proc.tc.devRef Cert.Reference15Ideal.main_arg2) = _ from (ha c).2.2.1, show StableHlo.launchContents m' c (Proc.tc.devRef Cert.Reference15Ideal.main_arg3) = _ from (ha c).2.2.2.1, show StableHlo.launchContents m' c (Proc.tc.devRef Cert.Reference15Ideal.main_arg4) = _ from (ha c).2.2.2.2.1]; exact (funext fun i => ref93 _ _ _ _ _ h2 h3 h4 i).trans (arr7 m c).symm)),
    (h c).2.1.trans ((Cert.Reference15Ideal.Read.val_main_v92_eq _).trans (by
      rw [show StableHlo.launchContents m' c (Proc.tc.devRef Cert.Reference15Ideal.main_arg0) = _ from (ha c).1, show StableHlo.launchContents m' c (Proc.tc.devRef Cert.Reference15Ideal.main_arg1) = _ from (ha c).2.1, show StableHlo.launchContents m' c (Proc.tc.devRef Cert.Reference15Ideal.main_arg2) = _ from (ha c).2.2.1, show StableHlo.launchContents m' c (Proc.tc.devRef Cert.Reference15Ideal.main_arg3) = _ from (ha c).2.2.2.1, show StableHlo.launchContents m' c (Proc.tc.devRef Cert.Reference15Ideal.main_arg4) = _ from (ha c).2.2.2.2.1]; exact (funext fun i => ref92 _ _ _ _ _ h2 h3 h4 i).trans (arr8 m c).symm)),
    (h c).2.2.1.trans ((Cert.Reference15Ideal.Read.val_main_v107_eq _).trans (by
      rw [show StableHlo.launchContents m' c (Proc.tc.devRef Cert.Reference15Ideal.main_arg0) = _ from (ha c).1, show StableHlo.launchContents m' c (Proc.tc.devRef Cert.Reference15Ideal.main_arg1) = _ from (ha c).2.1, show StableHlo.launchContents m' c (Proc.tc.devRef Cert.Reference15Ideal.main_arg2) = _ from (ha c).2.2.1, show StableHlo.launchContents m' c (Proc.tc.devRef Cert.Reference15Ideal.main_arg3) = _ from (ha c).2.2.2.1, show StableHlo.launchContents m' c (Proc.tc.devRef Cert.Reference15Ideal.main_arg4) = _ from (ha c).2.2.2.2.1, show StableHlo.launchContents m' c (Proc.tc.devRef Cert.Reference15Ideal.main_arg5) = _ from (ha c).2.2.2.2.2.1, show StableHlo.launchContents m' c (Proc.tc.devRef Cert.Reference15Ideal.main_arg6) = _ from (ha c).2.2.2.2.2.2]; exact (funext fun i => ref107 _ _ _ _ _ _ _ h2 h3 h4 h5 h6 i).trans (arr12 m c).symm)), (h c).2.2.2⟩) (Cert.Reference15Ideal.Value.run (F := Ideal) m' g')⟩

end P15

end
-- ==== Proof.lean ====
module

public import proofs.«01_k».proof.Defs
public import proofs.«01_k».proof.Proof.Alg
public import proofs.«01_k».proof.Proof.Ffn1OutDx
public import proofs.«01_k».proof.Proof.Ffn1InDx
public import proofs.«01_k».proof.Proof.Ffn1InDw
public import proofs.«01_k».proof.Proof.Ffn1OutDw
public import proofs.«01_k».proof.Proof.Ffn1In
public import proofs.«01_k».proof.Proof.Ffn1Out
public import proofs.«01_k».proof.Proof.Ffn2Out
public import proofs.«01_k».proof.Proof.Ffn2InDx
public import proofs.«01_k».proof.Proof.Ffn2InDw
public import proofs.«01_k».proof.Proof.Ffn2OutDw
public import proofs.«01_k».proof.Proof.MixOutDw
public import proofs.«01_k».proof.Proof.MixInDw
public import proofs.«01_k».proof.Proof.Ffn2In
public import proofs.«01_k».proof.Proof.Tail
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import Idealize.ShloMosaic.Adequacy
public import Idealize.ShloMosaic.Init
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read

@[expose] public section

noncomputable section

namespace Cert.Proof

open Idealize.ShloMosaic Idealize.SL.Sem

theorem frame_ri : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Finite.facts, P2.facts, P15.facts,
    fun m ρ _ => Cert.Kernel.Gen.frame m ρ, fun m ρ _ => Cert.KernelIdeal.Gen.frame m ρ, fun m ρ _ => Cert.KernelIdeal.Gen.frame m ρ, frame_ri, fun m ρ _ => frame_ri m ρ trivial,
    fun m ρ _ => Cert.Kernel2.Gen.frame m ρ, fun m ρ _ => Cert.Kernel2Ideal.Gen.frame m ρ, fun m ρ _ => Cert.Kernel2Ideal.Gen.frame m ρ, P2.ref_frame, P2.ref_frame_pre (hF := P2.facts),
    fun m ρ _ => Cert.Kernel3.Gen.frame m ρ, fun m ρ _ => Cert.Kernel3Ideal.Gen.frame m ρ, P3.ref_frame,
    fun m ρ _ => Cert.Kernel4.Gen.frame m ρ, fun m ρ _ => Cert.Kernel4Ideal.Gen.frame m ρ, P4.ref_frame,
    fun m ρ _ => Cert.Kernel5.Gen.frame m ρ, fun m ρ _ => Cert.Kernel5Ideal.Gen.frame m ρ, P5.ref_frame,
    fun m ρ _ => Cert.Kernel6.Gen.frame m ρ, fun m ρ _ => Cert.Kernel6Ideal.Gen.frame m ρ, P6.ref_frame,
    fun m ρ _ => Cert.Kernel7.Gen.frame m ρ, fun m ρ _ => Cert.Kernel7Ideal.Gen.frame m ρ, P7.ref_frame,
    fun m ρ _ => Cert.Kernel8.Gen.frame m ρ, fun m ρ _ => Cert.Kernel8Ideal.Gen.frame m ρ, P8.ref_frame,
    fun m ρ _ => Cert.Kernel9.Gen.frame m ρ, fun m ρ _ => Cert.Kernel9Ideal.Gen.frame m ρ, P9.ref_frame,
    fun m ρ _ => Cert.Kernel10.Gen.frame m ρ, fun m ρ _ => Cert.Kernel10Ideal.Gen.frame m ρ, P10.ref_frame,
    fun m ρ _ => Cert.Kernel11.Gen.frame m ρ, fun m ρ _ => Cert.Kernel11Ideal.Gen.frame m ρ, P11.ref_frame,
    fun m ρ _ => Cert.Kernel12.Gen.frame m ρ, fun m ρ _ => Cert.Kernel12Ideal.Gen.frame m ρ, P12.ref_frame,
    fun m ρ _ => Cert.Kernel13.Gen.frame m ρ, fun m ρ _ => Cert.Kernel13Ideal.Gen.frame m ρ, P13.ref_frame,
    fun m ρ _ => Cert.Kernel14.Gen.frame m ρ, fun m ρ _ => Cert.Kernel14Ideal.Gen.frame m ρ, P14.ref_frame,
    fun m ρ _ => Cert.Kernel15.Gen.frame m ρ, fun m ρ _ => Cert.Kernel15Ideal.Gen.frame m ρ, fun m ρ _ => Cert.Kernel15Ideal.Gen.frame m ρ, P15.ref_frame, P15.ref_frame_pre (hF := P15.facts),
    trivial, Alg.algebraic (hP := Finite.facts), trivial, P2.algebraic (hF := P2.facts),
    trivial, P3.algebraic, trivial, P4.algebraic, trivial, P5.algebraic, trivial, P6.algebraic, trivial, P7.algebraic, trivial, P8.algebraic,
    trivial, P9.algebraic, trivial, P10.algebraic, trivial, P11.algebraic, trivial, P12.algebraic, trivial, P13.algebraic, trivial, P14.algebraic,
    trivial, P15.algebraic (hF := P15.facts)⟩

end Cert.Proof

end
